-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  IdealRules.named_const.Statement Cert.KernelIdeal.κ "gelu_cubic" .f32 0x3D122279#32 ((80338380498831 / 2251799813685248 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v53) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v41_0)) (v1 : (c : Dev Cert.Kernel5Ideal.nD) → Buf (Elt Ideal) ((c.tc : Thread Cert.Kernel5Ideal.nD Cert.Kernel5Ideal.τ).loc Cert.Kernel5Ideal.main_v41_1)) (v2 : (c : Dev Cert.Kernel5Ideal.nD) → Buf (Elt Ideal) ((c.tc : Thread Cert.Kernel5Ideal.nD Cert.Kernel5Ideal.τ).loc Cert.Kernel5Ideal.main_v41_2)) (v3 : (c : Dev Cert.Kernel5Ideal.nD) → Buf (Elt Ideal) ((c.tc : Thread Cert.Kernel5Ideal.nD Cert.Kernel5Ideal.τ).loc Cert.Kernel5Ideal.main_v41_3)) (v4 : (c : Dev Cert.Kernel5Ideal.nD) → Buf (Elt Ideal) ((c.tc : Thread Cert.Kernel5Ideal.nD Cert.Kernel5Ideal.τ).loc Cert.Kernel5Ideal.main_v41_4)) (v5 : (c : Dev Cert.Kernel5Ideal.nD) → Buf (Elt Ideal) ((c.tc : Thread Cert.Kernel5Ideal.nD Cert.Kernel5Ideal.τ).loc Cert.Kernel5Ideal.main_v41_5)) (v6 : (c : Dev Cert.Kernel5Ideal.nD) → Buf (Elt Ideal) ((c.tc : Thread Cert.Kernel5Ideal.nD Cert.Kernel5Ideal.τ).loc Cert.Kernel5Ideal.main_v41_6)) (v7 : (c : Dev Cert.Kernel5Ideal.nD) → Buf (Elt Ideal) ((c.tc : Thread Cert.Kernel5Ideal.nD Cert.Kernel5Ideal.τ).loc Cert.Kernel5Ideal.main_v41_7)) (v8 : (c : Dev Cert.Kernel5Ideal.nD) → Buf (Elt Ideal) ((c.tc : Thread Cert.Kernel5Ideal.nD Cert.Kernel5Ideal.τ).loc Cert.Kernel5Ideal.main_v41_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v41_0) = v0 c
          ∧ r.2.mem ((c.tc : Thread Cert.Kernel5Ideal.nD Cert.Kernel5Ideal.τ).loc Cert.Kernel5Ideal.main_v41_1) = v1 c
          ∧ r.2.mem ((c.tc : Thread Cert.Kernel5Ideal.nD Cert.Kernel5Ideal.τ).loc Cert.Kernel5Ideal.main_v41_2) = v2 c
          ∧ r.2.mem ((c.tc : Thread Cert.Kernel5Ideal.nD Cert.Kernel5Ideal.τ).loc Cert.Kernel5Ideal.main_v41_3) = v3 c
          ∧ r.2.mem ((c.tc : Thread Cert.Kernel5Ideal.nD Cert.Kernel5Ideal.τ).loc Cert.Kernel5Ideal.main_v41_4) = v4 c
          ∧ r.2.mem ((c.tc : Thread Cert.Kernel5Ideal.nD Cert.Kernel5Ideal.τ).loc Cert.Kernel5Ideal.main_v41_5) = v5 c
          ∧ r.2.mem ((c.tc : Thread Cert.Kernel5Ideal.nD Cert.Kernel5Ideal.τ).loc Cert.Kernel5Ideal.main_v41_6) = v6 c
          ∧ r.2.mem ((c.tc : Thread Cert.Kernel5Ideal.nD Cert.Kernel5Ideal.τ).loc Cert.Kernel5Ideal.main_v41_7) = v7 c
          ∧ r.2.mem ((c.tc : Thread Cert.Kernel5Ideal.nD Cert.Kernel5Ideal.τ).loc Cert.Kernel5Ideal.main_v41_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v145) = v0 c
          ∧ r.2.mem ((c.tc : Thread Cert.Reference5Ideal.nD Cert.Reference5Ideal.τ).loc Cert.Reference5Ideal.main_v149) = v1 c
          ∧ r.2.mem ((c.tc : Thread Cert.Reference5Ideal.nD Cert.Reference5Ideal.τ).loc Cert.Reference5Ideal.main_v153) = v2 c
          ∧ r.2.mem ((c.tc : Thread Cert.Reference5Ideal.nD Cert.Reference5Ideal.τ).loc Cert.Reference5Ideal.main_v157) = v3 c
          ∧ r.2.mem ((c.tc : Thread Cert.Reference5Ideal.nD Cert.Reference5Ideal.τ).loc Cert.Reference5Ideal.main_v159) = v4 c
          ∧ r.2.mem ((c.tc : Thread Cert.Reference5Ideal.nD Cert.Reference5Ideal.τ).loc Cert.Reference5Ideal.main_v162) = v5 c
          ∧ r.2.mem ((c.tc : Thread Cert.Reference5Ideal.nD Cert.Reference5Ideal.τ).loc Cert.Reference5Ideal.main_v165) = v6 c
          ∧ r.2.mem ((c.tc : Thread Cert.Reference5Ideal.nD Cert.Reference5Ideal.τ).loc Cert.Reference5Ideal.main_v110) = v7 c
          ∧ r.2.mem ((c.tc : Thread Cert.Reference5Ideal.nD Cert.Reference5Ideal.τ).loc Cert.Reference5Ideal.main_v167) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S8x4096x1024 : Shape := ⟨3, ![8, 4096, 1024]⟩
abbrev S1024 : Shape := ⟨1, ![1024]⟩
abbrev S1024x2048 : Shape := ⟨2, ![1024, 2048]⟩
abbrev S2048 : Shape := ⟨1, ![2048]⟩
abbrev S4x1024 : Shape := ⟨2, ![4, 1024]⟩
abbrev S8x128x128 : Shape := ⟨3, ![8, 128, 128]⟩
abbrev S1024x1024 : Shape := ⟨2, ![1024, 1024]⟩
abbrev S32768x1024 : Shape := ⟨2, ![32768, 1024]⟩
abbrev S1x1024 : Shape := ⟨2, ![1, 1024]⟩
abbrev S8x128x256 : Shape := ⟨3, ![8, 128, 256]⟩
abbrev S1x2048 : Shape := ⟨2, ![1, 2048]⟩
abbrev S1032x1024 : Shape := ⟨2, ![1032, 1024]⟩
abbrev S8x1024 : Shape := ⟨2, ![8, 1024]⟩
abbrev S1024x1 : Shape := ⟨2, ![1024, 1]⟩
abbrev S1024x128 : Shape := ⟨2, ![1024, 128]⟩
abbrev S1x128x256 : Shape := ⟨3, ![1, 128, 256]⟩
abbrev S128x256 : Shape := ⟨2, ![128, 256]⟩
abbrev S1024x256 : Shape := ⟨2, ![1024, 256]⟩
abbrev S1x128 : Shape := ⟨2, ![1, 128]⟩

abbrev nBuf : Space → Nat
  | .hbm => 26
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2048, .f32⟩
  | .hbm, ⟨3, _⟩ => ⟨S2048, .f32⟩
  | .hbm, ⟨4, _⟩ => ⟨S4x1024, .f32⟩
  | .hbm, ⟨5, _⟩ => ⟨S1024, .f32⟩
  | .hbm, ⟨6, _⟩ => ⟨S8x128x128, .f32⟩
  | .hbm, ⟨7, _⟩ => ⟨S1024, .f32⟩
  | .hbm, ⟨8, _⟩ => ⟨S8x128x128, .f32⟩
  | .hbm, ⟨9, _⟩ => ⟨S1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S32768x1024, .f32⟩
  | .hbm, ⟨14, _⟩ => ⟨S1x1024, .f32⟩
  | .hbm, ⟨15, _⟩ => ⟨S8x128x256, .f32⟩
  | .hbm, ⟨16, _⟩ => ⟨S8x128x256, .bf16⟩
  | .hbm, ⟨17, _⟩ => ⟨S1024x2048, .bf16⟩
  | .hbm, ⟨18, _⟩ => ⟨S1x2048, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1024x1024, .bf16⟩
  | .hbm, ⟨24, _⟩ => ⟨S1x1024, .f32⟩
  | .hbm, ⟨25, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S4x1024, .f32⟩
  | .local _ .vmem, ⟨6, _⟩ => ⟨S1x1024, .f32⟩
  | .local _ .vmem, ⟨7, _⟩ => ⟨S8x128x256, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1032x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S8x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_198 : BitVec 32 := 0#32
  let c128_i32 : BitVec 32 := 128#32
  let v517 : BitVec 32 := Scalar.addi c0_i32_198 c128_i32
  let c1_i32_199 : BitVec 32 := 1#32
  ⟨c0_i32_198, v517, c1_i32_199⟩
def k0_mult1 (k0_t1 : Fin k0_t1_loop.trips) : BitVec 32 :=
  let c0_i32_198 : BitVec 32 := 0#32
  let c1_i32_199 : BitVec 32 := 1#32
  let arg19 : BitVec 32 := Scf.iv c0_i32_198 c1_i32_199 k0_t1
  let c8_i32 : BitVec 32 := 8#32
  let v534 : BitVec 32 := Scalar.muli arg19 c8_i32
  v534
def k0_off1 (k0_t1 : Fin k0_t1_loop.trips) : Fin 2 → Nat :=
  let c0_i32_198 : BitVec 32 := 0#32
  let c1_i32_199 : BitVec 32 := 1#32
  let arg19 : BitVec 32 := Scf.iv c0_i32_198 c1_i32_199 k0_t1
  let c8_i32 : BitVec 32 := 8#32
  let v534 : BitVec 32 := Scalar.muli arg19 c8_i32
  let v535 : BitVec 32 := v534
  let v536 : Index := Scalar.indexCast v535
  let c0_212 : Index := 0#32
  ![v536.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "gelu_cubic" => some ((80338380498831 / 2251799813685248 : ℝ) : EReal)
  | _ => none
-- ==== ReferenceIdeal.lean ====
abbrev S8x4096x1024 : Shape := ⟨3, ![8, 4096, 1024]⟩
abbrev S1024 : Shape := ⟨1, ![1024]⟩
abbrev S1024x2048 : Shape := ⟨2, ![1024, 2048]⟩
abbrev S2048 : Shape := ⟨1, ![2048]⟩
abbrev S4x1024 : Shape := ⟨2, ![4, 1024]⟩
abbrev S8x128x128 : Shape := ⟨3, ![8, 128, 128]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2048 : Shape := ⟨3, ![8, 4096, 2048]⟩
abbrev S1x1x2048 : Shape := ⟨3, ![1, 1, 2048]⟩
abbrev S8x4099x1024 : Shape := ⟨3, ![8, 4099, 1024]⟩
abbrev S1x1024 : Shape := ⟨2, ![1, 1024]⟩
abbrev S8x4096x8x128 : Shape := ⟨4, ![8, 4096, 8, 128]⟩
abbrev S8x128x8x4096 : Shape := ⟨4, ![8, 128, 8, 4096]⟩
abbrev S8x1024 : Shape := ⟨2, ![8, 1024]⟩
abbrev S8x1x1024 : Shape := ⟨3, ![8, 1, 1024]⟩
abbrev S32768x1024 : Shape := ⟨2, ![32768, 1024]⟩

abbrev nBuf : Space → Nat
  | .hbm => 205
  | .vmem => 0
  | .smem => 0
  | _ => 0

abbrev hbmTy0_0 (i : Nat) : BufTy := match i % 128 with
  | 0 => ⟨S8x4096x1024, .f32⟩
  | 1 => ⟨S1024, .f32⟩
  | 2 => ⟨S1024x2048, .f32⟩
  | 3 => ⟨S2048, .f32⟩
  | 4 => ⟨S4x1024, .f32⟩
  | 5 => ⟨S1024, .f32⟩
  | 6 => ⟨S8x128x128, .f32⟩
  | 7 => ⟨S1024, .f32⟩
  | 8 => ⟨S8x128x128, .f32⟩
  | 9 => ⟨S1024, .f32⟩
  | 10 => ⟨S1024, .f32⟩
  | 11 => ⟨S1024x1024, .f32⟩
  | 12 => ⟨S1024, .f32⟩
  | 13 => ⟨S8x4096x1024, .f32⟩
  | 14 => ⟨S_, .f32⟩
  | 15 => ⟨S8x4096, .f32⟩
  | 16 => ⟨S8x4096x1, .f32⟩
  | 17 => ⟨S_, .f32⟩
  | 18 => ⟨S8x4096x1, .f32⟩
  | 19 => ⟨S8x4096x1, .f32⟩
  | 20 => ⟨S_, .f32⟩
  | 21 => ⟨S8x4096x1, .f32⟩
  | 22 => ⟨S8x4096x1, .f32⟩
  | 23 => ⟨S8x4096x1, .f32⟩
  | 24 => ⟨S8x4096x1024, .f32⟩
  | 25 => ⟨S8x4096x1024, .f32⟩
  | 26 => ⟨S1x1x1024, .f32⟩
  | 27 => ⟨S8x4096x1024, .f32⟩
  | 28 => ⟨S8x4096x1024, .f32⟩
  | 29 => ⟨S8x4096x2048, .f32⟩
  | 30 => ⟨S1x1x2048, .f32⟩
  | 31 => ⟨S8x4096x2048, .f32⟩
  | 32 => ⟨S8x4096x2048, .f32⟩
  | 33 => ⟨S8x4096x1024, .f32⟩
  | 34 => ⟨S8x4096x1024, .f32⟩
  | 35 => ⟨S8x4096x1024, .f32⟩
  | 36 => ⟨S_, .f32⟩
  | 37 => ⟨S8x4096x1024, .f32⟩
  | 38 => ⟨S8x4096x1024, .f32⟩
  | 39 => ⟨S8x4096x1024, .f32⟩
  | 40 => ⟨S_, .f32⟩
  | 41 => ⟨S8x4096x1024, .f32⟩
  | 42 => ⟨S8x4096x1024, .f32⟩
  | 43 => ⟨S8x4096x1024, .f32⟩
  | 44 => ⟨S_, .f32⟩
  | 45 => ⟨S8x4096x1024, .f32⟩
  | 46 => ⟨S8x4096x1024, .f32⟩
  | 47 => ⟨S_, .f32⟩
  | 48 => ⟨S8x4096x1024, .f32⟩
  | 49 => ⟨S8x4096x1024, .f32⟩
  | 50 => ⟨S8x4096x1024, .f32⟩
  | 51 => ⟨S8x4096x1024, .f32⟩
  | 52 => ⟨S_, .i32⟩
  | 53 => ⟨S_, .f32⟩
  | 54 => ⟨S8x4099x1024, .f32⟩
  | 55 => ⟨S1x1024, .f32⟩
  | 56 => ⟨S1024, .f32⟩
  | 57 => ⟨S8x4096x1024, .f32⟩
  | 58 => ⟨S1x1x1024, .f32⟩
  | 59 => ⟨S8x4096x1024, .f32⟩
  | 60 => ⟨S8x4096x1024, .f32⟩
  | 61 => ⟨S_, .f32⟩
  | 62 => ⟨S8x4096x1024, .f32⟩
  | 63 => ⟨S8x4096x1024, .f32⟩
  | 64 => ⟨S1x1024, .f32⟩
  | 65 => ⟨S1024, .f32⟩
  | 66 => ⟨S8x4096x1024, .f32⟩
  | 67 => ⟨S1x1x1024, .f32⟩
  | 68 => ⟨S8x4096x1024, .f32⟩
  | 69 => ⟨S8x4096x1024, .f32⟩
  | 70 => ⟨S8x4096x1024, .f32⟩
  | 71 => ⟨S1x1024, .f32⟩
  | 72 => ⟨S1024, .f32⟩
  | 73 => ⟨S8x4096x1024, .f32⟩
  | 74 => ⟨S1x1x1024, .f32⟩
  | 75 => ⟨S8x4096x1024, .f32⟩
  | 76 => ⟨S8x4096x1024, .f32⟩
  | 77 => ⟨S8x4096x1024, .f32⟩
  | 78 => ⟨S1x1024, .f32⟩
  | 79 => ⟨S1024, .f32⟩
  | 80 => ⟨S8x4096x1024, .f32⟩
  | 81 => ⟨S1x1x1024, .f32⟩
  | 82 => ⟨S8x4096x1024, .f32⟩
  | 83 => ⟨S8x4096x1024, .f32⟩
  | 84 => ⟨S8x4096x1024, .f32⟩
  | 85 => ⟨S1x1x1024, .f32⟩
  | 86 => ⟨S8x4096x1024, .f32⟩
  | 87 => ⟨S8x4096x1024, .f32⟩
  | 88 => ⟨S8x4096x8x128, .f32⟩
  | 89 => ⟨S8x128x8x4096, .f32⟩
  | 90 => ⟨S8x4096x8x128, .f32⟩
  | 91 => ⟨S8x4096x1024, .f32⟩
  | 92 => ⟨S1x1x1024, .f32⟩
  | 93 => ⟨S8x4096x1024, .f32⟩
  | 94 => ⟨S8x4096x1024, .f32⟩
  | 95 => ⟨S8x4096x1024, .f32⟩
  | 96 => ⟨S8x4096x1024, .f32⟩
  | 97 => ⟨S_, .f32⟩
  | 98 => ⟨S8x4096x1024, .f32⟩
  | 99 => ⟨S8x4096x1024, .f32⟩
  | 100 => ⟨S_, .f32⟩
  | 101 => ⟨S8x4096x1024, .f32⟩
  | 102 => ⟨S8x4096x1024, .f32⟩
  | 103 => ⟨S8x128x8x4096, .f32⟩
  | 104 => ⟨S8x4096x8x128, .f32⟩
  | 105 => ⟨S8x4096x1024, .f32⟩
  | 106 => ⟨S1x1x1024, .f32⟩
  | 107 => ⟨S8x4096x1024, .f32⟩
  | 108 => ⟨S8x4096x1024, .f32⟩
  | 109 => ⟨S8x4096x1024, .f32⟩
  | 110 => ⟨S8x4096x1024, .f32⟩
  | 111 => ⟨S_, .f32⟩
  | 112 => ⟨S8x4096x1024, .f32⟩
  | 113 => ⟨S8x4096x1024, .f32⟩
  | 114 => ⟨S_, .f32⟩
  | 115 => ⟨S8x4096x1024, .f32⟩
  | 116 => ⟨S8x4096x1024, .f32⟩
  | 117 => ⟨S_, .f32⟩
  | 118 => ⟨S8x4096x1024, .f32⟩
  | 119 => ⟨S8x4096x1024, .f32⟩
  | 120 => ⟨S1024, .f32⟩
  | 121 => ⟨S_, .f32⟩
  | 122 => ⟨S1024, .f32⟩
  | 123 => ⟨S1024, .f32⟩
  | 124 => ⟨S1024, .f32⟩
  | 125 => ⟨S1024, .f32⟩
  | 126 => ⟨S1024, .i1⟩
  | 127 => ⟨S1024, .f32⟩
  | _ => ⟨S8x4096x1024, .f32⟩

abbrev hbmTy0_1 (i : Nat) : BufTy := match i % 128 with
  | 0 => ⟨S1024, .f32⟩
  | 1 => ⟨S1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1x1x1024, .f32⟩
  | 9 => ⟨S8x4096x1024, .f32⟩
  | 10 => ⟨S8x4096x1024, .f32⟩
  | 11 => ⟨S8x4096x1024, .f32⟩
  | 12 => ⟨S_, .f32⟩
  | 13 => ⟨S8x4096x1024, .f32⟩
  | 14 => ⟨S8x4096x1024, .f32⟩
  | 15 => ⟨S8x4096x1024, .f32⟩
  | 16 => ⟨S8x4096x1024, .f32⟩
  | 17 => ⟨S8x4096x1024, .f32⟩
  | 18 => ⟨S8x4096x1024, .f32⟩
  | 19 => ⟨S8x4096x1024, .f32⟩
  | 20 => ⟨S_, .f32⟩
  | 21 => ⟨S8x1024, .f32⟩
  | 22 => ⟨S_, .f32⟩
  | 23 => ⟨S8x4096x1024, .f32⟩
  | 24 => ⟨S_, .i32⟩
  | 25 => ⟨S_, .i32⟩
  | 26 => ⟨S8x4096x1024, .f32⟩
  | 27 => ⟨S8x4096x1024, .f32⟩
  | 28 => ⟨S_, .i32⟩
  | 29 => ⟨S_, .i32⟩
  | 30 => ⟨S8x1024, .f32⟩
  | 31 => ⟨S8x4096x1024, .f32⟩
  | 32 => ⟨S_, .i32⟩
  | 33 => ⟨S_, .i1⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S8x1x1024, .f32⟩
  | 45 => ⟨S8x1024, .f32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S8x1x1024, .f32⟩
  | 55 => ⟨S8x1024, .f32⟩
  | 56 => ⟨S8x1024, .f32⟩
  | 57 => ⟨S8x1024, .f32⟩
  | 58 => ⟨S8x1x1024, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S8x4096x1024, .f32⟩
  | 68 => ⟨S_, .i32⟩
  | 69 => ⟨S_, .i32⟩
  | 70 => ⟨S8x4096x1024, .f32⟩
  | 71 => ⟨S8x4096x1024, .f32⟩
  | 72 => ⟨S1x1x1024, .f32⟩
  | 73 => ⟨S8x4096x1024, .f32⟩
  | 74 => ⟨S8x4096x1024, .f32⟩
  | 75 => ⟨S8x4096x1024, .f32⟩
  | 76 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c : Ref sig .tc := ⟨.hbm, 52, rfl⟩
abbrev main_call0_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_7 : Ref sig .tc := ⟨.hbm, 97, rfl⟩
abbrev main_v74 : Ref sig .tc := ⟨.hbm, 98, rfl⟩
abbrev main_v75 : Ref sig .tc := ⟨.hbm, 99, rfl⟩
abbrev main_cst_8 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_9 : Ref sig .tc := ⟨.hbm, 111, rfl⟩
abbrev main_v86 : Ref sig .tc := ⟨.hbm, 112, rfl⟩
abbrev main_v87 : Ref sig .tc := ⟨.hbm, 113, rfl⟩
abbrev main_cst_10 : Ref sig .tc := ⟨.hbm, 114, rfl⟩
abbrev main_v88 : Ref sig .tc := ⟨.hbm, 115, rfl⟩
abbrev main_v89 : Ref sig .tc := ⟨.hbm, 116, rfl⟩
abbrev main_cst_11 : Ref sig .tc := ⟨.hbm, 117, rfl⟩
abbrev main_v90 : Ref sig .tc := ⟨.hbm, 118, rfl⟩
abbrev main_v91 : Ref sig .tc := ⟨.hbm, 119, rfl⟩
abbrev main_call1_v0 : Ref sig .tc := ⟨.hbm, 120, rfl⟩
abbrev main_call1_call0_cst : Ref sig .tc := ⟨.hbm, 121, rfl⟩
abbrev main_call1_call0_v0 : Ref sig .tc := ⟨.hbm, 122, rfl⟩
abbrev main_call1_call0_v1 : Ref sig .tc := ⟨.hbm, 123, rfl⟩
abbrev main_call1_call0_v2 : Ref sig .tc := ⟨.hbm, 124, rfl⟩
abbrev main_call1_call0_v3 : Ref sig .tc := ⟨.hbm, 125, rfl⟩
abbrev main_call1_call0_v4 : Ref sig .tc := ⟨.hbm, 126, rfl⟩
abbrev main_call1_call0_v5 : Ref sig .tc := ⟨.hbm, 127, rfl⟩
abbrev main_call1_call0_v6 : Ref sig .tc := ⟨.hbm, 128, rfl⟩
abbrev main_call1_call0_v7 : Ref sig .tc := ⟨.hbm, 129, rfl⟩
abbrev main_call1_call0_v8 : Ref sig .tc := ⟨.hbm, 130, rfl⟩
abbrev main_call1_call0_v9 : Ref sig .tc := ⟨.hbm, 131, rfl⟩
abbrev main_call1_call0_v10 : Ref sig .tc := ⟨.hbm, 132, rfl⟩
abbrev main_call1_call0_v11 : Ref sig .tc := ⟨.hbm, 133, rfl⟩
abbrev main_call1_v1 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_cst_12 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_13 : Ref sig .tc := ⟨.hbm, 148, rfl⟩
abbrev main_v104 : Ref sig .tc := ⟨.hbm, 149, rfl⟩
abbrev main_cst_14 : Ref sig .tc := ⟨.hbm, 150, rfl⟩
abbrev main_v105 : Ref sig .tc := ⟨.hbm, 151, rfl⟩
abbrev main_c_15 : Ref sig .tc := ⟨.hbm, 152, rfl⟩
abbrev main_c_16 : Ref sig .tc := ⟨.hbm, 153, rfl⟩
abbrev main_v106_0 : Ref sig .tc := ⟨.hbm, 154, rfl⟩
abbrev main_v106_1 : Ref sig .tc := ⟨.hbm, 155, rfl⟩
abbrev main_v106_2 : Ref sig .tc := ⟨.hbm, 156, rfl⟩
abbrev main_v106_3 : Ref sig .tc := ⟨.hbm, 157, rfl⟩
abbrev main_v106_4 : Ref sig .tc := ⟨.hbm, 158, rfl⟩
abbrev main_v106_5 : Ref sig .tc := ⟨.hbm, 159, rfl⟩
abbrev main_while0c_c_22 : Ref sig .tc := ⟨.hbm, 160, rfl⟩
abbrev main_while0c_v114 : Ref sig .tc := ⟨.hbm, 161, rfl⟩
abbrev main_while0b_c_22 : Ref sig .tc := ⟨.hbm, 162, rfl⟩
abbrev main_while0b_v114 : Ref sig .tc := ⟨.hbm, 163, rfl⟩
abbrev main_while0b_call2_c : Ref sig .tc := ⟨.hbm, 164, rfl⟩
abbrev main_while0b_call2_v0 : Ref sig .tc := ⟨.hbm, 165, rfl⟩
abbrev main_while0b_call2_v1 : Ref sig .tc := ⟨.hbm, 166, rfl⟩
abbrev main_while0b_call2_c_0 : Ref sig .tc := ⟨.hbm, 167, rfl⟩
abbrev main_while0b_call2_v2 : Ref sig .tc := ⟨.hbm, 168, rfl⟩
abbrev main_while0b_call2_v3 : Ref sig .tc := ⟨.hbm, 169, rfl⟩
abbrev main_while0b_call2_c_1 : Ref sig .tc := ⟨.hbm, 170, rfl⟩
abbrev main_while0b_call2_c_2 : Ref sig .tc := ⟨.hbm, 171, rfl⟩
abbrev main_while0b_call2_v4 : Ref sig .tc := ⟨.hbm, 172, rfl⟩
abbrev main_while0b_v115 : Ref sig .tc := ⟨.hbm, 173, rfl⟩
abbrev main_while0b_call3_c : Ref sig .tc := ⟨.hbm, 174, rfl⟩
abbrev main_while0b_call3_v0 : Ref sig .tc := ⟨.hbm, 175, rfl⟩
abbrev main_while0b_call3_v1 : Ref sig .tc := ⟨.hbm, 176, rfl⟩
abbrev main_while0b_call3_c_0 : Ref sig .tc := ⟨.hbm, 177, rfl⟩
abbrev main_while0b_call3_v2 : Ref sig .tc := ⟨.hbm, 178, rfl⟩
abbrev main_while0b_call3_v3 : Ref sig .tc := ⟨.hbm, 179, rfl⟩
abbrev main_while0b_call3_c_1 : Ref sig .tc := ⟨.hbm, 180, rfl⟩
abbrev main_while0b_call3_c_2 : Ref sig .tc := ⟨.hbm, 181, rfl⟩
abbrev main_while0b_call3_v4 : Ref sig .tc := ⟨.hbm, 182, rfl⟩
abbrev main_while0b_v116 : Ref sig .tc := ⟨.hbm, 183, rfl⟩
abbrev main_while0b_v117 : Ref sig .tc := ⟨.hbm, 184, rfl⟩
abbrev main_while0b_v118 : Ref sig .tc := ⟨.hbm, 185, rfl⟩
abbrev main_while0b_call4_v0 : Ref sig .tc := ⟨.hbm, 186, rfl⟩
abbrev main_while0b_call4_c : Ref sig .tc := ⟨.hbm, 187, rfl⟩
abbrev main_while0b_call4_v1 : Ref sig .tc := ⟨.hbm, 188, rfl⟩
abbrev main_while0b_call4_v2 : Ref sig .tc := ⟨.hbm, 189, rfl⟩
abbrev main_while0b_call4_c_0 : Ref sig .tc := ⟨.hbm, 190, rfl⟩
abbrev main_while0b_call4_v3 : Ref sig .tc := ⟨.hbm, 191, rfl⟩
abbrev main_while0b_call4_v4 : Ref sig .tc := ⟨.hbm, 192, rfl⟩
abbrev main_while0b_call4_c_1 : Ref sig .tc := ⟨.hbm, 193, rfl⟩
abbrev main_while0b_call4_c_2 : Ref sig .tc := ⟨.hbm, 194, rfl⟩
abbrev main_while0b_v119 : Ref sig .tc := ⟨.hbm, 195, rfl⟩
abbrev main_while0b_c_23 : Ref sig .tc := ⟨.hbm, 196, rfl⟩
abbrev main_while0b_v120 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S8x4096x1024 : Shape := ⟨3, ![8, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S1x1024 : Shape := ⟨2, ![1, 1024]⟩
abbrev S1x5632 : Shape := ⟨2, ![1, 5632]⟩
abbrev S512x1024 : Shape := ⟨2, ![512, 1024]⟩
abbrev S2x520x2816 : Shape := ⟨3, ![2, 520, 2816]⟩
abbrev S8x5632 : Shape := ⟨2, ![8, 5632]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S8x2816 : Shape := ⟨2, ![8, 2816]⟩
abbrev S1x8x2816 : Shape := ⟨3, ![1, 8, 2816]⟩
abbrev S1x512x2816 : Shape := ⟨3, ![1, 512, 2816]⟩
abbrev S3x2816 : Shape := ⟨2, ![3, 2816]⟩
abbrev S1x2816 : Shape := ⟨2, ![1, 2816]⟩

abbrev nBuf : Space → Nat
  | .hbm => 14
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S1x1024, .f32⟩
  | .hbm, ⟨9, _⟩ => ⟨S1024x5632, .bf16⟩
  | .hbm, ⟨10, _⟩ => ⟨S1x5632, .f32⟩
  | .hbm, ⟨11, _⟩ => ⟨S2816x1024, .bf16⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S2x520x2816, .f32⟩
  | .local _ .vmem, ⟨11, _⟩ => ⟨S8x5632, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S8x4096x1024 : Shape := ⟨3, ![8, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩
abbrev S32768x1024 : Shape := ⟨2, ![32768, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x5632, .f32⟩
  | .hbm, ⟨24, _⟩ => ⟨S_, .i32⟩
  | .hbm, ⟨25, _⟩ => ⟨S_, .f32⟩
  | .hbm, ⟨26, _⟩ => ⟨S8x4098x5632, .f32⟩
  | .hbm, ⟨27, _⟩ => ⟨S1x5632, .f32⟩
  | .hbm, ⟨28, _⟩ => ⟨S5632, .f32⟩
  | .hbm, ⟨29, _⟩ => ⟨S8x4096x5632, .f32⟩
  | .hbm, ⟨30, _⟩ => ⟨S1x1x5632, .f32⟩
  | .hbm, ⟨31, _⟩ => ⟨S8x4096x5632, .f32⟩
  | .hbm, ⟨32, _⟩ => ⟨S8x4096x5632, .f32⟩
  | .hbm, ⟨33, _⟩ => ⟨S_, .f32⟩
  | .hbm, ⟨34, _⟩ => ⟨S8x4096x5632, .f32⟩
  | .hbm, ⟨35, _⟩ => ⟨S8x4096x5632, .f32⟩
  | .hbm, ⟨36, _⟩ => ⟨S1x5632, .f32⟩
  | .hbm, ⟨37, _⟩ => ⟨S5632, .f32⟩
  | .hbm, ⟨38, _⟩ => ⟨S8x4096x5632, .f32⟩
  | .hbm, ⟨39, _⟩ => ⟨S1x1x5632, .f32⟩
  | .hbm, ⟨40, _⟩ => ⟨S8x4096x5632, .f32⟩
  | .hbm, ⟨41, _⟩ => ⟨S8x4096x5632, .f32⟩
  | .hbm, ⟨42, _⟩ => ⟨S8x4096x5632, .f32⟩
  | .hbm, ⟨43, _⟩ => ⟨S1x5632, .f32⟩
  | .hbm, ⟨44, _⟩ => ⟨S5632, .f32⟩
  | .hbm, ⟨45, _⟩ => ⟨S8x4096x5632, .f32⟩
  | .hbm, ⟨46, _⟩ => ⟨S1x1x5632, .f32⟩
  | .hbm, ⟨47, _⟩ => ⟨S8x4096x5632, .f32⟩
  | .hbm, ⟨48, _⟩ => ⟨S8x4096x5632, .f32⟩
  | .hbm, ⟨49, _⟩ => ⟨S8x4096x5632, .f32⟩
  | .hbm, ⟨50, _⟩ => ⟨S1x1x5632, .f32⟩
  | .hbm, ⟨51, _⟩ => ⟨S8x4096x5632, .f32⟩
  | .hbm, ⟨52, _⟩ => ⟨S8x4096x5632, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S_, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S8x4096x2816, .f32⟩
  | .hbm, ⟨65, _⟩ => ⟨S8x4096x1024, .f32⟩
  | .hbm, ⟨66, _⟩ => ⟨S8x4096x1024, .f32⟩
  | .hbm, ⟨67, _⟩ => ⟨S8x4096x1024, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S_, .f32⟩
  | .hbm, ⟨72, _⟩ => ⟨S8x4096x1, .f32⟩
  | .hbm, ⟨73, _⟩ => ⟨S8x4096x1, .f32⟩
  | .hbm, ⟨74, _⟩ => ⟨S_, .f32⟩
  | .hbm, ⟨75, _⟩ => ⟨S8x4096x1, .f32⟩
  | .hbm, ⟨76, _⟩ => ⟨S8x4096x1, .f32⟩
  | .hbm, ⟨77, _⟩ => ⟨S8x4096x1, .f32⟩
  | .hbm, ⟨78, _⟩ => ⟨S8x4096x1024, .f32⟩
  | .hbm, ⟨79, _⟩ => ⟨S8x4096x1024, .f32⟩
  | .hbm, ⟨80, _⟩ => ⟨S1x1x1024, .f32⟩
  | .hbm, ⟨81, _⟩ => ⟨S8x4096x1024, .f32⟩
  | .hbm, ⟨82, _⟩ => ⟨S8x4096x1024, .f32⟩
  | .hbm, ⟨83, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x512x4096 : Shape := ⟨3, ![8, 512, 4096]⟩
abbrev S32768x512 : Shape := ⟨2, ![32768, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S1x1024 : Shape := ⟨2, ![1, 1024]⟩
abbrev S1x5632 : Shape := ⟨2, ![1, 5632]⟩
abbrev S512x1024 : Shape := ⟨2, ![512, 1024]⟩
abbrev S1x512x512 : Shape := ⟨3, ![1, 512, 512]⟩
abbrev S512x512 : Shape := ⟨2, ![512, 512]⟩
abbrev S2x520x2816 : Shape := ⟨3, ![2, 520, 2816]⟩
abbrev S8x5632 : Shape := ⟨2, ![8, 5632]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S8x2816 : Shape := ⟨2, ![8, 2816]⟩
abbrev S1x8x2816 : Shape := ⟨3, ![1, 8, 2816]⟩
abbrev S1x512x2816 : Shape := ⟨3, ![1, 512, 2816]⟩
abbrev S3x2816 : Shape := ⟨2, ![3, 2816]⟩
abbrev S1x2816 : Shape := ⟨2, ![1, 2816]⟩

abbrev nBuf : Space → Nat
  | .hbm => 18
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x512x4096, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S32768x1024, .f32⟩
  | .hbm, ⟨11, _⟩ => ⟨S1024x1024, .bf16⟩
  | .hbm, ⟨12, _⟩ => ⟨S1x1024, .f32⟩
  | .hbm, ⟨13, _⟩ => ⟨S1024x5632, .bf16⟩
  | .hbm, ⟨14, _⟩ => ⟨S1x5632, .f32⟩
  | .hbm, ⟨15, _⟩ => ⟨S2816x1024, .bf16⟩
  | .hbm, ⟨16, _⟩ => ⟨S1x1024, .f32⟩
  | .hbm, ⟨17, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x512x512, .bf16⟩
  | .local _ .vmem, ⟨3, _⟩ => ⟨S1x512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S2x520x2816, .f32⟩
  | .local _ .vmem, ⟨16, _⟩ => ⟨S8x5632, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S8x4096x1024 : Shape := ⟨3, ![8, 4096, 1024]⟩
abbrev S8x512x4096 : Shape := ⟨3, ![8, 512, 4096]⟩
abbrev S32768x512 : Shape := ⟨2, ![32768, 512]⟩
abbrev S1024x1024 : Shape := ⟨2, ![1024, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x4096x512 : Shape := ⟨3, ![8, 4096, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩
abbrev S32768x1024 : Shape := ⟨2, ![32768, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x512x4096, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x5632, .f32⟩
  | .hbm, ⟨6, _⟩ => ⟨S3x5632, .f32⟩
  | .hbm, ⟨7, _⟩ => ⟨S5632, .f32⟩
  | .hbm, ⟨8, _⟩ => ⟨S2816x1024, .f32⟩
  | .hbm, ⟨9, _⟩ => ⟨S1024, .f32⟩
  | .hbm, ⟨10, _⟩ => ⟨S8x4096x512, .bf16⟩
  | .hbm, ⟨11, _⟩ => ⟨S8x4096x512, .f32⟩
  | .hbm, ⟨12, _⟩ => ⟨S32768x512, .f32⟩
  | .hbm, ⟨13, _⟩ => ⟨S8x4096x512, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S8x4096x5632, .f32⟩
  | .hbm, ⟨34, _⟩ => ⟨S_, .i32⟩
  | .hbm, ⟨35, _⟩ => ⟨S_, .f32⟩
  | .hbm, ⟨36, _⟩ => ⟨S8x4098x5632, .f32⟩
  | .hbm, ⟨37, _⟩ => ⟨S1x5632, .f32⟩
  | .hbm, ⟨38, _⟩ => ⟨S5632, .f32⟩
  | .hbm, ⟨39, _⟩ => ⟨S8x4096x5632, .f32⟩
  | .hbm, ⟨40, _⟩ => ⟨S1x1x5632, .f32⟩
  | .hbm, ⟨41, _⟩ => ⟨S8x4096x5632, .f32⟩
  | .hbm, ⟨42, _⟩ => ⟨S8x4096x5632, .f32⟩
  | .hbm, ⟨43, _⟩ => ⟨S_, .f32⟩
  | .hbm, ⟨44, _⟩ => ⟨S8x4096x5632, .f32⟩
  | .hbm, ⟨45, _⟩ => ⟨S8x4096x5632, .f32⟩
  | .hbm, ⟨46, _⟩ => ⟨S1x5632, .f32⟩
  | .hbm, ⟨47, _⟩ => ⟨S5632, .f32⟩
  | .hbm, ⟨48, _⟩ => ⟨S8x4096x5632, .f32⟩
  | .hbm, ⟨49, _⟩ => ⟨S1x1x5632, .f32⟩
  | .hbm, ⟨50, _⟩ => ⟨S8x4096x5632, .f32⟩
  | .hbm, ⟨51, _⟩ => ⟨S8x4096x5632, .f32⟩
  | .hbm, ⟨52, _⟩ => ⟨S8x4096x5632, .f32⟩
  | .hbm, ⟨53, _⟩ => ⟨S1x5632, .f32⟩
  | .hbm, ⟨54, _⟩ => ⟨S5632, .f32⟩
  | .hbm, ⟨55, _⟩ => ⟨S8x4096x5632, .f32⟩
  | .hbm, ⟨56, _⟩ => ⟨S1x1x5632, .f32⟩
  | .hbm, ⟨57, _⟩ => ⟨S8x4096x5632, .f32⟩
  | .hbm, ⟨58, _⟩ => ⟨S8x4096x5632, .f32⟩
  | .hbm, ⟨59, _⟩ => ⟨S8x4096x5632, .f32⟩
  | .hbm, ⟨60, _⟩ => ⟨S1x1x5632, .f32⟩
  | .hbm, ⟨61, _⟩ => ⟨S8x4096x5632, .f32⟩
  | .hbm, ⟨62, _⟩ => ⟨S8x4096x5632, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S_, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S8x4096x1024, .f32⟩
  | .hbm, ⟨76, _⟩ => ⟨S8x4096x1024, .f32⟩
  | .hbm, ⟨77, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S32768x1024 : Shape := ⟨2, ![32768, 1024]⟩
abbrev S1x1024 : Shape := ⟨2, ![1, 1024]⟩
abbrev S1x5632 : Shape := ⟨2, ![1, 5632]⟩
abbrev S512x1024 : Shape := ⟨2, ![512, 1024]⟩
abbrev S2x520x2816 : Shape := ⟨3, ![2, 520, 2816]⟩
abbrev S8x5632 : Shape := ⟨2, ![8, 5632]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S8x2816 : Shape := ⟨2, ![8, 2816]⟩
abbrev S1x8x2816 : Shape := ⟨3, ![1, 8, 2816]⟩
abbrev S1x512x2816 : Shape := ⟨3, ![1, 512, 2816]⟩
abbrev S3x2816 : Shape := ⟨2, ![3, 2816]⟩
abbrev S1x2816 : Shape := ⟨2, ![1, 2816]⟩

abbrev nBuf : Space → Nat
  | .hbm => 14
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S32768x1024, .f32⟩
  | .hbm, ⟨8, _⟩ => ⟨S1x1024, .f32⟩
  | .hbm, ⟨9, _⟩ => ⟨S1024x5632, .bf16⟩
  | .hbm, ⟨10, _⟩ => ⟨S1x5632, .f32⟩
  | .hbm, ⟨11, _⟩ => ⟨S2816x1024, .bf16⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S2x520x2816, .f32⟩
  | .local _ .vmem, ⟨11, _⟩ => ⟨S8x5632, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8x4096x1024 : Shape := ⟨3, ![8, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩
abbrev S32768x1024 : Shape := ⟨2, ![32768, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x5632, .f32⟩
  | .hbm, ⟨24, _⟩ => ⟨S_, .i32⟩
  | .hbm, ⟨25, _⟩ => ⟨S_, .f32⟩
  | .hbm, ⟨26, _⟩ => ⟨S8x4098x5632, .f32⟩
  | .hbm, ⟨27, _⟩ => ⟨S1x5632, .f32⟩
  | .hbm, ⟨28, _⟩ => ⟨S5632, .f32⟩
  | .hbm, ⟨29, _⟩ => ⟨S8x4096x5632, .f32⟩
  | .hbm, ⟨30, _⟩ => ⟨S1x1x5632, .f32⟩
  | .hbm, ⟨31, _⟩ => ⟨S8x4096x5632, .f32⟩
  | .hbm, ⟨32, _⟩ => ⟨S8x4096x5632, .f32⟩
  | .hbm, ⟨33, _⟩ => ⟨S_, .f32⟩
  | .hbm, ⟨34, _⟩ => ⟨S8x4096x5632, .f32⟩
  | .hbm, ⟨35, _⟩ => ⟨S8x4096x5632, .f32⟩
  | .hbm, ⟨36, _⟩ => ⟨S1x5632, .f32⟩
  | .hbm, ⟨37, _⟩ => ⟨S5632, .f32⟩
  | .hbm, ⟨38, _⟩ => ⟨S8x4096x5632, .f32⟩
  | .hbm, ⟨39, _⟩ => ⟨S1x1x5632, .f32⟩
  | .hbm, ⟨40, _⟩ => ⟨S8x4096x5632, .f32⟩
  | .hbm, ⟨41, _⟩ => ⟨S8x4096x5632, .f32⟩
  | .hbm, ⟨42, _⟩ => ⟨S8x4096x5632, .f32⟩
  | .hbm, ⟨43, _⟩ => ⟨S1x5632, .f32⟩
  | .hbm, ⟨44, _⟩ => ⟨S5632, .f32⟩
  | .hbm, ⟨45, _⟩ => ⟨S8x4096x5632, .f32⟩
  | .hbm, ⟨46, _⟩ => ⟨S1x1x5632, .f32⟩
  | .hbm, ⟨47, _⟩ => ⟨S8x4096x5632, .f32⟩
  | .hbm, ⟨48, _⟩ => ⟨S8x4096x5632, .f32⟩
  | .hbm, ⟨49, _⟩ => ⟨S8x4096x5632, .f32⟩
  | .hbm, ⟨50, _⟩ => ⟨S1x1x5632, .f32⟩
  | .hbm, ⟨51, _⟩ => ⟨S8x4096x5632, .f32⟩
  | .hbm, ⟨52, _⟩ => ⟨S8x4096x5632, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S_, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S8x4096x2816, .f32⟩
  | .hbm, ⟨64, _⟩ => ⟨S8x4096x2816, .f32⟩
  | .hbm, ⟨65, _⟩ => ⟨S8x4096x1024, .f32⟩
  | .hbm, ⟨66, _⟩ => ⟨S8x4096x1024, .f32⟩
  | .hbm, ⟨67, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024 : Shape := ⟨1, ![1024]⟩
abbrev S1024x2840 : Shape := ⟨2, ![1024, 2840]⟩
abbrev S3x512 : Shape := ⟨2, ![3, 512]⟩
abbrev S2944 : Shape := ⟨1, ![2944]⟩
abbrev S1x2944 : Shape := ⟨2, ![1, 2944]⟩
abbrev S32768x1024 : Shape := ⟨2, ![32768, 1024]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S128 : Shape := ⟨1, ![128]⟩
abbrev S1x128 : Shape := ⟨2, ![1, 128]⟩
abbrev S1x1024 : Shape := ⟨2, ![1, 1024]⟩
abbrev S2944x1 : Shape := ⟨2, ![2944, 1]⟩
abbrev S1024x2944 : Shape := ⟨2, ![1024, 2944]⟩
abbrev S32768x512 : Shape := ⟨2, ![32768, 512]⟩
abbrev S32768x128 : Shape := ⟨2, ![32768, 128]⟩
abbrev S8x16x128x256 : Shape := ⟨4, ![8, 16, 128, 256]⟩
abbrev S1024x1024 : Shape := ⟨2, ![1024, 1024]⟩
abbrev S1024x128 : Shape := ⟨2, ![1024, 128]⟩
abbrev S1024x512 : Shape := ⟨2, ![1024, 512]⟩
abbrev S1x4x128x256 : Shape := ⟨4, ![1, 4, 128, 256]⟩
abbrev S1032x512 : Shape := ⟨2, ![1032, 512]⟩
abbrev S1024x1 : Shape := ⟨2, ![1024, 1]⟩
abbrev S1024x384 : Shape := ⟨2, ![1024, 384]⟩
abbrev S256x128 : Shape := ⟨2, ![256, 128]⟩
abbrev S128x256 : Shape := ⟨2, ![128, 256]⟩
abbrev S1x1x128x256 : Shape := ⟨4, ![1, 1, 128, 256]⟩
abbrev S8x512 : Shape := ⟨2, ![8, 512]⟩
abbrev S1x512 : Shape := ⟨2, ![1, 512]⟩

abbrev nBuf : Space → Nat
  | .hbm => 68
  | .vmem => 28
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2840, .f32⟩
  | .hbm, ⟨3, _⟩ => ⟨S3x512, .f32⟩
  | .hbm, ⟨4, _⟩ => ⟨S2944, .i32⟩
  | .hbm, ⟨5, _⟩ => ⟨S2944, .i1⟩
  | .hbm, ⟨6, _⟩ => ⟨S2944, .f32⟩
  | .hbm, ⟨7, _⟩ => ⟨S1x2944, .f32⟩
  | .hbm, ⟨8, _⟩ => ⟨S32768x1024, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4096, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S1x4096x1x32, .f32⟩
  | .hbm, ⟨32, _⟩ => ⟨S1x4096x4x32, .f32⟩
  | .hbm, ⟨33, _⟩ => ⟨S4096x128, .f32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S_, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S4096x128, .f32⟩
  | .hbm, ⟨45, _⟩ => ⟨S4096x128, .f32⟩
  | .hbm, ⟨46, _⟩ => ⟨S1x128, .f32⟩
  | .hbm, ⟨47, _⟩ => ⟨S4096x128, .f32⟩
  | .hbm, ⟨48, _⟩ => ⟨S4096x128, .f32⟩
  | .hbm, ⟨49, _⟩ => ⟨S1x1024, .f32⟩
  | .hbm, ⟨50, _⟩ => ⟨S_, .i32⟩
  | .hbm, ⟨51, _⟩ => ⟨S2944, .i32⟩
  | .hbm, ⟨52, _⟩ => ⟨S2944, .i32⟩
  | .hbm, ⟨53, _⟩ => ⟨S2944, .i32⟩
  | .hbm, ⟨54, _⟩ => ⟨S2944x1, .i32⟩
  | .hbm, ⟨55, _⟩ => ⟨S1024x2944, .f32⟩
  | .hbm, ⟨56, _⟩ => ⟨S1024x2944, .f32⟩
  | .hbm, ⟨57, _⟩ => ⟨S1024x2944, .f32⟩
  | .hbm, ⟨58, _⟩ => ⟨S1024x2944, .bf16⟩
  | .hbm, ⟨59, _⟩ => ⟨S32768x512, .bf16⟩
  | .hbm, ⟨60, _⟩ => ⟨S32768x128, .bf16⟩
  | .hbm, ⟨61, _⟩ => ⟨S32768x128, .bf16⟩
  | .hbm, ⟨62, _⟩ => ⟨S32768x128, .bf16⟩
  | .hbm, ⟨63, _⟩ => ⟨S32768x128, .bf16⟩
  | .hbm, ⟨64, _⟩ => ⟨S8x16x128x256, .bf16⟩
  | .hbm, ⟨65, _⟩ => ⟨S8x16x128x256, .bf16⟩
  | .hbm, ⟨66, _⟩ => ⟨S32768x128, .f32⟩
  | .hbm, ⟨67, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2944, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S3x512, .f32⟩
  | .local _ .vmem, ⟨9, _⟩ => ⟨S1024x512, .bf16⟩
  | .local _ .vmem, ⟨10, _⟩ => ⟨S1024x512, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1x4x128x256, .bf16⟩
  | .local _ .vmem, ⟨20, _⟩ => ⟨S1x4x128x256, .bf16⟩
  | .local _ .vmem, ⟨21, _⟩ => ⟨S1x4x128x256, .bf16⟩
  | .local _ .vmem, ⟨22, _⟩ => ⟨S1x4x128x256, .bf16⟩
  | .local _ .vmem, ⟨23, _⟩ => ⟨S1024x128, .f32⟩
  | .local _ .vmem, ⟨24, _⟩ => ⟨S1024x128, .f32⟩
  | .local _ .vmem, ⟨25, _⟩ => ⟨S1024x512, .bf16⟩
  | .local _ .vmem, ⟨26, _⟩ => ⟨S1024x512, .bf16⟩
  | .local _ .vmem, ⟨27, _⟩ => ⟨S1032x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_cst_4 : Ref sig .tc := ⟨.hbm, 19, rfl⟩
abbrev main_v9 : Ref sig .tc := ⟨.hbm, 20, rfl⟩
abbrev main_v10 : Ref sig .tc := ⟨.hbm, 21, rfl⟩
abbrev main_cst_5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_cst_8 : Ref sig .tc := ⟨.hbm, 39, rfl⟩
abbrev main_call0_v0 : Ref sig .tc := ⟨.hbm, 40, rfl⟩
abbrev main_call0_v1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_9 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41_0 : Ref sig .tc := ⟨.hbm, 59, rfl⟩
abbrev main_v41_1 : Ref sig .tc := ⟨.hbm, 60, rfl⟩
abbrev main_v41_2 : Ref sig .tc := ⟨.hbm, 61, rfl⟩
abbrev main_v41_3 : Ref sig .tc := ⟨.hbm, 62, rfl⟩
abbrev main_v41_4 : Ref sig .tc := ⟨.hbm, 63, rfl⟩
abbrev main_v41_5 : Ref sig .tc := ⟨.hbm, 64, rfl⟩
abbrev main_v41_6 : Ref sig .tc := ⟨.hbm, 65, rfl⟩
abbrev main_v41_7 : Ref sig .tc := ⟨.hbm, 66, rfl⟩
abbrev main_v41_8 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_12 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S8x4096x1024 : Shape := ⟨3, ![8, 4096, 1024]⟩
abbrev S1024 : Shape := ⟨1, ![1024]⟩
abbrev S1024x2840 : Shape := ⟨2, ![1024, 2840]⟩
abbrev S3x512 : Shape := ⟨2, ![3, 512]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2840 : Shape := ⟨3, ![8, 4096, 2840]⟩
abbrev S8x4096x768 : Shape := ⟨3, ![8, 4096, 768]⟩
abbrev S8x4096x512 : Shape := ⟨3, ![8, 4096, 512]⟩
abbrev S8x4096x8x64 : Shape := ⟨4, ![8, 4096, 8, 64]⟩
abbrev S8x4096x8x32 : Shape := ⟨4, ![8, 4096, 8, 32]⟩
abbrev S4096x1x64 : Shape := ⟨3, ![4096, 1, 64]⟩
abbrev S1x4096x1x64 : Shape := ⟨4, ![1, 4096, 1, 64]⟩
abbrev S8x4096x128 : Shape := ⟨3, ![8, 4096, 128]⟩
abbrev S8x4096x2x64 : Shape := ⟨4, ![8, 4096, 2, 64]⟩
abbrev S8x4096x2x32 : Shape := ⟨4, ![8, 4096, 2, 32]⟩
abbrev S8x4096x24 : Shape := ⟨3, ![8, 4096, 24]⟩
abbrev S32768x8x3 : Shape := ⟨3, ![32768, 8, 3]⟩
abbrev S32768x3x8 : Shape := ⟨3, ![32768, 3, 8]⟩
abbrev S32768x24 : Shape := ⟨2, ![32768, 24]⟩
abbrev S32768x128 : Shape := ⟨2, ![32768, 128]⟩
abbrev S8x4096x1536 : Shape := ⟨3, ![8, 4096, 1536]⟩
abbrev S8x4098x512 : Shape := ⟨3, ![8, 4098, 512]⟩
abbrev S1x512 : Shape := ⟨2, ![1, 512]⟩
abbrev S512 : Shape := ⟨1, ![512]⟩
abbrev S1x1x512 : Shape := ⟨3, ![1, 1, 512]⟩
abbrev S32768x2x8x32 : Shape := ⟨4, ![32768, 2, 8, 32]⟩
abbrev S32768x8x2x32 : Shape := ⟨4, ![32768, 8, 2, 32]⟩
abbrev S32768x512 : Shape := ⟨2, ![32768, 512]⟩
abbrev S32768x2x2x32 : Shape := ⟨4, ![32768, 2, 2, 32]⟩
abbrev S8x16x256x128 : Shape := ⟨4, ![8, 16, 256, 128]⟩
abbrev S8x16x128x256 : Shape := ⟨4, ![8, 16, 128, 256]⟩

abbrev nBuf : Space → Nat
  | .hbm => 189
  | .vmem => 0
  | .smem => 0
  | _ => 0

abbrev hbmTy0_0 (i : Nat) : BufTy := match i % 128 with
  | 0 => ⟨S8x4096x1024, .f32⟩
  | 1 => ⟨S1024, .f32⟩
  | 2 => ⟨S1024x2840, .f32⟩
  | 3 => ⟨S3x512, .f32⟩
  | 4 => ⟨S32, .f32⟩
  | 5 => ⟨S_, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S4096, .f32⟩
  | 21 => ⟨S4096x1, .f32⟩
  | 22 => ⟨S1x32, .f32⟩
  | 23 => ⟨S4096x32, .f32⟩
  | 24 => ⟨S4096x32, .f32⟩
  | 25 => ⟨S4096x32, .f32⟩
  | 26 => ⟨S4096x64, .f32⟩
  | 27 => ⟨S4096x64, .f32⟩
  | 28 => ⟨S4096x64, .f32⟩
  | 29 => ⟨S8x4096x1024, .f32⟩
  | 30 => ⟨S_, .f32⟩
  | 31 => ⟨S8x4096, .f32⟩
  | 32 => ⟨S8x4096x1, .f32⟩
  | 33 => ⟨S_, .f32⟩
  | 34 => ⟨S8x4096x1, .f32⟩
  | 35 => ⟨S8x4096x1, .f32⟩
  | 36 => ⟨S_, .f32⟩
  | 37 => ⟨S8x4096x1, .f32⟩
  | 38 => ⟨S8x4096x1, .f32⟩
  | 39 => ⟨S8x4096x1, .f32⟩
  | 40 => ⟨S8x4096x1024, .f32⟩
  | 41 => ⟨S8x4096x1024, .f32⟩
  | 42 => ⟨S1x1x1024, .f32⟩
  | 43 => ⟨S8x4096x1024, .f32⟩
  | 44 => ⟨S8x4096x1024, .f32⟩
  | 45 => ⟨S8x4096x2840, .f32⟩
  | 46 => ⟨S8x4096x768, .f32⟩
  | 47 => ⟨S8x4096x512, .f32⟩
  | 48 => ⟨S8x4096x8x64, .f32⟩
  | 49 => ⟨S8x4096x8x32, .f32⟩
  | 50 => ⟨S8x4096x8x32, .f32⟩
  | 51 => ⟨S8x4096x8x32, .f32⟩
  | 52 => ⟨S8x4096x8x64, .f32⟩
  | 53 => ⟨S4096x1x64, .f32⟩
  | 54 => ⟨S1x4096x1x64, .f32⟩
  | 55 => ⟨S8x4096x8x64, .f32⟩
  | 56 => ⟨S8x4096x8x64, .f32⟩
  | 57 => ⟨S4096x1x64, .f32⟩
  | 58 => ⟨S1x4096x1x64, .f32⟩
  | 59 => ⟨S8x4096x8x64, .f32⟩
  | 60 => ⟨S8x4096x8x64, .f32⟩
  | 61 => ⟨S8x4096x8x64, .f32⟩
  | 62 => ⟨S_, .f32⟩
  | 63 => ⟨S8x4096x8x64, .f32⟩
  | 64 => ⟨S8x4096x8x64, .f32⟩
  | 65 => ⟨S8x4096x128, .f32⟩
  | 66 => ⟨S8x4096x128, .f32⟩
  | 67 => ⟨S8x4096x128, .f32⟩
  | 68 => ⟨S8x4096x128, .f32⟩
  | 69 => ⟨S8x4096x128, .f32⟩
  | 70 => ⟨S8x4096x128, .f32⟩
  | 71 => ⟨S8x4096x2x64, .f32⟩
  | 72 => ⟨S8x4096x2x32, .f32⟩
  | 73 => ⟨S8x4096x2x32, .f32⟩
  | 74 => ⟨S8x4096x2x32, .f32⟩
  | 75 => ⟨S8x4096x2x64, .f32⟩
  | 76 => ⟨S4096x1x64, .f32⟩
  | 77 => ⟨S1x4096x1x64, .f32⟩
  | 78 => ⟨S8x4096x2x64, .f32⟩
  | 79 => ⟨S8x4096x2x64, .f32⟩
  | 80 => ⟨S4096x1x64, .f32⟩
  | 81 => ⟨S1x4096x1x64, .f32⟩
  | 82 => ⟨S8x4096x2x64, .f32⟩
  | 83 => ⟨S8x4096x2x64, .f32⟩
  | 84 => ⟨S8x4096x2x64, .f32⟩
  | 85 => ⟨S8x4096x2x64, .f32⟩
  | 86 => ⟨S8x4096x2x32, .f32⟩
  | 87 => ⟨S8x4096x2x32, .f32⟩
  | 88 => ⟨S8x4096x2x32, .f32⟩
  | 89 => ⟨S8x4096x2x64, .f32⟩
  | 90 => ⟨S4096x1x64, .f32⟩
  | 91 => ⟨S1x4096x1x64, .f32⟩
  | 92 => ⟨S8x4096x2x64, .f32⟩
  | 93 => ⟨S8x4096x2x64, .f32⟩
  | 94 => ⟨S4096x1x64, .f32⟩
  | 95 => ⟨S1x4096x1x64, .f32⟩
  | 96 => ⟨S8x4096x2x64, .f32⟩
  | 97 => ⟨S8x4096x2x64, .f32⟩
  | 98 => ⟨S8x4096x2x64, .f32⟩
  | 99 => ⟨S8x4096x2x64, .f32⟩
  | 100 => ⟨S8x4096x2x32, .f32⟩
  | 101 => ⟨S8x4096x2x32, .f32⟩
  | 102 => ⟨S8x4096x2x32, .f32⟩
  | 103 => ⟨S8x4096x2x64, .f32⟩
  | 104 => ⟨S4096x1x64, .f32⟩
  | 105 => ⟨S1x4096x1x64, .f32⟩
  | 106 => ⟨S8x4096x2x64, .f32⟩
  | 107 => ⟨S8x4096x2x64, .f32⟩
  | 108 => ⟨S4096x1x64, .f32⟩
  | 109 => ⟨S1x4096x1x64, .f32⟩
  | 110 => ⟨S8x4096x2x64, .f32⟩
  | 111 => ⟨S8x4096x2x64, .f32⟩
  | 112 => ⟨S8x4096x2x64, .f32⟩
  | 113 => ⟨S8x4096x24, .f32⟩
  | 114 => ⟨S32768x8x3, .f32⟩
  | 115 => ⟨S32768x3x8, .f32⟩
  | 116 => ⟨S32768x24, .f32⟩
  | 117 => ⟨S_, .i32⟩
  | 118 => ⟨S_, .f32⟩
  | 119 => ⟨S32768x128, .f32⟩
  | 120 => ⟨S32768x128, .f32⟩
  | 121 => ⟨S32768x128, .f32⟩
  | 122 => ⟨S_, .f32⟩
  | 123 => ⟨S32768x128, .f32⟩
  | 124 => ⟨S32768x128, .f32⟩
  | 125 => ⟨S_, .f32⟩
  | 126 => ⟨S32768x128, .f32⟩
  | 127 => ⟨S32768x128, .f32⟩
  | _ => ⟨S8x4096x1024, .f32⟩

abbrev hbmTy0_1 (i : Nat) : BufTy := match i % 128 with
  | 0 => ⟨S8x4096x1536, .f32⟩
  | 1 => ⟨S8x4096x512, .f32⟩
  | 2 => ⟨S8x4096x512, .f32⟩
  | 3 => ⟨S8x4096x512, .f32⟩
  | 4 => ⟨S8x4096x512, .f32⟩
  | 5 => ⟨S_, .i32⟩
  | 6 => ⟨S_, .f32⟩
  | 7 => ⟨S8x4098x512, .f32⟩
  | 8 => ⟨S1x512, .f32⟩
  | 9 => ⟨S512, .f32⟩
  | 10 => ⟨S8x4096x512, .f32⟩
  | 11 => ⟨S1x1x512, .f32⟩
  | 12 => ⟨S8x4096x512, .f32⟩
  | 13 => ⟨S8x4096x512, .f32⟩
  | 14 => ⟨S_, .f32⟩
  | 15 => ⟨S8x4096x512, .f32⟩
  | 16 => ⟨S8x4096x512, .f32⟩
  | 17 => ⟨S1x512, .f32⟩
  | 18 => ⟨S512, .f32⟩
  | 19 => ⟨S8x4096x512, .f32⟩
  | 20 => ⟨S1x1x512, .f32⟩
  | 21 => ⟨S8x4096x512, .f32⟩
  | 22 => ⟨S8x4096x512, .f32⟩
  | 23 => ⟨S8x4096x512, .f32⟩
  | 24 => ⟨S1x512, .f32⟩
  | 25 => ⟨S512, .f32⟩
  | 26 => ⟨S8x4096x512, .f32⟩
  | 27 => ⟨S1x1x512, .f32⟩
  | 28 => ⟨S8x4096x512, .f32⟩
  | 29 => ⟨S8x4096x512, .f32⟩
  | 30 => ⟨S8x4096x512, .f32⟩
  | 31 => ⟨S_, .f32⟩
  | 32 => ⟨S8x4096x512, .f32⟩
  | 33 => ⟨S8x4096x512, .f32⟩
  | 34 => ⟨S8x4096x512, .f32⟩
  | 35 => ⟨S32768x2x8x32, .f32⟩
  | 36 => ⟨S32768x8x2x32, .f32⟩
  | 37 => ⟨S32768x512, .f32⟩
  | 38 => ⟨S32768x512, .bf16⟩
  | 39 => ⟨S32768x2x2x32, .f32⟩
  | 40 => ⟨S32768x2x2x32, .f32⟩
  | 41 => ⟨S32768x128, .f32⟩
  | 42 => ⟨S32768x128, .bf16⟩
  | 43 => ⟨S32768x2x2x32, .f32⟩
  | 44 => ⟨S32768x2x2x32, .f32⟩
  | 45 => ⟨S32768x128, .f32⟩
  | 46 => ⟨S32768x128, .bf16⟩
  | 47 => ⟨S32768x2x2x32, .f32⟩
  | 48 => ⟨S32768x2x2x32, .f32⟩
  | 49 => ⟨S32768x128, .f32⟩
  | 50 => ⟨S32768x128, .bf16⟩
  | 51 => ⟨S32768x128, .f32⟩
  | 52 => ⟨S32768x128, .bf16⟩
  | 53 => ⟨S8x16x256x128, .f32⟩
  | 54 => ⟨S8x16x128x256, .f32⟩
  | 55 => ⟨S8x16x128x256, .bf16⟩
  | 56 => ⟨S8x16x256x128, .f32⟩
  | 57 => ⟨S8x16x128x256, .f32⟩
  | 58 => ⟨S8x16x128x256, .bf16⟩
  | 59 => ⟨S32768x512, .f32⟩
  | 60 => ⟨S32768x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_c : Ref sig .tc := ⟨.hbm, 117, rfl⟩
abbrev main_call0_v0 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_cst_8 : Ref sig .tc := ⟨.hbm, 122, rfl⟩
abbrev main_v107 : Ref sig .tc := ⟨.hbm, 123, rfl⟩
abbrev main_v108 : Ref sig .tc := ⟨.hbm, 124, rfl⟩
abbrev main_cst_9 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_c_10 : Ref sig .tc := ⟨.hbm, 133, rfl⟩
abbrev main_call1_v0 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_11 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_cst_12 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩

abbrev nD : Nat := 1
abbrev τ : Topo := Topo.v7x

variable {F : FTy → Type} [FloatOps F]
-- ==== Proof.Runs.lean ====
module

public import proofs.«01_k».proof.Proof.Gen.KernelIdeal.Frame
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Whether a grid point is the first tile of its batch element, in the words the body computes. -/
abbrev resets (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 (i 0).val) (Scalar.select (Scalar.cmpi .eq 4#32 0#32) 1#32 4#32)) 0#32)) (Scalar.addi (Scalar.remsi (BitVec.ofNat 32 (i 0).val) (Scalar.select (Scalar.cmpi .eq 4#32 0#32) 1#32 4#32)) (Scalar.select (Scalar.cmpi .eq 4#32 0#32) 1#32 4#32)) (Scalar.remsi (BitVec.ofNat 32 (i 0).val) (Scalar.select (Scalar.cmpi .eq 4#32 0#32) 1#32 4#32))) 0#32)) 0#32) = 1#1

/-- Four tiles make a batch element. -/
theorem resets_iff : ∀ t : Fin cfg0.N, resets (grid0.coords t) ↔ t.val % 4 = 0 :=
  (by decide +kernel : ∀ t : Fin grid0.N, resets (grid0.coords t) ↔ t.val % 4 = 0)

end Cert.KernelIdeal.Mixer

end
-- ==== Proof.Scan.lean ====
module

public import proofs.«01_k».proof.Proof.Runs
public import Idealize.ShloMosaic.Lib.Pointwise
public import Idealize.ShloMosaic.Lib.WritesUnit
public import Idealize.ShloMosaic.Lib.HeldBySlice

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- Eight rows of a row buffer, the ones trip `k` of the recurrence's loop works on. -/
abbrev slab (v : Memref sig .tc .vmem S1024x1024 .f32) (X : BufTy.Contents (Elt F) v.view.ty) (k : Fin k0_t1_loop.trips) : Vec F S8x1024 .f32 :=
  v.view.readAt (Elt F) (Rect.unit (s := S1024x1024) (k0_off1 k) S8x1024.size (k0_off1_inb k)).toLoadRect X

/-- The state carried into trip `n`, from `init`: the last row of each trip's eight, in every row. -/
def carry (A B : Fin k0_t1_loop.trips → Vec F S8x1024 .f32) (init : Vec F S8x1024 .f32) : ℕ → Vec F S8x1024 .f32
  | 0 => init
  | n + 1 => if h : n < k0_t1_loop.trips then k0_pay80 (carry A B init n) (A ⟨n, h⟩) (B ⟨n, h⟩) else carry A B init n

theorem carry_succ (A B : Fin k0_t1_loop.trips → Vec F S8x1024 .f32) (init : Vec F S8x1024 .f32) (k : Fin k0_t1_loop.trips) :
    carry A B init (k.val + 1) = k0_pay80 (carry A B init k.val) (A k) (B k) := dif_pos k.isLt

section Loop

variable (c : Dev nD) (i : grid0.Coords) (p1 : Memref sig .tc .vmem S1024x1024 .f32) (q1 : p1.IsWhole) (p2 : Memref sig .tc .vmem S1x1024 .f32) (q2 : p2.IsWhole) (p3 : Memref sig .tc .vmem S1024x2048 .bf16) (q3 : p3.IsWhole) (p4 : Memref sig .tc .vmem S1x2048 .f32) (q4 : p4.IsWhole) (p5 : Memref sig .tc .vmem S4x1024 .f32) (q5 : p5.IsWhole) (p6 : Memref sig .tc .vmem S1x1024 .f32) (q6 : p6.IsWhole) (p7 : Memref sig .tc .vmem S8x128x256 .bf16) (q7 : p7.IsWhole) (p8 : Memref sig .tc .vmem S1x1024 .f32) (q8 : p8.IsWhole) (p9 : Memref sig .tc .vmem S1x1024 .f32) (q9 : p9.IsWhole) (p10 : Memref sig .tc .vmem S1x1024 .f32) (q10 : p10.IsWhole) (p11 : Memref sig .tc .vmem S1024x1024 .bf16) (q11 : p11.IsWhole) (p12 : Memref sig .tc .vmem S1x1024 .f32) (q12 : p12.IsWhole) (p13 : Memref sig .tc .vmem S1024x1024 .f32) (q13 : p13.IsWhole) (p14 : Memref sig .tc .vmem S1032x1024 .f32) (q14 : p14.IsWhole) (p15 : Memref sig .tc .vmem S1024x1024 .f32) (q15 : p15.IsWhole) (p16 : Memref sig .tc .vmem S1024x1024 .f32) (q16 : p16.IsWhole) (p17 : Memref sig .tc .vmem S1024x1024 .f32) (q17 : p17.IsWhole) (p18 : Memref sig .tc .vmem S8x1024 .f32) (q18 : p18.IsWhole) (v14 v48 v81 : FVec F S1024x1024 .f32) (v106 : FVec F S1x1024 .f32) (v479 v491 : FVec F S1024x128 .f32) (XA : BufTy.Contents (Elt F) p15.view.ty) (XB : BufTy.Contents (Elt F) p16.view.ty)

/-- What a trip yields. -/
theorem trip_result (k : Fin k0_t1_loop.trips) (acc : Vec F S8x1024 .f32) :
    tripR_k0_t1 (F := F) Variants.none c none i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB k acc = k0_pay80 acc (slab p15 XA k) (slab p16 XB k) := by
  unfold tripR_k0_t1 trip_k0_t1; rfl

/-- What a trip stores. -/
theorem trip_pieces (k : Fin k0_t1_loop.trips) (acc : Vec F S8x1024 .f32) :
    tripL_k0_t1 (F := F) Variants.none c none i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB k acc
      = [⟨Rect.unit (s := S1024x1024) (k0_off1 k) S8x1024.size (k0_off1_inb k), k0_pay79 acc (slab p15 XA k) (slab p16 XB k)⟩] := by
  unfold tripL_k0_t1 trip_k0_t1; rfl

/-- The loop's carried value is `carry`. -/
theorem st_carry (init : Vec F S8x1024 .f32) (n : ℕ) (hn : n ≤ k0_t1_loop.trips) :
    (st_k0_t1 (F := F) Variants.none c none i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB init n).1 = carry (slab p15 XA) (slab p16 XB) init n := by
  induction n with
  | zero => rfl
  | succ n ih =>
    have e := st_k0_t1_succ (F := F) Variants.none c none i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB init ⟨n, hn⟩
    rw [e]; dsimp only
    rw [trip_result, ih (Nat.le_of_succ_le hn)]
    exact (carry_succ _ _ _ ⟨n, hn⟩).symm

/-- After `n` trips, row `8 * q + r` with `q < n` holds what trip `q` stored. -/
theorem st_read (init : Vec F S8x1024 .f32) (f : BufTy.Contents (Elt F) p17.view.ty) (n : ℕ) (hn : n ≤ k0_t1_loop.trips)
    (y : S1024x1024.Idx) (q : Fin k0_t1_loop.trips) (r : Fin 8) (hq : q.val < n) (hy : (y 0).val = 8 * q.val + r.val) :
    p17.view.read (Elt F) (p17.view.writes (Elt F) f (st_k0_t1 (F := F) Variants.none c none i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB init n).2) y
      = k0_pay79 (carry (slab p15 XA) (slab p16 XB) init q.val) (slab p15 XA q) (slab p16 XB q) (ix2 r (y 1)) := by
  induction n with
  | zero => exact absurd hq (Nat.not_lt_zero _)
  | succ n ih =>
    have e := st_k0_t1_succ (F := F) Variants.none c none i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB init ⟨n, hn⟩
    have hr := r.isLt
    rw [e]; dsimp only
    rw [trip_pieces, st_carry _ _ _ _ _ _ _ _ _ _ _ _ _ _ _ _ _ _ _ _ _ _ _ _ _ _ _ _ _ _ _ _ _ _ _ _ _ _ _ _ _ _ _ _ _ _ _ _ (Nat.le_of_succ_le hn), List.cons_append, List.nil_append]
    by_cases h : q.val = n
    · have hqn : q = ⟨n, hn⟩ := Fin.ext h
      rw [View.read_writes_cons_rows_of_mem p17.view f (k0_off1_inb ⟨n, hn⟩) _ _ y (ix2 r (y 1)) (k0_off1_eq ⟨n, hn⟩)
        (by rw [hy, h]; rfl) rfl, hqn]
    · rw [View.read_writes_cons_rows_of_not_mem (W := 8) p17.view f (k0_off1_inb ⟨n, hn⟩) _ _ y (k0_off1_eq ⟨n, hn⟩) rfl
        (Or.inl (by rw [hy]; show _ < 8 * n; omega))]
      exact ih (Nat.le_of_succ_le hn) (by omega)

/-- The pieces of all the trips cover the buffer. -/
theorem st_cover (init : Vec F S8x1024 .f32) (n : ℕ) (hn : n ≤ k0_t1_loop.trips)
    (y : S1024x1024.Idx) (hy : (y 0).val < 8 * n) :
    ∃ p ∈ (st_k0_t1 (F := F) Variants.none c none i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB init n).2, y ∈ p.1.set := by
  induction n with
  | zero => exact absurd hy (Nat.not_lt_zero _)
  | succ n ih =>
    have e := st_k0_t1_succ (F := F) Variants.none c none i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB init ⟨n, hn⟩
    rw [e]; dsimp only
    rw [trip_pieces, List.cons_append, List.nil_append]
    by_cases h : (y 0).val < 8 * n
    · obtain ⟨p, hp, hm⟩ := ih (Nat.le_of_succ_le hn) h
      exact ⟨p, List.mem_cons_of_mem _ hp, hm⟩
    · refine ⟨_, List.mem_cons_self, ?_⟩
      have h1 := (y 1).isLt
      rw [Rect.mem_set_unit, k0_off1_eq]
      exact Fin.forall_fin_two.mpr ⟨⟨by show 8 * n ≤ _; omega, by show _ < 8 * n + 8; omega⟩, ⟨Nat.zero_le _, by show _ < 0 + 1024; rw [Nat.zero_add]; exact h1⟩⟩

/-- So a load of the whole buffer after the loop does not depend on what was there before. -/
theorem st_load (init : Vec F S8x1024 .f32) (f f' : BufTy.Contents (Elt F) p17.view.ty) (B : LoadRect S1024x1024) :
    p17.view.readAt (Elt F) B (p17.view.writes (Elt F) f (st_k0_t1 (F := F) Variants.none c none i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB init k0_t1_loop.trips).2)
      = p17.view.readAt (Elt F) B (p17.view.writes (Elt F) f' (st_k0_t1 (F := F) Variants.none c none i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB init k0_t1_loop.trips).2) :=
  View.readAt_writes_eq_of_cover _ _ _ _ _ fun j =>
    st_cover c i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB init _ (le_refl _) _ (by
      have := (B.idx j 0).isLt
      exact this)

end Loop

end Cert.KernelIdeal.Mixer

end
-- ==== Proof.RunB.lean ====
module

public import proofs.«01_k».proof.Proof.Runs

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at a later tile: the carried rows are what the tile before left. The lists are the stores the run leaves in the output, in the
    convolution's row buffer, in the three row buffers of the recurrence, and in the carried state; `xs` is what the buffer of the states held before. -/
noncomputable def runB (c : Dev nD) (i : grid0.Coords) (p1 : Memref sig .tc .vmem S1024x1024 .f32) (q1 : p1.IsWhole) (p2 : Memref sig .tc .vmem S1x1024 .f32) (q2 : p2.IsWhole) (p3 : Memref sig .tc .vmem S1024x2048 .bf16) (q3 : p3.IsWhole) (p4 : Memref sig .tc .vmem S1x2048 .f32) (q4 : p4.IsWhole) (p5 : Memref sig .tc .vmem S4x1024 .f32) (q5 : p5.IsWhole) (p6 : Memref sig .tc .vmem S1x1024 .f32) (q6 : p6.IsWhole) (p7 : Memref sig .tc .vmem S8x128x256 .bf16) (q7 : p7.IsWhole) (p8 : Memref sig .tc .vmem S1x1024 .f32) (q8 : p8.IsWhole) (p9 : Memref sig .tc .vmem S1x1024 .f32) (q9 : p9.IsWhole) (p10 : Memref sig .tc .vmem S1x1024 .f32) (q10 : p10.IsWhole) (p11 : Memref sig .tc .vmem S1024x1024 .bf16) (q11 : p11.IsWhole) (p12 : Memref sig .tc .vmem S1x1024 .f32) (q12 : p12.IsWhole) (p13 : Memref sig .tc .vmem S1024x1024 .f32) (q13 : p13.IsWhole) (p14 : Memref sig .tc .vmem S1032x1024 .f32) (q14 : p14.IsWhole) (p15 : Memref sig .tc .vmem S1024x1024 .f32) (q15 : p15.IsWhole) (p16 : Memref sig .tc .vmem S1024x1024 .f32) (q16 : p16.IsWhole) (p17 : Memref sig .tc .vmem S1024x1024 .f32) (q17 : p17.IsWhole) (p18 : Memref sig .tc .vmem S8x1024 .f32) (q18 : p18.IsWhole) (hc0 : ¬resets i)
    (x0 : Vec F S1024x1024 .f32) (x1 : Vec F S1x1024 .f32) (x2 : Vec F S1024x2048 .bf16) (x3 : Vec F S1x2048 .f32) (x4 : Vec F S4x1024 .f32) (x5 : Vec F S1x1024 .f32) (x6 : Vec F S8x128x256 .bf16) (x7 : Vec F S1x1024 .f32) (x8 : Vec F S1x1024 .f32) (x9 : Vec F S1x1024 .f32) (x10 : Vec F S1024x1024 .bf16) (x11 : Vec F S1x1024 .f32) (xs : Vec F S1024x1024 .f32) (xz : Vec F S1032x1024 .f32) (xh : Vec F S8x1024 .f32) :
    Σ' (LO : List (View.Piece (Elt F) S1024x1024 .f32)), Σ' (LZ : List (View.Piece (Elt F) S1032x1024 .f32)), Σ' (LH : List (View.Piece (Elt F) S8x1024 .f32)), Σ' (LA : List (View.Piece (Elt F) S1024x1024 .f32)), Σ' (LB : List (View.Piece (Elt F) S1024x1024 .f32)), { LS : List (View.Piece (Elt F) S1024x1024 .f32) //
      ∀ (E : Set ℕ) (K : PUnit → sProp 𝕄),
        iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ owns (c : Thread nD τ) p11 fullShare x10 ∗ owns (c : Thread nD τ) p12 fullShare x11 ∗ (∃ d, owns (c : Thread nD τ) p13 fullShare d) ∗ owns (c : Thread nD τ) p14 fullShare xz ∗ (∃ d, owns (c : Thread nD τ) p15 fullShare d) ∗ (∃ d, owns (c : Thread nD τ) p16 fullShare d) ∗ owns (c : Thread nD τ) p17 fullShare xs ∗ owns (c : Thread nD τ) p18 fullShare xh
            ∗ (iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ owns (c : Thread nD τ) p11 fullShare x10 ∗ owns (c : Thread nD τ) p12 fullShare x11 ∗ (∃ f, p13.view.loc (c : Thread nD τ) ↦[p13.view.set]{fullShare} p13.view.writes (Elt F) f LO) ∗ (∃ f, p14.view.loc (c : Thread nD τ) ↦[p14.view.set]{fullShare} p14.view.writes (Elt F) f LZ) ∗ (∃ f, p15.view.loc (c : Thread nD τ) ↦[p15.view.set]{fullShare} p15.view.writes (Elt F) f LA) ∗ (∃ f, p16.view.loc (c : Thread nD τ) ↦[p16.view.set]{fullShare} p16.view.writes (Elt F) f LB) ∗ (∃ f, p17.view.loc (c : Thread nD τ) ↦[p17.view.set]{fullShare} p17.view.writes (Elt F) f LS) ∗ (∃ f, p18.view.loc (c : Thread nD τ) ↦[p18.view.set]{fullShare} p18.view.writes (Elt F) f LH)) -∗ K ⟨⟩))
          ⊢ wp frame (wpE (defs₀ (F := F)) Variants.none c none) E (cc0_rglru_mixer i p1 q1 p2 q2 p3 q3 p4 q4 p5 q5 p6 q6 p7 q7 p8 q8 p9 q9 p10 q10 p11 q11 p12 q12 p13 q13 p14 q14 p15 q15 p16 q16 p17 q17 p18 q18) K } := by
  refine ⟨?_, ?_, ?_, ?_, ?_, ?_, fun E K => ?run⟩
  case run =>
    simp only [cc0_rglru_mixer_eq_skeleton]; unfold cc0_rglru_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fz, %hfz, HZ⟩, ⟨%da, %fa, -, HA⟩, ⟨%db, %fb, -, HB⟩, ⟨%fs, %hfs, HS⟩, ⟨%fh, %hfh, HH⟩, Hk⟩
    obtain rfl := q1.eq_unread hf0; obtain rfl := q2.eq_unread hf1; obtain rfl := q3.eq_unread hf2; obtain rfl := q4.eq_unread hf3; obtain rfl := q5.eq_unread hf4; obtain rfl := q6.eq_unread hf5; obtain rfl := q7.eq_unread hf6; obtain rfl := q8.eq_unread hf7; obtain rfl := q9.eq_unread hf8; obtain rfl := q10.eq_unread hf9; obtain rfl := q11.eq_unread hf10; obtain rfl := q12.eq_unread hf11; obtain rfl := q17.eq_unread hfs; obtain rfl := q14.eq_unread hfz; obtain rfl := q18.eq_unread hfh
    sl_exec (disch := first | sl_exact hc0)
    sl_step
    iapply Hk
    isplitl [H0]
    · iexists _; isplitr; · ipureintro; exact q1.read_unread _
      iexact H0
    isplitl [H1]
    · iexists _; isplitr; · ipureintro; exact q2.read_unread _
      iexact H1
    isplitl [H2]
    · iexists _; isplitr; · ipureintro; exact q3.read_unread _
      iexact H2
    isplitl [H3]
    · iexists _; isplitr; · ipureintro; exact q4.read_unread _
      iexact H3
    isplitl [H4]
    · iexists _; isplitr; · ipureintro; exact q5.read_unread _
      iexact H4
    isplitl [H5]
    · iexists _; isplitr; · ipureintro; exact q6.read_unread _
      iexact H5
    isplitl [H6]
    · iexists _; isplitr; · ipureintro; exact q7.read_unread _
      iexact H6
    isplitl [H7]
    · iexists _; isplitr; · ipureintro; exact q8.read_unread _
      iexact H7
    isplitl [H8]
    · iexists _; isplitr; · ipureintro; exact q9.read_unread _
      iexact H8
    isplitl [H9]
    · iexists _; isplitr; · ipureintro; exact q10.read_unread _
      iexact H9
    isplitl [H10]
    · iexists _; isplitr; · ipureintro; exact q11.read_unread _
      iexact H10
    isplitl [H11]
    · iexists _; isplitr; · ipureintro; exact q12.read_unread _
      iexact H11
    isplitl [H12]; · iexists _; iexact H12
    isplitl [HZ]; · iexists _; iexact HZ
    isplitl [HA]; · iexists _; iexact HA
    isplitl [HB]; · iexists _; iexact HB
    isplitl [HS]; · iexists _; iexact HS
    iexists _; iexact HH

end Cert.KernelIdeal.Mixer

end
-- ==== Proof.RunA.lean ====
module

public import proofs.«01_k».proof.Proof.RunB

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first tile of a batch element: the carried rows are cleared first. The lists are the stores the run leaves in the output, in the
    convolution's row buffer, in the three row buffers of the recurrence, and in the carried state; `xs` is what the buffer of the states held before. -/
noncomputable def runA (c : Dev nD) (i : grid0.Coords) (p1 : Memref sig .tc .vmem S1024x1024 .f32) (q1 : p1.IsWhole) (p2 : Memref sig .tc .vmem S1x1024 .f32) (q2 : p2.IsWhole) (p3 : Memref sig .tc .vmem S1024x2048 .bf16) (q3 : p3.IsWhole) (p4 : Memref sig .tc .vmem S1x2048 .f32) (q4 : p4.IsWhole) (p5 : Memref sig .tc .vmem S4x1024 .f32) (q5 : p5.IsWhole) (p6 : Memref sig .tc .vmem S1x1024 .f32) (q6 : p6.IsWhole) (p7 : Memref sig .tc .vmem S8x128x256 .bf16) (q7 : p7.IsWhole) (p8 : Memref sig .tc .vmem S1x1024 .f32) (q8 : p8.IsWhole) (p9 : Memref sig .tc .vmem S1x1024 .f32) (q9 : p9.IsWhole) (p10 : Memref sig .tc .vmem S1x1024 .f32) (q10 : p10.IsWhole) (p11 : Memref sig .tc .vmem S1024x1024 .bf16) (q11 : p11.IsWhole) (p12 : Memref sig .tc .vmem S1x1024 .f32) (q12 : p12.IsWhole) (p13 : Memref sig .tc .vmem S1024x1024 .f32) (q13 : p13.IsWhole) (p14 : Memref sig .tc .vmem S1032x1024 .f32) (q14 : p14.IsWhole) (p15 : Memref sig .tc .vmem S1024x1024 .f32) (q15 : p15.IsWhole) (p16 : Memref sig .tc .vmem S1024x1024 .f32) (q16 : p16.IsWhole) (p17 : Memref sig .tc .vmem S1024x1024 .f32) (q17 : p17.IsWhole) (p18 : Memref sig .tc .vmem S8x1024 .f32) (q18 : p18.IsWhole) (hc0 : resets i)
    (x0 : Vec F S1024x1024 .f32) (x1 : Vec F S1x1024 .f32) (x2 : Vec F S1024x2048 .bf16) (x3 : Vec F S1x2048 .f32) (x4 : Vec F S4x1024 .f32) (x5 : Vec F S1x1024 .f32) (x6 : Vec F S8x128x256 .bf16) (x7 : Vec F S1x1024 .f32) (x8 : Vec F S1x1024 .f32) (x9 : Vec F S1x1024 .f32) (x10 : Vec F S1024x1024 .bf16) (x11 : Vec F S1x1024 .f32) (xs : Vec F S1024x1024 .f32) :
    Σ' (LO : List (View.Piece (Elt F) S1024x1024 .f32)), Σ' (LZ : List (View.Piece (Elt F) S1032x1024 .f32)), Σ' (LH : List (View.Piece (Elt F) S8x1024 .f32)), Σ' (LA : List (View.Piece (Elt F) S1024x1024 .f32)), Σ' (LB : List (View.Piece (Elt F) S1024x1024 .f32)), { LS : List (View.Piece (Elt F) S1024x1024 .f32) //
      ∀ (E : Set ℕ) (K : PUnit → sProp 𝕄),
        iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ owns (c : Thread nD τ) p11 fullShare x10 ∗ owns (c : Thread nD τ) p12 fullShare x11 ∗ (∃ d, owns (c : Thread nD τ) p13 fullShare d) ∗ (∃ d, owns (c : Thread nD τ) p14 fullShare d) ∗ (∃ d, owns (c : Thread nD τ) p15 fullShare d) ∗ (∃ d, owns (c : Thread nD τ) p16 fullShare d) ∗ owns (c : Thread nD τ) p17 fullShare xs ∗ (∃ d, owns (c : Thread nD τ) p18 fullShare d)
            ∗ (iprop(owns (c : Thread nD τ) p1 fullShare x0 ∗ owns (c : Thread nD τ) p2 fullShare x1 ∗ owns (c : Thread nD τ) p3 fullShare x2 ∗ owns (c : Thread nD τ) p4 fullShare x3 ∗ owns (c : Thread nD τ) p5 fullShare x4 ∗ owns (c : Thread nD τ) p6 fullShare x5 ∗ owns (c : Thread nD τ) p7 fullShare x6 ∗ owns (c : Thread nD τ) p8 fullShare x7 ∗ owns (c : Thread nD τ) p9 fullShare x8 ∗ owns (c : Thread nD τ) p10 fullShare x9 ∗ owns (c : Thread nD τ) p11 fullShare x10 ∗ owns (c : Thread nD τ) p12 fullShare x11 ∗ (∃ f, p13.view.loc (c : Thread nD τ) ↦[p13.view.set]{fullShare} p13.view.writes (Elt F) f LO) ∗ (∃ f, p14.view.loc (c : Thread nD τ) ↦[p14.view.set]{fullShare} p14.view.writes (Elt F) f LZ) ∗ (∃ f, p15.view.loc (c : Thread nD τ) ↦[p15.view.set]{fullShare} p15.view.writes (Elt F) f LA) ∗ (∃ f, p16.view.loc (c : Thread nD τ) ↦[p16.view.set]{fullShare} p16.view.writes (Elt F) f LB) ∗ (∃ f, p17.view.loc (c : Thread nD τ) ↦[p17.view.set]{fullShare} p17.view.writes (Elt F) f LS) ∗ (∃ f, p18.view.loc (c : Thread nD τ) ↦[p18.view.set]{fullShare} p18.view.writes (Elt F) f LH)) -∗ K ⟨⟩))
          ⊢ wp frame (wpE (defs₀ (F := F)) Variants.none c none) E (cc0_rglru_mixer i p1 q1 p2 q2 p3 q3 p4 q4 p5 q5 p6 q6 p7 q7 p8 q8 p9 q9 p10 q10 p11 q11 p12 q12 p13 q13 p14 q14 p15 q15 p16 q16 p17 q17 p18 q18) K } := by
  refine ⟨?_, ?_, ?_, ?_, ?_, ?_, fun E K => ?run⟩
  case run =>
    simp only [cc0_rglru_mixer_eq_skeleton]; unfold cc0_rglru_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%dz, %fz, -, HZ⟩, ⟨%da, %fa, -, HA⟩, ⟨%db, %fb, -, HB⟩, ⟨%fs, %hfs, HS⟩, ⟨%dh, %fh, -, HH⟩, Hk⟩
    obtain rfl := q1.eq_unread hf0; obtain rfl := q2.eq_unread hf1; obtain rfl := q3.eq_unread hf2; obtain rfl := q4.eq_unread hf3; obtain rfl := q5.eq_unread hf4; obtain rfl := q6.eq_unread hf5; obtain rfl := q7.eq_unread hf6; obtain rfl := q8.eq_unread hf7; obtain rfl := q9.eq_unread hf8; obtain rfl := q10.eq_unread hf9; obtain rfl := q11.eq_unread hf10; obtain rfl := q12.eq_unread hf11; obtain rfl := q17.eq_unread hfs
    sl_exec (disch := first | sl_exact hc0)
    sl_step
    iapply Hk
    isplitl [H0]
    · iexists _; isplitr; · ipureintro; exact q1.read_unread _
      iexact H0
    isplitl [H1]
    · iexists _; isplitr; · ipureintro; exact q2.read_unread _
      iexact H1
    isplitl [H2]
    · iexists _; isplitr; · ipureintro; exact q3.read_unread _
      iexact H2
    isplitl [H3]
    · iexists _; isplitr; · ipureintro; exact q4.read_unread _
      iexact H3
    isplitl [H4]
    · iexists _; isplitr; · ipureintro; exact q5.read_unread _
      iexact H4
    isplitl [H5]
    · iexists _; isplitr; · ipureintro; exact q6.read_unread _
      iexact H5
    isplitl [H6]
    · iexists _; isplitr; · ipureintro; exact q7.read_unread _
      iexact H6
    isplitl [H7]
    · iexists _; isplitr; · ipureintro; exact q8.read_unread _
      iexact H7
    isplitl [H8]
    · iexists _; isplitr; · ipureintro; exact q9.read_unread _
      iexact H8
    isplitl [H9]
    · iexists _; isplitr; · ipureintro; exact q10.read_unread _
      iexact H9
    isplitl [H10]
    · iexists _; isplitr; · ipureintro; exact q11.read_unread _
      iexact H10
    isplitl [H11]
    · iexists _; isplitr; · ipureintro; exact q12.read_unread _
      iexact H11
    isplitl [H12]; · iexists _; iexact H12
    isplitl [HZ]; · iexists _; iexact HZ
    isplitl [HA]; · iexists _; iexact HA
    isplitl [HB]; · iexists _; iexact HB
    isplitl [HS]; · iexists _; iexact HS
    iexists _; iexact HH

end Cert.KernelIdeal.Mixer

end
-- ==== Proof.Frame.lean ====
module

public import proofs.«01_k».proof.Proof.Scan
public import proofs.«01_k».proof.Proof.RunA
public import proofs.«01_k».proof.Proof.RunB
public import Idealize.ShloMosaic.Lib.Claim

@[expose] public section

set_option maxRecDepth 16384

noncomputable section

namespace Cert.KernelIdeal.Mixer

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (m : (ℓ : Loc nD τ sig) → Buf (Elt F) ℓ) (ρ : Dev nD → PrngReg)

local notation "𝕄" => MT nD τ sig Unit (Elt F) ℕ (UR sig nD τ) ℕ

/-- Window 0's staging buffer at a point. -/
abbrev ms0_0 (t : Fin cfg0.N) : Memref sig .tc .vmem S1024x1024 .f32 := win0_0.stage (cfg0.slots t 0)
theorem hs0_0 (t : Fin cfg0.N) : (ms0_0 t).IsWhole := hstage0_0 ((cfg0.slots t 0).cast nbuf0_0)
/-- Window 1's staging buffer at a point. -/
abbrev ms0_1 (t : Fin cfg0.N) : Memref sig .tc .vmem S1x1024 .f32 := win0_1.stage (cfg0.slots t 1)
theorem hs0_1 (t : Fin cfg0.N) : (ms0_1 t).IsWhole := hstage0_1 ((cfg0.slots t 1).cast nbuf0_1)
/-- Window 2's staging buffer at a point. -/
abbrev ms0_2 (t : Fin cfg0.N) : Memref sig .tc .vmem S1024x2048 .bf16 := win0_2.stage (cfg0.slots t 2)
theorem hs0_2 (t : Fin cfg0.N) : (ms0_2 t).IsWhole := hstage0_2 ((cfg0.slots t 2).cast nbuf0_2)
/-- Window 3's staging buffer at a point. -/
abbrev ms0_3 (t : Fin cfg0.N) : Memref sig .tc .vmem S1x2048 .f32 := win0_3.stage (cfg0.slots t 3)
theorem hs0_3 (t : Fin cfg0.N) : (ms0_3 t).IsWhole := hstage0_3 ((cfg0.slots t 3).cast nbuf0_3)
/-- Window 4's staging buffer at a point. -/
abbrev ms0_4 (t : Fin cfg0.N) : Memref sig .tc .vmem S4x1024 .f32 := win0_4.stage (cfg0.slots t 4)
theorem hs0_4 (t : Fin cfg0.N) : (ms0_4 t).IsWhole := hstage0_4 ((cfg0.slots t 4).cast nbuf0_4)
/-- Window 5's staging buffer at a point. -/
abbrev ms0_5 (t : Fin cfg0.N) : Memref sig .tc .vmem S1x1024 .f32 := win0_5.stage (cfg0.slots t 5)
theorem hs0_5 (t : Fin cfg0.N) : (ms0_5 t).IsWhole := hstage0_5 ((cfg0.slots t 5).cast nbuf0_5)
/-- Window 6's staging buffer at a point. -/
abbrev ms0_6 (t : Fin cfg0.N) : Memref sig .tc .vmem S8x128x256 .bf16 := win0_6.stage (cfg0.slots t 6)
theorem hs0_6 (t : Fin cfg0.N) : (ms0_6 t).IsWhole := hstage0_6 ((cfg0.slots t 6).cast nbuf0_6)
/-- Window 7's staging buffer at a point. -/
abbrev ms0_7 (t : Fin cfg0.N) : Memref sig .tc .vmem S1x1024 .f32 := win0_7.stage (cfg0.slots t 7)
theorem hs0_7 (t : Fin cfg0.N) : (ms0_7 t).IsWhole := hstage0_7 ((cfg0.slots t 7).cast nbuf0_7)
/-- Window 8's staging buffer at a point. -/
abbrev ms0_8 (t : Fin cfg0.N) : Memref sig .tc .vmem S1x1024 .f32 := win0_8.stage (cfg0.slots t 8)
theorem hs0_8 (t : Fin cfg0.N) : (ms0_8 t).IsWhole := hstage0_8 ((cfg0.slots t 8).cast nbuf0_8)
/-- Window 9's staging buffer at a point. -/
abbrev ms0_9 (t : Fin cfg0.N) : Memref sig .tc .vmem S1x1024 .f32 := win0_9.stage (cfg0.slots t 9)
theorem hs0_9 (t : Fin cfg0.N) : (ms0_9 t).IsWhole := hstage0_9 ((cfg0.slots t 9).cast nbuf0_9)
/-- Window 10's staging buffer at a point. -/
abbrev ms0_10 (t : Fin cfg0.N) : Memref sig .tc .vmem S1024x1024 .bf16 := win0_10.stage (cfg0.slots t 10)
theorem hs0_10 (t : Fin cfg0.N) : (ms0_10 t).IsWhole := hstage0_10 ((cfg0.slots t 10).cast nbuf0_10)
/-- Window 11's staging buffer at a point. -/
abbrev ms0_11 (t : Fin cfg0.N) : Memref sig .tc .vmem S1x1024 .f32 := win0_11.stage (cfg0.slots t 11)
theorem hs0_11 (t : Fin cfg0.N) : (ms0_11 t).IsWhole := hstage0_11 ((cfg0.slots t 11).cast nbuf0_11)
/-- Window 12's staging buffer at a point. -/
abbrev ms0_12 (t : Fin cfg0.N) : Memref sig .tc .vmem S1024x1024 .f32 := win0_12.stage (cfg0.slots t 12)
theorem hs0_12 (t : Fin cfg0.N) : (ms0_12 t).IsWhole := hstage0_12 ((cfg0.slots t 12).cast nbuf0_12)
/-- Scratch 0. -/
abbrev scM0_0 : Memref sig .tc .vmem S1032x1024 .f32 := Memref.whole cc0_scratch0
/-- Its view. -/
abbrev VS0_0 : View sig .tc .vmem S1032x1024 .f32 := scM0_0.view
/-- Scratch 1. -/
abbrev scM0_1 : Memref sig .tc .vmem S1024x1024 .f32 := Memref.whole cc0_scratch1
/-- Its view. -/
abbrev VS0_1 : View sig .tc .vmem S1024x1024 .f32 := scM0_1.view
/-- Scratch 2. -/
abbrev scM0_2 : Memref sig .tc .vmem S1024x1024 .f32 := Memref.whole cc0_scratch2
/-- Its view. -/
abbrev VS0_2 : View sig .tc .vmem S1024x1024 .f32 := scM0_2.view
/-- Scratch 3. -/
abbrev scM0_3 : Memref sig .tc .vmem S1024x1024 .f32 := Memref.whole cc0_scratch3
/-- Its view. -/
abbrev VS0_3 : View sig .tc .vmem S1024x1024 .f32 := scM0_3.view
/-- Scratch 4. -/
abbrev scM0_4 : Memref sig .tc .vmem S8x1024 .f32 := Memref.whole cc0_scratch4
/-- Its view. -/
abbrev VS0_4 : View sig .tc .vmem S8x1024 .f32 := scM0_4.view
/-- The first staging buffer of the output. -/
abbrev VO0_12 : View sig .tc .vmem S1024x1024 .f32 := (Memref.whole cc0_stg12_0 : Memref sig .tc .vmem S1024x1024 .f32).view

/-- What stands for the contents of the states' buffer before a point: any will do. -/
def blank : Vec F S1024x1024 .f32 := VS0_3.read (Elt F) VS0_3.junk

/-- The region's own resources: the five scratch buffers at anything, and the generator's register. -/
theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA
  rw [scopedRest0_eq]
  simp only [scM0_0, scM0_1, scM0_2, scM0_3, scM0_4, owns_whole]
  try rfl

section Cases

variable (c : Dev nD) (i : grid0.Coords) (p1 : Memref sig .tc .vmem S1024x1024 .f32) (q1 : p1.IsWhole) (p2 : Memref sig .tc .vmem S1x1024 .f32) (q2 : p2.IsWhole) (p3 : Memref sig .tc .vmem S1024x2048 .bf16) (q3 : p3.IsWhole) (p4 : Memref sig .tc .vmem S1x2048 .f32) (q4 : p4.IsWhole) (p5 : Memref sig .tc .vmem S4x1024 .f32) (q5 : p5.IsWhole) (p6 : Memref sig .tc .vmem S1x1024 .f32) (q6 : p6.IsWhole) (p7 : Memref sig .tc .vmem S8x128x256 .bf16) (q7 : p7.IsWhole) (p8 : Memref sig .tc .vmem S1x1024 .f32) (q8 : p8.IsWhole) (p9 : Memref sig .tc .vmem S1x1024 .f32) (q9 : p9.IsWhole) (p10 : Memref sig .tc .vmem S1x1024 .f32) (q10 : p10.IsWhole) (p11 : Memref sig .tc .vmem S1024x1024 .bf16) (q11 : p11.IsWhole) (p12 : Memref sig .tc .vmem S1x1024 .f32) (q12 : p12.IsWhole) (p13 : Memref sig .tc .vmem S1024x1024 .f32) (q13 : p13.IsWhole) (p14 : Memref sig .tc .vmem S1032x1024 .f32) (q14 : p14.IsWhole) (p15 : Memref sig .tc .vmem S1024x1024 .f32) (q15 : p15.IsWhole) (p16 : Memref sig .tc .vmem S1024x1024 .f32) (q16 : p16.IsWhole) (p17 : Memref sig .tc .vmem S1024x1024 .f32) (q17 : p17.IsWhole) (p18 : Memref sig .tc .vmem S8x1024 .f32) (q18 : p18.IsWhole) (x0 : Vec F S1024x1024 .f32) (x1 : Vec F S1x1024 .f32) (x2 : Vec F S1024x2048 .bf16) (x3 : Vec F S1x2048 .f32) (x4 : Vec F S4x1024 .f32) (x5 : Vec F S1x1024 .f32) (x6 : Vec F S8x128x256 .bf16) (x7 : Vec F S1x1024 .f32) (x8 : Vec F S1x1024 .f32) (x9 : Vec F S1x1024 .f32) (x10 : Vec F S1024x1024 .bf16) (x11 : Vec F S1x1024 .f32)

/-- The output of case A does not depend on what the states' buffer held. -/
theorem runA_out (hc0 : resets i)  (xs xs' : Vec F S1024x1024 .f32) :
    (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs ).1 = (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs' ).1 := by
  unfold runA; dsimp only
  unfold runA.sl.r_33 runA.sl.v522
  rw [st_load (F := F) c i p1 q1 p2 q2 p3 q3 p4 q4 p5 q5 p6 q6 p7 q7 p8 q8 p9 q9 p10 q10 p11 q11 p12 q12 p13 q13 p14 q14 p15 q15 p16 q16 p17 q17 p18 q18 _ _ _ _ _ _ _ _ _ (q17.unread xs) (q17.unread xs')]

/-- Nor does what it leaves in the convolution's buffer, or in the carried state. -/
theorem runA_conv (hc0 : resets i)  (xs xs' : Vec F S1024x1024 .f32) :
    (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs ).2.1 = (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs' ).2.1 := by
  unfold runA; dsimp only
theorem runA_state (hc0 : resets i)  (xs xs' : Vec F S1024x1024 .f32) :
    (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs ).2.2.1 = (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs' ).2.2.1 := by
  unfold runA; dsimp only

theorem coverA_out (hc0 : resets i)  (xs : Vec F S1024x1024 .f32) (y : S1024x1024.Idx) : ∃ p ∈ (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs ).1, y ∈ p.1.set :=
  View.cover_of_tiledL (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs ).1 S1024x1024.size (by sl_kernel_rfl) y
theorem coverA_conv (hc0 : resets i)  (xs : Vec F S1024x1024 .f32) (y : S1032x1024.Idx) : ∃ p ∈ (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs ).2.1, y ∈ p.1.set :=
  View.cover_of_tiledBy (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs ).2.1 S8x1024.size (by sl_kernel_rfl) y
theorem coverA_state (hc0 : resets i)  (xs : Vec F S1024x1024 .f32) (y : S8x1024.Idx) : ∃ p ∈ (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs ).2.2.1, y ∈ p.1.set :=
  View.cover_of_wholeMem (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs ).2.2.1 (by sl_whole_mem) y

/-- What case A leaves in the output, -/
def outA (hc0 : resets i)  : Vec F S1024x1024 .f32 :=
  VO0_12.read (Elt F) (VO0_12.writes (Elt F) VO0_12.junk (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 blank ).1)
/-- in the convolution's buffer, -/
def convA (hc0 : resets i)  : Vec F S1032x1024 .f32 :=
  VS0_0.read (Elt F) (VS0_0.writes (Elt F) VS0_0.junk (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 blank ).2.1)
/-- and in the carried state. -/
def stateA (hc0 : resets i)  : Vec F S8x1024 .f32 :=
  VS0_4.read (Elt F) (VS0_4.writes (Elt F) VS0_4.junk (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 blank ).2.2.1)

theorem readA_out (hc0 : resets i)  (xs : Vec F S1024x1024 .f32) (f : BufTy.Contents (Elt F) p13.view.ty) :
    p13.view.read (Elt F) (p13.view.writes (Elt F) f (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs ).1) = outA c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0  := by
  rw [runA_out c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0  xs blank]
  exact View.read_writes_of_cover _ _ _ _ _ (coverA_out c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0  blank)
theorem readA_conv (hc0 : resets i)  (xs : Vec F S1024x1024 .f32) (f : BufTy.Contents (Elt F) p14.view.ty) :
    p14.view.read (Elt F) (p14.view.writes (Elt F) f (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs ).2.1) = convA c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0  := by
  rw [runA_conv c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0  xs blank]
  exact View.read_writes_of_cover _ _ _ _ _ (coverA_conv c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0  blank)
theorem readA_state (hc0 : resets i)  (xs : Vec F S1024x1024 .f32) (f : BufTy.Contents (Elt F) p18.view.ty) :
    p18.view.read (Elt F) (p18.view.writes (Elt F) f (runA c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs ).2.2.1) = stateA c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0  := by
  rw [runA_state c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0  xs blank]
  exact View.read_writes_of_cover _ _ _ _ _ (coverA_state c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0  blank)

/-- The output of case B does not depend on what the states' buffer held. -/
theorem runB_out (hc0 : ¬resets i) (xz : Vec F S1032x1024 .f32) (xh : Vec F S8x1024 .f32) (xs xs' : Vec F S1024x1024 .f32) :
    (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs xz xh).1 = (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs' xz xh).1 := by
  unfold runB; dsimp only
  unfold runB.sl.r_33 runB.sl.v522
  rw [st_load (F := F) c i p1 q1 p2 q2 p3 q3 p4 q4 p5 q5 p6 q6 p7 q7 p8 q8 p9 q9 p10 q10 p11 q11 p12 q12 p13 q13 p14 q14 p15 q15 p16 q16 p17 q17 p18 q18 _ _ _ _ _ _ _ _ _ (q17.unread xs) (q17.unread xs')]

/-- Nor does what it leaves in the convolution's buffer, or in the carried state. -/
theorem runB_conv (hc0 : ¬resets i) (xz : Vec F S1032x1024 .f32) (xh : Vec F S8x1024 .f32) (xs xs' : Vec F S1024x1024 .f32) :
    (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs xz xh).2.1 = (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs' xz xh).2.1 := by
  unfold runB; dsimp only
theorem runB_state (hc0 : ¬resets i) (xz : Vec F S1032x1024 .f32) (xh : Vec F S8x1024 .f32) (xs xs' : Vec F S1024x1024 .f32) :
    (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs xz xh).2.2.1 = (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs' xz xh).2.2.1 := by
  unfold runB; dsimp only

theorem coverB_out (hc0 : ¬resets i) (xz : Vec F S1032x1024 .f32) (xh : Vec F S8x1024 .f32) (xs : Vec F S1024x1024 .f32) (y : S1024x1024.Idx) : ∃ p ∈ (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs xz xh).1, y ∈ p.1.set :=
  View.cover_of_tiledL (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs xz xh).1 S1024x1024.size (by sl_kernel_rfl) y
theorem coverB_conv (hc0 : ¬resets i) (xz : Vec F S1032x1024 .f32) (xh : Vec F S8x1024 .f32) (xs : Vec F S1024x1024 .f32) (y : S1032x1024.Idx) : ∃ p ∈ (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs xz xh).2.1, y ∈ p.1.set :=
  View.cover_of_tiledBy (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs xz xh).2.1 S8x1024.size (by sl_kernel_rfl) y
theorem coverB_state (hc0 : ¬resets i) (xz : Vec F S1032x1024 .f32) (xh : Vec F S8x1024 .f32) (xs : Vec F S1024x1024 .f32) (y : S8x1024.Idx) : ∃ p ∈ (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs xz xh).2.2.1, y ∈ p.1.set :=
  View.cover_of_wholeMem (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs xz xh).2.2.1 (by sl_whole_mem) y

/-- What case B leaves in the output, -/
def outB (hc0 : ¬resets i) (xz : Vec F S1032x1024 .f32) (xh : Vec F S8x1024 .f32) : Vec F S1024x1024 .f32 :=
  VO0_12.read (Elt F) (VO0_12.writes (Elt F) VO0_12.junk (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 blank xz xh).1)
/-- in the convolution's buffer, -/
def convB (hc0 : ¬resets i) (xz : Vec F S1032x1024 .f32) (xh : Vec F S8x1024 .f32) : Vec F S1032x1024 .f32 :=
  VS0_0.read (Elt F) (VS0_0.writes (Elt F) VS0_0.junk (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 blank xz xh).2.1)
/-- and in the carried state. -/
def stateB (hc0 : ¬resets i) (xz : Vec F S1032x1024 .f32) (xh : Vec F S8x1024 .f32) : Vec F S8x1024 .f32 :=
  VS0_4.read (Elt F) (VS0_4.writes (Elt F) VS0_4.junk (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 blank xz xh).2.2.1)

theorem readB_out (hc0 : ¬resets i) (xz : Vec F S1032x1024 .f32) (xh : Vec F S8x1024 .f32) (xs : Vec F S1024x1024 .f32) (f : BufTy.Contents (Elt F) p13.view.ty) :
    p13.view.read (Elt F) (p13.view.writes (Elt F) f (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs xz xh).1) = outB c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0 xz xh := by
  rw [runB_out c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0 xz xh xs blank]
  exact View.read_writes_of_cover _ _ _ _ _ (coverB_out c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0 xz xh blank)
theorem readB_conv (hc0 : ¬resets i) (xz : Vec F S1032x1024 .f32) (xh : Vec F S8x1024 .f32) (xs : Vec F S1024x1024 .f32) (f : BufTy.Contents (Elt F) p14.view.ty) :
    p14.view.read (Elt F) (p14.view.writes (Elt F) f (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs xz xh).2.1) = convB c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0 xz xh := by
  rw [runB_conv c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0 xz xh xs blank]
  exact View.read_writes_of_cover _ _ _ _ _ (coverB_conv c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0 xz xh blank)
theorem readB_state (hc0 : ¬resets i) (xz : Vec F S1032x1024 .f32) (xh : Vec F S8x1024 .f32) (xs : Vec F S1024x1024 .f32) (f : BufTy.Contents (Elt F) p18.view.ty) :
    p18.view.read (Elt F) (p18.view.writes (Elt F) f (runB c i p1 q1 p2 q2 p3 q3 p4 q4 p5 q5 p6 q6 p7 q7 p8 q8 p9 q9 p10 q10 p11 q11 p12 q12 p13 q13 p14 q14 p15 q15 p16 q16 p17 q17 p18 q18 hc0 x0 x1 x2 x3 x4 x5 x6 x7 x8 x9 x10 x11 xs xz xh).2.2.1) = stateB c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0 xz xh := by
  rw [runB_state c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0 xz xh xs blank]
  exact View.read_writes_of_cover _ _ _ _ _ (coverB_state c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0 xz xh blank)

end Cases

/-- What the output, the convolution's buffer and the carried state hold after each point. -/
def outsAt (c : Dev nD) : (n : ℕ) → n < cfg0.N → Vec F S1024x1024 .f32 × Vec F S1032x1024 .f32 × Vec F S8x1024 .f32
  | 0, hn => (outA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) ((resets_iff ⟨0, hn⟩).mpr (Nat.zero_mod _)), convA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) ((resets_iff ⟨0, hn⟩).mpr (Nat.zero_mod _)), stateA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) ((resets_iff ⟨0, hn⟩).mpr (Nat.zero_mod _)))
  | n + 1, hn =>
    if h0 : (n + 1) % 4 = 0 then
      (outA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) ((resets_iff ⟨n + 1, hn⟩).mpr h0), convA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) ((resets_iff ⟨n + 1, hn⟩).mpr h0), stateA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) ((resets_iff ⟨n + 1, hn⟩).mpr h0))
    else
      (outB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (fun h => h0 ((resets_iff ⟨n + 1, hn⟩).mp h)) (outsAt c n (Nat.lt_of_succ_lt hn)).2.1 (outsAt c n (Nat.lt_of_succ_lt hn)).2.2, convB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (fun h => h0 ((resets_iff ⟨n + 1, hn⟩).mp h)) (outsAt c n (Nat.lt_of_succ_lt hn)).2.1 (outsAt c n (Nat.lt_of_succ_lt hn)).2.2, stateB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (fun h => h0 ((resets_iff ⟨n + 1, hn⟩).mp h)) (outsAt c n (Nat.lt_of_succ_lt hn)).2.1 (outsAt c n (Nat.lt_of_succ_lt hn)).2.2)

theorem outsAt_A (c : Dev nD) (t : Fin cfg0.N) (h0 : t.val % 4 = 0) :
    outsAt m c t.val t.isLt = (outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((resets_iff t).mpr h0), convA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((resets_iff t).mpr h0), stateA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((resets_iff t).mpr h0)) := by
  obtain ⟨n, hn⟩ := t
  cases n with
  | zero => exact rfl
  | succ n => exact (dif_pos h0).trans rfl

theorem outsAt_B (c : Dev nD) (t : Fin cfg0.N) (h0 : ¬t.val % 4 = 0) :
    outsAt m c t.val t.isLt = (outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun h => h0 ((resets_iff t).mp h)) (outsAt m c (t.val - 1) (by omega)).2.1 (outsAt m c (t.val - 1) (by omega)).2.2, convB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun h => h0 ((resets_iff t).mp h)) (outsAt m c (t.val - 1) (by omega)).2.1 (outsAt m c (t.val - 1) (by omega)).2.2, stateB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun h => h0 ((resets_iff t).mp h)) (outsAt m c (t.val - 1) (by omega)).2.1 (outsAt m c (t.val - 1) (by omega)).2.2) := by
  obtain ⟨n, hn⟩ := t
  cases n with
  | zero => exact absurd (Nat.zero_mod _) h0
  | succ n => exact (dif_neg h0).trans rfl

/-- The region's invariant: before the first point everything at anything, later the two carried buffers at what the
    point before left in them. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt m c n hn).2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt m c (n - 1) (by omega)).2.1) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt m c (n - 1) (by omega)).2.2)) ∗ (∃ r, prngReg c r)) := by
  cases n with
  | zero => exact absurd rfl hz
  | succ n => rfl

/-- The pipeline's proof data: each input's buffer keeps its block, the output's holds `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

seal runA runB outA convA stateA outB convB stateB

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) t.isLt from rfl, PhiS_succ]
  by_cases h0 : t.val % 4 = 0
  · by_cases hz : t.val = 0
    · rw [PhiS_castSucc m c t, PhiS_zero m c _ _ hz, PhiA0_eq]
      rw [outsAt_A m c t h0]; dsimp only
      iintro ⟨⟨⟨HS0, HS1, HS2, ⟨%ds, HS3⟩, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA c (grid0.coords t) _ _ _ _ _ _ _ _ _ _ _ _ _ _ _ _ _ _ _ _ _ _ _ _ _ _ _ _ _ _ _ _ _ _ _ _ ((resets_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ds).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, H9, H10, H11, ⟨%e12, H12⟩, ⟨%g0, HS0⟩, ⟨%g1, HS1⟩, ⟨%g2, HS2⟩, ⟨%g3, HS3⟩, ⟨%g4, HS4⟩⟩
      isplitl [HS0 HS1 HS2 HS3 HS4 Hg]
      · isplitl [HS0 HS1 HS2 HS3 HS4]
        · isplitl [HS0]
          · unfold owns; iexists _; isplitr
            swap; · iexact HS0
            ipureintro; dsimp only; exact readA_conv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((resets_iff t).mpr h0) ds g0
          isplitl [HS1]
          · iexists _
            unfold owns; iexists _; isplitr
            swap; · iexact HS1
            ipureintro; rfl
          isplitl [HS2]
          · iexists _
            unfold owns; iexists _; isplitr
            swap; · iexact HS2
            ipureintro; rfl
          isplitl [HS3]
          · iexists _
            unfold owns; iexists _; isplitr
            swap; · iexact HS3
            ipureintro; rfl
          unfold owns; iexists _; isplitr
          swap; · iexact HS4
          ipureintro; dsimp only; exact readA_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((resets_iff t).mpr h0) ds g4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; dsimp only; exact readA_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((resets_iff t).mpr h0) ds e12
    · rw [PhiS_castSucc m c t, PhiS_pos m c _ _ hz]
      rw [outsAt_A m c t h0]; dsimp only
      iintro ⟨⟨⟨HS0, HS1, HS2, ⟨%ds, HS3⟩, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA c (grid0.coords t) _ _ _ _ _ _ _ _ _ _ _ _ _ _ _ _ _ _ _ _ _ _ _ _ _ _ _ _ _ _ _ _ _ _ _ _ ((resets_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ds).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexists _; iexact HS0
      isplitl [HS1]; · iexact HS1
      isplitl [HS2]; · iexact HS2
      isplitl [HS3]; · iexact HS3
      isplitl [HS4]; · iexists _; iexact HS4
      iintro ⟨H0, H1, H2, H3, H4, H5, H6, H7, H8, H9, H10, H11, ⟨%e12, H12⟩, ⟨%g0, HS0⟩, ⟨%g1, HS1⟩, ⟨%g2, HS2⟩, ⟨%g3, HS3⟩, ⟨%g4, HS4⟩⟩
      isplitl [HS0 HS1 HS2 HS3 HS4 Hg]
      · isplitl [HS0 HS1 HS2 HS3 HS4]
        · isplitl [HS0]
          · unfold owns; iexists _; isplitr
            swap; · iexact HS0
            ipureintro; dsimp only; exact readA_conv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((resets_iff t).mpr h0) ds g0
          isplitl [HS1]
          · iexists _
            unfold owns; iexists _; isplitr
            swap; · iexact HS1
            ipureintro; rfl
          isplitl [HS2]
          · iexists _
            unfold owns; iexists _; isplitr
            swap; · iexact HS2
            ipureintro; rfl
          isplitl [HS3]
          · iexists _
            unfold owns; iexists _; isplitr
            swap; · iexact HS3
            ipureintro; rfl
          unfold owns; iexists _; isplitr
          swap; · iexact HS4
          ipureintro; dsimp only; exact readA_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((resets_iff t).mpr h0) ds g4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; dsimp only; exact readA_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((resets_iff t).mpr h0) ds e12
  · have hz : t.val ≠ 0 := fun h => h0 (by rw [h])
    rw [PhiS_castSucc m c t, PhiS_pos m c _ _ hz]
    rw [outsAt_B m c t h0]; dsimp only
    iintro ⟨⟨⟨HS0, HS1, HS2, ⟨%ds, HS3⟩, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB c (grid0.coords t) _ _ _ _ _ _ _ _ _ _ _ _ _ _ _ _ _ _ _ _ _ _ _ _ _ _ _ _ _ _ _ _ _ _ _ _ (fun h => h0 ((resets_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ds (outsAt m c (t.val - 1) (by omega)).2.1 (outsAt m c (t.val - 1) (by omega)).2.2).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, H7, H8, H9, H10, H11, ⟨%e12, H12⟩, ⟨%g0, HS0⟩, ⟨%g1, HS1⟩, ⟨%g2, HS2⟩, ⟨%g3, HS3⟩, ⟨%g4, HS4⟩⟩
    isplitl [HS0 HS1 HS2 HS3 HS4 Hg]
    · isplitl [HS0 HS1 HS2 HS3 HS4]
      · isplitl [HS0]
        · unfold owns; iexists _; isplitr
          swap; · iexact HS0
          ipureintro; dsimp only; exact readB_conv c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun h => h0 ((resets_iff t).mp h)) (outsAt m c (t.val - 1) (by omega)).2.1 (outsAt m c (t.val - 1) (by omega)).2.2 ds g0
        isplitl [HS1]
        · iexists _
          unfold owns; iexists _; isplitr
          swap; · iexact HS1
          ipureintro; rfl
        isplitl [HS2]
        · iexists _
          unfold owns; iexists _; isplitr
          swap; · iexact HS2
          ipureintro; rfl
        isplitl [HS3]
        · iexists _
          unfold owns; iexists _; isplitr
          swap; · iexact HS3
          ipureintro; rfl
        unfold owns; iexists _; isplitr
        swap; · iexact HS4
        ipureintro; dsimp only; exact readB_state c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun h => h0 ((resets_iff t).mp h)) (outsAt m c (t.val - 1) (by omega)).2.1 (outsAt m c (t.val - 1) (by omega)).2.2 ds g4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    unfold owns; iexists _; isplitr
    swap; · iexact H12
    ipureintro; dsimp only; exact readB_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun h => h0 ((resets_iff t).mp h)) (outsAt m c (t.val - 1) (by omega)).2.1 (outsAt m c (t.val - 1) (by omega)).2.2 ds e12

theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The launch hands the region the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and gets its own resources back after the last. -/
theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]; · iexact HS1
    isplitl [HS2]; · iexact HS2
    isplitl [HS3]; · iexact HS3
    iexists _; iexact HS4
  iexact Hg

set_option backward.isDefEq.respectTransparency.types false in
/-- The launch: every array of the pipeline ends at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- The frame: the argument arrays end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Mixer

end
-- ==== Proof.Ffn.lean ====
/-
The feed-forward layer's mathematics, apart from any program.

A row of the layer's input is normed (`nrm`) and multiplied up (`up`); the causal convolution of three
taps takes the row, the row before and the row before that (`conv`); one half of the columns gates the
other (`gate`); the product with the last matrix is added to the input row (`down`). `tap` is a row before,
which is zero before the sequence begins, and `layer` is the whole at a batch, a position and a column.

The second half reads the references' host operations at an index and finds `layer` in them.
-/
module

public import proofs.«01_k».proof.Proof.Gen.Reference4Ideal.Run
public import Idealize.ShloMosaic.Lib.Pointwise

@[expose] public section

set_option maxRecDepth 16384

noncomputable section

namespace Cert.Ffn

open Idealize.ShloMosaic

/-! ## Scalars -/

theorem half_val : Ideal.ofBits .f32 0x3F000000#32 = ((1 / 2 : ℝ) : EReal) := by
  simp [Ideal.ofBits, Ideal.ieee, -EReal.coe_mul]; norm_num

theorem real_half_tanh (r : ℝ) : 1 / 2 * Real.tanh (1 / 2 * r) + 1 / 2 = (1 + Real.exp (-r))⁻¹ := by
  have h : Real.exp (-r) = Real.exp (-(1 / 2 * r)) * Real.exp (-(1 / 2 * r)) := by
    rw [← Real.exp_add]; congr 1; ring
  have h1 : Real.exp (1 / 2 * r) * Real.exp (-(1 / 2 * r)) = 1 := by
    rw [← Real.exp_add]; simp
  have hp := Real.exp_pos (1 / 2 * r)
  have hq := Real.exp_pos (-(1 / 2 * r))
  rw [Real.tanh_eq_sinh_div_cosh, Real.sinh_eq, Real.cosh_eq, h]
  generalize Real.exp (1 / 2 * r) = a at *
  generalize Real.exp (-(1 / 2 * r)) = b at *
  have hab : a = 1 / b := by field_simp; linarith
  subst hab
  field_simp
  ring

/-- The logistic function by the hyperbolic tangent of half the argument, at the infinities too. -/
theorem half_tanh (x : EReal) :
    Ideal.ofBits .f32 0x3F000000#32 * Ideal.tanh (Ideal.ofBits .f32 0x3F000000#32 * x) + Ideal.ofBits .f32 0x3F000000#32
      = Ideal.logistic x := by
  rw [half_val]
  induction x with
  | bot =>
    rw [EReal.coe_mul_bot_of_pos (by norm_num), Ideal.tanh_bot, Ideal.logistic_bot]
    rw [show (-1 : EReal) = ((-1 : ℝ) : EReal) by norm_num, ← EReal.coe_mul, ← EReal.coe_add]; norm_num
  | top =>
    rw [EReal.coe_mul_top_of_pos (by norm_num), Ideal.tanh_top, Ideal.logistic_top, mul_one, ← EReal.coe_add]; norm_num
  | coe r =>
    rw [← EReal.coe_mul, Ideal.tanh_coe, ← EReal.coe_mul, ← EReal.coe_add, Ideal.logistic_coe, real_half_tanh]

/-! ## The layer -/

/-- A row over the root of its mean square, with a gain. -/
def nrm (x g : Fin 1024 → EReal) (k : Fin 1024) : EReal :=
  x k * Ideal.rsqrt (Ideal.div (∑ i, x i * x i) (Ideal.ofBits .f32 0x44800000#32) + Ideal.ofBits .f32 0x358637BD#32) * g k

/-- The normed row times the first matrix. -/
def up (x g : Fin 1024 → EReal) (w : Fin 1024 → Fin 5632 → EReal) (c : Fin 5632) : EReal :=
  ∑ k, nrm x g k * w k c

/-- Three taps of a causal convolution, the oldest row first. -/
def conv (cw : Fin 3 → Fin 5632 → EReal) (cb e2 e1 e0 : Fin 5632 → EReal) (c : Fin 5632) : EReal :=
  cw 0 c * e2 c + cw 1 c * e1 c + cw 2 c * e0 c + cb c

/-- The first half of the columns, through `silu`, times the second half. -/
def gate (v : Fin 5632 → EReal) (c : Fin 2816) : EReal :=
  v ⟨c.val, by omega⟩ * Ideal.logistic (v ⟨c.val, by omega⟩) * v ⟨2816 + c.val, by omega⟩

/-- The product with the last matrix, added to the row. -/
def down (x : Fin 1024 → EReal) (p : Fin 2816 → EReal) (w : Fin 2816 → Fin 1024 → EReal) (j : Fin 1024) : EReal :=
  x j + ∑ c, p c * w c j

/-- The row `d` positions back, or zero before the sequence begins. -/
def tap (X : Fin 8 → Fin 4096 → Fin 1024 → EReal) (g : Fin 1024 → EReal) (w : Fin 1024 → Fin 5632 → EReal)
    (d : ℕ) (b : Fin 8) (s : Fin 4096) (c : Fin 5632) : EReal :=
  if d ≤ s.val then up (X b ⟨s.val - d, by omega⟩) g w c else 0

/-- The layer at batch `b`, position `s`, column `j`. -/
def layer (X : Fin 8 → Fin 4096 → Fin 1024 → EReal) (g : Fin 1024 → EReal) (w : Fin 1024 → Fin 5632 → EReal)
    (cw : Fin 3 → Fin 5632 → EReal) (cb : Fin 5632 → EReal) (wd : Fin 2816 → Fin 1024 → EReal)
    (b : Fin 8) (s : Fin 4096) (j : Fin 1024) : EReal :=
  down (X b s) (gate (conv cw cb (tap X g w 2 b s) (tap X g w 1 b s) (up (X b s) g w))) wd j

/-! ## The references' host operations -/

section Host

open Cert.Reference4Ideal Cert.Reference4Ideal.Gen

def hostNorm (x : FVec Ideal S8x4096x1024 .f32) (g : FVec Ideal S1024 .f32) : FVec Ideal S8x4096x1024 .f32 :=
  mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

def hostUp (h : FVec Ideal S8x4096x1024 .f32) (w : FVec Ideal S1024x5632 .f32) : FVec Ideal S8x4096x5632 .f32 :=
  Host.dotGeneral dot_S8x4096x1024_S1024x5632_S8x4096x5632_2_0_01_1_n_n none h w

def hostConv (u : FVec Ideal S8x4096x5632 .f32) (cw : FVec Ideal S3x5632 .f32) (cb : FVec Ideal S5632 .f32) :
    FVec Ideal S8x4096x5632 .f32 :=
  addf (addf (addf (addf (broadcastInDim S8x4096x5632 ![] bcast_S_S8x4096x5632 (constant S_ .f32 0x00000000#32)) (mulf (broadcastInDim S8x4096x5632 ![0, 1, 2] bcast_S1x1x5632_S8x4096x5632_0_1_2 (broadcastInDim S1x1x5632 ![2] bcast_S5632_S1x1x5632_2 (shapeCast _ (extractStridedSlice S1x5632 ![0, 0] cw slices_S3x5632_S1x5632_0_0) shapeCasts_S1x5632_S5632))) (extractStridedSlice S8x4096x5632 ![0, 0, 0] (pad S8x4098x5632 ![0, 2, 0] ![0, 0, 0] ![0, 0, 0] u (sitofp .f32 (constantI S_ 32 0#32)) pads_S8x4096x5632_S8x4098x5632_000_200_000 h_S_) slices_S8x4098x5632_S8x4096x5632_0_0_0))) (mulf (broadcastInDim S8x4096x5632 ![0, 1, 2] bcast_S1x1x5632_S8x4096x5632_0_1_2 (broadcastInDim S1x1x5632 ![2] bcast_S5632_S1x1x5632_2 (shapeCast _ (extractStridedSlice S1x5632 ![1, 0] cw slices_S3x5632_S1x5632_1_0) shapeCasts_S1x5632_S5632))) (extractStridedSlice S8x4096x5632 ![0, 1, 0] (pad S8x4098x5632 ![0, 2, 0] ![0, 0, 0] ![0, 0, 0] u (sitofp .f32 (constantI S_ 32 0#32)) pads_S8x4096x5632_S8x4098x5632_000_200_000 h_S_) slices_S8x4098x5632_S8x4096x5632_0_1_0))) (mulf (broadcastInDim S8x4096x5632 ![0, 1, 2] bcast_S1x1x5632_S8x4096x5632_0_1_2 (broadcastInDim S1x1x5632 ![2] bcast_S5632_S1x1x5632_2 (shapeCast _ (extractStridedSlice S1x5632 ![2, 0] cw slices_S3x5632_S1x5632_2_0) shapeCasts_S1x5632_S5632))) (extractStridedSlice S8x4096x5632 ![0, 2, 0] (pad S8x4098x5632 ![0, 2, 0] ![0, 0, 0] ![0, 0, 0] u (sitofp .f32 (constantI S_ 32 0#32)) pads_S8x4096x5632_S8x4098x5632_000_200_000 h_S_) slices_S8x4098x5632_S8x4096x5632_0_2_0))) (broadcastInDim S8x4096x5632 ![0, 1, 2] bcast_S1x1x5632_S8x4096x5632_0_1_2 (broadcastInDim S1x1x5632 ![2] bcast_S5632_S1x1x5632_2 cb))

def hostGate (v : FVec Ideal S8x4096x5632 .f32) : FVec Ideal S8x4096x2816 .f32 :=
  mulf (mulf (extractStridedSlice S8x4096x2816 ![0, 0, 0] v slices_S8x4096x5632_S8x4096x2816_0_0_0) (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf (extractStridedSlice S8x4096x2816 ![0, 0, 0] v slices_S8x4096x5632_S8x4096x2816_0_0_0)))))) (extractStridedSlice S8x4096x2816 ![0, 0, 2816] v slices_S8x4096x5632_S8x4096x2816_0_0_2816)

def hostDown (x : FVec Ideal S8x4096x1024 .f32) (p : FVec Ideal S8x4096x2816 .f32) (w : FVec Ideal S2816x1024 .f32) :
    FVec Ideal S8x4096x1024 .f32 :=
  addf x (Host.dotGeneral dot_S8x4096x2816_S2816x1024_S8x4096x1024_2_0_01_1_n_n none p w)

def hostFlat (p : FVec Ideal S8x4096x1024 .f32) : FVec Ideal S32768x1024 .f32 :=
  shapeCast _ p shapeCasts_S8x4096x1024_S32768x1024

theorem hostNorm_at (x : FVec Ideal S8x4096x1024 .f32) (g : FVec Ideal S1024 .f32) (b : Fin 8) (s : Fin 4096) (k : Fin 1024) :
    hostNorm x g (ix3 b s k) = nrm (fun k => x (ix3 b s k)) (fun k => g (ix1 k)) k := by
  pointwise [hostNorm, nrm]

theorem hostUp_at (h : FVec Ideal S8x4096x1024 .f32) (w : FVec Ideal S1024x5632 .f32) (b : Fin 8) (s : Fin 4096) (c : Fin 5632) :
    hostUp h w (ix3 b s c) = ∑ k, h (ix3 b s k) * w (ix2 k c) := by
  pointwise [hostUp]

theorem hostConv_at (u : FVec Ideal S8x4096x5632 .f32) (cw : FVec Ideal S3x5632 .f32) (cb : FVec Ideal S5632 .f32)
    (b : Fin 8) (s : Fin 4096) (c : Fin 5632) :
    hostConv u cw cb (ix3 b s c) = conv (fun i c => cw (ix2 i c)) (fun c => cb (ix1 c))
      (fun c => if h : 2 ≤ s.val then u (ix3 b ⟨s.val - 2, by omega⟩ c) else 0)
      (fun c => if h : 1 ≤ s.val then u (ix3 b ⟨s.val - 1, by omega⟩ c) else 0) (fun c => u (ix3 b s c)) c := by
  have h0 : FloatOps.sitofp (F := Ideal) FTy.f32 (0#32) = 0 := by
    show (((0#32 : BitVec 32).toInt : ℝ) : EReal) = 0
    simp
  have hs := s.isLt
  pointwise [hostConv, conv]
  rw [h0]
  congr 3
  · congr 1
    by_cases h : 2 ≤ s.val
    · rw [dif_pos ⟨h, by omega⟩, dif_pos h]
    · rw [dif_neg (fun h' => h h'.1), dif_neg h]
  · congr 1
    by_cases h : 1 ≤ s.val
    · rw [dif_pos ⟨by omega, by omega⟩, dif_pos h]
      congr 3; omega
    · rw [dif_neg (fun h' => h (by omega)), dif_neg h]

theorem hostGate_at (v : FVec Ideal S8x4096x5632 .f32) (b : Fin 8) (s : Fin 4096) (c : Fin 2816) :
    hostGate v (ix3 b s c) = gate (fun c => v (ix3 b s c)) c := by
  pointwise [hostGate, gate, Ideal.logistic]

theorem hostDown_at (x : FVec Ideal S8x4096x1024 .f32) (p : FVec Ideal S8x4096x2816 .f32) (w : FVec Ideal S2816x1024 .f32)
    (b : Fin 8) (s : Fin 4096) (j : Fin 1024) :
    hostDown x p w (ix3 b s j) = down (fun k => x (ix3 b s k)) (fun c => p (ix3 b s c)) (fun c j => w (ix2 c j)) j := by
  pointwise [hostDown, down]

theorem hostFlat_at (p : FVec Ideal S8x4096x1024 .f32) (n : Fin 32768) (j : Fin 1024) :
    hostFlat p (ix2 n j) = p (ix3 ⟨n.val / 4096, by omega⟩ ⟨n.val % 4096, by omega⟩ j) := by
  pointwise [hostFlat]

/-- The layer as host operations. -/
def hostLayer (x : FVec Ideal S8x4096x1024 .f32) (g : FVec Ideal S1024 .f32) (w : FVec Ideal S1024x5632 .f32)
    (cw : FVec Ideal S3x5632 .f32) (cb : FVec Ideal S5632 .f32) (wd : FVec Ideal S2816x1024 .f32) :
    FVec Ideal S8x4096x1024 .f32 :=
  hostDown x (hostGate (hostConv (hostUp (hostNorm x g) w) cw cb)) wd

theorem hostLayer_at (x : FVec Ideal S8x4096x1024 .f32) (g : FVec Ideal S1024 .f32) (w : FVec Ideal S1024x5632 .f32)
    (cw : FVec Ideal S3x5632 .f32) (cb : FVec Ideal S5632 .f32) (wd : FVec Ideal S2816x1024 .f32)
    (b : Fin 8) (s : Fin 4096) (j : Fin 1024) :
    hostLayer x g w cw cb wd (ix3 b s j)
      = layer (fun b s k => x (ix3 b s k)) (fun k => g (ix1 k)) (fun k c => w (ix2 k c)) (fun i c => cw (ix2 i c))
          (fun c => cb (ix1 c)) (fun c j => wd (ix2 c j)) b s j := by
  have hu (b : Fin 8) (s : Fin 4096) (c : Fin 5632) : hostUp (hostNorm x g) w (ix3 b s c)
      = up (fun k => x (ix3 b s k)) (fun k => g (ix1 k)) (fun k c => w (ix2 k c)) c := by
    rw [hostUp_at]; simp only [hostNorm_at]; rfl
  unfold hostLayer
  rw [hostDown_at]
  simp only [hostGate_at, hostConv_at, hu]
  rfl

end Host

end Cert.Ffn

end
-- ==== Proof.Plane.lean ====
/-
The rows a tile and the tile before it hold, read `d` positions back.
-/
module

public import proofs.«01_k».proof.Proof.Ffn
public import Idealize.ShloMosaic.Lib.WritesUnit
public import Idealize.ShloMosaic.Lib.HeldBySlice

@[expose] public section

set_option maxRecDepth 16384

noncomputable section

namespace Cert.Ffn

open Idealize.ShloMosaic

/-- A row after two mixers' outputs, side by side, go through a matrix and are added to it. -/
def mix (x : Fin 1024 → EReal) (t b : Fin 512 → EReal) (w : Fin 1024 → Fin 1024 → EReal) (k : Fin 1024) : EReal :=
  x k + (∑ i : Fin 512, t i * w ⟨i.val, by omega⟩ k + ∑ i : Fin 512, b i * w ⟨512 + i.val, by omega⟩ k)

/-! ## The two planes -/

abbrev Plane : Shape := ⟨3, ![2, 520, 2816]⟩
abbrev Rows8 : Shape := ⟨3, ![1, 8, 2816]⟩
abbrev Rows512 : Shape := ⟨3, ![1, 512, 2816]⟩

/-- Row `a + o` of eight carried rows followed by the block's own. -/
def back (p : Fin 8 → Fin 2816 → EReal) (u : Fin 512 → Fin 2816 → EReal) (o : ℕ) (a : Fin 512) (c : Fin 2816) : EReal :=
  if h : a.val + o < 8 then p ⟨a.val + o, h⟩ c else if h' : a.val + o - 8 < 512 then u ⟨a.val + o - 8, h'⟩ c else 0

/-- A load of 512 rows from row `o` of a plane whose first eight rows are `p` and the rest `u`. -/
theorem readCov_plane {sig : RefSig} {κ : Kind} {sp : Space} (v : View sig κ sp Plane .f32) (q o : ℕ) (ho : o ≤ 8)
    (inb1 : ∀ a, (![q, 8, 0] : Fin 3 → ℕ) a + Rows512.size a ≤ Plane.size a)
    (inb0 : ∀ a, (![q, 0, 0] : Fin 3 → ℕ) a + Rows8.size a ≤ Plane.size a)
    (inb : ∀ a, (![q, o, 0] : Fin 3 → ℕ) a + Rows512.size a ≤ Plane.size a)
    (u : Vec Ideal Rows512 .f32) (p : Vec Ideal Rows8 .f32) (L : List (View.Piece (Elt Ideal) Plane .f32))
    (a : Fin 512) (c : Fin 2816) :
    v.readCov (Val := Elt Ideal) (⟨Rect.unit ![q, 8, 0] Rows512.size inb1, u⟩ :: ⟨Rect.unit ![q, 0, 0] Rows8.size inb0, p⟩ :: L)
        (Rect.unit (s := Plane) ![q, o, 0] Rows512.size inb).toLoadRect (ix3 0 a c)
      = back (fun r c => p (ix3 0 r c)) (fun r c => u (ix3 0 r c)) o a c := by
  have ha := a.isLt
  show v.read (Elt Ideal) (v.writes (Elt Ideal) v.junk _) ((Rect.unit (s := Plane) ![q, o, 0] Rows512.size inb).toLoadRect.idx (ix3 0 a c)) = _
  unfold back
  by_cases h : a.val + o < 8
  · rw [dif_pos h, View.read_writes_cons_unit_of_not_mem v _ inb1 _ _ _ rfl (1 : Fin 3) (Or.inl (by
      show o + 1 * a.val < 8; omega))]
    refine View.read_writes_cons_unit_of_mem v _ inb0 _ _ _ (ix3 0 ⟨a.val + o, h⟩ c) rfl ?_
    intro x
    match x with
    | ⟨0, _⟩ => show q + 1 * 0 = q + 0; omega
    | ⟨1, _⟩ => show o + 1 * a.val = 0 + (a.val + o); omega
    | ⟨2, _⟩ => show 0 + 1 * c.val = 0 + c.val; omega
  · rw [dif_neg h, dif_pos (by omega)]
    refine View.read_writes_cons_unit_of_mem v _ inb1 _ _ _ (ix3 0 ⟨a.val + o - 8, by omega⟩ c) rfl ?_
    intro x
    match x with
    | ⟨0, _⟩ => show q + 1 * 0 = q + 0; omega
    | ⟨1, _⟩ => show o + 1 * a.val = 8 + (a.val + o - 8); omega
    | ⟨2, _⟩ => show 0 + 1 * c.val = 0 + c.val; omega

/-- The same over all the columns. -/
def wide (p : Fin 8 → Fin 5632 → EReal) (u : Fin 512 → Fin 5632 → EReal) (o : ℕ) (a : Fin 512) (c : Fin 5632) : EReal :=
  if h : a.val + o < 8 then p ⟨a.val + o, h⟩ c else if h' : a.val + o - 8 < 512 then u ⟨a.val + o - 8, h'⟩ c else 0

theorem wide_lo (p : Fin 8 → Fin 5632 → EReal) (u : Fin 512 → Fin 5632 → EReal) (o : ℕ) (a : Fin 512) (c : Fin 2816)
    (h : c.val < 5632) :
    wide p u o a ⟨c.val, h⟩ = back (fun r c => p r ⟨c.val, by omega⟩) (fun r c => u r ⟨c.val, by omega⟩) o a c := rfl

theorem wide_hi (p : Fin 8 → Fin 5632 → EReal) (u : Fin 512 → Fin 5632 → EReal) (o : ℕ) (a : Fin 512) (c : Fin 2816)
    (h : 2816 + c.val < 5632) :
    wide p u o a ⟨2816 + c.val, h⟩ = back (fun r c => p r ⟨2816 + c.val, by omega⟩) (fun r c => u r ⟨2816 + c.val, by omega⟩) o a c := rfl

/-- A load of a block of a whole buffer reads the buffer at the block's place. -/
theorem load2 {sig : RefSig} {κ : Kind} {sp : Space} {d : Fin 2 → ℕ} {e : EltTy} {m : Memref sig κ sp (⟨2, d⟩ : Shape) e}
    (h : m.IsWhole) (X : (⟨2, d⟩ : Shape).Idx → Elt Ideal e) {n : Fin 2 → ℕ} (o : Fin 2 → ℕ)
    (inb : ∀ a : Fin 2, o a + n a ≤ d a) (x : (⟨2, n⟩ : Shape).Idx) (y : (⟨2, d⟩ : Shape).Idx)
    (ha : (y 0).val = o 0 + (x 0).val) (hb : (y 1).val = o 1 + (x 1).val) :
    View.readAt (Elt Ideal) m.view (Rect.unit (s := ⟨2, d⟩) o n inb).toLoadRect (h.unread X) x = X y := by
  refine (congrFun (h.read_unread X) _).trans (congrArg X ?_)
  funext i
  apply Fin.ext
  match i with
  | ⟨0, _⟩ => show o 0 + 1 * (x 0).val = (y 0).val; omega
  | ⟨1, _⟩ => show o 1 + 1 * (x 1).val = (y 1).val; omega

/-- Rows read `d` places back in a tile are the layer's tap: the tile `n` holds `up` of its own rows, the carry holds the last
    eight rows of the tile before, or zero where a sequence begins. -/
theorem wide_tap (X : Fin 8 → Fin 4096 → Fin 1024 → EReal) (g : Fin 1024 → EReal) (w : Fin 1024 → Fin 5632 → EReal)
    (p : Fin 8 → Fin 5632 → EReal) (u : Fin 512 → Fin 5632 → EReal) (n : ℕ) (d : ℕ) (hd : d ≤ 8)
    (b : Fin 8) (s : Fin 4096) (a : Fin 512) (c : Fin 5632) (h : 4096 * b.val + s.val = 512 * n + a.val)
    (hu : ∀ (a' : Fin 512) (s' : Fin 4096), 4096 * b.val + s'.val = 512 * n + a'.val → u a' c = up (X b s') g w c)
    (hp0 : n % 8 = 0 → ∀ r, p r c = 0)
    (hp : ¬ n % 8 = 0 → ∀ (r : Fin 8) (s' : Fin 4096), 4096 * b.val + s'.val = 512 * (n - 1) + (504 + r.val) → p r c = up (X b s') g w c) :
    wide p u (8 - d) a c = tap X g w d b s c := by
  unfold wide tap
  by_cases h1 : a.val + (8 - d) < 8
  · rw [dif_pos h1]
    by_cases h0 : n % 8 = 0
    · rw [hp0 h0, if_neg (by omega : ¬ d ≤ s.val)]
    · rw [if_pos (by omega : d ≤ s.val)]
      exact hp h0 _ _ (by show 4096 * b.val + (s.val - d) = 512 * (n - 1) + (504 + (a.val + (8 - d))); omega)
  · rw [dif_neg h1, dif_pos (by omega : a.val + (8 - d) - 8 < 512), if_pos (by omega : d ≤ s.val)]
    exact hu _ _ (by show 4096 * b.val + (s.val - d) = 512 * n + (a.val + (8 - d) - 8); omega)

end Cert.Ffn

end
-- ==== Proof.Tile2.lean ====
/-
What one point of the feed-forward kernel leaves: the output block, and the last eight rows of the
product that the next point's convolution takes.
-/
module

public import proofs.«01_k».proof.Proof.Plane
public import proofs.«01_k».proof.Proof.Gen.Kernel2Ideal.Value
public import Idealize.ShloMosaic.Lib.WritesUnit
public import Idealize.ShloMosaic.Lib.HeldBySlice

@[expose] public section

set_option maxRecDepth 16384

noncomputable section

namespace Cert.Kernel2Ideal.Tile

open Cert.Kernel2Ideal Cert.Kernel2Ideal.Gen Cert.Ffn
open Idealize.ShloMosaic Idealize.ShloMosaic.TcCoe

theorem load_x0 {m : Memref sig .tc .vmem S512x1024 .f32} (h : m.IsWhole) (X : Vec Ideal S512x1024 .f32) (inb) (a : Fin 512) (k : Fin 1024) :
    View.readAt (Elt Ideal) m.view (Rect.unit (s := S512x1024) ![0, 0] S512x1024.size inb).toLoadRect (h.unread X) (ix2 a k) = X (ix2 a k) :=
  load2 h X ![0, 0] inb (ix2 a k) (ix2 a k) (Nat.zero_add _).symm (Nat.zero_add _).symm

theorem load_x1 {m : Memref sig .tc .vmem S1x1024 .f32} (h : m.IsWhole) (X : Vec Ideal S1x1024 .f32) (inb) (a : Fin 1) (k : Fin 1024) :
    View.readAt (Elt Ideal) m.view (Rect.unit (s := S1x1024) ![0, 0] S1x1024.size inb).toLoadRect (h.unread X) (ix2 a k) = X (ix2 a k) :=
  load2 h X ![0, 0] inb (ix2 a k) (ix2 a k) (Nat.zero_add _).symm (Nat.zero_add _).symm

/-! ## The payloads at an index -/

theorem pay2_at (v0 : Vec Ideal S512x1024 .f32) (a : Fin 512) (k : Fin 1024) : k0_pay2 v0 (ix2 a k) = v0 (ix2 a k) := by
  pointwise [k0_pay2]

theorem pay4_at (v0 : Vec Ideal S512x1024 .f32) (v1 : Vec Ideal S1x1024 .f32) (a : Fin 512) (k : Fin 1024) :
    k0_pay4 v0 v1 (ix2 a k) = nrm (fun k => v0 (ix2 a k)) (fun k => v1 (ix2 0 k)) k := by
  pointwise [k0_pay4, k0_pay2, nrm]

theorem pay5_at (v0 : Vec Ideal S512x1024 .f32) (v1 : Vec Ideal S1x1024 .f32) (w : Vec Ideal S1024x2816 .bf16) (a : Fin 512) (c : Fin 2816) :
    k0_pay5 v0 v1 w (ix2 a c) = ∑ k, nrm (fun k => v0 (ix2 a k)) (fun k => v1 (ix2 0 k)) k * w (ix2 k c) := by
  pointwise [k0_pay5]
  simp only [pay4_at]

theorem pay10_at (h : FVec Ideal S512x1024 .bf16) (w : Vec Ideal S1024x2816 .bf16) (a : Fin 512) (c : Fin 2816) :
    k0_pay10 h w (ix2 a c) = ∑ k, h (ix2 a k) * w (ix2 k c) := by
  pointwise [k0_pay10]

theorem pay9_at (u : FVec Ideal S512x2816 .f32) (cw : Vec Ideal S3x2816 .f32) (y z : Vec Ideal S1x512x2816 .f32) (cb : Vec Ideal S1x2816 .f32)
    (a : Fin 512) (c : Fin 2816) :
    k0_pay9 u cw y z cb (ix2 a c)
      = cw (ix2 0 c) * y (ix3 0 a c) + cw (ix2 1 c) * z (ix3 0 a c) + cw (ix2 2 c) * u (ix2 a c) + cb (ix2 0 c) := by
  pointwise [k0_pay9]

theorem pay14_at (t u : FVec Ideal S512x2816 .f32) (cw : Vec Ideal S3x2816 .f32) (y z : Vec Ideal S1x512x2816 .f32) (cb : Vec Ideal S1x2816 .f32)
    (a : Fin 512) (c : Fin 2816) :
    k0_pay14 t u cw y z cb (ix2 a c) = t (ix2 a c) * Ideal.logistic (t (ix2 a c))
      * (cw (ix2 0 c) * y (ix3 0 a c) + cw (ix2 1 c) * z (ix3 0 a c) + cw (ix2 2 c) * u (ix2 a c) + cb (ix2 0 c)) := by
  rw [← half_tanh]
  pointwise [k0_pay14]

theorem pay1_at (x : FVec Ideal S512x1024 .f32) (p : FVec Ideal S512x2816 .bf16) (w : Vec Ideal S2816x1024 .bf16) (g : Vec Ideal S1x1024 .f32) (a : Fin 512) (j : Fin 1024) :
    k0_pay1 x p w g (ix2 a j) = nrm (fun j => x (ix2 a j) + ∑ c, p (ix2 a c) * w (ix2 c j)) (fun k => g (ix2 0 k)) j := by
  pointwise [k0_pay1]
  rfl

theorem pay6_at (p : Vec Ideal S8x2816 .f32) (a : Fin 8) (c : Fin 2816) : k0_pay6 p (ix3 0 a c) = p (ix2 a c) := by
  pointwise [k0_pay6]
theorem pay11_at (p : Vec Ideal S8x2816 .f32) (a : Fin 8) (c : Fin 2816) : k0_pay11 p (ix3 0 a c) = p (ix2 a c) := by
  pointwise [k0_pay11]
theorem pay7_at (p : FVec Ideal S512x2816 .f32) (a : Fin 512) (c : Fin 2816) : k0_pay7 p (ix3 0 a c) = p (ix2 a c) := by
  pointwise [k0_pay7]
theorem pay12_at (p : FVec Ideal S512x2816 .f32) (a : Fin 512) (c : Fin 2816) : k0_pay12 p (ix3 0 a c) = p (ix2 a c) := by
  pointwise [k0_pay12]
theorem pay8_at (p : FVec Ideal S512x2816 .f32) (a : Fin 8) (c : Fin 2816) : k0_pay8 p (ix2 a c) = p (ix2 ⟨504 + a.val, by omega⟩ c) := by
  pointwise [k0_pay8]
theorem pay13_at (p : FVec Ideal S512x2816 .f32) (a : Fin 8) (c : Fin 2816) : k0_pay13 p (ix2 a c) = p (ix2 ⟨504 + a.val, by omega⟩ c) := by
  pointwise [k0_pay13]
theorem pay3_at (a : Fin 8) (c : Fin 5632) : k0_pay3 (F := Ideal) (ix2 a c) = 0 := by
  pointwise [k0_pay3]

section CaseA

variable (c : Dev nD)
  (i : grid0.Coords)
  (p1 : Memref sig .tc .vmem S512x1024 .f32)
  (q1 : p1.IsWhole)
  (p2 : Memref sig .tc .vmem S1x1024 .f32)
  (q2 : p2.IsWhole)
  (p3 : Memref sig .tc .vmem S1024x5632 .bf16)
  (q3 : p3.IsWhole)
  (p4 : Memref sig .tc .vmem S3x5632 .f32)
  (q4 : p4.IsWhole)
  (p5 : Memref sig .tc .vmem S1x5632 .f32)
  (q5 : p5.IsWhole)
  (p6 : Memref sig .tc .vmem S2816x1024 .bf16)
  (q6 : p6.IsWhole)
  (p7 : Memref sig .tc .vmem S1x1024 .f32)
  (q7 : p7.IsWhole)
  (p8 : Memref sig .tc .vmem S512x1024 .f32)
  (q8 : p8.IsWhole)
  (p9 : Memref sig .tc .vmem S2x520x2816 .f32)
  (q9 : p9.IsWhole)
  (p10 : Memref sig .tc .vmem S8x5632 .f32)
  (q10 : p10.IsWhole)
  (x0 : Vec Ideal S512x1024 .f32)
  (x1 : Vec Ideal S1x1024 .f32)
  (x2 : Vec Ideal S1024x5632 .bf16)
  (x3 : Vec Ideal S3x5632 .f32)
  (x4 : Vec Ideal S1x5632 .f32)
  (x5 : Vec Ideal S2816x1024 .bf16)
  (x6 : Vec Ideal S1x1024 .f32) (hc0 : cond0_0 i)

theorem u0_A (a : Fin 512) (c' : Fin 2816) : kernelRun0_A.sl.r_2 (F := Ideal) c p1 q1 p2 q2 p3 q3 x0 x1 x2 (ix2 a c')
    = up (fun k => x0 (ix2 a k)) (fun k => x1 (ix2 0 k)) (fun k c => x2 (ix2 k c)) ⟨c'.val, by omega⟩ := by
  unfold kernelRun0_A.sl.r_2 up
  rw [pay5_at]
  exact Finset.sum_congr rfl fun k _ => congrArg₂ (· * ·) (congrArg₂ (fun x g => nrm x g k) (funext fun k => load2 _ _ _ _ _ _ (Nat.zero_add _).symm (Nat.zero_add _).symm) (funext fun k => load2 _ _ _ _ _ _ (Nat.zero_add _).symm (Nat.zero_add _).symm)) (load2 _ _ _ _ _ _ (Nat.zero_add _).symm (by show c'.val = 0 + c'.val; omega))

theorem u1_A (a : Fin 512) (c' : Fin 2816) : kernelRun0_A.sl.r_5 (F := Ideal) c p1 q1 p2 q2 p3 q3 x0 x1 x2 (ix2 a c')
    = up (fun k => x0 (ix2 a k)) (fun k => x1 (ix2 0 k)) (fun k c => x2 (ix2 k c)) ⟨2816 + c'.val, by omega⟩ := by
  unfold kernelRun0_A.sl.r_5 kernelRun0_A.sl.r_1 up
  rw [pay10_at]
  simp only [pay4_at]
  exact Finset.sum_congr rfl fun k _ => congrArg₂ (· * ·) (congrArg₂ (fun x g => nrm x g k) (funext fun k => load2 _ _ _ _ _ _ (Nat.zero_add _).symm (Nat.zero_add _).symm) (funext fun k => load2 _ _ _ _ _ _ (Nat.zero_add _).symm (Nat.zero_add _).symm)) (load2 _ _ _ _ _ _ (Nat.zero_add _).symm rfl)

theorem p0_A (a : Fin 8) (c' : Fin 2816) : kernelRun0_A.sl.v33 (F := Ideal) c p10 (ix2 a c') = 0 := by
  unfold kernelRun0_A.sl.v33 kernelRun0_A.sl.HS1_1
  show p10.view.read (Elt Ideal) (p10.view.writes (Elt Ideal) p10.view.junk _) ((Rect.unit (s := S8x5632) ![0, 0] S8x2816.size _).toLoadRect.idx (ix2 a c')) = _
  refine (View.read_writes_cons_unit_of_mem p10.view _ _ _ _ _ (ix2 a ⟨c'.val, by omega⟩) rfl (by
    intro x
    match x with
    | ⟨0, _⟩ => show 0 + 1 * a.val = 0 + a.val; omega
    | ⟨1, _⟩ => show 0 + 1 * c'.val = 0 + c'.val; omega)).trans ?_
  exact pay3_at _ _

theorem p1_A (a : Fin 8) (c' : Fin 2816) : kernelRun0_A.sl.v67 (F := Ideal) c p1 q1 p2 q2 p3 q3 p10 x0 x1 x2 (ix2 a c') = 0 := by
  unfold kernelRun0_A.sl.v67 kernelRun0_A.sl.HS1_2 kernelRun0_A.sl.HS1_1
  show p10.view.read (Elt Ideal) (p10.view.writes (Elt Ideal) p10.view.junk _) ((Rect.unit (s := S8x5632) ![0, 2816] S8x2816.size _).toLoadRect.idx (ix2 a c')) = _
  refine (View.read_writes_cons_unit_of_not_mem p10.view _ _ _ _ _ rfl (1 : Fin 2) (Or.inr (by
      show 0 + 2816 ≤ 2816 + 1 * c'.val; omega))).trans ?_
  refine (View.read_writes_cons_unit_of_mem p10.view _ _ _ _ _ (ix2 a ⟨2816 + c'.val, by omega⟩) rfl (by
    intro x
    match x with
    | ⟨0, _⟩ => show 0 + 1 * a.val = 0 + a.val; omega
    | ⟨1, _⟩ => show 2816 + 1 * c'.val = 0 + (2816 + c'.val); omega)).trans ?_
  exact pay3_at _ _

theorem v46_A (a : Fin 512) (c' : Fin 2816) : kernelRun0_A.sl.v46 (F := Ideal) c p1 q1 p2 q2 p3 q3 p9 p10 x0 x1 x2 (ix3 0 a c')
    = back (fun _ _ => 0)
        (fun a c => up (fun k => x0 (ix2 a k)) (fun k => x1 (ix2 0 k)) (fun k c => x2 (ix2 k c)) ⟨c.val, by omega⟩) 6 a c' := by
  unfold kernelRun0_A.sl.v46 kernelRun0_A.sl.HS0_2
  rw [readCov_plane p9.view 0 6 (by omega)]
  simp only [pay6_at, pay7_at, p0_A, u0_A]

theorem v51_A (a : Fin 512) (c' : Fin 2816) : kernelRun0_A.sl.v51 (F := Ideal) c p1 q1 p2 q2 p3 q3 p9 p10 x0 x1 x2 (ix3 0 a c')
    = back (fun _ _ => 0)
        (fun a c => up (fun k => x0 (ix2 a k)) (fun k => x1 (ix2 0 k)) (fun k c => x2 (ix2 k c)) ⟨c.val, by omega⟩) 7 a c' := by
  unfold kernelRun0_A.sl.v51 kernelRun0_A.sl.HS0_2
  rw [readCov_plane p9.view 0 7 (by omega)]
  simp only [pay6_at, pay7_at, p0_A, u0_A]

theorem v80_A (a : Fin 512) (c' : Fin 2816) : kernelRun0_A.sl.v80 (F := Ideal) c p1 q1 p2 q2 p3 q3 p9 p10 x0 x1 x2 (ix3 0 a c')
    = back (fun _ _ => 0)
        (fun a c => up (fun k => x0 (ix2 a k)) (fun k => x1 (ix2 0 k)) (fun k c => x2 (ix2 k c)) ⟨2816 + c.val, by omega⟩) 6 a c' := by
  unfold kernelRun0_A.sl.v80 kernelRun0_A.sl.HS0_4
  rw [readCov_plane p9.view 1 6 (by omega)]
  simp only [pay11_at, pay12_at, p1_A, u1_A]

theorem v85_A (a : Fin 512) (c' : Fin 2816) : kernelRun0_A.sl.v85 (F := Ideal) c p1 q1 p2 q2 p3 q3 p9 p10 x0 x1 x2 (ix3 0 a c')
    = back (fun _ _ => 0)
        (fun a c => up (fun k => x0 (ix2 a k)) (fun k => x1 (ix2 0 k)) (fun k c => x2 (ix2 k c)) ⟨2816 + c.val, by omega⟩) 7 a c' := by
  unfold kernelRun0_A.sl.v85 kernelRun0_A.sl.HS0_4
  rw [readCov_plane p9.view 1 7 (by omega)]
  simp only [pay11_at, pay12_at, p1_A, u1_A]

/-- The convolution of the block's row `a`: the rows before it are the block's, or carried. -/
abbrev conv_A (x0 : Vec Ideal S512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (a : Fin 512) : Fin 5632 → EReal :=
  conv (fun i c => x3 (ix2 i c)) (fun c => x4 (ix2 0 c)) (wide (fun _ _ => 0) (fun a c => up (fun k => x0 (ix2 a k)) (fun k => x1 (ix2 0 k)) (fun k c => x2 (ix2 k c)) c) 6 a) (wide (fun _ _ => 0) (fun a c => up (fun k => x0 (ix2 a k)) (fun k => x1 (ix2 0 k)) (fun k c => x2 (ix2 k c)) c) 7 a) ((fun a c => up (fun k => x0 (ix2 a k)) (fun k => x1 (ix2 0 k)) (fun k c => x2 (ix2 k c)) c) a)

theorem act_A (a : Fin 512) (c' : Fin 2816) : kernelRun0_A.sl.r_6 (F := Ideal) c p1 q1 p2 q2 p3 q3 p4 q4 p5 q5 p9 p10 x0 x1 x2 x3 x4 (ix2 a c')
    = gate (conv_A x0 x1 x2 x3 x4 x5 x6 a) c' := by
  have hc (c' : Fin 2816) : kernelRun0_A.sl.r_4 (F := Ideal) c p1 q1 p2 q2 p3 q3 p4 q4 p5 q5 p9 p10 x0 x1 x2 x3 x4 (ix2 a c') = conv_A x0 x1 x2 x3 x4 x5 x6 a ⟨c'.val, by omega⟩ := by
    unfold kernelRun0_A.sl.r_4
    rw [pay9_at, v46_A, v51_A, u0_A]
    refine congrArg₂ (· + ·) (congrArg₂ (· + ·) (congrArg₂ (· + ·) (congrArg₂ (· * ·) (load2 _ _ _ _ _ _ ?_ ?_) ?_) (congrArg₂ (· * ·) (load2 _ _ _ _ _ _ ?_ ?_) ?_)) (congrArg₂ (· * ·) (load2 _ _ _ _ _ _ ?_ ?_) ?_)) (load2 _ _ _ _ _ _ ?_ ?_) <;> first | rfl | (exact (Nat.zero_add _).symm) | (exact (wide_lo _ _ _ _ _ _).symm)
  unfold kernelRun0_A.sl.r_6
  rw [pay14_at, hc]
  refine congrArg₂ (· * ·) rfl ?_
  rw [v80_A, v85_A, u1_A]
  refine congrArg₂ (· + ·) (congrArg₂ (· + ·) (congrArg₂ (· + ·) (congrArg₂ (· * ·) (load2 _ _ _ _ _ _ ?_ ?_) ?_) (congrArg₂ (· * ·) (load2 _ _ _ _ _ _ ?_ ?_) ?_)) (congrArg₂ (· * ·) (load2 _ _ _ _ _ _ ?_ ?_) ?_)) (load2 _ _ _ _ _ _ ?_ ?_) <;> first | rfl | (exact (Nat.zero_add _).symm) | (exact (wide_hi _ _ _ _ _ _).symm)

/-- The output block at row `a`, column `j`: the normed row. -/
theorem out_A_at (a : Fin 512) (j : Fin 1024) : out0_A_7 (F := Ideal) c i p1 q1 p2 q2 p3 q3 p4 q4 p5 q5 p6 q6 p7 q7 p8 q8 p9 q9 p10 q10 hc0 x0 x1 x2 x3 x4 x5 x6 (ix2 a j)
    = nrm (down (fun k => x0 (ix2 a k)) (gate (conv_A x0 x1 x2 x3 x4 x5 x6 a)) (fun c j => x5 (ix2 c j))) (fun k => x6 (ix2 0 k)) j := by
  unfold out0_A_7 kernelRun0_A
  dsimp only
  refine (View.read_writes_cons_unit_of_mem VO0_7 _ _ _ _ _ (ix2 a j) rfl (by
    intro x
    match x with
    | ⟨0, _⟩ => show a.val = 0 + a.val; omega
    | ⟨1, _⟩ => show j.val = 0 + j.val; omega)).trans ?_
  rw [pay1_at]
  unfold kernelRun0_A.sl.r
  simp only [pay2_at]
  have ha : ∀ k, kernelRun0_A.sl.r_6 (F := Ideal) c p1 q1 p2 q2 p3 q3 p4 q4 p5 q5 p9 p10 x0 x1 x2 x3 x4 (ix2 a k) = gate (conv_A x0 x1 x2 x3 x4 x5 x6 a) k := by
    intro k; apply act_A
  generalize gate (conv_A x0 x1 x2 x3 x4 x5 x6 a) = p at ha ⊢
  refine congrArg₂ (fun x g => nrm x g j) (funext fun j => ?_) (funext fun k => load2 _ _ ![0, 0] _ _ _ (Nat.zero_add _).symm (Nat.zero_add _).symm)
  unfold down
  refine congrArg₂ (· + ·) ?_ (Finset.sum_congr rfl fun k _ => congrArg₂ (· * ·) (ha k) ?_)
  · exact load2 _ _ ![0, 0] _ _ _ (Nat.zero_add _).symm (Nat.zero_add _).symm
  · exact load2 _ _ ![0, 0] _ _ _ (Nat.zero_add _).symm (Nat.zero_add _).symm

/-- What is carried on: the last eight rows of the product. -/
theorem carry_A_at (a : Fin 8) (c' : Fin 5632) : sout0_A_1 (F := Ideal) c i p1 q1 p2 q2 p3 q3 p4 q4 p5 q5 p6 q6 p7 q7 p8 q8 p9 q9 p10 q10 hc0 x0 x1 x2 x3 x4 x5 x6 (ix2 a c')
    = up (fun k => x0 (ix2 ⟨504 + a.val, by omega⟩ k)) (fun k => x1 (ix2 0 k)) (fun k c => x2 (ix2 k c)) c' := by
  unfold sout0_A_1 kernelRun0_A
  dsimp only
  by_cases h : c'.val < 2816
  · refine (View.read_writes_cons_unit_of_not_mem VS0_1 _ _ _ _ _ rfl (1 : Fin 2) (Or.inl (by show c'.val < 2816; omega))).trans ?_
    refine (View.read_writes_cons_unit_of_mem VS0_1 _ _ _ _ _ (ix2 a ⟨c'.val, h⟩) rfl (by
      intro x
      match x with
      | ⟨0, _⟩ => show a.val = 0 + a.val; omega
      | ⟨1, _⟩ => show c'.val = 0 + c'.val; omega)).trans ?_
    rw [pay8_at, u0_A]
  · have hc := c'.isLt
    refine (View.read_writes_cons_unit_of_mem VS0_1 _ _ _ _ _ (ix2 a ⟨c'.val - 2816, by omega⟩) rfl (by
      intro x
      match x with
      | ⟨0, _⟩ => show a.val = 0 + a.val; omega
      | ⟨1, _⟩ => show c'.val = 2816 + (c'.val - 2816); omega)).trans ?_
    rw [pay13_at, u1_A]
    congr 1
    exact Fin.ext (by show 2816 + (c'.val - 2816) = c'.val; omega)

end CaseA

section CaseB

variable (c : Dev nD)
  (i : grid0.Coords)
  (p1 : Memref sig .tc .vmem S512x1024 .f32)
  (q1 : p1.IsWhole)
  (p2 : Memref sig .tc .vmem S1x1024 .f32)
  (q2 : p2.IsWhole)
  (p3 : Memref sig .tc .vmem S1024x5632 .bf16)
  (q3 : p3.IsWhole)
  (p4 : Memref sig .tc .vmem S3x5632 .f32)
  (q4 : p4.IsWhole)
  (p5 : Memref sig .tc .vmem S1x5632 .f32)
  (q5 : p5.IsWhole)
  (p6 : Memref sig .tc .vmem S2816x1024 .bf16)
  (q6 : p6.IsWhole)
  (p7 : Memref sig .tc .vmem S1x1024 .f32)
  (q7 : p7.IsWhole)
  (p8 : Memref sig .tc .vmem S512x1024 .f32)
  (q8 : p8.IsWhole)
  (p9 : Memref sig .tc .vmem S2x520x2816 .f32)
  (q9 : p9.IsWhole)
  (p10 : Memref sig .tc .vmem S8x5632 .f32)
  (q10 : p10.IsWhole)
  (x0 : Vec Ideal S512x1024 .f32)
  (x1 : Vec Ideal S1x1024 .f32)
  (x2 : Vec Ideal S1024x5632 .bf16)
  (x3 : Vec Ideal S3x5632 .f32)
  (x4 : Vec Ideal S1x5632 .f32)
  (x5 : Vec Ideal S2816x1024 .bf16)
  (x6 : Vec Ideal S1x1024 .f32)
  (xs1 : Vec Ideal S8x5632 .f32) (hc0 : ¬cond0_0 i)

theorem u0_B (a : Fin 512) (c' : Fin 2816) : kernelRun0_B.sl.r_2 (F := Ideal) c p1 q1 p2 q2 p3 q3 x0 x1 x2 (ix2 a c')
    = up (fun k => x0 (ix2 a k)) (fun k => x1 (ix2 0 k)) (fun k c => x2 (ix2 k c)) ⟨c'.val, by omega⟩ := by
  unfold kernelRun0_B.sl.r_2 up
  rw [pay5_at]
  exact Finset.sum_congr rfl fun k _ => congrArg₂ (· * ·) (congrArg₂ (fun x g => nrm x g k) (funext fun k => load2 _ _ _ _ _ _ (Nat.zero_add _).symm (Nat.zero_add _).symm) (funext fun k => load2 _ _ _ _ _ _ (Nat.zero_add _).symm (Nat.zero_add _).symm)) (load2 _ _ _ _ _ _ (Nat.zero_add _).symm (by show c'.val = 0 + c'.val; omega))

theorem u1_B (a : Fin 512) (c' : Fin 2816) : kernelRun0_B.sl.r_6 (F := Ideal) c p1 q1 p2 q2 p3 q3 x0 x1 x2 (ix2 a c')
    = up (fun k => x0 (ix2 a k)) (fun k => x1 (ix2 0 k)) (fun k c => x2 (ix2 k c)) ⟨2816 + c'.val, by omega⟩ := by
  unfold kernelRun0_B.sl.r_6 kernelRun0_B.sl.r_1 up
  rw [pay10_at]
  simp only [pay4_at]
  exact Finset.sum_congr rfl fun k _ => congrArg₂ (· * ·) (congrArg₂ (fun x g => nrm x g k) (funext fun k => load2 _ _ _ _ _ _ (Nat.zero_add _).symm (Nat.zero_add _).symm) (funext fun k => load2 _ _ _ _ _ _ (Nat.zero_add _).symm (Nat.zero_add _).symm)) (load2 _ _ _ _ _ _ (Nat.zero_add _).symm rfl)

theorem p0_B (a : Fin 8) (c' : Fin 2816) : kernelRun0_B.sl.r_3 (F := Ideal) c p10 q10 xs1 (ix2 a c') = xs1 (ix2 a ⟨c'.val, by omega⟩) := by
  unfold kernelRun0_B.sl.r_3
  exact load2 _ _ _ _ _ _ (Nat.zero_add _).symm (by show c'.val = 0 + c'.val; omega)

theorem p1_B (a : Fin 8) (c' : Fin 2816) : kernelRun0_B.sl.v67 (F := Ideal) c p10 q10 xs1 (ix2 a c') = xs1 (ix2 a ⟨2816 + c'.val, by omega⟩) := by
  unfold kernelRun0_B.sl.v67
  exact load2 _ _ _ _ _ _ (Nat.zero_add _).symm rfl

theorem v46_B (a : Fin 512) (c' : Fin 2816) : kernelRun0_B.sl.v46 (F := Ideal) c p1 q1 p2 q2 p3 q3 p9 p10 q10 x0 x1 x2 xs1 (ix3 0 a c')
    = back (fun r c => xs1 (ix2 r ⟨c.val, by omega⟩))
        (fun a c => up (fun k => x0 (ix2 a k)) (fun k => x1 (ix2 0 k)) (fun k c => x2 (ix2 k c)) ⟨c.val, by omega⟩) 6 a c' := by
  unfold kernelRun0_B.sl.v46 kernelRun0_B.sl.HS0_2
  rw [readCov_plane p9.view 0 6 (by omega)]
  simp only [pay6_at, pay7_at, p0_B, u0_B]

theorem v51_B (a : Fin 512) (c' : Fin 2816) : kernelRun0_B.sl.v51 (F := Ideal) c p1 q1 p2 q2 p3 q3 p9 p10 q10 x0 x1 x2 xs1 (ix3 0 a c')
    = back (fun r c => xs1 (ix2 r ⟨c.val, by omega⟩))
        (fun a c => up (fun k => x0 (ix2 a k)) (fun k => x1 (ix2 0 k)) (fun k c => x2 (ix2 k c)) ⟨c.val, by omega⟩) 7 a c' := by
  unfold kernelRun0_B.sl.v51 kernelRun0_B.sl.HS0_2
  rw [readCov_plane p9.view 0 7 (by omega)]
  simp only [pay6_at, pay7_at, p0_B, u0_B]

theorem v80_B (a : Fin 512) (c' : Fin 2816) : kernelRun0_B.sl.v80 (F := Ideal) c p1 q1 p2 q2 p3 q3 p9 p10 q10 x0 x1 x2 xs1 (ix3 0 a c')
    = back (fun r c => xs1 (ix2 r ⟨2816 + c.val, by omega⟩))
        (fun a c => up (fun k => x0 (ix2 a k)) (fun k => x1 (ix2 0 k)) (fun k c => x2 (ix2 k c)) ⟨2816 + c.val, by omega⟩) 6 a c' := by
  unfold kernelRun0_B.sl.v80 kernelRun0_B.sl.HS0_4
  rw [readCov_plane p9.view 1 6 (by omega)]
  simp only [pay11_at, pay12_at, p1_B, u1_B]

theorem v85_B (a : Fin 512) (c' : Fin 2816) : kernelRun0_B.sl.v85 (F := Ideal) c p1 q1 p2 q2 p3 q3 p9 p10 q10 x0 x1 x2 xs1 (ix3 0 a c')
    = back (fun r c => xs1 (ix2 r ⟨2816 + c.val, by omega⟩))
        (fun a c => up (fun k => x0 (ix2 a k)) (fun k => x1 (ix2 0 k)) (fun k c => x2 (ix2 k c)) ⟨2816 + c.val, by omega⟩) 7 a c' := by
  unfold kernelRun0_B.sl.v85 kernelRun0_B.sl.HS0_4
  rw [readCov_plane p9.view 1 7 (by omega)]
  simp only [pay11_at, pay12_at, p1_B, u1_B]

/-- The convolution of the block's row `a`: the rows before it are the block's, or carried. -/
abbrev conv_B (x0 : Vec Ideal S512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs1 : Vec Ideal S8x5632 .f32) (a : Fin 512) : Fin 5632 → EReal :=
  conv (fun i c => x3 (ix2 i c)) (fun c => x4 (ix2 0 c)) (wide (fun r c => xs1 (ix2 r c)) (fun a c => up (fun k => x0 (ix2 a k)) (fun k => x1 (ix2 0 k)) (fun k c => x2 (ix2 k c)) c) 6 a) (wide (fun r c => xs1 (ix2 r c)) (fun a c => up (fun k => x0 (ix2 a k)) (fun k => x1 (ix2 0 k)) (fun k c => x2 (ix2 k c)) c) 7 a) ((fun a c => up (fun k => x0 (ix2 a k)) (fun k => x1 (ix2 0 k)) (fun k c => x2 (ix2 k c)) c) a)

theorem act_B (a : Fin 512) (c' : Fin 2816) : kernelRun0_B.sl.r_7 (F := Ideal) c p1 q1 p2 q2 p3 q3 p4 q4 p5 q5 p9 p10 q10 x0 x1 x2 x3 x4 xs1 (ix2 a c')
    = gate (conv_B x0 x1 x2 x3 x4 x5 x6 xs1 a) c' := by
  have hc (c' : Fin 2816) : kernelRun0_B.sl.r_5 (F := Ideal) c p1 q1 p2 q2 p3 q3 p4 q4 p5 q5 p9 p10 q10 x0 x1 x2 x3 x4 xs1 (ix2 a c') = conv_B x0 x1 x2 x3 x4 x5 x6 xs1 a ⟨c'.val, by omega⟩ := by
    unfold kernelRun0_B.sl.r_5
    rw [pay9_at, v46_B, v51_B, u0_B]
    refine congrArg₂ (· + ·) (congrArg₂ (· + ·) (congrArg₂ (· + ·) (congrArg₂ (· * ·) (load2 _ _ _ _ _ _ ?_ ?_) ?_) (congrArg₂ (· * ·) (load2 _ _ _ _ _ _ ?_ ?_) ?_)) (congrArg₂ (· * ·) (load2 _ _ _ _ _ _ ?_ ?_) ?_)) (load2 _ _ _ _ _ _ ?_ ?_) <;> first | rfl | (exact (Nat.zero_add _).symm) | (exact (wide_lo _ _ _ _ _ _).symm)
  unfold kernelRun0_B.sl.r_7
  rw [pay14_at, hc]
  refine congrArg₂ (· * ·) rfl ?_
  rw [v80_B, v85_B, u1_B]
  refine congrArg₂ (· + ·) (congrArg₂ (· + ·) (congrArg₂ (· + ·) (congrArg₂ (· * ·) (load2 _ _ _ _ _ _ ?_ ?_) ?_) (congrArg₂ (· * ·) (load2 _ _ _ _ _ _ ?_ ?_) ?_)) (congrArg₂ (· * ·) (load2 _ _ _ _ _ _ ?_ ?_) ?_)) (load2 _ _ _ _ _ _ ?_ ?_) <;> first | rfl | (exact (Nat.zero_add _).symm) | (exact (wide_hi _ _ _ _ _ _).symm)

/-- The output block at row `a`, column `j`: the normed row. -/
theorem out_B_at (a : Fin 512) (j : Fin 1024) : out0_B_7 (F := Ideal) c i p1 q1 p2 q2 p3 q3 p4 q4 p5 q5 p6 q6 p7 q7 p8 q8 p9 q9 p10 q10 hc0 x0 x1 x2 x3 x4 x5 x6 xs1 (ix2 a j)
    = nrm (down (fun k => x0 (ix2 a k)) (gate (conv_B x0 x1 x2 x3 x4 x5 x6 xs1 a)) (fun c j => x5 (ix2 c j))) (fun k => x6 (ix2 0 k)) j := by
  unfold out0_B_7 kernelRun0_B
  dsimp only
  refine (View.read_writes_cons_unit_of_mem VO0_7 _ _ _ _ _ (ix2 a j) rfl (by
    intro x
    match x with
    | ⟨0, _⟩ => show a.val = 0 + a.val; omega
    | ⟨1, _⟩ => show j.val = 0 + j.val; omega)).trans ?_
  rw [pay1_at]
  unfold kernelRun0_B.sl.r
  simp only [pay2_at]
  have ha : ∀ k, kernelRun0_B.sl.r_7 (F := Ideal) c p1 q1 p2 q2 p3 q3 p4 q4 p5 q5 p9 p10 q10 x0 x1 x2 x3 x4 xs1 (ix2 a k) = gate (conv_B x0 x1 x2 x3 x4 x5 x6 xs1 a) k := by
    intro k; apply act_B
  generalize gate (conv_B x0 x1 x2 x3 x4 x5 x6 xs1 a) = p at ha ⊢
  refine congrArg₂ (fun x g => nrm x g j) (funext fun j => ?_) (funext fun k => load2 _ _ ![0, 0] _ _ _ (Nat.zero_add _).symm (Nat.zero_add _).symm)
  unfold down
  refine congrArg₂ (· + ·) ?_ (Finset.sum_congr rfl fun k _ => congrArg₂ (· * ·) (ha k) ?_)
  · exact load2 _ _ ![0, 0] _ _ _ (Nat.zero_add _).symm (Nat.zero_add _).symm
  · exact load2 _ _ ![0, 0] _ _ _ (Nat.zero_add _).symm (Nat.zero_add _).symm

/-- What is carried on: the last eight rows of the product. -/
theorem carry_B_at (a : Fin 8) (c' : Fin 5632) : sout0_B_1 (F := Ideal) c i p1 q1 p2 q2 p3 q3 p4 q4 p5 q5 p6 q6 p7 q7 p8 q8 p9 q9 p10 q10 hc0 x0 x1 x2 x3 x4 x5 x6 xs1 (ix2 a c')
    = up (fun k => x0 (ix2 ⟨504 + a.val, by omega⟩ k)) (fun k => x1 (ix2 0 k)) (fun k c => x2 (ix2 k c)) c' := by
  unfold sout0_B_1 kernelRun0_B
  dsimp only
  by_cases h : c'.val < 2816
  · refine (View.read_writes_cons_unit_of_not_mem VS0_1 _ _ _ _ _ rfl (1 : Fin 2) (Or.inl (by show c'.val < 2816; omega))).trans ?_
    refine (View.read_writes_cons_unit_of_mem VS0_1 _ _ _ _ _ (ix2 a ⟨c'.val, h⟩) rfl (by
      intro x
      match x with
      | ⟨0, _⟩ => show a.val = 0 + a.val; omega
      | ⟨1, _⟩ => show c'.val = 0 + c'.val; omega)).trans ?_
    rw [pay8_at, u0_B]
  · have hc := c'.isLt
    refine (View.read_writes_cons_unit_of_mem VS0_1 _ _ _ _ _ (ix2 a ⟨c'.val - 2816, by omega⟩) rfl (by
      intro x
      match x with
      | ⟨0, _⟩ => show a.val = 0 + a.val; omega
      | ⟨1, _⟩ => show c'.val = 2816 + (c'.val - 2816); omega)).trans ?_
    rw [pay13_at, u1_B]
    congr 1
    exact Fin.ext (by show 2816 + (c'.val - 2816) = c'.val; omega)

end CaseB

end Cert.Kernel2Ideal.Tile

end
-- ==== Proof.Value2.lean ====
/-
The feed-forward kernel's result: the layer at every batch and position.
-/
module

public import proofs.«01_k».proof.Proof.Tile2
public import Idealize.ShloMosaic.Lib.Pipeline.ValueKit
public import Idealize.ShloMosaic.Lib.StableHlo.ReadAt

@[expose] public section

set_option maxRecDepth 16384

noncomputable section

namespace Cert.Kernel2Ideal.Tile

open Cert.Kernel2Ideal Cert.Kernel2Ideal.Gen Cert.Ffn
open Idealize.ShloMosaic Idealize.ShloMosaic.TcCoe

variable (m : (ℓ : Loc nD τ sig) → Buf (Elt Ideal) ℓ) (c : Dev nD)

/-- The arguments as arrays. -/
abbrev argX : FVec Ideal S8x4096x1024 .f32 := m ((c : Thread nD τ).loc main_arg0)
abbrev argG : FVec Ideal S1024 .f32 := m ((c : Thread nD τ).loc main_arg1)
abbrev argW : FVec Ideal S1024x5632 .f32 := m ((c : Thread nD τ).loc main_arg2)
abbrev argCw : FVec Ideal S3x5632 .f32 := m ((c : Thread nD τ).loc main_arg3)
abbrev argCb : FVec Ideal S5632 .f32 := m ((c : Thread nD τ).loc main_arg4)
abbrev argWd : FVec Ideal S2816x1024 .f32 := m ((c : Thread nD τ).loc main_arg5)
abbrev argGf : FVec Ideal S1024 .f32 := m ((c : Thread nD τ).loc main_arg6)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem iblk0_at (t : Fin cfg0.N) (r : Fin 512) (k : Fin 1024) (b : Fin 8) (s : Fin 4096) (h : 4096 * b.val + s.val = 512 * t.val + r.val) :
    (iblk m c 0 t : Vec Ideal S512x1024 .f32) (ix2 r k) = argX m c (ix3 b s k) := by
  blk_ext! [iblk, V, idx t]

theorem iblk1_at (t : Fin cfg0.N) (k : Fin 1024) : (iblk m c 1 t : Vec Ideal S1x1024 .f32) (ix2 0 k) = argG m c (ix1 k) := by
  blk_ext! [iblk, V, idx t]

theorem iblk2_at (t : Fin cfg0.N) (k : Fin 1024) (j : Fin 5632) : (iblk m c 2 t : Vec Ideal S1024x5632 .bf16) (ix2 k j) = argW m c (ix2 k j) := by
  blk_ext! [iblk, V, idx t]

theorem iblk3_at (t : Fin cfg0.N) (k : Fin 3) (j : Fin 5632) : (iblk m c 3 t : Vec Ideal S3x5632 .f32) (ix2 k j) = argCw m c (ix2 k j) := by
  blk_ext! [iblk, V, idx t]

theorem iblk4_at (t : Fin cfg0.N) (j : Fin 5632) : (iblk m c 4 t : Vec Ideal S1x5632 .f32) (ix2 0 j) = argCb m c (ix1 j) := by
  blk_ext! [iblk, V, idx t]

theorem iblk5_at (t : Fin cfg0.N) (k : Fin 2816) (j : Fin 1024) : (iblk m c 5 t : Vec Ideal S2816x1024 .bf16) (ix2 k j) = argWd m c (ix2 k j) := by
  blk_ext! [iblk, V, idx t]

theorem iblk6_at (t : Fin cfg0.N) (k : Fin 1024) : (iblk m c 6 t : Vec Ideal S1x1024 .f32) (ix2 0 k) = argGf m c (ix1 k) := by
  blk_ext! [iblk, V, idx t]

/-- The arguments as the layer's functions. -/
abbrev X (b : Fin 8) (s : Fin 4096) (k : Fin 1024) : EReal := argX m c (ix3 b s k)
abbrev G (k : Fin 1024) : EReal := argG m c (ix1 k)
abbrev W (k : Fin 1024) (j : Fin 5632) : EReal := argW m c (ix2 k j)
abbrev Cw (i : Fin 3) (j : Fin 5632) : EReal := argCw m c (ix2 i j)
abbrev Cb (j : Fin 5632) : EReal := argCb m c (ix1 j)
abbrev Wd (i : Fin 2816) (j : Fin 1024) : EReal := argWd m c (ix2 i j)
abbrev Gf (k : Fin 1024) : EReal := argGf m c (ix1 k)

/-- The product the tile `n` holds at its row `r`. -/
theorem row_at (n : ℕ) (hn : n < cfg0.N) (r : Fin 512) (c' : Fin 5632) (b : Fin 8) (s : Fin 4096)
    (h : 4096 * b.val + s.val = 512 * n + r.val) :
    up (fun k => (iblk m c 0 ⟨n, hn⟩ : Vec Ideal S512x1024 .f32) (ix2 r k))
      (fun k => (iblk m c 1 ⟨n, hn⟩ : Vec Ideal S1x1024 .f32) (ix2 0 k))
      (fun k j => (iblk m c 2 ⟨n, hn⟩ : Vec Ideal S1024x5632 .bf16) (ix2 k j)) c' = up (X m c b s) (G m c) (W m c) c' := by
  refine congrFun (congr (congrArg₂ up (funext fun k => ?_) (funext fun k => ?_)) (funext fun k => funext fun j => ?_)) c'
  · exact iblk0_at m c ⟨n, hn⟩ r k b s h
  · exact iblk1_at m c ⟨n, hn⟩ k
  · exact iblk2_at m c ⟨n, hn⟩ k j

/-- The carry after the tile `n`. -/
theorem carry_at (n : ℕ) (hn : n < cfg0.N) (a : Fin 8) (c' : Fin 5632) (b : Fin 8) (s : Fin 4096)
    (h : 4096 * b.val + s.val = 512 * n + (504 + a.val)) :
    (outsAt0 m c n hn).2 (ix2 a c') = up (X m c b s) (G m c) (W m c) c' := by
  refine Eq.trans ?_ (row_at m c n hn ⟨504 + a.val, by omega⟩ c' b s h)
  by_cases h0 : n % 8 = 0
  · refine (congrArg (fun p => p.2 (ix2 a c')) (outsAt0_A m c ⟨n, hn⟩ h0)).trans ?_
    dsimp only
    exact carry_A_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) ((hcond0_0 ⟨n, hn⟩).mpr h0) a c'
  · have hn1 : n - 1 < cfg0.N := lt_of_le_of_lt (Nat.sub_le n 1) hn
    refine (congrArg (fun p => p.2 (ix2 a c')) (outsAt0_B m c ⟨n, hn⟩ h0)).trans ?_
    dsimp only
    exact carry_B_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (outsAt0 m c (n - 1) hn1).2 (fun h => h0 ((hcond0_0 ⟨n, hn⟩).mp h)) a c'

/-- What a tile writes is the layer, given what its taps are. -/
theorem down_at (n : ℕ) (hn : n < cfg0.N) (a : Fin 512) (j : Fin 1024) (b : Fin 8) (s : Fin 4096)
    (h : 4096 * b.val + s.val = 512 * n + a.val) (p : Fin 8 → Fin 5632 → EReal)
    (hp0 : n % 8 = 0 → ∀ r c, p r c = 0)
    (hp : ¬ n % 8 = 0 → ∀ (r : Fin 8) (s' : Fin 4096), 4096 * b.val + s'.val = 512 * (n - 1) + (504 + r.val) → ∀ c', p r c' = up (X m c b s') (G m c) (W m c) c') :
    down (fun k => (iblk m c 0 ⟨n, hn⟩ : Vec Ideal S512x1024 .f32) (ix2 a k))
      (gate (conv (fun i c' => (iblk m c 3 ⟨n, hn⟩ : Vec Ideal S3x5632 .f32) (ix2 i c')) (fun c' => (iblk m c 4 ⟨n, hn⟩ : Vec Ideal S1x5632 .f32) (ix2 0 c'))
        (wide p (fun a c' => up (fun k => (iblk m c 0 ⟨n, hn⟩ : Vec Ideal S512x1024 .f32) (ix2 a k))
      (fun k => (iblk m c 1 ⟨n, hn⟩ : Vec Ideal S1x1024 .f32) (ix2 0 k))
      (fun k j => (iblk m c 2 ⟨n, hn⟩ : Vec Ideal S1024x5632 .bf16) (ix2 k j)) c') 6 a)
        (wide p (fun a c' => up (fun k => (iblk m c 0 ⟨n, hn⟩ : Vec Ideal S512x1024 .f32) (ix2 a k))
      (fun k => (iblk m c 1 ⟨n, hn⟩ : Vec Ideal S1x1024 .f32) (ix2 0 k))
      (fun k j => (iblk m c 2 ⟨n, hn⟩ : Vec Ideal S1024x5632 .bf16) (ix2 k j)) c') 7 a)
        (fun c' => up (fun k => (iblk m c 0 ⟨n, hn⟩ : Vec Ideal S512x1024 .f32) (ix2 a k))
      (fun k => (iblk m c 1 ⟨n, hn⟩ : Vec Ideal S1x1024 .f32) (ix2 0 k))
      (fun k j => (iblk m c 2 ⟨n, hn⟩ : Vec Ideal S1024x5632 .bf16) (ix2 k j)) c')))
      (fun i j => (iblk m c 5 ⟨n, hn⟩ : Vec Ideal S2816x1024 .bf16) (ix2 i j)) j
    = layer (X m c) (G m c) (W m c) (Cw m c) (Cb m c) (Wd m c) b s j := by
  unfold layer
  refine congrFun (congr (congrArg₂ down (funext fun k => ?_) (congrArg gate ?_)) (funext fun i => funext fun j => ?_)) j
  · exact iblk0_at m c ⟨n, hn⟩ a k b s h
  · have hu : ∀ c' (a' : Fin 512) (s' : Fin 4096), 4096 * b.val + s'.val = 512 * n + a'.val →
        up (fun k => (iblk m c 0 ⟨n, hn⟩ : Vec Ideal S512x1024 .f32) (ix2 a' k))
          (fun k => (iblk m c 1 ⟨n, hn⟩ : Vec Ideal S1x1024 .f32) (ix2 0 k))
          (fun k j => (iblk m c 2 ⟨n, hn⟩ : Vec Ideal S1024x5632 .bf16) (ix2 k j)) c' = up (X m c b s') (G m c) (W m c) c' :=
      fun c' a' s' h' => row_at m c n hn a' c' b s' h'
    refine congr (congr (congr (congrArg₂ conv (funext fun i => funext fun c' => ?_) (funext fun c' => ?_)) (funext fun c' => ?_)) (funext fun c' => ?_)) (funext fun c' => ?_)
    · exact iblk3_at m c ⟨n, hn⟩ i c'
    · exact iblk4_at m c ⟨n, hn⟩ c'
    · exact wide_tap (X m c) (G m c) (W m c) p _ n 2 (by decide) b s a c' h (hu c') (fun h0 r => hp0 h0 r c') (fun h0 r s' h' => hp h0 r s' h' c')
    · exact wide_tap (X m c) (G m c) (W m c) p _ n 1 (by decide) b s a c' h (hu c') (fun h0 r => hp0 h0 r c') (fun h0 r s' h' => hp h0 r s' h' c')
    · exact hu c' a s h
  · exact iblk5_at m c ⟨n, hn⟩ i j

/-- The output block after the tile `n`. -/
theorem out_at (n : ℕ) (hn : n < cfg0.N) (a : Fin 512) (j : Fin 1024) (b : Fin 8) (s : Fin 4096)
    (h : 4096 * b.val + s.val = 512 * n + a.val) :
    (outsAt0 m c n hn).1 (ix2 a j) = nrm (layer (X m c) (G m c) (W m c) (Cw m c) (Cb m c) (Wd m c) b s) (Gf m c) j := by
  by_cases h0 : n % 8 = 0
  · refine (congrArg (fun p => p.1 (ix2 a j)) (outsAt0_A m c ⟨n, hn⟩ h0)).trans ?_
    dsimp only
    exact (out_A_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) ((hcond0_0 ⟨n, hn⟩).mpr h0) a j).trans (congrArg₂ (fun x g => nrm x g j) (funext fun j => down_at m c n hn a j b s h (fun _ _ => 0) (fun _ _ _ => rfl) (fun h => absurd h0 h)) (funext fun k => iblk6_at m c ⟨n, hn⟩ k))
  · have hn1 : n - 1 < cfg0.N := lt_of_le_of_lt (Nat.sub_le n 1) hn
    refine (congrArg (fun p => p.1 (ix2 a j)) (outsAt0_B m c ⟨n, hn⟩ h0)).trans ?_
    dsimp only
    refine (out_B_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (outsAt0 m c (n - 1) hn1).2 (fun h => h0 ((hcond0_0 ⟨n, hn⟩).mp h)) a j).trans (congrArg₂ (fun x g => nrm x g j) (funext fun j => down_at m c n hn a j b s h (fun r c' => (outsAt0 m c (n - 1) hn1).2 (ix2 r c')) (fun h => absurd h h0) ?_) (funext fun k => iblk6_at m c ⟨n, hn⟩ k))
    intro _ r s' h' c'
    exact carry_at m c (n - 1) _ r c' b s' h'

/-- The kernel's result at row `n`, column `j`. -/
theorem result_at (n : Fin 32768) (j : Fin 1024) (b : Fin 8) (s : Fin 4096) (h : 4096 * b.val + s.val = n.val) :
    Cert.Kernel2Ideal.Value.G7 m c (ix2 n j) = nrm (layer (X m c) (G m c) (W m c) (Cw m c) (Cb m c) (Wd m c) b s) (Gf m c) j := by
  have ht : n.val / 512 < cfg0.N := by rw [show cfg0.N = 64 from N_0]; omega
  have hp : Cert.Kernel2Ideal.Value.pt7Of (ix2 n j) = n.val / 512 := by
    show 1 * (n.val / 512 - 0) + 1 * (j.val / 1024 - 0) = n.val / 512
    omega
  unfold Cert.Kernel2Ideal.Value.G7
  rw [dif_pos (by rw [hp]; exact ht)]
  simp only [hp]
  rw [← Cert.Kernel2Ideal.Value.outsAt0_sweep m c (n.val / 512) ht]
  have hl : Cert.Kernel2Ideal.Value.loc7Of (ix2 n j) = ix2 ⟨n.val % 512, by omega⟩ j := by
    funext d
    refine Fin.ext ?_
    match d with
    | ⟨0, _⟩ => rfl
    | ⟨1, _⟩ => show j.val % 1024 = j.val; omega
  rw [hl]
  exact out_at m c (n.val / 512) ht ⟨n.val % 512, by omega⟩ j b s (by show 4096 * b.val + s.val = 512 * (n.val / 512) + n.val % 512; omega)

end Cert.Kernel2Ideal.Tile

end
-- ==== Proof.Tile3.lean ====
/-
What one point of the feed-forward kernel leaves: the output block, and the last eight rows of the
product that the next point's convolution takes.
-/
module

public import proofs.«01_k».proof.Proof.Plane
public import proofs.«01_k».proof.Proof.Gen.Kernel3Ideal.Value
public import Idealize.ShloMosaic.Lib.WritesUnit
public import Idealize.ShloMosaic.Lib.HeldBySlice

@[expose] public section

set_option maxRecDepth 16384

noncomputable section

namespace Cert.Kernel3Ideal.Tile

open Cert.Kernel3Ideal Cert.Kernel3Ideal.Gen Cert.Ffn
open Idealize.ShloMosaic Idealize.ShloMosaic.TcCoe

/-- A load of a whole array with one plane, at an index. -/
theorem load3 {m : Memref sig .tc .vmem S1x512x512 .bf16} (h : m.IsWhole) (X : Vec Ideal S1x512x512 .bf16) (inb) (i : Fin 512) (a : Fin 512) :
    View.readAt (Elt Ideal) m.view (Rect.unit (s := S1x512x512) ![0, 0, 0] S1x512x512.size inb).toLoadRect (h.unread X) (ix3 0 i a) = X (ix3 0 i a) := by
  refine (congrFun (h.read_unread X) _).trans (congrArg X ?_)
  funext d
  refine Fin.ext ?_
  match d with
  | ⟨0, _⟩ => rfl
  | ⟨1, _⟩ => show 0 + 1 * i.val = i.val; omega
  | ⟨2, _⟩ => show 0 + 1 * a.val = a.val; omega

/-- The block's row `a` after the mixers' outputs are added to it. -/
abbrev row (x0 : Vec Ideal S512x1024 .f32) (x1 : Vec Ideal S1x512x512 .bf16) (x2 : Vec Ideal S512x512 .bf16) (x3 : Vec Ideal S1024x1024 .bf16) (a : Fin 512) : Fin 1024 → EReal :=
  mix (fun k => x0 (ix2 a k)) (fun i => x1 (ix3 0 i a)) (fun i => x2 (ix2 a i)) (fun i k => x3 (ix2 i k))

/-! ## The payloads at an index -/

theorem pay2_at (v0 : Vec Ideal S1x512x512 .bf16) (v3 : Vec Ideal S512x512 .bf16) (v5 : Vec Ideal S512x1024 .f32) (v7 : Vec Ideal S1024x1024 .bf16) (a : Fin 512) (k : Fin 1024) :
    k0_pay2 v0 v3 v5 v7 (ix2 a k) = row v5 v0 v3 v7 a k := by
  pointwise [k0_pay2]
  rfl

theorem pay5_at (v0 : Vec Ideal S1x512x512 .bf16) (v3 : Vec Ideal S512x512 .bf16) (v5 : Vec Ideal S512x1024 .f32) (v7 : Vec Ideal S1024x1024 .bf16) (a : Fin 512) (k : Fin 1024) :
    k0_pay5 v0 v3 v5 v7 (ix2 a k) = Ideal.rsqrt (Ideal.div (∑ i, row v5 v0 v3 v7 a i * row v5 v0 v3 v7 a i) (Ideal.ofBits .f32 0x44800000#32) + Ideal.ofBits .f32 0x358637BD#32) := by
  simp only [← pay2_at]
  pointwise [k0_pay5]

theorem pay4_at (v : Vec Ideal S1x1024 .f32) (k : Fin 1024) : k0_pay4 v (ix2 0 k) = v (ix2 0 k) := by
  pointwise [k0_pay4]

theorem pay6_at (x : FVec Ideal S512x1024 .f32) (g : FVec Ideal S1x1024 .f32) (s : FVec Ideal S512x1024 .f32) (a : Fin 512) (k : Fin 1024) :
    k0_pay6 x g s (ix2 a k) = x (ix2 a k) * s (ix2 a k) * g (ix2 0 k) := by
  pointwise [k0_pay6]

theorem pay7_at (x : FVec Ideal S512x1024 .f32) (g : FVec Ideal S1x1024 .f32) (s : FVec Ideal S512x1024 .f32) (w : Vec Ideal S1024x2816 .bf16) (a : Fin 512) (c : Fin 2816) :
    k0_pay7 x g s w (ix2 a c) = ∑ k, k0_pay6 x g s (ix2 a k) * w (ix2 k c) := by
  pointwise [k0_pay7]

theorem pay13_at (h : FVec Ideal S512x1024 .bf16) (w : Vec Ideal S1024x2816 .bf16) (a : Fin 512) (c : Fin 2816) :
    k0_pay13 h w (ix2 a c) = ∑ k, h (ix2 a k) * w (ix2 k c) := by
  pointwise [k0_pay13]

theorem pay11_at (x : FVec Ideal S512x1024 .f32) (g : FVec Ideal S1x1024 .f32) (s : FVec Ideal S512x1024 .f32) (w : Vec Ideal S1024x2816 .bf16) (cw : Vec Ideal S3x2816 .f32)
    (y z : Vec Ideal S1x512x2816 .f32) (a : Fin 512) (c : Fin 2816) :
    k0_pay11 x g s w cw y z (ix2 a c) = cw (ix2 0 c) * y (ix3 0 a c) + cw (ix2 1 c) * z (ix3 0 a c) + cw (ix2 2 c) * k0_pay7 x g s w (ix2 a c) := by
  pointwise [k0_pay11]

theorem pay12_at (v : FVec Ideal S512x2816 .f32) (cb : Vec Ideal S1x2816 .f32) (a : Fin 512) (c : Fin 2816) :
    k0_pay12 v cb (ix2 a c) = v (ix2 a c) + cb (ix2 0 c) := by
  pointwise [k0_pay12]

theorem pay17_at (h : FVec Ideal S512x1024 .bf16) (w : Vec Ideal S1024x2816 .bf16) (cw : Vec Ideal S3x2816 .f32)
    (y z : Vec Ideal S1x512x2816 .f32) (a : Fin 512) (c : Fin 2816) :
    k0_pay17 h w cw y z (ix2 a c) = cw (ix2 0 c) * y (ix3 0 a c) + cw (ix2 1 c) * z (ix3 0 a c) + cw (ix2 2 c) * k0_pay13 h w (ix2 a c) := by
  pointwise [k0_pay17]

theorem pay1_at (x : FVec Ideal S512x1024 .f32) (v u : FVec Ideal S512x2816 .f32) (cb : Vec Ideal S1x2816 .f32) (w : Vec Ideal S2816x1024 .bf16) (a : Fin 512) (j : Fin 1024) :
    k0_pay1 x v u cb w (ix2 a j)
      = x (ix2 a j) + ∑ c, v (ix2 a c) * Ideal.logistic (v (ix2 a c)) * (u (ix2 a c) + cb (ix2 0 c)) * w (ix2 c j) := by
  simp only [← half_tanh]
  pointwise [k0_pay1]

theorem pay8_at (p : Vec Ideal S8x2816 .f32) (a : Fin 8) (c : Fin 2816) : k0_pay8 p (ix3 0 a c) = p (ix2 a c) := by
  pointwise [k0_pay8]
theorem pay14_at (p : Vec Ideal S8x2816 .f32) (a : Fin 8) (c : Fin 2816) : k0_pay14 p (ix3 0 a c) = p (ix2 a c) := by
  pointwise [k0_pay14]
theorem pay9_at (x : FVec Ideal S512x1024 .f32) (g : FVec Ideal S1x1024 .f32) (s : FVec Ideal S512x1024 .f32) (w : Vec Ideal S1024x2816 .bf16) (a : Fin 512) (c : Fin 2816) :
    k0_pay9 x g s w (ix3 0 a c) = k0_pay7 x g s w (ix2 a c) := by
  pointwise [k0_pay9]
theorem pay15_at (h : FVec Ideal S512x1024 .bf16) (w : Vec Ideal S1024x2816 .bf16) (a : Fin 512) (c : Fin 2816) :
    k0_pay15 h w (ix3 0 a c) = k0_pay13 h w (ix2 a c) := by
  pointwise [k0_pay15]
theorem pay10_at (x : FVec Ideal S512x1024 .f32) (g : FVec Ideal S1x1024 .f32) (s : FVec Ideal S512x1024 .f32) (w : Vec Ideal S1024x2816 .bf16) (a : Fin 8) (c : Fin 2816) :
    k0_pay10 x g s w (ix2 a c) = k0_pay7 x g s w (ix2 ⟨504 + a.val, by omega⟩ c) := by
  pointwise [k0_pay10]
theorem pay16_at (h : FVec Ideal S512x1024 .bf16) (w : Vec Ideal S1024x2816 .bf16) (a : Fin 8) (c : Fin 2816) :
    k0_pay16 h w (ix2 a c) = k0_pay13 h w (ix2 ⟨504 + a.val, by omega⟩ c) := by
  pointwise [k0_pay16]
theorem pay3_at (a : Fin 8) (c : Fin 5632) : k0_pay3 (F := Ideal) (ix2 a c) = 0 := by
  pointwise [k0_pay3]

section CaseA

variable (c : Dev nD)
  (i : grid0.Coords)
  (p1 : Memref sig .tc .vmem S512x1024 .f32)
  (q1 : p1.IsWhole)
  (p2 : Memref sig .tc .vmem S1x512x512 .bf16)
  (q2 : p2.IsWhole)
  (p3 : Memref sig .tc .vmem S512x512 .bf16)
  (q3 : p3.IsWhole)
  (p4 : Memref sig .tc .vmem S1024x1024 .bf16)
  (q4 : p4.IsWhole)
  (p5 : Memref sig .tc .vmem S1x1024 .f32)
  (q5 : p5.IsWhole)
  (p6 : Memref sig .tc .vmem S1024x5632 .bf16)
  (q6 : p6.IsWhole)
  (p7 : Memref sig .tc .vmem S3x5632 .f32)
  (q7 : p7.IsWhole)
  (p8 : Memref sig .tc .vmem S1x5632 .f32)
  (q8 : p8.IsWhole)
  (p9 : Memref sig .tc .vmem S2816x1024 .bf16)
  (q9 : p9.IsWhole)
  (p10 : Memref sig .tc .vmem S1x1024 .f32)
  (q10 : p10.IsWhole)
  (p11 : Memref sig .tc .vmem S512x1024 .f32)
  (q11 : p11.IsWhole)
  (p12 : Memref sig .tc .vmem S2x520x2816 .f32)
  (q12 : p12.IsWhole)
  (p13 : Memref sig .tc .vmem S8x5632 .f32)
  (q13 : p13.IsWhole)
  (x0 : Vec Ideal S512x1024 .f32)
  (x1 : Vec Ideal S1x512x512 .bf16)
  (x2 : Vec Ideal S512x512 .bf16)
  (x3 : Vec Ideal S1024x1024 .bf16)
  (x4 : Vec Ideal S1x1024 .f32)
  (x5 : Vec Ideal S1024x5632 .bf16)
  (x6 : Vec Ideal S3x5632 .f32)
  (x7 : Vec Ideal S1x5632 .f32)
  (x8 : Vec Ideal S2816x1024 .bf16)
  (x9 : Vec Ideal S1x1024 .f32) (hc0 : cond0_0 i)

theorem row_A (a : Fin 512) (k : Fin 1024) : kernelRun0_A.sl.r (F := Ideal) c p1 q1 p2 q2 p3 q3 p4 q4 x0 x1 x2 x3 (ix2 a k) = row x0 x1 x2 x3 a k := by
  unfold kernelRun0_A.sl.r
  rw [pay2_at]
  exact congrFun (congr (congr (congrArg₂ mix (funext fun k => load2 _ _ ![0, 0] _ _ _ (Nat.zero_add _).symm (Nat.zero_add _).symm) (funext fun i => load3 ..)) (funext fun i => load2 _ _ ![0, 0] _ _ _ (Nat.zero_add _).symm (Nat.zero_add _).symm)) (funext fun i => funext fun k => load2 _ _ ![0, 0] _ _ _ (Nat.zero_add _).symm (Nat.zero_add _).symm)) k

theorem hid_A (a : Fin 512) (k : Fin 1024) : k0_pay6 (kernelRun0_A.sl.r (F := Ideal) c p1 q1 p2 q2 p3 q3 p4 q4 x0 x1 x2 x3) (kernelRun0_A.sl.r_1 (F := Ideal) c p5 q5 x4) (kernelRun0_A.sl.r_2 (F := Ideal) c p1 q1 p2 q2 p3 q3 p4 q4 x0 x1 x2 x3) (ix2 a k)
    = nrm (row x0 x1 x2 x3 a) (fun k => x4 (ix2 0 k)) k := by
  rw [pay6_at, row_A]
  unfold kernelRun0_A.sl.r_1 kernelRun0_A.sl.r_2 nrm
  rw [pay4_at, pay5_at]
  refine congrArg₂ (· * ·) (congrArg (row x0 x1 x2 x3 a k * ·) ?_) (load2 _ _ ![0, 0] _ _ _ (Nat.zero_add _).symm (Nat.zero_add _).symm)
  have h : ∀ k, row (View.readAt (Elt Ideal) p1.view (Rect.unit (s := S512x1024) ![0, 0] S512x1024.size inb_S512x1024_S512x1024_0_0).toLoadRect (q1.unread x0)) (View.readAt (Elt Ideal) p2.view (Rect.unit (s := S1x512x512) ![0, 0, 0] S1x512x512.size inb_S1x512x512_S1x512x512_0_0_0).toLoadRect (q2.unread x1)) (View.readAt (Elt Ideal) p3.view (Rect.unit (s := S512x512) ![0, 0] S512x512.size inb_S512x512_S512x512_0_0).toLoadRect (q3.unread x2)) (View.readAt (Elt Ideal) p4.view (Rect.unit (s := S1024x1024) ![0, 0] S1024x1024.size inb_S1024x1024_S1024x1024_0_0).toLoadRect (q4.unread x3)) a k = row x0 x1 x2 x3 a k := by
    intro k
    have e : kernelRun0_A.sl.r (F := Ideal) c p1 q1 p2 q2 p3 q3 p4 q4 x0 x1 x2 x3 (ix2 a k) = row x0 x1 x2 x3 a k := by apply row_A
    unfold kernelRun0_A.sl.r at e
    rw [pay2_at] at e
    exact e
  simp only [h]

theorem u0_A (a : Fin 512) (c' : Fin 2816) : k0_pay7 (kernelRun0_A.sl.r (F := Ideal) c p1 q1 p2 q2 p3 q3 p4 q4 x0 x1 x2 x3) (kernelRun0_A.sl.r_1 (F := Ideal) c p5 q5 x4) (kernelRun0_A.sl.r_2 (F := Ideal) c p1 q1 p2 q2 p3 q3 p4 q4 x0 x1 x2 x3) (View.readAt (Elt Ideal) p6.view (Rect.unit (s := S1024x5632) ![0, 0] S1024x2816.size inb_S1024x5632_S1024x2816_0_0).toLoadRect (q6.unread x5)) (ix2 a c')
    = up (row x0 x1 x2 x3 a) (fun k => x4 (ix2 0 k)) (fun k c => x5 (ix2 k c)) ⟨c'.val, by omega⟩ := by
  rw [pay7_at]
  unfold up
  exact Finset.sum_congr rfl fun k _ => congrArg₂ (· * ·) (by apply hid_A) (load2 _ _ _ _ _ _ (Nat.zero_add _).symm (by show c'.val = 0 + c'.val; omega))

theorem u1_A (a : Fin 512) (c' : Fin 2816) : k0_pay13 (kernelRun0_A.sl.r_3 (F := Ideal) c p1 q1 p2 q2 p3 q3 p4 q4 p5 q5 x0 x1 x2 x3 x4) (View.readAt (Elt Ideal) p6.view (Rect.unit (s := S1024x5632) ![0, 2816] S1024x2816.size inb_S1024x5632_S1024x2816_0_2816).toLoadRect (q6.unread x5)) (ix2 a c')
    = up (row x0 x1 x2 x3 a) (fun k => x4 (ix2 0 k)) (fun k c => x5 (ix2 k c)) ⟨2816 + c'.val, by omega⟩ := by
  rw [pay13_at]
  unfold kernelRun0_A.sl.r_3 up
  exact Finset.sum_congr rfl fun k _ => congrArg₂ (· * ·) (by apply hid_A) (load2 _ _ _ _ _ _ (Nat.zero_add _).symm rfl)

theorem p0_A (a : Fin 8) (c' : Fin 2816) : kernelRun0_A.sl.v42 (F := Ideal) c p13 (ix2 a c') = 0 := by
  unfold kernelRun0_A.sl.v42 kernelRun0_A.sl.HS1_1
  show p13.view.read (Elt Ideal) (p13.view.writes (Elt Ideal) p13.view.junk _) ((Rect.unit (s := S8x5632) ![0, 0] S8x2816.size _).toLoadRect.idx (ix2 a c')) = _
  refine (View.read_writes_cons_unit_of_mem p13.view _ _ _ _ _ (ix2 a ⟨c'.val, by omega⟩) rfl (by
    intro x
    match x with
    | ⟨0, _⟩ => show 0 + 1 * a.val = 0 + a.val; omega
    | ⟨1, _⟩ => show 0 + 1 * c'.val = 0 + c'.val; omega)).trans ?_
  exact pay3_at _ _

theorem p1_A (a : Fin 8) (c' : Fin 2816) : kernelRun0_A.sl.v76 (F := Ideal) c p1 q1 p2 q2 p3 q3 p4 q4 p5 q5 p6 q6 p13 x0 x1 x2 x3 x4 x5 (ix2 a c') = 0 := by
  unfold kernelRun0_A.sl.v76 kernelRun0_A.sl.HS1_2 kernelRun0_A.sl.HS1_1
  show p13.view.read (Elt Ideal) (p13.view.writes (Elt Ideal) p13.view.junk _) ((Rect.unit (s := S8x5632) ![0, 2816] S8x2816.size _).toLoadRect.idx (ix2 a c')) = _
  refine (View.read_writes_cons_unit_of_not_mem p13.view _ _ _ _ _ rfl (1 : Fin 2) (Or.inr (by
      show 0 + 2816 ≤ 2816 + 1 * c'.val; omega))).trans ?_
  refine (View.read_writes_cons_unit_of_mem p13.view _ _ _ _ _ (ix2 a ⟨2816 + c'.val, by omega⟩) rfl (by
    intro x
    match x with
    | ⟨0, _⟩ => show 0 + 1 * a.val = 0 + a.val; omega
    | ⟨1, _⟩ => show 2816 + 1 * c'.val = 0 + (2816 + c'.val); omega)).trans ?_
  exact pay3_at _ _

theorem v55_A (a : Fin 512) (c' : Fin 2816) : kernelRun0_A.sl.v55 (F := Ideal) c p1 q1 p2 q2 p3 q3 p4 q4 p5 q5 p6 q6 p12 p13 x0 x1 x2 x3 x4 x5 (ix3 0 a c')
    = back (fun _ _ => 0)
        (fun a c => up (row x0 x1 x2 x3 a) (fun k => x4 (ix2 0 k)) (fun k c => x5 (ix2 k c)) ⟨c.val, by omega⟩) 6 a c' := by
  unfold kernelRun0_A.sl.v55 kernelRun0_A.sl.HS0_2
  rw [readCov_plane p12.view 0 6 (by omega)]
  refine congrArg₂ (fun p u => back p u 6 a c') (funext fun r => funext fun c' => ?_) (funext fun r => funext fun c' => ?_)
  · rw [pay8_at]
    apply p0_A
  · rw [pay9_at]
    apply u0_A

theorem v60_A (a : Fin 512) (c' : Fin 2816) : kernelRun0_A.sl.v60 (F := Ideal) c p1 q1 p2 q2 p3 q3 p4 q4 p5 q5 p6 q6 p12 p13 x0 x1 x2 x3 x4 x5 (ix3 0 a c')
    = back (fun _ _ => 0)
        (fun a c => up (row x0 x1 x2 x3 a) (fun k => x4 (ix2 0 k)) (fun k c => x5 (ix2 k c)) ⟨c.val, by omega⟩) 7 a c' := by
  unfold kernelRun0_A.sl.v60 kernelRun0_A.sl.HS0_2
  rw [readCov_plane p12.view 0 7 (by omega)]
  refine congrArg₂ (fun p u => back p u 7 a c') (funext fun r => funext fun c' => ?_) (funext fun r => funext fun c' => ?_)
  · rw [pay8_at]
    apply p0_A
  · rw [pay9_at]
    apply u0_A

theorem v89_A (a : Fin 512) (c' : Fin 2816) : kernelRun0_A.sl.v89 (F := Ideal) c p1 q1 p2 q2 p3 q3 p4 q4 p5 q5 p6 q6 p12 p13 x0 x1 x2 x3 x4 x5 (ix3 0 a c')
    = back (fun _ _ => 0)
        (fun a c => up (row x0 x1 x2 x3 a) (fun k => x4 (ix2 0 k)) (fun k c => x5 (ix2 k c)) ⟨2816 + c.val, by omega⟩) 6 a c' := by
  unfold kernelRun0_A.sl.v89 kernelRun0_A.sl.HS0_4
  rw [readCov_plane p12.view 1 6 (by omega)]
  refine congrArg₂ (fun p u => back p u 6 a c') (funext fun r => funext fun c' => ?_) (funext fun r => funext fun c' => ?_)
  · rw [pay14_at]
    apply p1_A
  · rw [pay15_at]
    apply u1_A

theorem v94_A (a : Fin 512) (c' : Fin 2816) : kernelRun0_A.sl.v94 (F := Ideal) c p1 q1 p2 q2 p3 q3 p4 q4 p5 q5 p6 q6 p12 p13 x0 x1 x2 x3 x4 x5 (ix3 0 a c')
    = back (fun _ _ => 0)
        (fun a c => up (row x0 x1 x2 x3 a) (fun k => x4 (ix2 0 k)) (fun k c => x5 (ix2 k c)) ⟨2816 + c.val, by omega⟩) 7 a c' := by
  unfold kernelRun0_A.sl.v94 kernelRun0_A.sl.HS0_4
  rw [readCov_plane p12.view 1 7 (by omega)]
  refine congrArg₂ (fun p u => back p u 7 a c') (funext fun r => funext fun c' => ?_) (funext fun r => funext fun c' => ?_)
  · rw [pay14_at]
    apply p1_A
  · rw [pay15_at]
    apply u1_A

/-- The convolution of the block's row `a`: the rows before it are the block's, or carried. -/
abbrev conv_A (x0 : Vec Ideal S512x1024 .f32) (x1 : Vec Ideal S1x512x512 .bf16) (x2 : Vec Ideal S512x512 .bf16) (x3 : Vec Ideal S1024x1024 .bf16) (x4 : Vec Ideal S1x1024 .f32) (x5 : Vec Ideal S1024x5632 .bf16) (x6 : Vec Ideal S3x5632 .f32) (x7 : Vec Ideal S1x5632 .f32) (x8 : Vec Ideal S2816x1024 .bf16) (x9 : Vec Ideal S1x1024 .f32) (a : Fin 512) : Fin 5632 → EReal :=
  conv (fun i c => x6 (ix2 i c)) (fun c => x7 (ix2 0 c)) (wide (fun _ _ => 0) (fun a c => up (row x0 x1 x2 x3 a) (fun k => x4 (ix2 0 k)) (fun k c => x5 (ix2 k c)) c) 6 a) (wide (fun _ _ => 0) (fun a c => up (row x0 x1 x2 x3 a) (fun k => x4 (ix2 0 k)) (fun k c => x5 (ix2 k c)) c) 7 a) ((fun a c => up (row x0 x1 x2 x3 a) (fun k => x4 (ix2 0 k)) (fun k c => x5 (ix2 k c)) c) a)

theorem lo_A (a : Fin 512) (c' : Fin 2816) : kernelRun0_A.sl.r_5 (F := Ideal) c p1 q1 p2 q2 p3 q3 p4 q4 p5 q5 p6 q6 p7 q7 p8 q8 p12 p13 x0 x1 x2 x3 x4 x5 x6 x7 (ix2 a c') = conv_A x0 x1 x2 x3 x4 x5 x6 x7 x8 x9 a ⟨c'.val, by omega⟩ := by
  unfold kernelRun0_A.sl.r_5 kernelRun0_A.sl.r_4
  rw [pay12_at, pay11_at, v55_A, v60_A, u0_A]
  refine congrArg₂ (· + ·) (congrArg₂ (· + ·) (congrArg₂ (· + ·) (congrArg₂ (· * ·) (load2 _ _ _ _ _ _ ?_ ?_) ?_) (congrArg₂ (· * ·) (load2 _ _ _ _ _ _ ?_ ?_) ?_)) (congrArg₂ (· * ·) (load2 _ _ _ _ _ _ ?_ ?_) ?_)) (load2 _ _ _ _ _ _ ?_ ?_) <;> first | rfl | (exact (Nat.zero_add _).symm) | (exact (wide_lo _ _ _ _ _ _).symm)

theorem hi_A (a : Fin 512) (c' : Fin 2816) : kernelRun0_A.sl.r_6 (F := Ideal) c p1 q1 p2 q2 p3 q3 p4 q4 p5 q5 p6 q6 p7 q7 p12 p13 x0 x1 x2 x3 x4 x5 x6 (ix2 a c')
    + View.readAt (Elt Ideal) p8.view (Rect.unit (s := S1x5632) ![0, 2816] S1x2816.size inb_S1x5632_S1x2816_0_2816).toLoadRect (q8.unread x7) (ix2 0 c')
    = conv_A x0 x1 x2 x3 x4 x5 x6 x7 x8 x9 a ⟨2816 + c'.val, by omega⟩ := by
  unfold kernelRun0_A.sl.r_6
  rw [pay17_at, v89_A, v94_A, u1_A]
  refine congrArg₂ (· + ·) (congrArg₂ (· + ·) (congrArg₂ (· + ·) (congrArg₂ (· * ·) (load2 _ _ _ _ _ _ ?_ ?_) ?_) (congrArg₂ (· * ·) (load2 _ _ _ _ _ _ ?_ ?_) ?_)) (congrArg₂ (· * ·) (load2 _ _ _ _ _ _ ?_ ?_) ?_)) (load2 _ _ _ _ _ _ ?_ ?_) <;> first | rfl | (exact (Nat.zero_add _).symm) | (exact (wide_hi _ _ _ _ _ _).symm)

/-- The output block at row `a`, column `j`. -/
theorem out_A_at (a : Fin 512) (j : Fin 1024) : out0_A_10 (F := Ideal) c i p1 q1 p2 q2 p3 q3 p4 q4 p5 q5 p6 q6 p7 q7 p8 q8 p9 q9 p10 q10 p11 q11 p12 q12 p13 q13 hc0 x0 x1 x2 x3 x4 x5 x6 x7 x8 x9 (ix2 a j)
    = down (row x0 x1 x2 x3 a) (gate (conv_A x0 x1 x2 x3 x4 x5 x6 x7 x8 x9 a)) (fun c j => x8 (ix2 c j)) j := by
  unfold out0_A_10 kernelRun0_A
  dsimp only
  refine (View.read_writes_cons_unit_of_mem VO0_10 _ _ _ _ _ (ix2 a j) rfl (by
    intro x
    match x with
    | ⟨0, _⟩ => show a.val = 0 + a.val; omega
    | ⟨1, _⟩ => show j.val = 0 + j.val; omega)).trans ?_
  rw [pay1_at, row_A]
  have hl : ∀ k, kernelRun0_A.sl.r_5 (F := Ideal) c p1 q1 p2 q2 p3 q3 p4 q4 p5 q5 p6 q6 p7 q7 p8 q8 p12 p13 x0 x1 x2 x3 x4 x5 x6 x7 (ix2 a k) = conv_A x0 x1 x2 x3 x4 x5 x6 x7 x8 x9 a ⟨k.val, by omega⟩ := by
    intro k; apply lo_A
  have hh : ∀ k : Fin 2816, kernelRun0_A.sl.r_6 (F := Ideal) c p1 q1 p2 q2 p3 q3 p4 q4 p5 q5 p6 q6 p7 q7 p12 p13 x0 x1 x2 x3 x4 x5 x6 (ix2 a k)
    + View.readAt (Elt Ideal) p8.view (Rect.unit (s := S1x5632) ![0, 2816] S1x2816.size inb_S1x5632_S1x2816_0_2816).toLoadRect (q8.unread x7) (ix2 0 k)
    = conv_A x0 x1 x2 x3 x4 x5 x6 x7 x8 x9 a ⟨2816 + k.val, by omega⟩ := by
    intro k; apply hi_A
  generalize conv_A x0 x1 x2 x3 x4 x5 x6 x7 x8 x9 a = p at hl hh ⊢
  unfold down gate
  refine congrArg₂ (· + ·) rfl (Finset.sum_congr rfl fun k _ => congrArg₂ (· * ·) (congrArg₂ (· * ·) (congrArg (fun x => x * Ideal.logistic x) (hl k)) (hh k)) ?_)
  exact load2 _ _ ![0, 0] _ _ _ (Nat.zero_add _).symm (Nat.zero_add _).symm

/-- What is carried on: the last eight rows of the product. -/
theorem carry_A_at (a : Fin 8) (c' : Fin 5632) : sout0_A_1 (F := Ideal) c i p1 q1 p2 q2 p3 q3 p4 q4 p5 q5 p6 q6 p7 q7 p8 q8 p9 q9 p10 q10 p11 q11 p12 q12 p13 q13 hc0 x0 x1 x2 x3 x4 x5 x6 x7 x8 x9 (ix2 a c')
    = up (row x0 x1 x2 x3 ⟨504 + a.val, by omega⟩) (fun k => x4 (ix2 0 k)) (fun k c => x5 (ix2 k c)) c' := by
  unfold sout0_A_1 kernelRun0_A
  dsimp only
  by_cases h : c'.val < 2816
  · refine (View.read_writes_cons_unit_of_not_mem VS0_1 _ _ _ _ _ rfl (1 : Fin 2) (Or.inl (by show c'.val < 2816; omega))).trans ?_
    refine (View.read_writes_cons_unit_of_mem VS0_1 _ _ _ _ _ (ix2 a ⟨c'.val, h⟩) rfl (by
      intro x
      match x with
      | ⟨0, _⟩ => show a.val = 0 + a.val; omega
      | ⟨1, _⟩ => show c'.val = 0 + c'.val; omega)).trans ?_
    rw [pay10_at, u0_A]
  · have hc := c'.isLt
    refine (View.read_writes_cons_unit_of_mem VS0_1 _ _ _ _ _ (ix2 a ⟨c'.val - 2816, by omega⟩) rfl (by
      intro x
      match x with
      | ⟨0, _⟩ => show a.val = 0 + a.val; omega
      | ⟨1, _⟩ => show c'.val = 2816 + (c'.val - 2816); omega)).trans ?_
    rw [pay16_at, u1_A]
    congr 1
    exact Fin.ext (by show 2816 + (c'.val - 2816) = c'.val; omega)

end CaseA

section CaseB

variable (c : Dev nD)
  (i : grid0.Coords)
  (p1 : Memref sig .tc .vmem S512x1024 .f32)
  (q1 : p1.IsWhole)
  (p2 : Memref sig .tc .vmem S1x512x512 .bf16)
  (q2 : p2.IsWhole)
  (p3 : Memref sig .tc .vmem S512x512 .bf16)
  (q3 : p3.IsWhole)
  (p4 : Memref sig .tc .vmem S1024x1024 .bf16)
  (q4 : p4.IsWhole)
  (p5 : Memref sig .tc .vmem S1x1024 .f32)
  (q5 : p5.IsWhole)
  (p6 : Memref sig .tc .vmem S1024x5632 .bf16)
  (q6 : p6.IsWhole)
  (p7 : Memref sig .tc .vmem S3x5632 .f32)
  (q7 : p7.IsWhole)
  (p8 : Memref sig .tc .vmem S1x5632 .f32)
  (q8 : p8.IsWhole)
  (p9 : Memref sig .tc .vmem S2816x1024 .bf16)
  (q9 : p9.IsWhole)
  (p10 : Memref sig .tc .vmem S1x1024 .f32)
  (q10 : p10.IsWhole)
  (p11 : Memref sig .tc .vmem S512x1024 .f32)
  (q11 : p11.IsWhole)
  (p12 : Memref sig .tc .vmem S2x520x2816 .f32)
  (q12 : p12.IsWhole)
  (p13 : Memref sig .tc .vmem S8x5632 .f32)
  (q13 : p13.IsWhole)
  (x0 : Vec Ideal S512x1024 .f32)
  (x1 : Vec Ideal S1x512x512 .bf16)
  (x2 : Vec Ideal S512x512 .bf16)
  (x3 : Vec Ideal S1024x1024 .bf16)
  (x4 : Vec Ideal S1x1024 .f32)
  (x5 : Vec Ideal S1024x5632 .bf16)
  (x6 : Vec Ideal S3x5632 .f32)
  (x7 : Vec Ideal S1x5632 .f32)
  (x8 : Vec Ideal S2816x1024 .bf16)
  (x9 : Vec Ideal S1x1024 .f32)
  (xs1 : Vec Ideal S8x5632 .f32) (hc0 : ¬cond0_0 i)

theorem row_B (a : Fin 512) (k : Fin 1024) : kernelRun0_B.sl.r (F := Ideal) c p1 q1 p2 q2 p3 q3 p4 q4 x0 x1 x2 x3 (ix2 a k) = row x0 x1 x2 x3 a k := by
  unfold kernelRun0_B.sl.r
  rw [pay2_at]
  exact congrFun (congr (congr (congrArg₂ mix (funext fun k => load2 _ _ ![0, 0] _ _ _ (Nat.zero_add _).symm (Nat.zero_add _).symm) (funext fun i => load3 ..)) (funext fun i => load2 _ _ ![0, 0] _ _ _ (Nat.zero_add _).symm (Nat.zero_add _).symm)) (funext fun i => funext fun k => load2 _ _ ![0, 0] _ _ _ (Nat.zero_add _).symm (Nat.zero_add _).symm)) k

theorem hid_B (a : Fin 512) (k : Fin 1024) : k0_pay6 (kernelRun0_B.sl.r (F := Ideal) c p1 q1 p2 q2 p3 q3 p4 q4 x0 x1 x2 x3) (kernelRun0_B.sl.r_1 (F := Ideal) c p5 q5 x4) (kernelRun0_B.sl.r_2 (F := Ideal) c p1 q1 p2 q2 p3 q3 p4 q4 x0 x1 x2 x3) (ix2 a k)
    = nrm (row x0 x1 x2 x3 a) (fun k => x4 (ix2 0 k)) k := by
  rw [pay6_at, row_B]
  unfold kernelRun0_B.sl.r_1 kernelRun0_B.sl.r_2 nrm
  rw [pay4_at, pay5_at]
  refine congrArg₂ (· * ·) (congrArg (row x0 x1 x2 x3 a k * ·) ?_) (load2 _ _ ![0, 0] _ _ _ (Nat.zero_add _).symm (Nat.zero_add _).symm)
  have h : ∀ k, row (View.readAt (Elt Ideal) p1.view (Rect.unit (s := S512x1024) ![0, 0] S512x1024.size inb_S512x1024_S512x1024_0_0).toLoadRect (q1.unread x0)) (View.readAt (Elt Ideal) p2.view (Rect.unit (s := S1x512x512) ![0, 0, 0] S1x512x512.size inb_S1x512x512_S1x512x512_0_0_0).toLoadRect (q2.unread x1)) (View.readAt (Elt Ideal) p3.view (Rect.unit (s := S512x512) ![0, 0] S512x512.size inb_S512x512_S512x512_0_0).toLoadRect (q3.unread x2)) (View.readAt (Elt Ideal) p4.view (Rect.unit (s := S1024x1024) ![0, 0] S1024x1024.size inb_S1024x1024_S1024x1024_0_0).toLoadRect (q4.unread x3)) a k = row x0 x1 x2 x3 a k := by
    intro k
    have e : kernelRun0_B.sl.r (F := Ideal) c p1 q1 p2 q2 p3 q3 p4 q4 x0 x1 x2 x3 (ix2 a k) = row x0 x1 x2 x3 a k := by apply row_B
    unfold kernelRun0_B.sl.r at e
    rw [pay2_at] at e
    exact e
  simp only [h]

theorem u0_B (a : Fin 512) (c' : Fin 2816) : k0_pay7 (kernelRun0_B.sl.r (F := Ideal) c p1 q1 p2 q2 p3 q3 p4 q4 x0 x1 x2 x3) (kernelRun0_B.sl.r_1 (F := Ideal) c p5 q5 x4) (kernelRun0_B.sl.r_2 (F := Ideal) c p1 q1 p2 q2 p3 q3 p4 q4 x0 x1 x2 x3) (View.readAt (Elt Ideal) p6.view (Rect.unit (s := S1024x5632) ![0, 0] S1024x2816.size inb_S1024x5632_S1024x2816_0_0).toLoadRect (q6.unread x5)) (ix2 a c')
    = up (row x0 x1 x2 x3 a) (fun k => x4 (ix2 0 k)) (fun k c => x5 (ix2 k c)) ⟨c'.val, by omega⟩ := by
  rw [pay7_at]
  unfold up
  exact Finset.sum_congr rfl fun k _ => congrArg₂ (· * ·) (by apply hid_B) (load2 _ _ _ _ _ _ (Nat.zero_add _).symm (by show c'.val = 0 + c'.val; omega))

theorem u1_B (a : Fin 512) (c' : Fin 2816) : k0_pay13 (kernelRun0_B.sl.r_3 (F := Ideal) c p1 q1 p2 q2 p3 q3 p4 q4 p5 q5 x0 x1 x2 x3 x4) (View.readAt (Elt Ideal) p6.view (Rect.unit (s := S1024x5632) ![0, 2816] S1024x2816.size inb_S1024x5632_S1024x2816_0_2816).toLoadRect (q6.unread x5)) (ix2 a c')
    = up (row x0 x1 x2 x3 a) (fun k => x4 (ix2 0 k)) (fun k c => x5 (ix2 k c)) ⟨2816 + c'.val, by omega⟩ := by
  rw [pay13_at]
  unfold kernelRun0_B.sl.r_3 up
  exact Finset.sum_congr rfl fun k _ => congrArg₂ (· * ·) (by apply hid_B) (load2 _ _ _ _ _ _ (Nat.zero_add _).symm rfl)

theorem p0_B (a : Fin 8) (c' : Fin 2816) : (View.readAt (Elt Ideal) p13.view (Rect.unit (s := S8x5632) ![0, 0] S8x2816.size inb_S8x5632_S8x2816_0_0).toLoadRect (q13.unread xs1)) (ix2 a c') = xs1 (ix2 a ⟨c'.val, by omega⟩) :=
  load2 _ _ _ _ _ _ (Nat.zero_add _).symm (by show c'.val = 0 + c'.val; omega)

theorem p1_B (a : Fin 8) (c' : Fin 2816) : kernelRun0_B.sl.v76 (F := Ideal) c p13 q13 xs1 (ix2 a c') = xs1 (ix2 a ⟨2816 + c'.val, by omega⟩) := by
  unfold kernelRun0_B.sl.v76
  exact load2 _ _ _ _ _ _ (Nat.zero_add _).symm rfl

theorem v55_B (a : Fin 512) (c' : Fin 2816) : kernelRun0_B.sl.v55 (F := Ideal) c p1 q1 p2 q2 p3 q3 p4 q4 p5 q5 p6 q6 p12 p13 q13 x0 x1 x2 x3 x4 x5 xs1 (ix3 0 a c')
    = back (fun r c => xs1 (ix2 r ⟨c.val, by omega⟩))
        (fun a c => up (row x0 x1 x2 x3 a) (fun k => x4 (ix2 0 k)) (fun k c => x5 (ix2 k c)) ⟨c.val, by omega⟩) 6 a c' := by
  unfold kernelRun0_B.sl.v55 kernelRun0_B.sl.HS0_2
  rw [readCov_plane p12.view 0 6 (by omega)]
  refine congrArg₂ (fun p u => back p u 6 a c') (funext fun r => funext fun c' => ?_) (funext fun r => funext fun c' => ?_)
  · rw [pay8_at]
    apply p0_B
  · rw [pay9_at]
    apply u0_B

theorem v60_B (a : Fin 512) (c' : Fin 2816) : kernelRun0_B.sl.v60 (F := Ideal) c p1 q1 p2 q2 p3 q3 p4 q4 p5 q5 p6 q6 p12 p13 q13 x0 x1 x2 x3 x4 x5 xs1 (ix3 0 a c')
    = back (fun r c => xs1 (ix2 r ⟨c.val, by omega⟩))
        (fun a c => up (row x0 x1 x2 x3 a) (fun k => x4 (ix2 0 k)) (fun k c => x5 (ix2 k c)) ⟨c.val, by omega⟩) 7 a c' := by
  unfold kernelRun0_B.sl.v60 kernelRun0_B.sl.HS0_2
  rw [readCov_plane p12.view 0 7 (by omega)]
  refine congrArg₂ (fun p u => back p u 7 a c') (funext fun r => funext fun c' => ?_) (funext fun r => funext fun c' => ?_)
  · rw [pay8_at]
    apply p0_B
  · rw [pay9_at]
    apply u0_B

theorem v89_B (a : Fin 512) (c' : Fin 2816) : kernelRun0_B.sl.v89 (F := Ideal) c p1 q1 p2 q2 p3 q3 p4 q4 p5 q5 p6 q6 p12 p13 q13 x0 x1 x2 x3 x4 x5 xs1 (ix3 0 a c')
    = back (fun r c => xs1 (ix2 r ⟨2816 + c.val, by omega⟩))
        (fun a c => up (row x0 x1 x2 x3 a) (fun k => x4 (ix2 0 k)) (fun k c => x5 (ix2 k c)) ⟨2816 + c.val, by omega⟩) 6 a c' := by
  unfold kernelRun0_B.sl.v89 kernelRun0_B.sl.HS0_4
  rw [readCov_plane p12.view 1 6 (by omega)]
  refine congrArg₂ (fun p u => back p u 6 a c') (funext fun r => funext fun c' => ?_) (funext fun r => funext fun c' => ?_)
  · rw [pay14_at]
    apply p1_B
  · rw [pay15_at]
    apply u1_B

theorem v94_B (a : Fin 512) (c' : Fin 2816) : kernelRun0_B.sl.v94 (F := Ideal) c p1 q1 p2 q2 p3 q3 p4 q4 p5 q5 p6 q6 p12 p13 q13 x0 x1 x2 x3 x4 x5 xs1 (ix3 0 a c')
    = back (fun r c => xs1 (ix2 r ⟨2816 + c.val, by omega⟩))
        (fun a c => up (row x0 x1 x2 x3 a) (fun k => x4 (ix2 0 k)) (fun k c => x5 (ix2 k c)) ⟨2816 + c.val, by omega⟩) 7 a c' := by
  unfold kernelRun0_B.sl.v94 kernelRun0_B.sl.HS0_4
  rw [readCov_plane p12.view 1 7 (by omega)]
  refine congrArg₂ (fun p u => back p u 7 a c') (funext fun r => funext fun c' => ?_) (funext fun r => funext fun c' => ?_)
  · rw [pay14_at]
    apply p1_B
  · rw [pay15_at]
    apply u1_B

/-- The convolution of the block's row `a`: the rows before it are the block's, or carried. -/
abbrev conv_B (x0 : Vec Ideal S512x1024 .f32) (x1 : Vec Ideal S1x512x512 .bf16) (x2 : Vec Ideal S512x512 .bf16) (x3 : Vec Ideal S1024x1024 .bf16) (x4 : Vec Ideal S1x1024 .f32) (x5 : Vec Ideal S1024x5632 .bf16) (x6 : Vec Ideal S3x5632 .f32) (x7 : Vec Ideal S1x5632 .f32) (x8 : Vec Ideal S2816x1024 .bf16) (x9 : Vec Ideal S1x1024 .f32) (xs1 : Vec Ideal S8x5632 .f32) (a : Fin 512) : Fin 5632 → EReal :=
  conv (fun i c => x6 (ix2 i c)) (fun c => x7 (ix2 0 c)) (wide (fun r c => xs1 (ix2 r c)) (fun a c => up (row x0 x1 x2 x3 a) (fun k => x4 (ix2 0 k)) (fun k c => x5 (ix2 k c)) c) 6 a) (wide (fun r c => xs1 (ix2 r c)) (fun a c => up (row x0 x1 x2 x3 a) (fun k => x4 (ix2 0 k)) (fun k c => x5 (ix2 k c)) c) 7 a) ((fun a c => up (row x0 x1 x2 x3 a) (fun k => x4 (ix2 0 k)) (fun k c => x5 (ix2 k c)) c) a)

theorem lo_B (a : Fin 512) (c' : Fin 2816) : kernelRun0_B.sl.r_5 (F := Ideal) c p1 q1 p2 q2 p3 q3 p4 q4 p5 q5 p6 q6 p7 q7 p8 q8 p12 p13 q13 x0 x1 x2 x3 x4 x5 x6 x7 xs1 (ix2 a c') = conv_B x0 x1 x2 x3 x4 x5 x6 x7 x8 x9 xs1 a ⟨c'.val, by omega⟩ := by
  unfold kernelRun0_B.sl.r_5 kernelRun0_B.sl.r_4
  rw [pay12_at, pay11_at, v55_B, v60_B, u0_B]
  refine congrArg₂ (· + ·) (congrArg₂ (· + ·) (congrArg₂ (· + ·) (congrArg₂ (· * ·) (load2 _ _ _ _ _ _ ?_ ?_) ?_) (congrArg₂ (· * ·) (load2 _ _ _ _ _ _ ?_ ?_) ?_)) (congrArg₂ (· * ·) (load2 _ _ _ _ _ _ ?_ ?_) ?_)) (load2 _ _ _ _ _ _ ?_ ?_) <;> first | rfl | (exact (Nat.zero_add _).symm) | (exact (wide_lo _ _ _ _ _ _).symm)

theorem hi_B (a : Fin 512) (c' : Fin 2816) : kernelRun0_B.sl.r_6 (F := Ideal) c p1 q1 p2 q2 p3 q3 p4 q4 p5 q5 p6 q6 p7 q7 p12 p13 q13 x0 x1 x2 x3 x4 x5 x6 xs1 (ix2 a c')
    + View.readAt (Elt Ideal) p8.view (Rect.unit (s := S1x5632) ![0, 2816] S1x2816.size inb_S1x5632_S1x2816_0_2816).toLoadRect (q8.unread x7) (ix2 0 c')
    = conv_B x0 x1 x2 x3 x4 x5 x6 x7 x8 x9 xs1 a ⟨2816 + c'.val, by omega⟩ := by
  unfold kernelRun0_B.sl.r_6
  rw [pay17_at, v89_B, v94_B, u1_B]
  refine congrArg₂ (· + ·) (congrArg₂ (· + ·) (congrArg₂ (· + ·) (congrArg₂ (· * ·) (load2 _ _ _ _ _ _ ?_ ?_) ?_) (congrArg₂ (· * ·) (load2 _ _ _ _ _ _ ?_ ?_) ?_)) (congrArg₂ (· * ·) (load2 _ _ _ _ _ _ ?_ ?_) ?_)) (load2 _ _ _ _ _ _ ?_ ?_) <;> first | rfl | (exact (Nat.zero_add _).symm) | (exact (wide_hi _ _ _ _ _ _).symm)

/-- The output block at row `a`, column `j`. -/
theorem out_B_at (a : Fin 512) (j : Fin 1024) : out0_B_10 (F := Ideal) c i p1 q1 p2 q2 p3 q3 p4 q4 p5 q5 p6 q6 p7 q7 p8 q8 p9 q9 p10 q10 p11 q11 p12 q12 p13 q13 hc0 x0 x1 x2 x3 x4 x5 x6 x7 x8 x9 xs1 (ix2 a j)
    = down (row x0 x1 x2 x3 a) (gate (conv_B x0 x1 x2 x3 x4 x5 x6 x7 x8 x9 xs1 a)) (fun c j => x8 (ix2 c j)) j := by
  unfold out0_B_10 kernelRun0_B
  dsimp only
  refine (View.read_writes_cons_unit_of_mem VO0_10 _ _ _ _ _ (ix2 a j) rfl (by
    intro x
    match x with
    | ⟨0, _⟩ => show a.val = 0 + a.val; omega
    | ⟨1, _⟩ => show j.val = 0 + j.val; omega)).trans ?_
  rw [pay1_at, row_B]
  have hl : ∀ k, kernelRun0_B.sl.r_5 (F := Ideal) c p1 q1 p2 q2 p3 q3 p4 q4 p5 q5 p6 q6 p7 q7 p8 q8 p12 p13 q13 x0 x1 x2 x3 x4 x5 x6 x7 xs1 (ix2 a k) = conv_B x0 x1 x2 x3 x4 x5 x6 x7 x8 x9 xs1 a ⟨k.val, by omega⟩ := by
    intro k; apply lo_B
  have hh : ∀ k : Fin 2816, kernelRun0_B.sl.r_6 (F := Ideal) c p1 q1 p2 q2 p3 q3 p4 q4 p5 q5 p6 q6 p7 q7 p12 p13 q13 x0 x1 x2 x3 x4 x5 x6 xs1 (ix2 a k)
    + View.readAt (Elt Ideal) p8.view (Rect.unit (s := S1x5632) ![0, 2816] S1x2816.size inb_S1x5632_S1x2816_0_2816).toLoadRect (q8.unread x7) (ix2 0 k)
    = conv_B x0 x1 x2 x3 x4 x5 x6 x7 x8 x9 xs1 a ⟨2816 + k.val, by omega⟩ := by
    intro k; apply hi_B
  generalize conv_B x0 x1 x2 x3 x4 x5 x6 x7 x8 x9 xs1 a = p at hl hh ⊢
  unfold down gate
  refine congrArg₂ (· + ·) rfl (Finset.sum_congr rfl fun k _ => congrArg₂ (· * ·) (congrArg₂ (· * ·) (congrArg (fun x => x * Ideal.logistic x) (hl k)) (hh k)) ?_)
  exact load2 _ _ ![0, 0] _ _ _ (Nat.zero_add _).symm (Nat.zero_add _).symm

/-- What is carried on: the last eight rows of the product. -/
theorem carry_B_at (a : Fin 8) (c' : Fin 5632) : sout0_B_1 (F := Ideal) c i p1 q1 p2 q2 p3 q3 p4 q4 p5 q5 p6 q6 p7 q7 p8 q8 p9 q9 p10 q10 p11 q11 p12 q12 p13 q13 hc0 x0 x1 x2 x3 x4 x5 x6 x7 x8 x9 xs1 (ix2 a c')
    = up (row x0 x1 x2 x3 ⟨504 + a.val, by omega⟩) (fun k => x4 (ix2 0 k)) (fun k c => x5 (ix2 k c)) c' := by
  unfold sout0_B_1 kernelRun0_B
  dsimp only
  by_cases h : c'.val < 2816
  · refine (View.read_writes_cons_unit_of_not_mem VS0_1 _ _ _ _ _ rfl (1 : Fin 2) (Or.inl (by show c'.val < 2816; omega))).trans ?_
    refine (View.read_writes_cons_unit_of_mem VS0_1 _ _ _ _ _ (ix2 a ⟨c'.val, h⟩) rfl (by
      intro x
      match x with
      | ⟨0, _⟩ => show a.val = 0 + a.val; omega
      | ⟨1, _⟩ => show c'.val = 0 + c'.val; omega)).trans ?_
    rw [pay10_at, u0_B]
  · have hc := c'.isLt
    refine (View.read_writes_cons_unit_of_mem VS0_1 _ _ _ _ _ (ix2 a ⟨c'.val - 2816, by omega⟩) rfl (by
      intro x
      match x with
      | ⟨0, _⟩ => show a.val = 0 + a.val; omega
      | ⟨1, _⟩ => show c'.val = 2816 + (c'.val - 2816); omega)).trans ?_
    rw [pay16_at, u1_B]
    congr 1
    exact Fin.ext (by show 2816 + (c'.val - 2816) = c'.val; omega)

end CaseB

end Cert.Kernel3Ideal.Tile

end
-- ==== Proof.Value3.lean ====
/-
The feed-forward kernel's result: the layer at every batch and position.
-/
module

public import proofs.«01_k».proof.Proof.Tile3
public import Idealize.ShloMosaic.Lib.Pipeline.ValueKit
public import Idealize.ShloMosaic.Lib.StableHlo.ReadAt

@[expose] public section

set_option maxRecDepth 16384

noncomputable section

namespace Cert.Kernel3Ideal.Tile

open Cert.Kernel3Ideal Cert.Kernel3Ideal.Gen Cert.Ffn
open Idealize.ShloMosaic Idealize.ShloMosaic.TcCoe

variable (m : (ℓ : Loc nD τ sig) → Buf (Elt Ideal) ℓ) (c : Dev nD)

/-- The arguments as arrays. -/
abbrev argX : FVec Ideal S8x4096x1024 .f32 := m ((c : Thread nD τ).loc main_arg0)
abbrev argT : FVec Ideal S8x512x4096 .bf16 := m ((c : Thread nD τ).loc main_arg1)
abbrev argB : FVec Ideal S32768x512 .bf16 := m ((c : Thread nD τ).loc main_arg2)
abbrev argWo : FVec Ideal S1024x1024 .f32 := m ((c : Thread nD τ).loc main_arg3)
abbrev argG : FVec Ideal S1024 .f32 := m ((c : Thread nD τ).loc main_arg4)
abbrev argW : FVec Ideal S1024x5632 .f32 := m ((c : Thread nD τ).loc main_arg5)
abbrev argCw : FVec Ideal S3x5632 .f32 := m ((c : Thread nD τ).loc main_arg6)
abbrev argCb : FVec Ideal S5632 .f32 := m ((c : Thread nD τ).loc main_arg7)
abbrev argWd : FVec Ideal S2816x1024 .f32 := m ((c : Thread nD τ).loc main_arg8)

theorem idx : ∀ t : Fin cfg0.N, win0_0.index t = ![t.val, 0] ∧ win0_1.index t = ![t.val / 8, 0, t.val % 8] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] :=
  (by decide +kernel : ∀ t : Fin grid0.N, _)

theorem iblk0_at (t : Fin cfg0.N) (r : Fin 512) (k : Fin 1024) (b : Fin 8) (s : Fin 4096) (h : 4096 * b.val + s.val = 512 * t.val + r.val) :
    (iblk m c 0 t : Vec Ideal S512x1024 .f32) (ix2 r k) = argX m c (ix3 b s k) := by
  blk_ext! [iblk, V, idx t]

theorem iblk1_at (t : Fin cfg0.N) (r : Fin 512) (i : Fin 512) (b : Fin 8) (s : Fin 4096) (h : 4096 * b.val + s.val = 512 * t.val + r.val) :
    (iblk m c 1 t : Vec Ideal S1x512x512 .bf16) (ix3 0 i r) = argT m c (ix3 b i s) := by
  blk_ext! [iblk, V, idx t]

theorem iblk2_at (t : Fin cfg0.N) (r : Fin 512) (i : Fin 512) (b : Fin 8) (s : Fin 4096) (h : 4096 * b.val + s.val = 512 * t.val + r.val) :
    (iblk m c 2 t : Vec Ideal S512x512 .bf16) (ix2 r i) = argB m c (ix2 ⟨4096 * b.val + s.val, by omega⟩ i) := by
  blk_ext! [iblk, V, idx t]

theorem iblk3_at (t : Fin cfg0.N) (k : Fin 1024) (j : Fin 1024) : (iblk m c 3 t : Vec Ideal S1024x1024 .bf16) (ix2 k j) = argWo m c (ix2 k j) := by
  blk_ext! [iblk, V, idx t]

theorem iblk4_at (t : Fin cfg0.N) (k : Fin 1024) : (iblk m c 4 t : Vec Ideal S1x1024 .f32) (ix2 0 k) = argG m c (ix1 k) := by
  blk_ext! [iblk, V, idx t]

theorem iblk5_at (t : Fin cfg0.N) (k : Fin 1024) (j : Fin 5632) : (iblk m c 5 t : Vec Ideal S1024x5632 .bf16) (ix2 k j) = argW m c (ix2 k j) := by
  blk_ext! [iblk, V, idx t]

theorem iblk6_at (t : Fin cfg0.N) (k : Fin 3) (j : Fin 5632) : (iblk m c 6 t : Vec Ideal S3x5632 .f32) (ix2 k j) = argCw m c (ix2 k j) := by
  blk_ext! [iblk, V, idx t]

theorem iblk7_at (t : Fin cfg0.N) (j : Fin 5632) : (iblk m c 7 t : Vec Ideal S1x5632 .f32) (ix2 0 j) = argCb m c (ix1 j) := by
  blk_ext! [iblk, V, idx t]

theorem iblk8_at (t : Fin cfg0.N) (k : Fin 2816) (j : Fin 1024) : (iblk m c 8 t : Vec Ideal S2816x1024 .bf16) (ix2 k j) = argWd m c (ix2 k j) := by
  blk_ext! [iblk, V, idx t]

/-- The rows the layer takes: the mixers' outputs added to the input. -/
abbrev X (b : Fin 8) (s : Fin 4096) : Fin 1024 → EReal :=
  mix (fun k => argX m c (ix3 b s k)) (fun i => argT m c (ix3 b i s)) (fun i => argB m c (ix2 ⟨4096 * b.val + s.val, by omega⟩ i)) (fun i k => argWo m c (ix2 i k))

theorem x_at (n : ℕ) (hn : n < cfg0.N) (r : Fin 512) (b : Fin 8) (s : Fin 4096) (h : 4096 * b.val + s.val = 512 * n + r.val) :
    row (iblk m c 0 ⟨n, hn⟩) (iblk m c 1 ⟨n, hn⟩) (iblk m c 2 ⟨n, hn⟩) (iblk m c 3 ⟨n, hn⟩) r = X m c b s := by
  refine congr (congr (congrArg₂ mix (funext fun k => ?_) (funext fun i => ?_)) (funext fun i => ?_)) (funext fun i => funext fun k => ?_)
  · exact iblk0_at m c ⟨n, hn⟩ r k b s h
  · exact iblk1_at m c ⟨n, hn⟩ r i b s h
  · exact iblk2_at m c ⟨n, hn⟩ r i b s h
  · exact iblk3_at m c ⟨n, hn⟩ i k

/-- The arguments as the layer's functions. -/
abbrev G (k : Fin 1024) : EReal := argG m c (ix1 k)
abbrev W (k : Fin 1024) (j : Fin 5632) : EReal := argW m c (ix2 k j)
abbrev Cw (i : Fin 3) (j : Fin 5632) : EReal := argCw m c (ix2 i j)
abbrev Cb (j : Fin 5632) : EReal := argCb m c (ix1 j)
abbrev Wd (i : Fin 2816) (j : Fin 1024) : EReal := argWd m c (ix2 i j)

/-- The product the tile `n` holds at its row `r`. -/
theorem row_at (n : ℕ) (hn : n < cfg0.N) (r : Fin 512) (c' : Fin 5632) (b : Fin 8) (s : Fin 4096)
    (h : 4096 * b.val + s.val = 512 * n + r.val) :
    up (row (iblk m c 0 ⟨n, hn⟩) (iblk m c 1 ⟨n, hn⟩) (iblk m c 2 ⟨n, hn⟩) (iblk m c 3 ⟨n, hn⟩) r)
      (fun k => (iblk m c 4 ⟨n, hn⟩ : Vec Ideal S1x1024 .f32) (ix2 0 k))
      (fun k j => (iblk m c 5 ⟨n, hn⟩ : Vec Ideal S1024x5632 .bf16) (ix2 k j)) c' = up (X m c b s) (G m c) (W m c) c' := by
  refine congrFun (congr (congrArg₂ up ?_ (funext fun k => ?_)) (funext fun k => funext fun j => ?_)) c'
  · exact x_at m c n hn r b s h
  · exact iblk4_at m c ⟨n, hn⟩ k
  · exact iblk5_at m c ⟨n, hn⟩ k j

/-- The carry after the tile `n`. -/
theorem carry_at (n : ℕ) (hn : n < cfg0.N) (a : Fin 8) (c' : Fin 5632) (b : Fin 8) (s : Fin 4096)
    (h : 4096 * b.val + s.val = 512 * n + (504 + a.val)) :
    (outsAt0 m c n hn).2 (ix2 a c') = up (X m c b s) (G m c) (W m c) c' := by
  refine Eq.trans ?_ (row_at m c n hn ⟨504 + a.val, by omega⟩ c' b s h)
  by_cases h0 : n % 8 = 0
  · refine (congrArg (fun p => p.2 (ix2 a c')) (outsAt0_A m c ⟨n, hn⟩ h0)).trans ?_
    dsimp only
    exact carry_A_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) ((hcond0_0 ⟨n, hn⟩).mpr h0) a c'
  · have hn1 : n - 1 < cfg0.N := lt_of_le_of_lt (Nat.sub_le n 1) hn
    refine (congrArg (fun p => p.2 (ix2 a c')) (outsAt0_B m c ⟨n, hn⟩ h0)).trans ?_
    dsimp only
    exact carry_B_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (outsAt0 m c (n - 1) hn1).2 (fun h => h0 ((hcond0_0 ⟨n, hn⟩).mp h)) a c'

/-- What a tile writes is the layer, given what its taps are. -/
theorem down_at (n : ℕ) (hn : n < cfg0.N) (a : Fin 512) (j : Fin 1024) (b : Fin 8) (s : Fin 4096)
    (h : 4096 * b.val + s.val = 512 * n + a.val) (p : Fin 8 → Fin 5632 → EReal)
    (hp0 : n % 8 = 0 → ∀ r c, p r c = 0)
    (hp : ¬ n % 8 = 0 → ∀ (r : Fin 8) (s' : Fin 4096), 4096 * b.val + s'.val = 512 * (n - 1) + (504 + r.val) → ∀ c', p r c' = up (X m c b s') (G m c) (W m c) c') :
    down (row (iblk m c 0 ⟨n, hn⟩) (iblk m c 1 ⟨n, hn⟩) (iblk m c 2 ⟨n, hn⟩) (iblk m c 3 ⟨n, hn⟩) a)
      (gate (conv (fun i c' => (iblk m c 6 ⟨n, hn⟩ : Vec Ideal S3x5632 .f32) (ix2 i c')) (fun c' => (iblk m c 7 ⟨n, hn⟩ : Vec Ideal S1x5632 .f32) (ix2 0 c'))
        (wide p (fun a c' => up (row (iblk m c 0 ⟨n, hn⟩) (iblk m c 1 ⟨n, hn⟩) (iblk m c 2 ⟨n, hn⟩) (iblk m c 3 ⟨n, hn⟩) a)
      (fun k => (iblk m c 4 ⟨n, hn⟩ : Vec Ideal S1x1024 .f32) (ix2 0 k))
      (fun k j => (iblk m c 5 ⟨n, hn⟩ : Vec Ideal S1024x5632 .bf16) (ix2 k j)) c') 6 a)
        (wide p (fun a c' => up (row (iblk m c 0 ⟨n, hn⟩) (iblk m c 1 ⟨n, hn⟩) (iblk m c 2 ⟨n, hn⟩) (iblk m c 3 ⟨n, hn⟩) a)
      (fun k => (iblk m c 4 ⟨n, hn⟩ : Vec Ideal S1x1024 .f32) (ix2 0 k))
      (fun k j => (iblk m c 5 ⟨n, hn⟩ : Vec Ideal S1024x5632 .bf16) (ix2 k j)) c') 7 a)
        (fun c' => up (row (iblk m c 0 ⟨n, hn⟩) (iblk m c 1 ⟨n, hn⟩) (iblk m c 2 ⟨n, hn⟩) (iblk m c 3 ⟨n, hn⟩) a)
      (fun k => (iblk m c 4 ⟨n, hn⟩ : Vec Ideal S1x1024 .f32) (ix2 0 k))
      (fun k j => (iblk m c 5 ⟨n, hn⟩ : Vec Ideal S1024x5632 .bf16) (ix2 k j)) c')))
      (fun i j => (iblk m c 8 ⟨n, hn⟩ : Vec Ideal S2816x1024 .bf16) (ix2 i j)) j
    = layer (X m c) (G m c) (W m c) (Cw m c) (Cb m c) (Wd m c) b s j := by
  unfold layer
  refine congrFun (congr (congrArg₂ down ?_ (congrArg gate ?_)) (funext fun i => funext fun j => ?_)) j
  · exact x_at m c n hn a b s h
  · have hu : ∀ c' (a' : Fin 512) (s' : Fin 4096), 4096 * b.val + s'.val = 512 * n + a'.val →
        up (row (iblk m c 0 ⟨n, hn⟩) (iblk m c 1 ⟨n, hn⟩) (iblk m c 2 ⟨n, hn⟩) (iblk m c 3 ⟨n, hn⟩) a')
          (fun k => (iblk m c 4 ⟨n, hn⟩ : Vec Ideal S1x1024 .f32) (ix2 0 k))
          (fun k j => (iblk m c 5 ⟨n, hn⟩ : Vec Ideal S1024x5632 .bf16) (ix2 k j)) c' = up (X m c b s') (G m c) (W m c) c' :=
      fun c' a' s' h' => row_at m c n hn a' c' b s' h'
    refine congr (congr (congr (congrArg₂ conv (funext fun i => funext fun c' => ?_) (funext fun c' => ?_)) (funext fun c' => ?_)) (funext fun c' => ?_)) (funext fun c' => ?_)
    · exact iblk6_at m c ⟨n, hn⟩ i c'
    · exact iblk7_at m c ⟨n, hn⟩ c'
    · exact wide_tap (X m c) (G m c) (W m c) p _ n 2 (by decide) b s a c' h (hu c') (fun h0 r => hp0 h0 r c') (fun h0 r s' h' => hp h0 r s' h' c')
    · exact wide_tap (X m c) (G m c) (W m c) p _ n 1 (by decide) b s a c' h (hu c') (fun h0 r => hp0 h0 r c') (fun h0 r s' h' => hp h0 r s' h' c')
    · exact hu c' a s h
  · exact iblk8_at m c ⟨n, hn⟩ i j

/-- The output block after the tile `n`. -/
theorem out_at (n : ℕ) (hn : n < cfg0.N) (a : Fin 512) (j : Fin 1024) (b : Fin 8) (s : Fin 4096)
    (h : 4096 * b.val + s.val = 512 * n + a.val) :
    (outsAt0 m c n hn).1 (ix2 a j) = layer (X m c) (G m c) (W m c) (Cw m c) (Cb m c) (Wd m c) b s j := by
  by_cases h0 : n % 8 = 0
  · refine (congrArg (fun p => p.1 (ix2 a j)) (outsAt0_A m c ⟨n, hn⟩ h0)).trans ?_
    dsimp only
    exact (out_A_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) ((hcond0_0 ⟨n, hn⟩).mpr h0) a j).trans (down_at m c n hn a j b s h (fun _ _ => 0) (fun _ _ _ => rfl) (fun h => absurd h0 h))
  · have hn1 : n - 1 < cfg0.N := lt_of_le_of_lt (Nat.sub_le n 1) hn
    refine (congrArg (fun p => p.1 (ix2 a j)) (outsAt0_B m c ⟨n, hn⟩ h0)).trans ?_
    dsimp only
    refine (out_B_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (outsAt0 m c (n - 1) hn1).2 (fun h => h0 ((hcond0_0 ⟨n, hn⟩).mp h)) a j).trans (down_at m c n hn a j b s h (fun r c' => (outsAt0 m c (n - 1) hn1).2 (ix2 r c')) (fun h => absurd h h0) ?_)
    intro _ r s' h' c'
    exact carry_at m c (n - 1) _ r c' b s' h'

/-- The kernel's result at row `n`, column `j`. -/
theorem result_at (n : Fin 32768) (j : Fin 1024) (b : Fin 8) (s : Fin 4096) (h : 4096 * b.val + s.val = n.val) :
    Cert.Kernel3Ideal.Value.G10 m c (ix2 n j) = layer (X m c) (G m c) (W m c) (Cw m c) (Cb m c) (Wd m c) b s j := by
  have ht : n.val / 512 < cfg0.N := by rw [show cfg0.N = 64 from N_0]; omega
  have hp : Cert.Kernel3Ideal.Value.pt10Of (ix2 n j) = n.val / 512 := by
    show 1 * (n.val / 512 - 0) + 1 * (j.val / 1024 - 0) = n.val / 512
    omega
  unfold Cert.Kernel3Ideal.Value.G10
  rw [dif_pos (by rw [hp]; exact ht)]
  simp only [hp]
  rw [← Cert.Kernel3Ideal.Value.outsAt0_sweep m c (n.val / 512) ht]
  have hl : Cert.Kernel3Ideal.Value.loc10Of (ix2 n j) = ix2 ⟨n.val % 512, by omega⟩ j := by
    funext d
    refine Fin.ext ?_
    match d with
    | ⟨0, _⟩ => rfl
    | ⟨1, _⟩ => show j.val % 1024 = j.val; omega
  rw [hl]
  exact out_at m c (n.val / 512) ht ⟨n.val % 512, by omega⟩ j b s (by show 4096 * b.val + s.val = 512 * (n.val / 512) + n.val % 512; omega)

end Cert.Kernel3Ideal.Tile

end
-- ==== Proof.Tile4.lean ====
/-
What one point of the feed-forward kernel leaves: the output block, and the last eight rows of the
product that the next point's convolution takes.
-/
module

public import proofs.«01_k».proof.Proof.Plane
public import proofs.«01_k».proof.Proof.Gen.Kernel4Ideal.Value
public import Idealize.ShloMosaic.Lib.WritesUnit
public import Idealize.ShloMosaic.Lib.HeldBySlice

@[expose] public section

set_option maxRecDepth 16384

noncomputable section

namespace Cert.Kernel4Ideal.Tile

open Cert.Kernel4Ideal Cert.Kernel4Ideal.Gen Cert.Ffn
open Idealize.ShloMosaic Idealize.ShloMosaic.TcCoe

theorem load_x0 {m : Memref sig .tc .vmem S512x1024 .f32} (h : m.IsWhole) (X : Vec Ideal S512x1024 .f32) (inb) (a : Fin 512) (k : Fin 1024) :
    View.readAt (Elt Ideal) m.view (Rect.unit (s := S512x1024) ![0, 0] S512x1024.size inb).toLoadRect (h.unread X) (ix2 a k) = X (ix2 a k) :=
  load2 h X ![0, 0] inb (ix2 a k) (ix2 a k) (Nat.zero_add _).symm (Nat.zero_add _).symm

theorem load_x1 {m : Memref sig .tc .vmem S1x1024 .f32} (h : m.IsWhole) (X : Vec Ideal S1x1024 .f32) (inb) (a : Fin 1) (k : Fin 1024) :
    View.readAt (Elt Ideal) m.view (Rect.unit (s := S1x1024) ![0, 0] S1x1024.size inb).toLoadRect (h.unread X) (ix2 a k) = X (ix2 a k) :=
  load2 h X ![0, 0] inb (ix2 a k) (ix2 a k) (Nat.zero_add _).symm (Nat.zero_add _).symm

/-! ## The payloads at an index -/

theorem pay2_at (v0 : Vec Ideal S512x1024 .f32) (a : Fin 512) (k : Fin 1024) : k0_pay2 v0 (ix2 a k) = v0 (ix2 a k) := by
  pointwise [k0_pay2]

theorem pay4_at (v0 : Vec Ideal S512x1024 .f32) (v1 : Vec Ideal S1x1024 .f32) (a : Fin 512) (k : Fin 1024) :
    k0_pay4 v0 v1 (ix2 a k) = nrm (fun k => v0 (ix2 a k)) (fun k => v1 (ix2 0 k)) k := by
  pointwise [k0_pay4, k0_pay2, nrm]

theorem pay5_at (v0 : Vec Ideal S512x1024 .f32) (v1 : Vec Ideal S1x1024 .f32) (w : Vec Ideal S1024x2816 .bf16) (a : Fin 512) (c : Fin 2816) :
    k0_pay5 v0 v1 w (ix2 a c) = ∑ k, nrm (fun k => v0 (ix2 a k)) (fun k => v1 (ix2 0 k)) k * w (ix2 k c) := by
  pointwise [k0_pay5]
  simp only [pay4_at]

theorem pay10_at (h : FVec Ideal S512x1024 .bf16) (w : Vec Ideal S1024x2816 .bf16) (a : Fin 512) (c : Fin 2816) :
    k0_pay10 h w (ix2 a c) = ∑ k, h (ix2 a k) * w (ix2 k c) := by
  pointwise [k0_pay10]

theorem pay9_at (u : FVec Ideal S512x2816 .f32) (cw : Vec Ideal S3x2816 .f32) (y z : Vec Ideal S1x512x2816 .f32) (cb : Vec Ideal S1x2816 .f32)
    (a : Fin 512) (c : Fin 2816) :
    k0_pay9 u cw y z cb (ix2 a c)
      = cw (ix2 0 c) * y (ix3 0 a c) + cw (ix2 1 c) * z (ix3 0 a c) + cw (ix2 2 c) * u (ix2 a c) + cb (ix2 0 c) := by
  pointwise [k0_pay9]

theorem pay14_at (t u : FVec Ideal S512x2816 .f32) (cw : Vec Ideal S3x2816 .f32) (y z : Vec Ideal S1x512x2816 .f32) (cb : Vec Ideal S1x2816 .f32)
    (a : Fin 512) (c : Fin 2816) :
    k0_pay14 t u cw y z cb (ix2 a c) = t (ix2 a c) * Ideal.logistic (t (ix2 a c))
      * (cw (ix2 0 c) * y (ix3 0 a c) + cw (ix2 1 c) * z (ix3 0 a c) + cw (ix2 2 c) * u (ix2 a c) + cb (ix2 0 c)) := by
  rw [← half_tanh]
  pointwise [k0_pay14]

theorem pay1_at (x : FVec Ideal S512x1024 .f32) (p : FVec Ideal S512x2816 .bf16) (w : Vec Ideal S2816x1024 .bf16) (a : Fin 512) (j : Fin 1024) :
    k0_pay1 x p w (ix2 a j) = x (ix2 a j) + ∑ c, p (ix2 a c) * w (ix2 c j) := by
  pointwise [k0_pay1]

theorem pay6_at (p : Vec Ideal S8x2816 .f32) (a : Fin 8) (c : Fin 2816) : k0_pay6 p (ix3 0 a c) = p (ix2 a c) := by
  pointwise [k0_pay6]
theorem pay11_at (p : Vec Ideal S8x2816 .f32) (a : Fin 8) (c : Fin 2816) : k0_pay11 p (ix3 0 a c) = p (ix2 a c) := by
  pointwise [k0_pay11]
theorem pay7_at (p : FVec Ideal S512x2816 .f32) (a : Fin 512) (c : Fin 2816) : k0_pay7 p (ix3 0 a c) = p (ix2 a c) := by
  pointwise [k0_pay7]
theorem pay12_at (p : FVec Ideal S512x2816 .f32) (a : Fin 512) (c : Fin 2816) : k0_pay12 p (ix3 0 a c) = p (ix2 a c) := by
  pointwise [k0_pay12]
theorem pay8_at (p : FVec Ideal S512x2816 .f32) (a : Fin 8) (c : Fin 2816) : k0_pay8 p (ix2 a c) = p (ix2 ⟨504 + a.val, by omega⟩ c) := by
  pointwise [k0_pay8]
theorem pay13_at (p : FVec Ideal S512x2816 .f32) (a : Fin 8) (c : Fin 2816) : k0_pay13 p (ix2 a c) = p (ix2 ⟨504 + a.val, by omega⟩ c) := by
  pointwise [k0_pay13]
theorem pay3_at (a : Fin 8) (c : Fin 5632) : k0_pay3 (F := Ideal) (ix2 a c) = 0 := by
  pointwise [k0_pay3]

section CaseA

variable (c : Dev nD)
  (i : grid0.Coords)
  (p1 : Memref sig .tc .vmem S512x1024 .f32)
  (q1 : p1.IsWhole)
  (p2 : Memref sig .tc .vmem S1x1024 .f32)
  (q2 : p2.IsWhole)
  (p3 : Memref sig .tc .vmem S1024x5632 .bf16)
  (q3 : p3.IsWhole)
  (p4 : Memref sig .tc .vmem S3x5632 .f32)
  (q4 : p4.IsWhole)
  (p5 : Memref sig .tc .vmem S1x5632 .f32)
  (q5 : p5.IsWhole)
  (p6 : Memref sig .tc .vmem S2816x1024 .bf16)
  (q6 : p6.IsWhole)
  (p7 : Memref sig .tc .vmem S1x1024 .f32)
  (q7 : p7.IsWhole)
  (p8 : Memref sig .tc .vmem S512x1024 .f32)
  (q8 : p8.IsWhole)
  (p9 : Memref sig .tc .vmem S2x520x2816 .f32)
  (q9 : p9.IsWhole)
  (p10 : Memref sig .tc .vmem S8x5632 .f32)
  (q10 : p10.IsWhole)
  (x0 : Vec Ideal S512x1024 .f32)
  (x1 : Vec Ideal S1x1024 .f32)
  (x2 : Vec Ideal S1024x5632 .bf16)
  (x3 : Vec Ideal S3x5632 .f32)
  (x4 : Vec Ideal S1x5632 .f32)
  (x5 : Vec Ideal S2816x1024 .bf16)
  (x6 : Vec Ideal S1x1024 .f32) (hc0 : cond0_0 i)

theorem u0_A (a : Fin 512) (c' : Fin 2816) : kernelRun0_A.sl.r_2 (F := Ideal) c p1 q1 p2 q2 p3 q3 x0 x1 x2 (ix2 a c')
    = up (fun k => x0 (ix2 a k)) (fun k => x1 (ix2 0 k)) (fun k c => x2 (ix2 k c)) ⟨c'.val, by omega⟩ := by
  unfold kernelRun0_A.sl.r_2 up
  rw [pay5_at]
  exact Finset.sum_congr rfl fun k _ => congrArg₂ (· * ·) (congrArg₂ (fun x g => nrm x g k) (funext fun k => load2 _ _ _ _ _ _ (Nat.zero_add _).symm (Nat.zero_add _).symm) (funext fun k => load2 _ _ _ _ _ _ (Nat.zero_add _).symm (Nat.zero_add _).symm)) (load2 _ _ _ _ _ _ (Nat.zero_add _).symm (by show c'.val = 0 + c'.val; omega))

theorem u1_A (a : Fin 512) (c' : Fin 2816) : kernelRun0_A.sl.r_5 (F := Ideal) c p1 q1 p2 q2 p3 q3 x0 x1 x2 (ix2 a c')
    = up (fun k => x0 (ix2 a k)) (fun k => x1 (ix2 0 k)) (fun k c => x2 (ix2 k c)) ⟨2816 + c'.val, by omega⟩ := by
  unfold kernelRun0_A.sl.r_5 kernelRun0_A.sl.r_1 up
  rw [pay10_at]
  simp only [pay4_at]
  exact Finset.sum_congr rfl fun k _ => congrArg₂ (· * ·) (congrArg₂ (fun x g => nrm x g k) (funext fun k => load2 _ _ _ _ _ _ (Nat.zero_add _).symm (Nat.zero_add _).symm) (funext fun k => load2 _ _ _ _ _ _ (Nat.zero_add _).symm (Nat.zero_add _).symm)) (load2 _ _ _ _ _ _ (Nat.zero_add _).symm rfl)

theorem p0_A (a : Fin 8) (c' : Fin 2816) : kernelRun0_A.sl.v33 (F := Ideal) c p10 (ix2 a c') = 0 := by
  unfold kernelRun0_A.sl.v33 kernelRun0_A.sl.HS1_1
  show p10.view.read (Elt Ideal) (p10.view.writes (Elt Ideal) p10.view.junk _) ((Rect.unit (s := S8x5632) ![0, 0] S8x2816.size _).toLoadRect.idx (ix2 a c')) = _
  refine (View.read_writes_cons_unit_of_mem p10.view _ _ _ _ _ (ix2 a ⟨c'.val, by omega⟩) rfl (by
    intro x
    match x with
    | ⟨0, _⟩ => show 0 + 1 * a.val = 0 + a.val; omega
    | ⟨1, _⟩ => show 0 + 1 * c'.val = 0 + c'.val; omega)).trans ?_
  exact pay3_at _ _

theorem p1_A (a : Fin 8) (c' : Fin 2816) : kernelRun0_A.sl.v67 (F := Ideal) c p1 q1 p2 q2 p3 q3 p10 x0 x1 x2 (ix2 a c') = 0 := by
  unfold kernelRun0_A.sl.v67 kernelRun0_A.sl.HS1_2 kernelRun0_A.sl.HS1_1
  show p10.view.read (Elt Ideal) (p10.view.writes (Elt Ideal) p10.view.junk _) ((Rect.unit (s := S8x5632) ![0, 2816] S8x2816.size _).toLoadRect.idx (ix2 a c')) = _
  refine (View.read_writes_cons_unit_of_not_mem p10.view _ _ _ _ _ rfl (1 : Fin 2) (Or.inr (by
      show 0 + 2816 ≤ 2816 + 1 * c'.val; omega))).trans ?_
  refine (View.read_writes_cons_unit_of_mem p10.view _ _ _ _ _ (ix2 a ⟨2816 + c'.val, by omega⟩) rfl (by
    intro x
    match x with
    | ⟨0, _⟩ => show 0 + 1 * a.val = 0 + a.val; omega
    | ⟨1, _⟩ => show 2816 + 1 * c'.val = 0 + (2816 + c'.val); omega)).trans ?_
  exact pay3_at _ _

theorem v46_A (a : Fin 512) (c' : Fin 2816) : kernelRun0_A.sl.v46 (F := Ideal) c p1 q1 p2 q2 p3 q3 p9 p10 x0 x1 x2 (ix3 0 a c')
    = back (fun _ _ => 0)
        (fun a c => up (fun k => x0 (ix2 a k)) (fun k => x1 (ix2 0 k)) (fun k c => x2 (ix2 k c)) ⟨c.val, by omega⟩) 6 a c' := by
  unfold kernelRun0_A.sl.v46 kernelRun0_A.sl.HS0_2
  rw [readCov_plane p9.view 0 6 (by omega)]
  simp only [pay6_at, pay7_at, p0_A, u0_A]

theorem v51_A (a : Fin 512) (c' : Fin 2816) : kernelRun0_A.sl.v51 (F := Ideal) c p1 q1 p2 q2 p3 q3 p9 p10 x0 x1 x2 (ix3 0 a c')
    = back (fun _ _ => 0)
        (fun a c => up (fun k => x0 (ix2 a k)) (fun k => x1 (ix2 0 k)) (fun k c => x2 (ix2 k c)) ⟨c.val, by omega⟩) 7 a c' := by
  unfold kernelRun0_A.sl.v51 kernelRun0_A.sl.HS0_2
  rw [readCov_plane p9.view 0 7 (by omega)]
  simp only [pay6_at, pay7_at, p0_A, u0_A]

theorem v80_A (a : Fin 512) (c' : Fin 2816) : kernelRun0_A.sl.v80 (F := Ideal) c p1 q1 p2 q2 p3 q3 p9 p10 x0 x1 x2 (ix3 0 a c')
    = back (fun _ _ => 0)
        (fun a c => up (fun k => x0 (ix2 a k)) (fun k => x1 (ix2 0 k)) (fun k c => x2 (ix2 k c)) ⟨2816 + c.val, by omega⟩) 6 a c' := by
  unfold kernelRun0_A.sl.v80 kernelRun0_A.sl.HS0_4
  rw [readCov_plane p9.view 1 6 (by omega)]
  simp only [pay11_at, pay12_at, p1_A, u1_A]

theorem v85_A (a : Fin 512) (c' : Fin 2816) : kernelRun0_A.sl.v85 (F := Ideal) c p1 q1 p2 q2 p3 q3 p9 p10 x0 x1 x2 (ix3 0 a c')
    = back (fun _ _ => 0)
        (fun a c => up (fun k => x0 (ix2 a k)) (fun k => x1 (ix2 0 k)) (fun k c => x2 (ix2 k c)) ⟨2816 + c.val, by omega⟩) 7 a c' := by
  unfold kernelRun0_A.sl.v85 kernelRun0_A.sl.HS0_4
  rw [readCov_plane p9.view 1 7 (by omega)]
  simp only [pay11_at, pay12_at, p1_A, u1_A]

/-- The convolution of the block's row `a`: the rows before it are the block's, or carried. -/
abbrev conv_A (x0 : Vec Ideal S512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (a : Fin 512) : Fin 5632 → EReal :=
  conv (fun i c => x3 (ix2 i c)) (fun c => x4 (ix2 0 c)) (wide (fun _ _ => 0) (fun a c => up (fun k => x0 (ix2 a k)) (fun k => x1 (ix2 0 k)) (fun k c => x2 (ix2 k c)) c) 6 a) (wide (fun _ _ => 0) (fun a c => up (fun k => x0 (ix2 a k)) (fun k => x1 (ix2 0 k)) (fun k c => x2 (ix2 k c)) c) 7 a) ((fun a c => up (fun k => x0 (ix2 a k)) (fun k => x1 (ix2 0 k)) (fun k c => x2 (ix2 k c)) c) a)

theorem act_A (a : Fin 512) (c' : Fin 2816) : kernelRun0_A.sl.r_6 (F := Ideal) c p1 q1 p2 q2 p3 q3 p4 q4 p5 q5 p9 p10 x0 x1 x2 x3 x4 (ix2 a c')
    = gate (conv_A x0 x1 x2 x3 x4 x5 x6 a) c' := by
  have hc (c' : Fin 2816) : kernelRun0_A.sl.r_4 (F := Ideal) c p1 q1 p2 q2 p3 q3 p4 q4 p5 q5 p9 p10 x0 x1 x2 x3 x4 (ix2 a c') = conv_A x0 x1 x2 x3 x4 x5 x6 a ⟨c'.val, by omega⟩ := by
    unfold kernelRun0_A.sl.r_4
    rw [pay9_at, v46_A, v51_A, u0_A]
    refine congrArg₂ (· + ·) (congrArg₂ (· + ·) (congrArg₂ (· + ·) (congrArg₂ (· * ·) (load2 _ _ _ _ _ _ ?_ ?_) ?_) (congrArg₂ (· * ·) (load2 _ _ _ _ _ _ ?_ ?_) ?_)) (congrArg₂ (· * ·) (load2 _ _ _ _ _ _ ?_ ?_) ?_)) (load2 _ _ _ _ _ _ ?_ ?_) <;> first | rfl | (exact (Nat.zero_add _).symm) | (exact (wide_lo _ _ _ _ _ _).symm)
  unfold kernelRun0_A.sl.r_6
  rw [pay14_at, hc]
  refine congrArg₂ (· * ·) rfl ?_
  rw [v80_A, v85_A, u1_A]
  refine congrArg₂ (· + ·) (congrArg₂ (· + ·) (congrArg₂ (· + ·) (congrArg₂ (· * ·) (load2 _ _ _ _ _ _ ?_ ?_) ?_) (congrArg₂ (· * ·) (load2 _ _ _ _ _ _ ?_ ?_) ?_)) (congrArg₂ (· * ·) (load2 _ _ _ _ _ _ ?_ ?_) ?_)) (load2 _ _ _ _ _ _ ?_ ?_) <;> first | rfl | (exact (Nat.zero_add _).symm) | (exact (wide_hi _ _ _ _ _ _).symm)

/-- The output block at row `a`, column `j`. -/
theorem out_A_at (a : Fin 512) (j : Fin 1024) : out0_A_7 (F := Ideal) c i p1 q1 p2 q2 p3 q3 p4 q4 p5 q5 p6 q6 p7 q7 p8 q8 p9 q9 p10 q10 hc0 x0 x1 x2 x3 x4 x5 x6 (ix2 a j)
    = down (fun k => x0 (ix2 a k)) (gate (conv_A x0 x1 x2 x3 x4 x5 x6 a)) (fun c j => x5 (ix2 c j)) j := by
  unfold out0_A_7 kernelRun0_A
  dsimp only
  refine (View.read_writes_cons_unit_of_mem VO0_7 _ _ _ _ _ (ix2 a j) rfl (by
    intro x
    match x with
    | ⟨0, _⟩ => show a.val = 0 + a.val; omega
    | ⟨1, _⟩ => show j.val = 0 + j.val; omega)).trans ?_
  rw [pay1_at]
  unfold kernelRun0_A.sl.r
  rw [pay2_at]
  have ha : ∀ k, kernelRun0_A.sl.r_6 (F := Ideal) c p1 q1 p2 q2 p3 q3 p4 q4 p5 q5 p9 p10 x0 x1 x2 x3 x4 (ix2 a k) = gate (conv_A x0 x1 x2 x3 x4 x5 x6 a) k := by
    intro k; apply act_A
  generalize gate (conv_A x0 x1 x2 x3 x4 x5 x6 a) = p at ha ⊢
  unfold down
  refine congrArg₂ (· + ·) ?_ (Finset.sum_congr rfl fun k _ => congrArg₂ (· * ·) (ha k) ?_)
  · exact load2 _ _ ![0, 0] _ _ _ (Nat.zero_add _).symm (Nat.zero_add _).symm
  · exact load2 _ _ ![0, 0] _ _ _ (Nat.zero_add _).symm (Nat.zero_add _).symm

/-- What is carried on: the last eight rows of the product. -/
theorem carry_A_at (a : Fin 8) (c' : Fin 5632) : sout0_A_1 (F := Ideal) c i p1 q1 p2 q2 p3 q3 p4 q4 p5 q5 p6 q6 p7 q7 p8 q8 p9 q9 p10 q10 hc0 x0 x1 x2 x3 x4 x5 x6 (ix2 a c')
    = up (fun k => x0 (ix2 ⟨504 + a.val, by omega⟩ k)) (fun k => x1 (ix2 0 k)) (fun k c => x2 (ix2 k c)) c' := by
  unfold sout0_A_1 kernelRun0_A
  dsimp only
  by_cases h : c'.val < 2816
  · refine (View.read_writes_cons_unit_of_not_mem VS0_1 _ _ _ _ _ rfl (1 : Fin 2) (Or.inl (by show c'.val < 2816; omega))).trans ?_
    refine (View.read_writes_cons_unit_of_mem VS0_1 _ _ _ _ _ (ix2 a ⟨c'.val, h⟩) rfl (by
      intro x
      match x with
      | ⟨0, _⟩ => show a.val = 0 + a.val; omega
      | ⟨1, _⟩ => show c'.val = 0 + c'.val; omega)).trans ?_
    rw [pay8_at, u0_A]
  · have hc := c'.isLt
    refine (View.read_writes_cons_unit_of_mem VS0_1 _ _ _ _ _ (ix2 a ⟨c'.val - 2816, by omega⟩) rfl (by
      intro x
      match x with
      | ⟨0, _⟩ => show a.val = 0 + a.val; omega
      | ⟨1, _⟩ => show c'.val = 2816 + (c'.val - 2816); omega)).trans ?_
    rw [pay13_at, u1_A]
    congr 1
    exact Fin.ext (by show 2816 + (c'.val - 2816) = c'.val; omega)

end CaseA

section CaseB

variable (c : Dev nD)
  (i : grid0.Coords)
  (p1 : Memref sig .tc .vmem S512x1024 .f32)
  (q1 : p1.IsWhole)
  (p2 : Memref sig .tc .vmem S1x1024 .f32)
  (q2 : p2.IsWhole)
  (p3 : Memref sig .tc .vmem S1024x5632 .bf16)
  (q3 : p3.IsWhole)
  (p4 : Memref sig .tc .vmem S3x5632 .f32)
  (q4 : p4.IsWhole)
  (p5 : Memref sig .tc .vmem S1x5632 .f32)
  (q5 : p5.IsWhole)
  (p6 : Memref sig .tc .vmem S2816x1024 .bf16)
  (q6 : p6.IsWhole)
  (p7 : Memref sig .tc .vmem S1x1024 .f32)
  (q7 : p7.IsWhole)
  (p8 : Memref sig .tc .vmem S512x1024 .f32)
  (q8 : p8.IsWhole)
  (p9 : Memref sig .tc .vmem S2x520x2816 .f32)
  (q9 : p9.IsWhole)
  (p10 : Memref sig .tc .vmem S8x5632 .f32)
  (q10 : p10.IsWhole)
  (x0 : Vec Ideal S512x1024 .f32)
  (x1 : Vec Ideal S1x1024 .f32)
  (x2 : Vec Ideal S1024x5632 .bf16)
  (x3 : Vec Ideal S3x5632 .f32)
  (x4 : Vec Ideal S1x5632 .f32)
  (x5 : Vec Ideal S2816x1024 .bf16)
  (x6 : Vec Ideal S1x1024 .f32)
  (xs1 : Vec Ideal S8x5632 .f32) (hc0 : ¬cond0_0 i)

theorem u0_B (a : Fin 512) (c' : Fin 2816) : kernelRun0_B.sl.r_2 (F := Ideal) c p1 q1 p2 q2 p3 q3 x0 x1 x2 (ix2 a c')
    = up (fun k => x0 (ix2 a k)) (fun k => x1 (ix2 0 k)) (fun k c => x2 (ix2 k c)) ⟨c'.val, by omega⟩ := by
  unfold kernelRun0_B.sl.r_2 up
  rw [pay5_at]
  exact Finset.sum_congr rfl fun k _ => congrArg₂ (· * ·) (congrArg₂ (fun x g => nrm x g k) (funext fun k => load2 _ _ _ _ _ _ (Nat.zero_add _).symm (Nat.zero_add _).symm) (funext fun k => load2 _ _ _ _ _ _ (Nat.zero_add _).symm (Nat.zero_add _).symm)) (load2 _ _ _ _ _ _ (Nat.zero_add _).symm (by show c'.val = 0 + c'.val; omega))

theorem u1_B (a : Fin 512) (c' : Fin 2816) : kernelRun0_B.sl.r_6 (F := Ideal) c p1 q1 p2 q2 p3 q3 x0 x1 x2 (ix2 a c')
    = up (fun k => x0 (ix2 a k)) (fun k => x1 (ix2 0 k)) (fun k c => x2 (ix2 k c)) ⟨2816 + c'.val, by omega⟩ := by
  unfold kernelRun0_B.sl.r_6 kernelRun0_B.sl.r_1 up
  rw [pay10_at]
  simp only [pay4_at]
  exact Finset.sum_congr rfl fun k _ => congrArg₂ (· * ·) (congrArg₂ (fun x g => nrm x g k) (funext fun k => load2 _ _ _ _ _ _ (Nat.zero_add _).symm (Nat.zero_add _).symm) (funext fun k => load2 _ _ _ _ _ _ (Nat.zero_add _).symm (Nat.zero_add _).symm)) (load2 _ _ _ _ _ _ (Nat.zero_add _).symm rfl)

theorem p0_B (a : Fin 8) (c' : Fin 2816) : kernelRun0_B.sl.r_3 (F := Ideal) c p10 q10 xs1 (ix2 a c') = xs1 (ix2 a ⟨c'.val, by omega⟩) := by
  unfold kernelRun0_B.sl.r_3
  exact load2 _ _ _ _ _ _ (Nat.zero_add _).symm (by show c'.val = 0 + c'.val; omega)

theorem p1_B (a : Fin 8) (c' : Fin 2816) : kernelRun0_B.sl.v67 (F := Ideal) c p10 q10 xs1 (ix2 a c') = xs1 (ix2 a ⟨2816 + c'.val, by omega⟩) := by
  unfold kernelRun0_B.sl.v67
  exact load2 _ _ _ _ _ _ (Nat.zero_add _).symm rfl

theorem v46_B (a : Fin 512) (c' : Fin 2816) : kernelRun0_B.sl.v46 (F := Ideal) c p1 q1 p2 q2 p3 q3 p9 p10 q10 x0 x1 x2 xs1 (ix3 0 a c')
    = back (fun r c => xs1 (ix2 r ⟨c.val, by omega⟩))
        (fun a c => up (fun k => x0 (ix2 a k)) (fun k => x1 (ix2 0 k)) (fun k c => x2 (ix2 k c)) ⟨c.val, by omega⟩) 6 a c' := by
  unfold kernelRun0_B.sl.v46 kernelRun0_B.sl.HS0_2
  rw [readCov_plane p9.view 0 6 (by omega)]
  simp only [pay6_at, pay7_at, p0_B, u0_B]

theorem v51_B (a : Fin 512) (c' : Fin 2816) : kernelRun0_B.sl.v51 (F := Ideal) c p1 q1 p2 q2 p3 q3 p9 p10 q10 x0 x1 x2 xs1 (ix3 0 a c')
    = back (fun r c => xs1 (ix2 r ⟨c.val, by omega⟩))
        (fun a c => up (fun k => x0 (ix2 a k)) (fun k => x1 (ix2 0 k)) (fun k c => x2 (ix2 k c)) ⟨c.val, by omega⟩) 7 a c' := by
  unfold kernelRun0_B.sl.v51 kernelRun0_B.sl.HS0_2
  rw [readCov_plane p9.view 0 7 (by omega)]
  simp only [pay6_at, pay7_at, p0_B, u0_B]

theorem v80_B (a : Fin 512) (c' : Fin 2816) : kernelRun0_B.sl.v80 (F := Ideal) c p1 q1 p2 q2 p3 q3 p9 p10 q10 x0 x1 x2 xs1 (ix3 0 a c')
    = back (fun r c => xs1 (ix2 r ⟨2816 + c.val, by omega⟩))
        (fun a c => up (fun k => x0 (ix2 a k)) (fun k => x1 (ix2 0 k)) (fun k c => x2 (ix2 k c)) ⟨2816 + c.val, by omega⟩) 6 a c' := by
  unfold kernelRun0_B.sl.v80 kernelRun0_B.sl.HS0_4
  rw [readCov_plane p9.view 1 6 (by omega)]
  simp only [pay11_at, pay12_at, p1_B, u1_B]

theorem v85_B (a : Fin 512) (c' : Fin 2816) : kernelRun0_B.sl.v85 (F := Ideal) c p1 q1 p2 q2 p3 q3 p9 p10 q10 x0 x1 x2 xs1 (ix3 0 a c')
    = back (fun r c => xs1 (ix2 r ⟨2816 + c.val, by omega⟩))
        (fun a c => up (fun k => x0 (ix2 a k)) (fun k => x1 (ix2 0 k)) (fun k c => x2 (ix2 k c)) ⟨2816 + c.val, by omega⟩) 7 a c' := by
  unfold kernelRun0_B.sl.v85 kernelRun0_B.sl.HS0_4
  rw [readCov_plane p9.view 1 7 (by omega)]
  simp only [pay11_at, pay12_at, p1_B, u1_B]

/-- The convolution of the block's row `a`: the rows before it are the block's, or carried. -/
abbrev conv_B (x0 : Vec Ideal S512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs1 : Vec Ideal S8x5632 .f32) (a : Fin 512) : Fin 5632 → EReal :=
  conv (fun i c => x3 (ix2 i c)) (fun c => x4 (ix2 0 c)) (wide (fun r c => xs1 (ix2 r c)) (fun a c => up (fun k => x0 (ix2 a k)) (fun k => x1 (ix2 0 k)) (fun k c => x2 (ix2 k c)) c) 6 a) (wide (fun r c => xs1 (ix2 r c)) (fun a c => up (fun k => x0 (ix2 a k)) (fun k => x1 (ix2 0 k)) (fun k c => x2 (ix2 k c)) c) 7 a) ((fun a c => up (fun k => x0 (ix2 a k)) (fun k => x1 (ix2 0 k)) (fun k c => x2 (ix2 k c)) c) a)

theorem act_B (a : Fin 512) (c' : Fin 2816) : kernelRun0_B.sl.r_7 (F := Ideal) c p1 q1 p2 q2 p3 q3 p4 q4 p5 q5 p9 p10 q10 x0 x1 x2 x3 x4 xs1 (ix2 a c')
    = gate (conv_B x0 x1 x2 x3 x4 x5 x6 xs1 a) c' := by
  have hc (c' : Fin 2816) : kernelRun0_B.sl.r_5 (F := Ideal) c p1 q1 p2 q2 p3 q3 p4 q4 p5 q5 p9 p10 q10 x0 x1 x2 x3 x4 xs1 (ix2 a c') = conv_B x0 x1 x2 x3 x4 x5 x6 xs1 a ⟨c'.val, by omega⟩ := by
    unfold kernelRun0_B.sl.r_5
    rw [pay9_at, v46_B, v51_B, u0_B]
    refine congrArg₂ (· + ·) (congrArg₂ (· + ·) (congrArg₂ (· + ·) (congrArg₂ (· * ·) (load2 _ _ _ _ _ _ ?_ ?_) ?_) (congrArg₂ (· * ·) (load2 _ _ _ _ _ _ ?_ ?_) ?_)) (congrArg₂ (· * ·) (load2 _ _ _ _ _ _ ?_ ?_) ?_)) (load2 _ _ _ _ _ _ ?_ ?_) <;> first | rfl | (exact (Nat.zero_add _).symm) | (exact (wide_lo _ _ _ _ _ _).symm)
  unfold kernelRun0_B.sl.r_7
  rw [pay14_at, hc]
  refine congrArg₂ (· * ·) rfl ?_
  rw [v80_B, v85_B, u1_B]
  refine congrArg₂ (· + ·) (congrArg₂ (· + ·) (congrArg₂ (· + ·) (congrArg₂ (· * ·) (load2 _ _ _ _ _ _ ?_ ?_) ?_) (congrArg₂ (· * ·) (load2 _ _ _ _ _ _ ?_ ?_) ?_)) (congrArg₂ (· * ·) (load2 _ _ _ _ _ _ ?_ ?_) ?_)) (load2 _ _ _ _ _ _ ?_ ?_) <;> first | rfl | (exact (Nat.zero_add _).symm) | (exact (wide_hi _ _ _ _ _ _).symm)

/-- The output block at row `a`, column `j`. -/
theorem out_B_at (a : Fin 512) (j : Fin 1024) : out0_B_7 (F := Ideal) c i p1 q1 p2 q2 p3 q3 p4 q4 p5 q5 p6 q6 p7 q7 p8 q8 p9 q9 p10 q10 hc0 x0 x1 x2 x3 x4 x5 x6 xs1 (ix2 a j)
    = down (fun k => x0 (ix2 a k)) (gate (conv_B x0 x1 x2 x3 x4 x5 x6 xs1 a)) (fun c j => x5 (ix2 c j)) j := by
  unfold out0_B_7 kernelRun0_B
  dsimp only
  refine (View.read_writes_cons_unit_of_mem VO0_7 _ _ _ _ _ (ix2 a j) rfl (by
    intro x
    match x with
    | ⟨0, _⟩ => show a.val = 0 + a.val; omega
    | ⟨1, _⟩ => show j.val = 0 + j.val; omega)).trans ?_
  rw [pay1_at]
  unfold kernelRun0_B.sl.r
  rw [pay2_at]
  have ha : ∀ k, kernelRun0_B.sl.r_7 (F := Ideal) c p1 q1 p2 q2 p3 q3 p4 q4 p5 q5 p9 p10 q10 x0 x1 x2 x3 x4 xs1 (ix2 a k) = gate (conv_B x0 x1 x2 x3 x4 x5 x6 xs1 a) k := by
    intro k; apply act_B
  generalize gate (conv_B x0 x1 x2 x3 x4 x5 x6 xs1 a) = p at ha ⊢
  unfold down
  refine congrArg₂ (· + ·) ?_ (Finset.sum_congr rfl fun k _ => congrArg₂ (· * ·) (ha k) ?_)
  · exact load2 _ _ ![0, 0] _ _ _ (Nat.zero_add _).symm (Nat.zero_add _).symm
  · exact load2 _ _ ![0, 0] _ _ _ (Nat.zero_add _).symm (Nat.zero_add _).symm

/-- What is carried on: the last eight rows of the product. -/
theorem carry_B_at (a : Fin 8) (c' : Fin 5632) : sout0_B_1 (F := Ideal) c i p1 q1 p2 q2 p3 q3 p4 q4 p5 q5 p6 q6 p7 q7 p8 q8 p9 q9 p10 q10 hc0 x0 x1 x2 x3 x4 x5 x6 xs1 (ix2 a c')
    = up (fun k => x0 (ix2 ⟨504 + a.val, by omega⟩ k)) (fun k => x1 (ix2 0 k)) (fun k c => x2 (ix2 k c)) c' := by
  unfold sout0_B_1 kernelRun0_B
  dsimp only
  by_cases h : c'.val < 2816
  · refine (View.read_writes_cons_unit_of_not_mem VS0_1 _ _ _ _ _ rfl (1 : Fin 2) (Or.inl (by show c'.val < 2816; omega))).trans ?_
    refine (View.read_writes_cons_unit_of_mem VS0_1 _ _ _ _ _ (ix2 a ⟨c'.val, h⟩) rfl (by
      intro x
      match x with
      | ⟨0, _⟩ => show a.val = 0 + a.val; omega
      | ⟨1, _⟩ => show c'.val = 0 + c'.val; omega)).trans ?_
    rw [pay8_at, u0_B]
  · have hc := c'.isLt
    refine (View.read_writes_cons_unit_of_mem VS0_1 _ _ _ _ _ (ix2 a ⟨c'.val - 2816, by omega⟩) rfl (by
      intro x
      match x with
      | ⟨0, _⟩ => show a.val = 0 + a.val; omega
      | ⟨1, _⟩ => show c'.val = 2816 + (c'.val - 2816); omega)).trans ?_
    rw [pay13_at, u1_B]
    congr 1
    exact Fin.ext (by show 2816 + (c'.val - 2816) = c'.val; omega)

end CaseB

end Cert.Kernel4Ideal.Tile

end
-- ==== Proof.Value4.lean ====
/-
The feed-forward kernel's result: the layer at every batch and position.
-/
module

public import proofs.«01_k».proof.Proof.Tile4
public import Idealize.ShloMosaic.Lib.Pipeline.ValueKit
public import Idealize.ShloMosaic.Lib.StableHlo.ReadAt

@[expose] public section

set_option maxRecDepth 16384

noncomputable section

namespace Cert.Kernel4Ideal.Tile

open Cert.Kernel4Ideal Cert.Kernel4Ideal.Gen Cert.Ffn
open Idealize.ShloMosaic Idealize.ShloMosaic.TcCoe

variable (m : (ℓ : Loc nD τ sig) → Buf (Elt Ideal) ℓ) (c : Dev nD)

/-- The arguments as arrays. -/
abbrev argX : FVec Ideal S8x4096x1024 .f32 := m ((c : Thread nD τ).loc main_arg0)
abbrev argG : FVec Ideal S1024 .f32 := m ((c : Thread nD τ).loc main_arg1)
abbrev argW : FVec Ideal S1024x5632 .f32 := m ((c : Thread nD τ).loc main_arg2)
abbrev argCw : FVec Ideal S3x5632 .f32 := m ((c : Thread nD τ).loc main_arg3)
abbrev argCb : FVec Ideal S5632 .f32 := m ((c : Thread nD τ).loc main_arg4)
abbrev argWd : FVec Ideal S2816x1024 .f32 := m ((c : Thread nD τ).loc main_arg5)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

theorem iblk0_at (t : Fin cfg0.N) (r : Fin 512) (k : Fin 1024) (b : Fin 8) (s : Fin 4096) (h : 4096 * b.val + s.val = 512 * t.val + r.val) :
    (iblk m c 0 t : Vec Ideal S512x1024 .f32) (ix2 r k) = argX m c (ix3 b s k) := by
  blk_ext! [iblk, V, idx t]

theorem iblk1_at (t : Fin cfg0.N) (k : Fin 1024) : (iblk m c 1 t : Vec Ideal S1x1024 .f32) (ix2 0 k) = argG m c (ix1 k) := by
  blk_ext! [iblk, V, idx t]

theorem iblk2_at (t : Fin cfg0.N) (k : Fin 1024) (j : Fin 5632) : (iblk m c 2 t : Vec Ideal S1024x5632 .bf16) (ix2 k j) = argW m c (ix2 k j) := by
  blk_ext! [iblk, V, idx t]

theorem iblk3_at (t : Fin cfg0.N) (k : Fin 3) (j : Fin 5632) : (iblk m c 3 t : Vec Ideal S3x5632 .f32) (ix2 k j) = argCw m c (ix2 k j) := by
  blk_ext! [iblk, V, idx t]

theorem iblk4_at (t : Fin cfg0.N) (j : Fin 5632) : (iblk m c 4 t : Vec Ideal S1x5632 .f32) (ix2 0 j) = argCb m c (ix1 j) := by
  blk_ext! [iblk, V, idx t]

theorem iblk5_at (t : Fin cfg0.N) (k : Fin 2816) (j : Fin 1024) : (iblk m c 5 t : Vec Ideal S2816x1024 .bf16) (ix2 k j) = argWd m c (ix2 k j) := by
  blk_ext! [iblk, V, idx t]

/-- The arguments as the layer's functions. -/
abbrev X (b : Fin 8) (s : Fin 4096) (k : Fin 1024) : EReal := argX m c (ix3 b s k)
abbrev G (k : Fin 1024) : EReal := argG m c (ix1 k)
abbrev W (k : Fin 1024) (j : Fin 5632) : EReal := argW m c (ix2 k j)
abbrev Cw (i : Fin 3) (j : Fin 5632) : EReal := argCw m c (ix2 i j)
abbrev Cb (j : Fin 5632) : EReal := argCb m c (ix1 j)
abbrev Wd (i : Fin 2816) (j : Fin 1024) : EReal := argWd m c (ix2 i j)

/-- The product the tile `n` holds at its row `r`. -/
theorem row_at (n : ℕ) (hn : n < cfg0.N) (r : Fin 512) (c' : Fin 5632) (b : Fin 8) (s : Fin 4096)
    (h : 4096 * b.val + s.val = 512 * n + r.val) :
    up (fun k => (iblk m c 0 ⟨n, hn⟩ : Vec Ideal S512x1024 .f32) (ix2 r k))
      (fun k => (iblk m c 1 ⟨n, hn⟩ : Vec Ideal S1x1024 .f32) (ix2 0 k))
      (fun k j => (iblk m c 2 ⟨n, hn⟩ : Vec Ideal S1024x5632 .bf16) (ix2 k j)) c' = up (X m c b s) (G m c) (W m c) c' := by
  refine congrFun (congr (congrArg₂ up (funext fun k => ?_) (funext fun k => ?_)) (funext fun k => funext fun j => ?_)) c'
  · exact iblk0_at m c ⟨n, hn⟩ r k b s h
  · exact iblk1_at m c ⟨n, hn⟩ k
  · exact iblk2_at m c ⟨n, hn⟩ k j

/-- The carry after the tile `n`. -/
theorem carry_at (n : ℕ) (hn : n < cfg0.N) (a : Fin 8) (c' : Fin 5632) (b : Fin 8) (s : Fin 4096)
    (h : 4096 * b.val + s.val = 512 * n + (504 + a.val)) :
    (outsAt0 m c n hn).2 (ix2 a c') = up (X m c b s) (G m c) (W m c) c' := by
  refine Eq.trans ?_ (row_at m c n hn ⟨504 + a.val, by omega⟩ c' b s h)
  by_cases h0 : n % 8 = 0
  · refine (congrArg (fun p => p.2 (ix2 a c')) (outsAt0_A m c ⟨n, hn⟩ h0)).trans ?_
    dsimp only
    exact carry_A_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) ((hcond0_0 ⟨n, hn⟩).mpr h0) a c'
  · have hn1 : n - 1 < cfg0.N := lt_of_le_of_lt (Nat.sub_le n 1) hn
    refine (congrArg (fun p => p.2 (ix2 a c')) (outsAt0_B m c ⟨n, hn⟩ h0)).trans ?_
    dsimp only
    exact carry_B_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (outsAt0 m c (n - 1) hn1).2 (fun h => h0 ((hcond0_0 ⟨n, hn⟩).mp h)) a c'

/-- What a tile writes is the layer, given what its taps are. -/
theorem down_at (n : ℕ) (hn : n < cfg0.N) (a : Fin 512) (j : Fin 1024) (b : Fin 8) (s : Fin 4096)
    (h : 4096 * b.val + s.val = 512 * n + a.val) (p : Fin 8 → Fin 5632 → EReal)
    (hp0 : n % 8 = 0 → ∀ r c, p r c = 0)
    (hp : ¬ n % 8 = 0 → ∀ (r : Fin 8) (s' : Fin 4096), 4096 * b.val + s'.val = 512 * (n - 1) + (504 + r.val) → ∀ c', p r c' = up (X m c b s') (G m c) (W m c) c') :
    down (fun k => (iblk m c 0 ⟨n, hn⟩ : Vec Ideal S512x1024 .f32) (ix2 a k))
      (gate (conv (fun i c' => (iblk m c 3 ⟨n, hn⟩ : Vec Ideal S3x5632 .f32) (ix2 i c')) (fun c' => (iblk m c 4 ⟨n, hn⟩ : Vec Ideal S1x5632 .f32) (ix2 0 c'))
        (wide p (fun a c' => up (fun k => (iblk m c 0 ⟨n, hn⟩ : Vec Ideal S512x1024 .f32) (ix2 a k))
      (fun k => (iblk m c 1 ⟨n, hn⟩ : Vec Ideal S1x1024 .f32) (ix2 0 k))
      (fun k j => (iblk m c 2 ⟨n, hn⟩ : Vec Ideal S1024x5632 .bf16) (ix2 k j)) c') 6 a)
        (wide p (fun a c' => up (fun k => (iblk m c 0 ⟨n, hn⟩ : Vec Ideal S512x1024 .f32) (ix2 a k))
      (fun k => (iblk m c 1 ⟨n, hn⟩ : Vec Ideal S1x1024 .f32) (ix2 0 k))
      (fun k j => (iblk m c 2 ⟨n, hn⟩ : Vec Ideal S1024x5632 .bf16) (ix2 k j)) c') 7 a)
        (fun c' => up (fun k => (iblk m c 0 ⟨n, hn⟩ : Vec Ideal S512x1024 .f32) (ix2 a k))
      (fun k => (iblk m c 1 ⟨n, hn⟩ : Vec Ideal S1x1024 .f32) (ix2 0 k))
      (fun k j => (iblk m c 2 ⟨n, hn⟩ : Vec Ideal S1024x5632 .bf16) (ix2 k j)) c')))
      (fun i j => (iblk m c 5 ⟨n, hn⟩ : Vec Ideal S2816x1024 .bf16) (ix2 i j)) j
    = layer (X m c) (G m c) (W m c) (Cw m c) (Cb m c) (Wd m c) b s j := by
  unfold layer
  refine congrFun (congr (congrArg₂ down (funext fun k => ?_) (congrArg gate ?_)) (funext fun i => funext fun j => ?_)) j
  · exact iblk0_at m c ⟨n, hn⟩ a k b s h
  · have hu : ∀ c' (a' : Fin 512) (s' : Fin 4096), 4096 * b.val + s'.val = 512 * n + a'.val →
        up (fun k => (iblk m c 0 ⟨n, hn⟩ : Vec Ideal S512x1024 .f32) (ix2 a' k))
          (fun k => (iblk m c 1 ⟨n, hn⟩ : Vec Ideal S1x1024 .f32) (ix2 0 k))
          (fun k j => (iblk m c 2 ⟨n, hn⟩ : Vec Ideal S1024x5632 .bf16) (ix2 k j)) c' = up (X m c b s') (G m c) (W m c) c' :=
      fun c' a' s' h' => row_at m c n hn a' c' b s' h'
    refine congr (congr (congr (congrArg₂ conv (funext fun i => funext fun c' => ?_) (funext fun c' => ?_)) (funext fun c' => ?_)) (funext fun c' => ?_)) (funext fun c' => ?_)
    · exact iblk3_at m c ⟨n, hn⟩ i c'
    · exact iblk4_at m c ⟨n, hn⟩ c'
    · exact wide_tap (X m c) (G m c) (W m c) p _ n 2 (by decide) b s a c' h (hu c') (fun h0 r => hp0 h0 r c') (fun h0 r s' h' => hp h0 r s' h' c')
    · exact wide_tap (X m c) (G m c) (W m c) p _ n 1 (by decide) b s a c' h (hu c') (fun h0 r => hp0 h0 r c') (fun h0 r s' h' => hp h0 r s' h' c')
    · exact hu c' a s h
  · exact iblk5_at m c ⟨n, hn⟩ i j

/-- The output block after the tile `n`. -/
theorem out_at (n : ℕ) (hn : n < cfg0.N) (a : Fin 512) (j : Fin 1024) (b : Fin 8) (s : Fin 4096)
    (h : 4096 * b.val + s.val = 512 * n + a.val) :
    (outsAt0 m c n hn).1 (ix2 a j) = layer (X m c) (G m c) (W m c) (Cw m c) (Cb m c) (Wd m c) b s j := by
  by_cases h0 : n % 8 = 0
  · refine (congrArg (fun p => p.1 (ix2 a j)) (outsAt0_A m c ⟨n, hn⟩ h0)).trans ?_
    dsimp only
    exact (out_A_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) ((hcond0_0 ⟨n, hn⟩).mpr h0) a j).trans (down_at m c n hn a j b s h (fun _ _ => 0) (fun _ _ _ => rfl) (fun h => absurd h0 h))
  · have hn1 : n - 1 < cfg0.N := lt_of_le_of_lt (Nat.sub_le n 1) hn
    refine (congrArg (fun p => p.1 (ix2 a j)) (outsAt0_B m c ⟨n, hn⟩ h0)).trans ?_
    dsimp only
    refine (out_B_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) scM0_0 (Memref.isWhole_whole _) scM0_1 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (outsAt0 m c (n - 1) hn1).2 (fun h => h0 ((hcond0_0 ⟨n, hn⟩).mp h)) a j).trans (down_at m c n hn a j b s h (fun r c' => (outsAt0 m c (n - 1) hn1).2 (ix2 r c')) (fun h => absurd h h0) ?_)
    intro _ r s' h' c'
    exact carry_at m c (n - 1) _ r c' b s' h'

/-- The kernel's result at row `n`, column `j`. -/
theorem result_at (n : Fin 32768) (j : Fin 1024) (b : Fin 8) (s : Fin 4096) (h : 4096 * b.val + s.val = n.val) :
    Cert.Kernel4Ideal.Value.G7 m c (ix2 n j) = layer (X m c) (G m c) (W m c) (Cw m c) (Cb m c) (Wd m c) b s j := by
  have ht : n.val / 512 < cfg0.N := by rw [show cfg0.N = 64 from N_0]; omega
  have hp : Cert.Kernel4Ideal.Value.pt7Of (ix2 n j) = n.val / 512 := by
    show 1 * (n.val / 512 - 0) + 1 * (j.val / 1024 - 0) = n.val / 512
    omega
  unfold Cert.Kernel4Ideal.Value.G7
  rw [dif_pos (by rw [hp]; exact ht)]
  simp only [hp]
  rw [← Cert.Kernel4Ideal.Value.outsAt0_sweep m c (n.val / 512) ht]
  have hl : Cert.Kernel4Ideal.Value.loc7Of (ix2 n j) = ix2 ⟨n.val % 512, by omega⟩ j := by
    funext d
    refine Fin.ext ?_
    match d with
    | ⟨0, _⟩ => rfl
    | ⟨1, _⟩ => show j.val % 1024 = j.val; omega
  rw [hl]
  exact out_at m c (n.val / 512) ht ⟨n.val % 512, by omega⟩ j b s (by show 4096 * b.val + s.val = 512 * (n.val / 512) + n.val % 512; omega)

end Cert.Kernel4Ideal.Tile

end
-- ==== Proof.Claims.lean ====
/-
The four programs' equalities: what each feed-forward kernel leaves is what its reference leaves.
-/
module

public import proofs.«01_k».proof.Proof.Value2
public import proofs.«01_k».proof.Proof.Value3
public import proofs.«01_k».proof.Proof.Value4
public import proofs.«01_k».proof.Proof.Gen.Reference2Ideal.Run
public import proofs.«01_k».proof.Proof.Gen.Reference3Ideal.Run
public import proofs.«01_k».proof.Proof.Gen.Reference4Ideal.Run
public import proofs.«01_k».proof.Defs

@[expose] public section

set_option maxRecDepth 16384

noncomputable section

namespace Cert.Ffn

open Idealize.ShloMosaic Idealize.ShloMosaic.TcCoe

/-! ## The reference of the mixing layer -/

section
open Cert.Reference3Ideal Cert.Reference3Ideal.Gen

/-- The two halves of the mixer's output, concatenated, through the output projection, on the residual. -/
def hostMix (x : FVec Ideal S8x4096x1024 .f32) (t : FVec Ideal S8x512x4096 .bf16) (b : FVec Ideal S32768x512 .bf16)
    (w : FVec Ideal S1024x1024 .f32) : FVec Ideal S8x4096x1024 .f32 :=
  addf x (Host.dotGeneral dot_S8x4096x1024_S1024x1024_S8x4096x1024_2_0_01_1_n_n none (concatenate S8x4096x1024 2 [⟨S8x4096x512, (extf .f32 (transpose S8x4096x512 [0, 2, 1] t transposes_S8x512x4096_S8x4096x512_0_2_1) bitsLt_bf16_f32)⟩, ⟨S8x4096x512, (shapeCast _ (extf .f32 b bitsLt_bf16_f32) shapeCasts_S32768x512_S8x4096x512)⟩] concatenates_S8x4096x512_S8x4096x512_S8x4096x1024_d2) w)

theorem hostMix_at (x : FVec Ideal S8x4096x1024 .f32) (t : FVec Ideal S8x512x4096 .bf16) (o : FVec Ideal S32768x512 .bf16)
    (w : FVec Ideal S1024x1024 .f32) (b : Fin 8) (s : Fin 4096) (k : Fin 1024) :
    hostMix x t o w (ix3 b s k)
      = mix (fun k => x (ix3 b s k)) (fun i => t (ix3 b i s)) (fun i => o (ix2 ⟨4096 * b.val + s.val, by omega⟩ i)) (fun i k => w (ix2 i k)) k := by
  have e : (⟨4096 * b.val + s.val, by omega⟩ : Fin 32768) = ⟨b.val * 4096 + s.val, by omega⟩ := Fin.ext (by dsimp only; omega)
  rw [e]
  pointwise [hostMix, mix]

end

/-! ## Kernel4Ideal and its reference -/

theorem ref4 (m : (ℓ : Loc Cert.Reference4Ideal.nD Cert.Reference4Ideal.τ Cert.Reference4Ideal.sig) → Buf (Elt Ideal) ℓ) (c : Dev Cert.Reference4Ideal.nD) :
    Cert.Reference4Ideal.Value.res_main_v46 m c = hostFlat (hostLayer (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) := rfl

theorem equal4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))
    : Cert.Reference4Ideal.Value.res_main_v46 m' c = Cert.Kernel4Ideal.Value.G7 m c := by
  rw [ref4, h0, h1, h2, h3, h4, h5]
  funext i
  obtain ⟨n, j, rfl⟩ : ∃ (n : Fin 32768) (j : Fin 1024), i = ix2 n j := ⟨i 0, i 1, by funext d; match d with | ⟨0, _⟩ => rfl | ⟨1, _⟩ => rfl⟩
  have e := Cert.Kernel4Ideal.Tile.result_at m c n j ⟨n.val / 4096, by omega⟩ ⟨n.val % 4096, by omega⟩ (by dsimp only; omega)
  rw [e, hostFlat_at]
  exact hostLayer_at _ _ _ _ _ _ _ _ j

theorem algebraic4 : Cert.algebraic_Kernel4Ideal_Reference4Ideal (hKernel4Ideal := Cert.Kernel4Ideal.Gen.facts) (hReference4Ideal := Cert.Reference4Ideal.Gen.facts) := by
  intro m g m' g' _ h
  refine ⟨fun c => Cert.Kernel4Ideal.Value.G7 m c, Cert.Kernel4Ideal.Value.run m g, ?_⟩
  refine (θ_run Cert.Reference4Ideal.defs _ _).mono (fun r hr c => ⟨?_, (hr c).2⟩) (Cert.Reference4Ideal.Value.run m' g')
  refine ((hr c).1).trans ?_
  obtain ⟨h0, h1, h2, h3, h4, h5, h6⟩ := h c
  exact equal4 m m' c h0 h1 h2 h3 h4 h5

theorem quiescent4 : Cert.quiescent_Reference4Ideal (hReference4Ideal := Cert.Reference4Ideal.Gen.facts) := by
  intro m g _
  exact (θ_run Cert.Reference4Ideal.defs _ _).mono (fun r hr => ⟨fun c => (hr c).2, sem_eq_zero_of_no_sems (by decide) r.2⟩) (Cert.Reference4Ideal.Value.run m g)

/-! ## Kernel2Ideal and its reference -/

theorem ref2 (m : (ℓ : Loc Cert.Reference2Ideal.nD Cert.Reference2Ideal.τ Cert.Reference2Ideal.sig) → Buf (Elt Ideal) ℓ) (c : Dev Cert.Reference2Ideal.nD) :
    Cert.Reference2Ideal.Value.res_main_v59 m c = hostFlat (hostNorm (hostLayer (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) (m ((c.tc : Thread Cert.Reference2Ideal.nD Cert.Reference2Ideal.τ).loc Cert.Reference2Ideal.main_arg6))) := rfl

theorem equal2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    : Cert.Reference2Ideal.Value.res_main_v59 m' c = Cert.Kernel2Ideal.Value.G7 m c := by
  rw [ref2, h0, h1, h2, h3, h4, h5, h6]
  funext i
  obtain ⟨n, j, rfl⟩ : ∃ (n : Fin 32768) (j : Fin 1024), i = ix2 n j := ⟨i 0, i 1, by funext d; match d with | ⟨0, _⟩ => rfl | ⟨1, _⟩ => rfl⟩
  have e := Cert.Kernel2Ideal.Tile.result_at m c n j ⟨n.val / 4096, by omega⟩ ⟨n.val % 4096, by omega⟩ (by dsimp only; omega)
  rw [e, hostFlat_at]
  rw [hostNorm_at]
  refine congrArg (fun f => nrm f _ j) (funext fun k => ?_)
  exact hostLayer_at _ _ _ _ _ _ _ _ k

theorem algebraic2 : Cert.algebraic_Kernel2Ideal_Reference2Ideal (hKernel2Ideal := Cert.Kernel2Ideal.Gen.facts) (hReference2Ideal := Cert.Reference2Ideal.Gen.facts) := by
  intro m g m' g' _ h
  refine ⟨fun c => Cert.Kernel2Ideal.Value.G7 m c, Cert.Kernel2Ideal.Value.run m g, ?_⟩
  refine (θ_run Cert.Reference2Ideal.defs _ _).mono (fun r hr c => ⟨?_, (hr c).2⟩) (Cert.Reference2Ideal.Value.run m' g')
  refine ((hr c).1).trans ?_
  obtain ⟨h0, h1, h2, h3, h4, h5, h6⟩ := h c
  exact equal2 m m' c h0 h1 h2 h3 h4 h5 h6

theorem quiescent2 : Cert.quiescent_Reference2Ideal (hReference2Ideal := Cert.Reference2Ideal.Gen.facts) := by
  intro m g _
  exact (θ_run Cert.Reference2Ideal.defs _ _).mono (fun r hr => ⟨fun c => (hr c).2, sem_eq_zero_of_no_sems (by decide) r.2⟩) (Cert.Reference2Ideal.Value.run m g)

/-! ## Kernel3Ideal and its reference -/

theorem ref3 (m : (ℓ : Loc Cert.Reference3Ideal.nD Cert.Reference3Ideal.τ Cert.Reference3Ideal.sig) → Buf (Elt Ideal) ℓ) (c : Dev Cert.Reference3Ideal.nD) :
    Cert.Reference3Ideal.Value.res_main_v53 m c = hostFlat (hostLayer (hostMix (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))) := rfl

theorem equal3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8))
    : Cert.Reference3Ideal.Value.res_main_v53 m' c = Cert.Kernel3Ideal.Value.G10 m c := by
  rw [ref3, h0, h1, h2, h3, h4, h5, h6, h7, h8]
  funext i
  obtain ⟨n, j, rfl⟩ : ∃ (n : Fin 32768) (j : Fin 1024), i = ix2 n j := ⟨i 0, i 1, by funext d; match d with | ⟨0, _⟩ => rfl | ⟨1, _⟩ => rfl⟩
  have e := Cert.Kernel3Ideal.Tile.result_at m c n j ⟨n.val / 4096, by omega⟩ ⟨n.val % 4096, by omega⟩ (by dsimp only; omega)
  rw [e, hostFlat_at]
  rw [hostLayer_at]
  simp only [hostMix_at]

theorem algebraic3 : Cert.algebraic_Kernel3Ideal_Reference3Ideal (hKernel3Ideal := Cert.Kernel3Ideal.Gen.facts) (hReference3Ideal := Cert.Reference3Ideal.Gen.facts) := by
  intro m g m' g' _ h
  refine ⟨fun c => Cert.Kernel3Ideal.Value.G10 m c, Cert.Kernel3Ideal.Value.run m g, ?_⟩
  refine (θ_run Cert.Reference3Ideal.defs _ _).mono (fun r hr c => ⟨?_, (hr c).2⟩) (Cert.Reference3Ideal.Value.run m' g')
  refine ((hr c).1).trans ?_
  obtain ⟨h0, h1, h2, h3, h4, h5, h6, h7, h8, h9⟩ := h c
  exact equal3 m m' c h0 h1 h2 h3 h4 h5 h6 h7 h8

theorem quiescent3 : Cert.quiescent_Reference3Ideal (hReference3Ideal := Cert.Reference3Ideal.Gen.facts) := by
  intro m g _
  exact (θ_run Cert.Reference3Ideal.defs _ _).mono (fun r hr => ⟨fun c => (hr c).2, sem_eq_zero_of_no_sems (by decide) r.2⟩) (Cert.Reference3Ideal.Value.run m g)

end Cert.Ffn

end
-- ==== Proof.Lru.lean ====
/-
The recurrent mixer's arithmetic: the gates, the recurrence's coefficients, and the recurrence over
eight rows at a time.
-/
module

public import proofs.«01_k».proof.Proof.Ffn
public import Idealize.ShloMosaic.Lib.Pointwise

@[expose] public section

set_option maxRecDepth 16384

noncomputable section

namespace Cert.Lru

open Cert.Ffn
open Idealize.ShloMosaic

/-! ## One position -/

/-- The normed row through the first matrix. -/
def pre (x g : Fin 1024 → EReal) (w : Fin 1024 → Fin 2048 → EReal) (b : Fin 2048 → EReal) (c : Fin 2048) : EReal :=
  (∑ k, nrm x g k * w k c) + b c

/-- The half that gates the output. -/
def pre0 (x g : Fin 1024 → EReal) (w : Fin 1024 → Fin 2048 → EReal) (b : Fin 2048 → EReal) (c : Fin 1024) : EReal :=
  pre x g w b ⟨c.val, by omega⟩

/-- The half that the recurrence runs over. -/
def pre1 (x g : Fin 1024 → EReal) (w : Fin 1024 → Fin 2048 → EReal) (b : Fin 2048 → EReal) (c : Fin 1024) : EReal :=
  pre x g w b ⟨1024 + c.val, by omega⟩

/-- The smooth gate `gelu`, by the hyperbolic tangent. -/
def gelu (z : EReal) : EReal :=
  z * (Ideal.ofBits .f32 0x3F000000#32 * (1 + Ideal.tanh (Ideal.ofBits .f32 0x3F4C422A#32 * (z + Ideal.ofBits .f32 0x3D372713#32 * (z * z * z)))))

/-- Four taps of a causal convolution, the oldest row first. -/
def taps (w : Fin 4 → EReal) (b p3 p2 p1 p0 : EReal) : EReal :=
  w 0 * p3 + w 1 * p2 + w 2 * p1 + w 3 * p0 + b

/-- The logarithm of the logistic function. -/
def lsig (l : EReal) : EReal :=
  -(max (-l) 0 + Ideal.log1p (Ideal.exp (-(FloatOps.absf (F := Ideal) (φ := .f32) (-l)))))

/-- A gate: the logistic function of a block's product and a bias. -/
def gateOf (u w : Fin 128 → EReal) (b : EReal) : EReal :=
  Ideal.logistic ((∑ k, u k * w k) + b)

/-- The logarithm of the decay. -/
def logDecay (ls r : EReal) : EReal := Ideal.ofBits .f32 0x41000000#32 * ls * r

/-- What comes in at a position. -/
def income (L i u : EReal) : EReal := Ideal.sqrt (-(Ideal.expm1 (Ideal.ofBits .f32 0x40000000#32 * L))) * (i * u)

/-- The recurrence after `n` steps. -/
def states (A B : ℕ → EReal) (h : EReal) : ℕ → EReal
  | 0 => h
  | n + 1 => A n * states A B h n + B n

/-! ## The forms the kernel uses -/

theorem half_val' : Ideal.ofBits .f32 0x3F000000#32 = ((1 / 2 : ℝ) : EReal) := by
  simp [Ideal.ofBits, Ideal.ieee, -EReal.coe_mul]; norm_num
theorem two_val : Ideal.ofBits .f32 0x40000000#32 = ((2 : ℝ) : EReal) := by
  simp [Ideal.ofBits, Ideal.ieee, -EReal.coe_mul]; norm_num
theorem eight_val : Ideal.ofBits .f32 0x41000000#32 = ((8 : ℝ) : EReal) := by
  simp [Ideal.ofBits, Ideal.ieee, -EReal.coe_mul]; norm_num
theorem root_val : Ideal.ofBits .f32 0x3F4C422A#32 = ((13386282 / 16777216 : ℝ) : EReal) := by
  simp [Ideal.ofBits, Ideal.ieee, -EReal.coe_mul]; norm_num
theorem cube_val : Ideal.ofBits .f32 0x3D372713#32 = ((12003091 / 268435456 : ℝ) : EReal) := by
  simp [Ideal.ofBits, Ideal.ieee, -EReal.coe_mul]; norm_num

/-- The kernel's form of the smooth gate. -/
theorem gelu_eq (z : EReal) :
    z * (Ideal.ofBits .f32 0x3F000000#32 + Ideal.ofBits .f32 0x3F000000#32 * Ideal.tanh (z * (Ideal.ofBits .f32 0x3F4C422A#32 + ((80338380498831 / 2251799813685248 : ℝ) : EReal) * (z * z))))
      = gelu z := by
  have inner : z * (Ideal.ofBits .f32 0x3F4C422A#32 + ((80338380498831 / 2251799813685248 : ℝ) : EReal) * (z * z))
      = Ideal.ofBits .f32 0x3F4C422A#32 * (z + Ideal.ofBits .f32 0x3D372713#32 * (z * z * z)) := by
    rw [root_val, cube_val]
    induction z with
    | bot =>
      rw [EReal.bot_mul_bot, EReal.coe_mul_top_of_pos (by norm_num), EReal.coe_add_top, EReal.bot_mul_top, EReal.top_mul_bot,
        EReal.coe_mul_bot_of_pos (by norm_num), EReal.bot_add, EReal.coe_mul_bot_of_pos (by norm_num)]
    | top =>
      rw [EReal.top_mul_top, EReal.coe_mul_top_of_pos (by norm_num), EReal.coe_add_top, EReal.top_mul_top,
        EReal.coe_mul_top_of_pos (by norm_num), EReal.top_add_top, EReal.coe_mul_top_of_pos (by norm_num)]
    | coe r =>
      simp only [← EReal.coe_mul, ← EReal.coe_add]
      congr 1; ring
  unfold gelu
  rw [inner, half_val']
  generalize Ideal.ofBits .f32 0x3F4C422A#32 * (z + Ideal.ofBits .f32 0x3D372713#32 * (z * z * z)) = y
  congr 1
  induction y using EReal.rec with
  | bot => rw [Ideal.tanh_bot, show (-1 : EReal) = ((-1 : ℝ) : EReal) by norm_num, show (1 : EReal) = ((1 : ℝ) : EReal) by norm_num]
           simp only [← EReal.coe_mul, ← EReal.coe_add]; norm_num
  | top => rw [Ideal.tanh_top, show (1 : EReal) = ((1 : ℝ) : EReal) by norm_num]
           simp only [← EReal.coe_mul, ← EReal.coe_add]; norm_num
  | coe r => rw [Ideal.tanh_coe, show (1 : EReal) = ((1 : ℝ) : EReal) by norm_num]
             simp only [← EReal.coe_mul, ← EReal.coe_add]; congr 1; ring

theorem real_income (r : ℝ) : -Real.tanh r * (Real.exp r * Real.exp r + 1) = -(Real.exp (2 * r) - 1) := by
  have h1 : Real.exp r * Real.exp (-r) = 1 := by rw [← Real.exp_add]; simp
  have hp := Real.exp_pos r
  have hq := Real.exp_pos (-r)
  rw [Real.tanh_eq_sinh_div_cosh, Real.sinh_eq, Real.cosh_eq, show (2 : ℝ) * r = r + r by ring, Real.exp_add]
  generalize Real.exp r = a at *
  generalize Real.exp (-r) = b at *
  have hb : b = 1 / a := by field_simp; linarith
  subst hb
  have : a * a + 1 ≠ 0 := by positivity
  field_simp

/-- The kernel's form of what comes in. -/
theorem income_eq (L : EReal) :
    (0 - Ideal.tanh L) * (Ideal.exp L * Ideal.exp L + 1) = -(Ideal.expm1 (Ideal.ofBits .f32 0x40000000#32 * L)) := by
  rw [two_val]
  induction L with
  | bot => rw [EReal.coe_mul_bot_of_pos (by norm_num), Ideal.tanh_bot, Ideal.exp_bot, Ideal.expm1, Ideal.exp_bot]; norm_num
  | top => rw [EReal.coe_mul_top_of_pos (by norm_num), Ideal.tanh_top, Ideal.expm1, Ideal.exp_top]
           rw [EReal.top_mul_top, show (1 : EReal) = ((1 : ℝ) : EReal) by norm_num, EReal.top_add_coe, EReal.top_sub_coe, show (0 : EReal) - ((1 : ℝ) : EReal) = ((-1 : ℝ) : EReal) by norm_num, EReal.coe_mul_top_of_neg (by norm_num), EReal.neg_top]
  | coe r =>
    rw [← EReal.coe_mul, Ideal.tanh_coe, Ideal.exp_coe, Ideal.expm1, Ideal.exp_coe]
    rw [show (1 : EReal) = ((1 : ℝ) : EReal) by norm_num, show (0 : EReal) = ((0 : ℝ) : EReal) by norm_num]
    simp only [← EReal.coe_mul, ← EReal.coe_add, ← EReal.coe_neg, ← EReal.coe_sub]
    congr 1
    rw [zero_sub, real_income]

/-! ## The decay is between zero and one -/

theorem logistic_nonneg (x : EReal) : 0 ≤ Ideal.logistic x := by
  induction x with
  | bot => rw [Ideal.logistic_bot]
  | top => rw [Ideal.logistic_top]; norm_num
  | coe r => rw [Ideal.logistic_coe]; exact EReal.coe_nonneg.mpr (by positivity)

theorem log1p_exp_nonneg (x : EReal) : 0 ≤ Ideal.log1p (Ideal.exp x) := by
  unfold Ideal.log1p
  rw [show (1 : EReal) = ((1 : ℝ) : EReal) by norm_num]
  induction x with
  | bot => rw [Ideal.exp_bot, add_zero, Ideal.log_coe, if_neg (by norm_num), Real.log_one]; norm_num
  | top => rw [Ideal.exp_top, EReal.coe_add_top, Ideal.log_top]; exact le_top
  | coe r =>
    have h := Real.exp_pos r
    rw [Ideal.exp_coe, ← EReal.coe_add, Ideal.log_coe, if_neg (by linarith)]
    exact EReal.coe_nonneg.mpr (Real.log_nonneg (by linarith))

theorem lsig_nonpos (l : EReal) : lsig l ≤ 0 := by
  unfold lsig
  have h : 0 ≤ max (-l) 0 + Ideal.log1p (Ideal.exp (-(FloatOps.absf (F := Ideal) (φ := .f32) (-l)))) := add_nonneg (le_max_right _ _) (log1p_exp_nonneg _)
  have h' := EReal.neg_le_neg_iff.mpr h
  rwa [neg_zero] at h'

theorem logDecay_nonpos (l r : EReal) (hr : 0 ≤ r) : logDecay (lsig l) r ≤ 0 := by
  unfold logDecay
  rw [eight_val]
  have h8 : (0 : EReal) ≤ ((8 : ℝ) : EReal) := EReal.coe_nonneg.mpr (by norm_num)
  have hl := lsig_nonpos l
  have hn : 0 ≤ -lsig l := by have h := EReal.neg_le_neg_iff.mpr hl; rwa [neg_zero] at h
  have hp := EReal.neg_le_neg_iff.mpr (mul_nonneg (mul_nonneg h8 hn) hr)
  rw [mul_comm ((8 : ℝ) : EReal) (-lsig l), EReal.neg_mul, EReal.neg_mul, neg_neg, neg_zero] at hp
  rwa [mul_comm ((8 : ℝ) : EReal) (lsig l)]

theorem decay_nonneg (L : EReal) : 0 ≤ Ideal.exp L := by
  induction L with
  | bot => rw [Ideal.exp_bot]
  | top => rw [Ideal.exp_top]; exact le_top
  | coe r => rw [Ideal.exp_coe]; exact EReal.coe_nonneg.mpr (Real.exp_pos r).le

theorem decay_ne_top (L : EReal) (h : L ≤ 0) : Ideal.exp L ≠ ⊤ := by
  induction L with
  | bot => rw [Ideal.exp_bot]; exact EReal.zero_ne_top
  | top => exact absurd h (by simp)
  | coe r => rw [Ideal.exp_coe]; exact EReal.coe_ne_top _

/-- A decay spreads over a sum. -/
theorem decay_mul_add (a p q : EReal) (h0 : 0 ≤ a) (ht : a ≠ ⊤) : a * (p + q) = a * p + a * q :=
  EReal.left_distrib_of_nonneg_of_ne_top h0 ht p q

/-! ## The layer over a sequence -/

/-- The layer's parameters. -/
structure Par where
  g : Fin 1024 → EReal
  w : Fin 1024 → Fin 2048 → EReal
  b : Fin 2048 → EReal
  cw : Fin 4 → Fin 1024 → EReal
  cb : Fin 1024 → EReal
  wr : Fin 8 → Fin 128 → Fin 128 → EReal
  wi : Fin 8 → Fin 128 → Fin 128 → EReal
  ba : Fin 1024 → EReal
  bi : Fin 1024 → EReal
  lam : Fin 1024 → EReal
  wo : Fin 1024 → Fin 1024 → EReal
  bo : Fin 1024 → EReal

/-- A column's block. -/
def blkOf (c : Fin 1024) : Fin 8 := ⟨c.val / 128, by omega⟩

/-- A column's place in its block. -/
def inBlk (c : Fin 1024) : Fin 128 := ⟨c.val % 128, by omega⟩

/-- The columns of a column's block. -/
def blkCol (c : Fin 1024) (k : Fin 128) : Fin 1024 := ⟨128 * (c.val / 128) + k.val, by omega⟩

section Layer

variable (p : Par) (X : Fin 4096 → Fin 1024 → EReal)

/-- The recurrence's half, with three rows of zeros in front. -/
def Par.z (t : ℕ) (c : Fin 1024) : EReal :=
  if h : 3 ≤ t ∧ t < 4099 then pre1 (X ⟨t - 3, by omega⟩) p.g p.w p.b c else 0

/-- The convolution's result. -/
def Par.u (s : ℕ) (c : Fin 1024) : EReal :=
  taps (fun i => p.cw i c) (p.cb c) (p.z X s c) (p.z X (s + 1) c) (p.z X (s + 2) c) (p.z X (s + 3) c)

/-- The logarithm of the decay. -/
def Par.L (s : ℕ) (c : Fin 1024) : EReal :=
  logDecay (lsig (p.lam c)) (gateOf (fun k => p.u X s (blkCol c k)) (fun k => p.wr (blkOf c) k (inBlk c)) (p.ba c))

/-- The decay. -/
def Par.A (c : Fin 1024) (s : ℕ) : EReal := Ideal.exp (p.L X s c)

/-- What comes in. -/
def Par.B (c : Fin 1024) (s : ℕ) : EReal :=
  income (p.L X s c) (gateOf (fun k => p.u X s (blkCol c k)) (fun k => p.wi (blkOf c) k (inBlk c)) (p.bi c)) (p.u X s c)

/-- The state after `s` rows. -/
def Par.H (s : ℕ) (c : Fin 1024) : EReal := states (p.A X c) (p.B X c) 0 s

/-- The layer's result. -/
def Par.out (s : Fin 4096) (c : Fin 1024) : EReal :=
  X s c + (∑ k, p.H X (s.val + 1) k * gelu (pre0 (X s) p.g p.w p.b k) * p.wo k c) + p.bo c

theorem Par.A_spread (c : Fin 1024) (s : ℕ) (x y : EReal) : p.A X c s * (x + y) = p.A X c s * x + p.A X c s * y :=
  decay_mul_add _ x y (decay_nonneg _) (decay_ne_top _ (logDecay_nonpos _ _ (logistic_nonneg _)))

end Layer

end Cert.Lru

end
-- ==== Proof.Pays.lean ====
/-
What the recurrent mixer's kernel computes in each step, at an index.
-/
module

public import proofs.«01_k».proof.Proof.Lru
public import proofs.«01_k».proof.Proof.Gen.KernelIdeal.Skeleton

@[expose] public section

set_option maxRecDepth 16384

noncomputable section

namespace Cert.KernelIdeal.Mixer

open Cert.KernelIdeal Cert.KernelIdeal.Gen Cert.Ffn Cert.Lru
open Idealize.ShloMosaic

/-! ## A block of the gates -/

section Block
variable {F : FTy → Type} [FloatOps F] [Named F]

/-- A block's columns through both gates' matrices. -/
def blkP (ub : FVec F S1024x1024 .bf16) (w : Vec F S1x128x256 .bf16) (o : ℕ) (h : S1024x1024.Slices ![0, o] S1024x128) : FVec F S1024x256 .f32 :=
  matmul dot_S1024x128_S128x256_S1024x256_1_0_0_1_n_n none (extractStridedSlice S1024x128 ![0, o] ub h) (shapeCast S128x256 w shapeCasts_S1x128x256_S128x256) (constant S1024x256 .f32 0x00000000#32)

/-- The recurrence gate of the block, by the hyperbolic tangent. -/
def blkR (ub : FVec F S1024x1024 .bf16) (w : Vec F S1x128x256 .bf16) (b : Vec F S1x128 .f32) (o : ℕ) (h : S1024x1024.Slices ![0, o] S1024x128) : FVec F S1024x128 .f32 :=
  addf (mulf (broadcast S1024x128 (Scalar.ofBits .f32 0x3F000000#32)) (tanh (mulf (broadcast S1024x128 (Scalar.ofBits .f32 0x3F000000#32))
    (addf (extractStridedSlice S1024x128 ![0, 0] (blkP ub w o h) slices_S1024x256_o0_0_S1024x128) (broadcastTo S1024x128 (shapeCast S1x128 b shapeCasts_S1x128_S1x128) broadcasts_S1x128_S1024x128)))))
    (broadcast S1024x128 (Scalar.ofBits .f32 0x3F000000#32))

/-- The input gate of the block, by the hyperbolic tangent. -/
def blkI (ub : FVec F S1024x1024 .bf16) (w : Vec F S1x128x256 .bf16) (b : Vec F S1x128 .f32) (o : ℕ) (h : S1024x1024.Slices ![0, o] S1024x128) : FVec F S1024x128 .f32 :=
  addf (mulf (broadcast S1024x128 (Scalar.ofBits .f32 0x3F000000#32)) (tanh (mulf (broadcast S1024x128 (Scalar.ofBits .f32 0x3F000000#32))
    (addf (extractStridedSlice S1024x128 ![0, 128] (blkP ub w o h) slices_S1024x256_o0_128_S1024x128) (broadcastTo S1024x128 (shapeCast S1x128 b shapeCasts_S1x128_S1x128) broadcasts_S1x128_S1024x128)))))
    (broadcast S1024x128 (Scalar.ofBits .f32 0x3F000000#32))

/-- The logarithm of the block's decay. -/
def blkL (ls : FVec F S1x1024 .f32) (ub : FVec F S1024x1024 .bf16) (w : Vec F S1x128x256 .bf16) (b : Vec F S1x128 .f32) (o : ℕ) (h : S1024x1024.Slices ![0, o] S1024x128) (hl : S1x1024.Slices ![0, o] S1x128) : FVec F S1024x128 .f32 :=
  mulf (broadcastTo S1024x128 (mulf (broadcast S1x128 (Scalar.ofBits .f32 0x41000000#32)) (extractStridedSlice S1x128 ![0, o] ls hl)) broadcasts_S1x128_S1024x128) (blkR ub w b o h)

/-- The block's decay. -/
def blkA (ls : FVec F S1x1024 .f32) (ub : FVec F S1024x1024 .bf16) (w : Vec F S1x128x256 .bf16) (b : Vec F S1x128 .f32) (o : ℕ) (h : S1024x1024.Slices ![0, o] S1024x128) (hl : S1x1024.Slices ![0, o] S1x128) : FVec F S1024x128 .f32 :=
  shapeCast S1024x128 (exp (blkL ls ub w b o h hl)) shapeCasts_S1024x128_S1024x128

/-- What comes into the block. -/
def blkB (ls : FVec F S1x1024 .f32) (u : FVec F S1024x1024 .f32) (ub : FVec F S1024x1024 .bf16) (w : Vec F S1x128x256 .bf16) (b bi : Vec F S1x128 .f32) (o : ℕ) (h : S1024x1024.Slices ![0, o] S1024x128) (hl : S1x1024.Slices ![0, o] S1x128) : FVec F S1024x128 .f32 :=
  shapeCast S1024x128 (mulf (sqrt (mulf (subf (broadcast S1024x128 (Scalar.ofBits .f32 0x00000000#32)) (tanh (blkL ls ub w b o h hl)))
    (addf (mulf (exp (blkL ls ub w b o h hl)) (exp (blkL ls ub w b o h hl))) (broadcast S1024x128 (Scalar.ofBits .f32 0x3F800000#32)))))
    (mulf (blkI ub w bi o h) (extractStridedSlice S1024x128 ![0, o] u h))) shapeCasts_S1024x128_S1024x128

end Block

/-! ## At an index -/

/-- A column of the recurrence gate's half. -/
def lo (j : Fin 128) : Fin 256 := ⟨j.val, by omega⟩

/-- A column of the input gate's half. -/
def hi (j : Fin 128) : Fin 256 := ⟨128 + j.val, by omega⟩

section At
variable (ls : FVec Ideal S1x1024 .f32) (u : FVec Ideal S1024x1024 .f32) (ub : FVec Ideal S1024x1024 .bf16) (w : Vec Ideal S1x128x256 .bf16) (b bi : Vec Ideal S1x128 .f32)
  (o : ℕ) (h : S1024x1024.Slices ![0, o] S1024x128) (hl : S1x1024.Slices ![0, o] S1x128) (r : Fin 1024) (j : Fin 128) (c : Fin 1024) (hc : c.val = o + j.val) (kc : Fin 128 → Fin 1024) (hk : ∀ k, (kc k).val = o + k.val)

theorem blkP_at (q : Fin 256) (hk : ∀ k, (kc k).val = o + k.val) : blkP ub w o h (ix2 r q) = ∑ k, ub (ix2 r (kc k)) * w (ix3 0 k q) := by
  pointwise [blkP]
  exact Finset.sum_congr rfl fun k _ => by rw [show kc k = ⟨o + k.val, _⟩ from Fin.ext (hk k)]

include hk in
theorem blkR_at : blkR ub w b o h (ix2 r j) = gateOf (fun k => ub (ix2 r (kc k))) (fun k => w (ix3 0 k (lo j))) (b (ix2 0 j)) := by
  pointwise [blkR]
  rw [half_tanh, gateOf]
  congr 2
  refine (congrArg (blkP ub w o h) ?_).trans (blkP_at ub w o h r kc (lo j) hk)
  rfl

include hk in
theorem blkI_at : blkI ub w b o h (ix2 r j) = gateOf (fun k => ub (ix2 r (kc k))) (fun k => w (ix3 0 k (hi j))) (b (ix2 0 j)) := by
  pointwise [blkI]
  rw [half_tanh, gateOf]
  congr 2
  exact blkP_at ub w o h r kc (hi j) hk

include hk hc in
theorem blkL_at : blkL ls ub w b o h hl (ix2 r j) = logDecay (ls (ix2 0 c)) (gateOf (fun k => ub (ix2 r (kc k))) (fun k => w (ix3 0 k (lo j))) (b (ix2 0 j))) := by
  pointwise [blkL]
  rw [blkR_at ub w b o h r j kc hk, logDecay, show c = ⟨o + j.val, _⟩ from Fin.ext hc]

include hk hc in
/-- The decay of a block. -/
theorem blkA_at : blkA ls ub w b o h hl (ix2 r j) = Ideal.exp (logDecay (ls (ix2 0 c)) (gateOf (fun k => ub (ix2 r (kc k))) (fun k => w (ix3 0 k (lo j))) (b (ix2 0 j)))) := by
  pointwise [blkA]
  rw [blkL_at ls ub w b o h hl r j c hc kc hk]

include hk hc in
/-- What comes into a block. -/
theorem blkB_at : blkB ls u ub w b bi o h hl (ix2 r j) = income (logDecay (ls (ix2 0 c)) (gateOf (fun k => ub (ix2 r (kc k))) (fun k => w (ix3 0 k (lo j))) (b (ix2 0 j))))
    (gateOf (fun k => ub (ix2 r (kc k))) (fun k => w (ix3 0 k (hi j))) (bi (ix2 0 j))) (u (ix2 r c)) := by
  pointwise [blkB]
  rw [blkL_at ls ub w b o h hl r j c hc kc hk, blkI_at ub w bi o h r j kc hk, income, ← income_eq, show c = ⟨o + j.val, _⟩ from Fin.ext hc]

end At

/-! ## The rest of the tile -/

section Rest
variable (x0 w2 : FVec Ideal S1024x1024 .f32)

theorem pay4_at (x : Vec Ideal S1024x1024 .f32) (r c : Fin 1024) : k0_pay4 x (ix2 r c) = x (ix2 r c) := by
  pointwise [k0_pay4]

theorem pay6_at (x : Vec Ideal S1024x1024 .f32) (g : Vec Ideal S1x1024 .f32) (w : Vec Ideal S1024x1024 .bf16) (b : Vec Ideal S1x1024 .f32) (r c : Fin 1024) :
    k0_pay6 x g w b (ix2 r c) = (∑ k, nrm (fun k => x (ix2 r k)) (fun k => g (ix2 0 k)) k * w (ix2 k c)) + b (ix2 0 c) := by
  pointwise [k0_pay6, k0_pay5, k0_pay4, nrm]

theorem pay9_at (x : Vec Ideal S1024x1024 .f32) (g : Vec Ideal S1x1024 .f32) (w : Vec Ideal S1024x1024 .bf16) (b : Vec Ideal S1x1024 .f32) (r c : Fin 1024) :
    k0_pay9 (k0_pay5 x g) w b (ix2 r c) = (∑ k, nrm (fun k => x (ix2 r k)) (fun k => g (ix2 0 k)) k * w (ix2 k c)) + b (ix2 0 c) := by
  pointwise [k0_pay9, k0_pay5, k0_pay4, nrm]

theorem pay10_eq (x : FVec Ideal S1024x1024 .bf16) (w : Vec Ideal S1024x1024 .bf16) (b : Vec Ideal S1x1024 .f32) (r c : Fin 1024) :
    k0_pay10 x w b (ix2 r c) = k0_pay9 x w b (ix2 r c) := by
  pointwise [k0_pay10]

theorem pay8_at (x g : FVec Ideal S1024x1024 .f32) (r c : Fin 1024) (h : ∀ i, g i = x i * x i) : k0_pay8 (F := Ideal) x g (ix2 r c) = gelu (x (ix2 r c)) := by
  pointwise [k0_pay8]
  rw [← gelu_eq, h]; rfl

theorem pay7_at (x : Vec Ideal S1024x1024 .f32) (g : Vec Ideal S1x1024 .f32) (w : Vec Ideal S1024x1024 .bf16) (b : Vec Ideal S1x1024 .f32) (i) :
    k0_pay7 x g w b i = k0_pay6 x g w b i * k0_pay6 x g w b i := rfl

theorem pay11_at (x : FVec Ideal S1024x1024 .bf16) (w : Vec Ideal S1024x1024 .bf16) (b : Vec Ideal S1x1024 .f32) (cw : Vec Ideal S4x1024 .f32) (p3 p2 p1 : Vec Ideal S1024x1024 .f32) (cb : Vec Ideal S1x1024 .f32) (r c : Fin 1024) :
    k0_pay12 (k0_pay11 x w b cw p3 p2 p1) cb (ix2 r c) = taps (fun i => cw (ix2 i c)) (cb (ix2 0 c)) (p3 (ix2 r c)) (p2 (ix2 r c)) (p1 (ix2 r c)) (k0_pay9 x w b (ix2 r c)) := by
  pointwise [k0_pay12, k0_pay11, taps]

theorem pay14_at (v : FVec Ideal S1024x1024 .f32) (cb : Vec Ideal S1x1024 .f32) (r c : Fin 1024) : k0_pay14 v cb (ix2 r c) = k0_pay12 v cb (ix2 r c) := by
  pointwise [k0_pay14]

theorem pay13_at (z : FVec Ideal S1024x1024 .f32) (q : Fin 8) (c : Fin 1024) : k0_pay13 z (ix2 q c) = z (ix2 ⟨1016 + q.val, by omega⟩ c) := by
  pointwise [k0_pay13]

theorem pay15_at (l : Vec Ideal S1x1024 .f32) (c : Fin 1024) : k0_pay15 l (ix2 0 c) = lsig (l (ix2 0 c)) := by
  pointwise [k0_pay15, lsig]
  simp

theorem pay2_at (q : Fin 8) (c : Fin 1024) : k0_pay2 (F := Ideal) (ix2 q c) = 0 := by
  pointwise [k0_pay2]

theorem pay3_at (q : Fin 8) (c : Fin 1024) : k0_pay3 (F := Ideal) (ix2 q c) = 0 := by
  pointwise [k0_pay3]

theorem pay1_at (x y h : FVec Ideal S1024x1024 .f32) (w : Vec Ideal S1024x1024 .bf16) (b : Vec Ideal S1x1024 .f32) (r c : Fin 1024) :
    k0_pay1 (k0_pay82 x y h w) b (ix2 r c) = x (ix2 r c) + (∑ k, h (ix2 r k) * y (ix2 r k) * w (ix2 k c)) + b (ix2 0 c) := by
  pointwise [k0_pay1, k0_pay82]

theorem pay81_at (x : FVec Ideal S8x1024 .f32) (q : Fin 8) (c : Fin 1024) : k0_pay81 x (ix2 q c) = x (ix2 q c) := by
  pointwise [k0_pay81]

theorem sel (x y : BitVec 32) (p q : EReal) : Scalar.select (IntOp.cmpi .sge x y) p q = if IntOp.cmpi .sge x y = 1#1 then p else q := rfl
theorem v2 : (2 : Fin 8).val = 2 := rfl
theorem v3 : (3 : Fin 8).val = 3 := rfl
theorem v4 : (4 : Fin 8).val = 4 := rfl
theorem v5 : (5 : Fin 8).val = 5 := rfl
theorem v6 : (6 : Fin 8).val = 6 := rfl
theorem v7 : (7 : Fin 8).val = 7 := rfl

/-- Eight steps of the recurrence, done by doubling. -/
theorem pay78_at (hp a b : FVec Ideal S8x1024 .f32) (r : Fin 8) (c : Fin 1024) (A B : ℕ → EReal) (h0 : EReal) (n : ℕ)
    (ha : ∀ i : Fin 8, a (ix2 i c) = A (n + i.val)) (hb : ∀ i : Fin 8, b (ix2 i c) = B (n + i.val)) (hh : ∀ i : Fin 8, hp (ix2 i c) = states A B h0 n)
    (hd : ∀ i p q, A i * (p + q) = A i * p + A i * q) :
    k0_pay78 (F := Ideal) hp a b (ix2 r c) = states A B h0 (n + r.val + 1) := by
  fin_cases r <;> pointwise [k0_pay78] <;>
    simp (decide := true) only [sel, if_true, if_false, ha, hb, hh, states, Fin.val_zero, Fin.val_one, v2, v3, v4, v5, v6, v7, add_zero, Nat.add_zero, mul_assoc, hd, add_assoc, Fin.mk_zero]

theorem pay79_at (hp a b : FVec Ideal S8x1024 .f32) (r : Fin 8) (c : Fin 1024) : k0_pay79 (F := Ideal) hp a b (ix2 r c) = k0_pay78 (F := Ideal) hp a b (ix2 r c) := by
  pointwise [k0_pay79]

theorem pay80_at (hp a b : FVec Ideal S8x1024 .f32) (r : Fin 8) (c : Fin 1024) : k0_pay80 (F := Ideal) hp a b (ix2 r c) = k0_pay78 (F := Ideal) hp a b (ix2 7 c) := by
  pointwise [k0_pay80]

end Rest

end Cert.KernelIdeal.Mixer

end
-- ==== Proof.MixTile.lean ====
/-
What one tile of the recurrent mixer leaves: the recurrence's states over the tile's rows.
-/
module

public import proofs.«01_k».proof.Proof.Frame
public import proofs.«01_k».proof.Proof.Plane
public import proofs.«01_k».proof.Proof.Pays

@[expose] public section

set_option maxRecDepth 16384

noncomputable section

namespace Cert.KernelIdeal.Mixer

open Cert.KernelIdeal Cert.KernelIdeal.Gen Cert.Ffn Cert.Lru
open Idealize.ShloMosaic Idealize.ShloMosaic.TcCoe

/-! ## The recurrence over the tile -/

theorem trips_eq : k0_t1_loop.trips = 128 := by decide

/-- Row `i` of the eight rows of trip `k`. -/
def at8 (k : Fin k0_t1_loop.trips) (i : Fin 8) : Fin 1024 := ⟨8 * k.val + i.val, by have h := lt_of_lt_of_eq k.isLt trips_eq; omega⟩

theorem slab_at (v : Memref sig .tc .vmem S1024x1024 .f32) (X : BufTy.Contents (Elt Ideal) v.view.ty) (k : Fin k0_t1_loop.trips) (i : Fin 8) (c : Fin 1024) :
    slab (F := Ideal) v X k (ix2 i c) = v.view.read (Elt Ideal) X (ix2 (at8 k i) c) := by
  show v.view.read (Elt Ideal) X ((Rect.unit (s := S1024x1024) (k0_off1 k) S8x1024.size (k0_off1_inb k)).toLoadRect.idx (ix2 i c)) = _
  refine congrArg _ (funext fun a => Fin.ext ?_)
  have e := congrFun (k0_off1_eq k)
  match a with
  | ⟨0, _⟩ => show k0_off1 k 0 + 1 * i.val = 8 * k.val + i.val; rw [e 0, Nat.one_mul]; rfl
  | ⟨1, _⟩ => show k0_off1 k 1 + 1 * c.val = c.val; rw [e 1, Nat.one_mul]; exact Nat.zero_add _

section Scan

variable (A B : ℕ → EReal) (h0 : EReal) (base : ℕ) (hd : ∀ i p q, A i * (p + q) = A i * p + A i * q)

include hd in
theorem carry_at (SA SB : Fin k0_t1_loop.trips → Vec Ideal S8x1024 .f32) (init : Vec Ideal S8x1024 .f32) (col : Fin 1024)
    (ha : ∀ (k : Fin k0_t1_loop.trips) (i : Fin 8), SA k (ix2 i col) = A (base + 8 * k.val + i.val))
    (hb : ∀ (k : Fin k0_t1_loop.trips) (i : Fin 8), SB k (ix2 i col) = B (base + 8 * k.val + i.val))
    (hi : ∀ q : Fin 8, init (ix2 q col) = states A B h0 base) (n : ℕ) (hn : n ≤ k0_t1_loop.trips) (q : Fin 8) :
    carry SA SB init n (ix2 q col) = states A B h0 (base + 8 * n) := by
  induction n generalizing q with
  | zero => exact hi q
  | succ n ih =>
    refine (congrFun (carry_succ SA SB init ⟨n, hn⟩) (ix2 q col)).trans ?_
    exact (pay80_at _ _ _ q col).trans (pay78_at _ _ _ 7 col A B h0 (base + 8 * n) (ha ⟨n, hn⟩) (hb ⟨n, hn⟩) (ih (Nat.le_of_succ_le hn)) hd)

variable (c : Dev nD) (i : grid0.Coords) (p1 : Memref sig .tc .vmem S1024x1024 .f32) (q1 : p1.IsWhole) (p2 : Memref sig .tc .vmem S1x1024 .f32) (q2 : p2.IsWhole) (p3 : Memref sig .tc .vmem S1024x2048 .bf16) (q3 : p3.IsWhole) (p4 : Memref sig .tc .vmem S1x2048 .f32) (q4 : p4.IsWhole) (p5 : Memref sig .tc .vmem S4x1024 .f32) (q5 : p5.IsWhole) (p6 : Memref sig .tc .vmem S1x1024 .f32) (q6 : p6.IsWhole) (p7 : Memref sig .tc .vmem S8x128x256 .bf16) (q7 : p7.IsWhole) (p8 : Memref sig .tc .vmem S1x1024 .f32) (q8 : p8.IsWhole) (p9 : Memref sig .tc .vmem S1x1024 .f32) (q9 : p9.IsWhole) (p10 : Memref sig .tc .vmem S1x1024 .f32) (q10 : p10.IsWhole) (p11 : Memref sig .tc .vmem S1024x1024 .bf16) (q11 : p11.IsWhole) (p12 : Memref sig .tc .vmem S1x1024 .f32) (q12 : p12.IsWhole) (p13 : Memref sig .tc .vmem S1024x1024 .f32) (q13 : p13.IsWhole) (p14 : Memref sig .tc .vmem S1032x1024 .f32) (q14 : p14.IsWhole) (p15 : Memref sig .tc .vmem S1024x1024 .f32) (q15 : p15.IsWhole) (p16 : Memref sig .tc .vmem S1024x1024 .f32) (q16 : p16.IsWhole) (p17 : Memref sig .tc .vmem S1024x1024 .f32) (q17 : p17.IsWhole) (p18 : Memref sig .tc .vmem S8x1024 .f32) (q18 : p18.IsWhole) (v14 v48 v81 : FVec Ideal S1024x1024 .f32) (v106 : FVec Ideal S1x1024 .f32) (v479 v491 : FVec Ideal S1024x128 .f32) (XA : BufTy.Contents (Elt Ideal) p15.view.ty) (XB : BufTy.Contents (Elt Ideal) p16.view.ty)
  (xs : Vec Ideal S1024x1024 .f32) (init : Vec Ideal S8x1024 .f32) (col : Fin 1024)

include hd in
/-- The carried value after the loop. -/
theorem st_state
    (ha : ∀ r : Fin 1024, p15.view.read (Elt Ideal) XA (ix2 r col) = A (base + r.val))
    (hb : ∀ r : Fin 1024, p16.view.read (Elt Ideal) XB (ix2 r col) = B (base + r.val))
    (hi : ∀ q : Fin 8, init (ix2 q col) = states A B h0 base) (q : Fin 8) :
    (st_k0_t1 (F := Ideal) Variants.none c none i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB init (Scf.trips k0_t1_loop.lb k0_t1_loop.ub k0_t1_loop.st)).1 (ix2 q col) = states A B h0 (base + 1024) := by
  refine (congrFun (st_carry (F := Ideal) c i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB init k0_t1_loop.trips le_rfl) (ix2 q col)).trans ?_
  have e := carry_at A B h0 base hd (slab p15 XA) (slab p16 XB) init col
    (fun k i => (slab_at p15 XA k i col).trans ((ha _).trans (congrArg A (Nat.add_assoc _ _ _).symm)))
    (fun k i => (slab_at p16 XB k i col).trans ((hb _).trans (congrArg B (Nat.add_assoc _ _ _).symm))) hi k0_t1_loop.trips le_rfl q
  rw [e, trips_eq]

include hd in
/-- The states after the loop. -/
theorem st_states
    (ha : ∀ r : Fin 1024, p15.view.read (Elt Ideal) XA (ix2 r col) = A (base + r.val))
    (hb : ∀ r : Fin 1024, p16.view.read (Elt Ideal) XB (ix2 r col) = B (base + r.val))
    (hi : ∀ q : Fin 8, init (ix2 q col) = states A B h0 base) (inb) (r : Fin 1024) :
    View.readAt (Elt Ideal) p17.view (Rect.unit (s := S1024x1024) ![0, 0] S1024x1024.size inb).toLoadRect
      (p17.view.writes (Elt Ideal) (q17.unread xs) (st_k0_t1 (F := Ideal) Variants.none c none i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB init (Scf.trips k0_t1_loop.lb k0_t1_loop.ub k0_t1_loop.st)).2) (ix2 r col)
      = states A B h0 (base + r.val + 1) := by
  have hr := r.isLt
  have hq : r.val / 8 < k0_t1_loop.trips := by rw [trips_eq]; omega
  have hm : r.val % 8 < 8 := Nat.mod_lt _ (by decide)
  have hv : r.val = 8 * (r.val / 8) + r.val % 8 := (Nat.div_add_mod _ _).symm
  show p17.view.read (Elt Ideal) _ ((Rect.unit (s := S1024x1024) ![0, 0] S1024x1024.size inb).toLoadRect.idx (ix2 r col)) = _
  have hx : (Rect.unit (s := S1024x1024) ![0, 0] S1024x1024.size inb).toLoadRect.idx (ix2 r col) = ix2 r col := by
    funext a
    apply Fin.ext
    match a with
    | ⟨0, _⟩ => show 0 + 1 * r.val = r.val; omega
    | ⟨1, _⟩ => show 0 + 1 * col.val = col.val; omega
  rw [hx]
  refine (st_read (F := Ideal) c i p1 q1 p2 q2 p3 q3 p4 q4 p5 q5 p6 q6 p7 q7 p8 q8 p9 q9 p10 q10 p11 q11 p12 q12 p13 q13 p14 q14 p15 q15 p16 q16 p17 q17 p18 q18 v14 v48 v81 v106 v479 v491 XA XB init (q17.unread xs) k0_t1_loop.trips le_rfl (ix2 r col) ⟨r.val / 8, hq⟩ ⟨r.val % 8, hm⟩ hq hv).trans ?_
  refine (pay79_at _ _ _ _ col).trans ?_
  have ha' : ∀ (k : Fin k0_t1_loop.trips) (i : Fin 8), slab (F := Ideal) p15 XA k (ix2 i col) = A (base + 8 * k.val + i.val) :=
    fun k i => (slab_at p15 XA k i col).trans ((ha _).trans (congrArg A (Nat.add_assoc _ _ _).symm))
  have hb' : ∀ (k : Fin k0_t1_loop.trips) (i : Fin 8), slab (F := Ideal) p16 XB k (ix2 i col) = B (base + 8 * k.val + i.val) :=
    fun k i => (slab_at p16 XB k i col).trans ((hb _).trans (congrArg B (Nat.add_assoc _ _ _).symm))
  refine (pay78_at _ _ _ ⟨r.val % 8, hm⟩ col A B h0 (base + 8 * (r.val / 8)) (ha' _) (hb' _)
    (carry_at A B h0 base hd (slab p15 XA) (slab p16 XB) init col ha' hb' hi (r.val / 8) hq.le) hd).trans ?_
  refine congrArg (states A B h0) ?_
  show base + 8 * (r.val / 8) + r.val % 8 + 1 = base + r.val + 1
  omega

end Scan

/-! ## The gates' buffers, eight columns' worth at a time -/

section Cols
variable {F : FTy → Type} [FloatOps F] [Named F]

/-- Eight blocks of columns. -/
def cols (P : Fin 8 → FVec F S1024x128 .f32) : List (View.Piece (Elt F) S1024x1024 .f32) :=
  [⟨Rect.unit (s := S1024x1024) ![0, 896] S1024x128.size inb_S1024x1024_S1024x128_0_896, P 7⟩,
    ⟨Rect.unit (s := S1024x1024) ![0, 768] S1024x128.size inb_S1024x1024_S1024x128_0_768, P 6⟩,
    ⟨Rect.unit (s := S1024x1024) ![0, 640] S1024x128.size inb_S1024x1024_S1024x128_0_640, P 5⟩,
    ⟨Rect.unit (s := S1024x1024) ![0, 512] S1024x128.size inb_S1024x1024_S1024x128_0_512, P 4⟩,
    ⟨Rect.unit (s := S1024x1024) ![0, 384] S1024x128.size inb_S1024x1024_S1024x128_0_384, P 3⟩,
    ⟨Rect.unit (s := S1024x1024) ![0, 256] S1024x128.size inb_S1024x1024_S1024x128_0_256, P 2⟩,
    ⟨Rect.unit (s := S1024x1024) ![0, 128] S1024x128.size inb_S1024x1024_S1024x128_0_128, P 1⟩,
    ⟨Rect.unit (s := S1024x1024) ![0, 0] S1024x128.size inb_S1024x1024_S1024x128_0_0, P 0⟩]

end Cols

section Pieces
variable (m : Memref sig .tc .vmem S1024x1024 .f32) (f : BufTy.Contents (Elt Ideal) m.view.ty) (r : Fin 1024) (j : Fin 128) (c : Fin 1024)

theorem piece_mem (o : ℕ) (inb) (w : FVec Ideal S1024x128 .f32) (L : List (View.Piece (Elt Ideal) S1024x1024 .f32)) (hc : c.val = o + j.val) :
    m.view.read (Elt Ideal) (m.view.writes (Elt Ideal) f (⟨Rect.unit (s := S1024x1024) ![0, o] S1024x128.size inb, w⟩ :: L)) (ix2 r c) = w (ix2 r j) :=
  View.read_writes_cons_unit_of_mem m.view f inb w L (ix2 r c) (ix2 r j) rfl
    (by intro x; match x with | ⟨0, _⟩ => exact (Nat.zero_add _).symm | ⟨1, _⟩ => exact hc)

theorem piece_skip (o : ℕ) (inb) (w : FVec Ideal S1024x128 .f32) (L : List (View.Piece (Elt Ideal) S1024x1024 .f32)) (hc : c.val < o) :
    m.view.read (Elt Ideal) (m.view.writes (Elt Ideal) f (⟨Rect.unit (s := S1024x1024) ![0, o] S1024x128.size inb, w⟩ :: L)) (ix2 r c)
      = m.view.read (Elt Ideal) (m.view.writes (Elt Ideal) f L) (ix2 r c) :=
  View.read_writes_cons_unit_of_not_mem m.view f inb w L (ix2 r c) rfl (1 : Fin 2) (Or.inl hc)

theorem cols_read (P : Fin 8 → FVec Ideal S1024x128 .f32) (n : Fin 8) (hc : c.val = 128 * n.val + j.val) :
    m.view.read (Elt Ideal) (m.view.writes (Elt Ideal) f (cols P)) (ix2 r c) = P n (ix2 r j) := by
  unfold cols
  have hj := j.isLt
  obtain ⟨n, hn⟩ := n
  dsimp only at hc
  interval_cases n <;>
    ((repeat rw [piece_skip m f r c _ _ _ _ (by omega)]); rw [piece_mem m f r j c _ _ _ _ (by omega)]; rfl)

end Pieces

end Cert.KernelIdeal.Mixer

end
-- ==== Proof.MixPoint.lean ====
/-
What a point of the recurrent mixer's kernel leaves, over the extended reals.
-/
module

public import proofs.«01_k».proof.Proof.MixTile

@[expose] public section

set_option maxRecDepth 16384

noncomputable section

namespace Cert.KernelIdeal.Mixer

open Cert.KernelIdeal Cert.KernelIdeal.Gen Cert.Ffn Cert.Lru
open Idealize.ShloMosaic Idealize.ShloMosaic.TcCoe

/-- Row `r` of tile `q` of a sequence. -/
def rowAt (q : Fin 4) (r : Fin 1024) : Fin 4096 := ⟨1024 * q.val + r.val, by omega⟩

/-! ## The values a point computes, from what it loads -/

theorem slU : ∀ n : Fin 8, S1024x1024.Slices ![0, 128 * n.val] S1024x128 := by decide
theorem slL : ∀ n : Fin 8, S1x1024.Slices ![0, 128 * n.val] S1x128 := by decide

/-- What a point loads is the tile's rows and the layer's parameters. -/
structure Loads (p : Par) (X : Fin 4096 → Fin 1024 → EReal) (q : Fin 4) (l0 : Vec Ideal S1024x1024 .f32) (l1 : Vec Ideal S1x1024 .f32) (wlo whi : Vec Ideal S1024x1024 .bf16) (blo bhi : Vec Ideal S1x1024 .f32)
    (l4 : Vec Ideal S4x1024 .f32) (l5 : Vec Ideal S1x1024 .f32) (W : Fin 8 → Vec Ideal S1x128x256 .bf16) (BA BI : Fin 8 → Vec Ideal S1x128 .f32) (l9 : Vec Ideal S1x1024 .f32)
    (l10 : Vec Ideal S1024x1024 .bf16) (l11 : Vec Ideal S1x1024 .f32) : Prop where
  h0 : ∀ r k, l0 (ix2 r k) = X (rowAt q r) k
  h1 : ∀ k, l1 (ix2 0 k) = p.g k
  hwlo : ∀ k (c : Fin 1024), wlo (ix2 k c) = p.w k ⟨c.val, by omega⟩
  hwhi : ∀ k (c : Fin 1024), whi (ix2 k c) = p.w k ⟨1024 + c.val, by omega⟩
  hblo : ∀ (c : Fin 1024), blo (ix2 0 c) = p.b ⟨c.val, by omega⟩
  hbhi : ∀ (c : Fin 1024), bhi (ix2 0 c) = p.b ⟨1024 + c.val, by omega⟩
  h4 : ∀ i c, l4 (ix2 i c) = p.cw i c
  h5 : ∀ c, l5 (ix2 0 c) = p.cb c
  hr : ∀ n k j, W n (ix3 0 k (lo j)) = p.wr n k j
  hi : ∀ n k j, W n (ix3 0 k (hi j)) = p.wi n k j
  hba : ∀ c, BA (blkOf c) (ix2 0 (inBlk c)) = p.ba c
  hbi : ∀ c, BI (blkOf c) (ix2 0 (inBlk c)) = p.bi c
  h9 : ∀ c, l9 (ix2 0 c) = p.lam c
  h10 : ∀ k c, l10 (ix2 k c) = p.wo k c
  h11 : ∀ c, l11 (ix2 0 c) = p.bo c

section Point

variable {p : Par} {X : Fin 4096 → Fin 1024 → EReal} {q : Fin 4} {l0 : Vec Ideal S1024x1024 .f32} {l1 : Vec Ideal S1x1024 .f32} {wlo whi : Vec Ideal S1024x1024 .bf16} {blo bhi : Vec Ideal S1x1024 .f32}
    {l4 : Vec Ideal S4x1024 .f32} {l5 : Vec Ideal S1x1024 .f32} {W : Fin 8 → Vec Ideal S1x128x256 .bf16} {BA BI : Fin 8 → Vec Ideal S1x128 .f32} {l9 : Vec Ideal S1x1024 .f32}
    {l10 : Vec Ideal S1024x1024 .bf16} {l11 : Vec Ideal S1x1024 .f32} (L : Loads p X q l0 l1 wlo whi blo bhi l4 l5 W BA BI l9 l10 l11)

include L

/-- The recurrence's half. -/
theorem z_at (r c : Fin 1024) : k0_pay9 (k0_pay5 l0 l1) whi bhi (ix2 r c) = p.z X (1024 * q.val + r.val + 3) c := by
  have hq := q.isLt
  have hr := r.isLt
  refine (pay9_at l0 l1 whi bhi r c).trans ?_
  rw [Par.z, dif_pos ⟨by omega, by omega⟩, pre1, pre]
  have e : (⟨1024 * q.val + r.val + 3 - 3, by omega⟩ : Fin 4096) = rowAt q r := Fin.ext (by show 1024 * q.val + r.val + 3 - 3 = 1024 * q.val + r.val; omega)
  rw [e, L.hbhi]
  refine congrArg (· + _) (Finset.sum_congr rfl fun k _ => ?_)
  rw [L.hwhi, show (fun k => l0 (ix2 r k)) = X (rowAt q r) from funext fun k => L.h0 r k, show (fun k => l1 (ix2 0 k)) = p.g from funext L.h1]

/-- The half that gates the output. -/
theorem y_at (r c : Fin 1024) : k0_pay8 (k0_pay6 l0 l1 wlo blo) (k0_pay7 l0 l1 wlo blo) (ix2 r c) = gelu (pre0 (X (rowAt q r)) p.g p.w p.b c) := by
  refine (pay8_at _ _ r c (pay7_at l0 l1 wlo blo)).trans (congrArg gelu ?_)
  refine (pay6_at l0 l1 wlo blo r c).trans ?_
  rw [pre0, pre, L.hblo]
  refine congrArg (· + _) (Finset.sum_congr rfl fun k _ => ?_)
  rw [L.hwlo, show (fun k => l0 (ix2 r k)) = X (rowAt q r) from funext fun k => L.h0 r k, show (fun k => l1 (ix2 0 k)) = p.g from funext L.h1]

variable {p3 p2 p1 : Vec Ideal S1024x1024 .f32} (hp3 : ∀ r c : Fin 1024, p3 (ix2 r c) = p.z X (1024 * q.val + r.val) c)
  (hp2 : ∀ r c : Fin 1024, p2 (ix2 r c) = p.z X (1024 * q.val + r.val + 1) c) (hp1 : ∀ r c : Fin 1024, p1 (ix2 r c) = p.z X (1024 * q.val + r.val + 2) c)

include hp3 hp2 hp1

/-- The convolution's result. -/
theorem u_at (r c : Fin 1024) : k0_pay12 (k0_pay11 (k0_pay5 l0 l1) whi bhi l4 p3 p2 p1) l5 (ix2 r c) = p.u X (1024 * q.val + r.val) c := by
  refine (pay11_at (k0_pay5 l0 l1) whi bhi l4 p3 p2 p1 l5 r c).trans ?_
  rw [Par.u, hp3, hp2, hp1, z_at L, L.h5, show (fun i => l4 (ix2 i c)) = fun i => p.cw i c from funext fun i => L.h4 i c]

theorem ub_at (r c : Fin 1024) : k0_pay14 (k0_pay11 (k0_pay5 l0 l1) whi bhi l4 p3 p2 p1) l5 (ix2 r c) = p.u X (1024 * q.val + r.val) c :=
  (pay14_at _ l5 r c).trans (u_at L hp3 hp2 hp1 r c)

/-- The decay. -/
theorem a_at (r c : Fin 1024) :
    blkA (k0_pay15 l9) (k0_pay14 (k0_pay11 (k0_pay5 l0 l1) whi bhi l4 p3 p2 p1) l5) (W (blkOf c)) (BA (blkOf c)) (128 * (blkOf c).val) (slU _) (slL _) (ix2 r (inBlk c))
      = p.A X c (1024 * q.val + r.val) := by
  refine (blkA_at _ _ _ _ (128 * (blkOf c).val) (slU _) (slL _) r (inBlk c) c (Nat.div_add_mod _ _).symm (blkCol c) (fun k => rfl)).trans ?_
  rw [Par.A, Par.L, pay15_at, L.h9, L.hba,
    show (fun k => k0_pay14 (F := Ideal) (k0_pay11 (k0_pay5 l0 l1) whi bhi l4 p3 p2 p1) l5 (ix2 r (blkCol c k))) = fun k => p.u X (1024 * q.val + r.val) (blkCol c k) from funext fun k => ub_at L hp3 hp2 hp1 r _,
    show (fun k => W (blkOf c) (ix3 0 k (lo (inBlk c)))) = fun k => p.wr (blkOf c) k (inBlk c) from funext fun k => L.hr _ _ _]

/-- What comes in. -/
theorem b_at (r c : Fin 1024) :
    blkB (k0_pay15 l9) (k0_pay12 (k0_pay11 (k0_pay5 l0 l1) whi bhi l4 p3 p2 p1) l5) (k0_pay14 (k0_pay11 (k0_pay5 l0 l1) whi bhi l4 p3 p2 p1) l5) (W (blkOf c)) (BA (blkOf c)) (BI (blkOf c)) (128 * (blkOf c).val) (slU _) (slL _) (ix2 r (inBlk c))
      = p.B X c (1024 * q.val + r.val) := by
  refine (blkB_at _ _ _ _ _ _ (128 * (blkOf c).val) (slU _) (slL _) r (inBlk c) c (Nat.div_add_mod _ _).symm (blkCol c) (fun k => rfl)).trans ?_
  rw [Par.B, Par.L, pay15_at, L.h9, L.hba, L.hbi, u_at L hp3 hp2 hp1,
    show (fun k => k0_pay14 (F := Ideal) (k0_pay11 (k0_pay5 l0 l1) whi bhi l4 p3 p2 p1) l5 (ix2 r (blkCol c k))) = fun k => p.u X (1024 * q.val + r.val) (blkCol c k) from funext fun k => ub_at L hp3 hp2 hp1 r _,
    show (fun k => W (blkOf c) (ix3 0 k (lo (inBlk c)))) = fun k => p.wr (blkOf c) k (inBlk c) from funext fun k => L.hr _ _ _,
    show (fun k => W (blkOf c) (ix3 0 k (hi (inBlk c)))) = fun k => p.wi (blkOf c) k (inBlk c) from funext fun k => L.hi _ _ _]

omit hp3 hp2 hp1

/-- The point's result. -/
theorem out_at (hs : Vec Ideal S1024x1024 .f32) (hh : ∀ r c : Fin 1024, hs (ix2 r c) = p.H X (1024 * q.val + r.val + 1) c) (r c : Fin 1024) :
    k0_pay1 (k0_pay82 (k0_pay4 l0) (k0_pay8 (k0_pay6 l0 l1 wlo blo) (k0_pay7 l0 l1 wlo blo)) hs l10) l11 (ix2 r c) = p.out X (rowAt q r) c := by
  refine (pay1_at _ _ hs l10 l11 r c).trans ?_
  rw [Par.out, L.h11]
  refine congrArg (· + _) ?_
  refine congrArg₂ (· + ·) ((pay4_at l0 r c).trans (L.h0 r c)) (Finset.sum_congr rfl fun k _ => ?_)
  rw [hh, y_at L, L.h10]; rfl

end Point

/-- The convolution's buffer holds the half from eight rows before the tile. -/
theorem zbuf_at (m : Memref sig .tc .vmem S1032x1024 .f32) (f : BufTy.Contents (Elt Ideal) m.view.ty) (inb) (w : FVec Ideal S1024x1024 .f32) (T : List (View.Piece (Elt Ideal) S1032x1024 .f32))
    (Z : ℕ → EReal) (base : ℕ) (c : Fin 1024)
    (hT : ∀ d : Fin 1032, 5 ≤ d.val → d.val < 8 → m.view.read (Elt Ideal) (m.view.writes (Elt Ideal) f T) (ix2 d c) = Z (base + d.val - 5))
    (hw : ∀ r : Fin 1024, w (ix2 r c) = Z (base + r.val + 3)) (o : ℕ) (ho : 5 ≤ o) (inb') (r : Fin 1024) :
    m.view.readAt (Elt Ideal) (Rect.unit (s := S1032x1024) ![o, 0] S1024x1024.size inb').toLoadRect
      (m.view.writes (Elt Ideal) f (⟨Rect.unit (s := S1032x1024) ![8, 0] S1024x1024.size inb, w⟩ :: T)) (ix2 r c) = Z (base + r.val + (o - 5)) := by
  have ho' : o + 1024 ≤ 1032 := inb' 0
  have hr := r.isLt
  show m.view.read (Elt Ideal) _ ((Rect.unit (s := S1032x1024) ![o, 0] S1024x1024.size inb').toLoadRect.idx (ix2 r c)) = _
  have hx : (Rect.unit (s := S1032x1024) ![o, 0] S1024x1024.size inb').toLoadRect.idx (ix2 r c) = ix2 (⟨o + r.val, by omega⟩ : Fin 1032) c := by
    funext a
    apply Fin.ext
    match a with
    | ⟨0, _⟩ => show o + 1 * r.val = o + r.val; omega
    | ⟨1, _⟩ => show 0 + 1 * c.val = c.val; omega
  rw [hx]
  by_cases h : o + r.val < 8
  · refine (View.read_writes_cons_unit_of_not_mem m.view f inb w T (ix2 (⟨o + r.val, by omega⟩ : Fin 1032) c) rfl (0 : Fin 2) (Or.inl h)).trans ?_
    refine (hT ⟨o + r.val, by omega⟩ (by show 5 ≤ o + r.val; omega) h).trans (congrArg Z ?_)
    show base + (o + r.val) - 5 = _; omega
  · refine (View.read_writes_cons_unit_of_mem m.view f inb w T (ix2 (⟨o + r.val, by omega⟩ : Fin 1032) c) (ix2 (⟨o + r.val - 8, by omega⟩ : Fin 1024) c) rfl
      (by intro x; match x with | ⟨0, _⟩ => show o + r.val = 8 + (o + r.val - 8); omega | ⟨1, _⟩ => exact (Nat.zero_add _).symm)).trans ?_
    refine (hw _).trans (congrArg Z ?_)
    show base + (o + r.val - 8) + 3 = _; omega

end Cert.KernelIdeal.Mixer

end
-- ==== Proof.MixCases.lean ====
/-
The two cases of a point of the recurrent mixer's kernel, over what the point loads.
-/
module

public import proofs.«01_k».proof.Proof.MixPoint

@[expose] public section

set_option maxRecDepth 16384

noncomputable section

namespace Cert.KernelIdeal.Mixer

open Cert.KernelIdeal Cert.KernelIdeal.Gen Cert.Ffn Cert.Lru
open Idealize.ShloMosaic Idealize.ShloMosaic.TcCoe

theorem inbW : ∀ (n : Fin 8) (a : Fin 3), (![n.val, 0, 0] : Fin 3 → ℕ) a + S1x128x256.size a ≤ S8x128x256.size a := by decide
theorem inbB : ∀ (n : Fin 8) (a : Fin 2), (![0, 128 * n.val] : Fin 2 → ℕ) a + S1x128.size a ≤ S1x1024.size a := by decide

section Eqs
variable {F : FTy → Type} [FloatOps F] [Named F]

/-- The gates' matrix of a block, as loaded. -/
abbrev ldW (m : Memref sig .tc .vmem S8x128x256 .bf16) (h : m.IsWhole) (x : Vec F S8x128x256 .bf16) (n : Fin 8) : Vec F S1x128x256 .bf16 :=
  View.readAt (Elt F) m.view (Rect.unit (s := S8x128x256) ![n.val, 0, 0] S1x128x256.size (inbW n)).toLoadRect (h.unread x)

/-- A gate's bias of a block, as loaded. -/
abbrev ldB (m : Memref sig .tc .vmem S1x1024 .f32) (h : m.IsWhole) (x : Vec F S1x1024 .f32) (n : Fin 8) : Vec F S1x128 .f32 :=
  View.readAt (Elt F) m.view (Rect.unit (s := S1x1024) ![0, 128 * n.val] S1x128.size (inbB n)).toLoadRect (h.unread x)

variable (c : Dev nD) (i : grid0.Coords) (p1 : Memref sig .tc .vmem S1024x1024 .f32) (q1 : p1.IsWhole) (p2 : Memref sig .tc .vmem S1x1024 .f32) (q2 : p2.IsWhole) (p3 : Memref sig .tc .vmem S1024x2048 .bf16) (q3 : p3.IsWhole) (p4 : Memref sig .tc .vmem S1x2048 .f32) (q4 : p4.IsWhole) (p5 : Memref sig .tc .vmem S4x1024 .f32) (q5 : p5.IsWhole) (p6 : Memref sig .tc .vmem S1x1024 .f32) (q6 : p6.IsWhole) (p7 : Memref sig .tc .vmem S8x128x256 .bf16) (q7 : p7.IsWhole) (p8 : Memref sig .tc .vmem S1x1024 .f32) (q8 : p8.IsWhole) (p9 : Memref sig .tc .vmem S1x1024 .f32) (q9 : p9.IsWhole) (p10 : Memref sig .tc .vmem S1x1024 .f32) (q10 : p10.IsWhole) (p11 : Memref sig .tc .vmem S1024x1024 .bf16) (q11 : p11.IsWhole) (p12 : Memref sig .tc .vmem S1x1024 .f32) (q12 : p12.IsWhole) (p13 : Memref sig .tc .vmem S1024x1024 .f32) (q13 : p13.IsWhole) (p14 : Memref sig .tc .vmem S1032x1024 .f32) (q14 : p14.IsWhole) (p15 : Memref sig .tc .vmem S1024x1024 .f32) (q15 : p15.IsWhole) (p16 : Memref sig .tc .vmem S1024x1024 .f32) (q16 : p16.IsWhole) (p17 : Memref sig .tc .vmem S1024x1024 .f32) (q17 : p17.IsWhole) (p18 : Memref sig .tc .vmem S8x1024 .f32) (q18 : p18.IsWhole)
  (x0 : Vec F S1024x1024 .f32) (x1 : Vec F S1x1024 .f32) (x2 : Vec F S1024x2048 .bf16) (x3 : Vec F S1x2048 .f32) (x4 : Vec F S4x1024 .f32) (x5 : Vec F S1x1024 .f32) (x6 : Vec F S8x128x256 .bf16) (x7 : Vec F S1x1024 .f32) (x8 : Vec F S1x1024 .f32) (x9 : Vec F S1x1024 .f32) (x10 : Vec F S1024x1024 .bf16) (x11 : Vec F S1x1024 .f32)
  (xz : Vec F S1032x1024 .f32) (xh : Vec F S8x1024 .f32) (xs : Vec F S1024x1024 .f32)

theorem decaysA : runA.sl.HA_8 c p1 q1 p2 q2 p3 q3 p4 q4 p5 q5 p6 q6 p7 q7 p8 q8 p10 q10 p14 x0 x1 x2 x3 x4 x5 x6 x7 x9 = cols fun n => blkA (k0_pay15 (View.readAt (Elt F) p10.view (Rect.unit (s := S1x1024) ![0, 0] S1x1024.size inb_S1x1024_S1x1024_0_0).toLoadRect (q10.unread x9))) (k0_pay14 (k0_pay11 (k0_pay5 (View.readAt (Elt F) p1.view (Rect.unit (s := S1024x1024) ![0, 0] S1024x1024.size inb_S1024x1024_S1024x1024_0_0).toLoadRect (q1.unread x0)) (View.readAt (Elt F) p2.view (Rect.unit (s := S1x1024) ![0, 0] S1x1024.size inb_S1x1024_S1x1024_0_0).toLoadRect (q2.unread x1))) (View.readAt (Elt F) p3.view (Rect.unit (s := S1024x2048) ![0, 1024] S1024x1024.size inb_S1024x2048_S1024x1024_0_1024).toLoadRect (q3.unread x2)) (View.readAt (Elt F) p4.view (Rect.unit (s := S1x2048) ![0, 1024] S1x1024.size inb_S1x2048_S1x1024_0_1024).toLoadRect (q4.unread x3)) (View.readAt (Elt F) p5.view (Rect.unit (s := S4x1024) ![0, 0] S4x1024.size inb_S4x1024_S4x1024_0_0).toLoadRect (q5.unread x4)) (runA.sl.v61 c p1 q1 p2 q2 p3 q3 p4 q4 p14 x0 x1 x2 x3) (runA.sl.v65 c p1 q1 p2 q2 p3 q3 p4 q4 p14 x0 x1 x2 x3) (runA.sl.v70 c p1 q1 p2 q2 p3 q3 p4 q4 p14 x0 x1 x2 x3)) (View.readAt (Elt F) p6.view (Rect.unit (s := S1x1024) ![0, 0] S1x1024.size inb_S1x1024_S1x1024_0_0).toLoadRect (q6.unread x5))) ((ldW p7 q7 x6) n) ((ldB p8 q8 x7) n) (128 * n.val) (slU n) (slL n) := by
  unfold runA.sl.HA_8 cols
  rfl

theorem incomesA : runA.sl.HB_8 c p1 q1 p2 q2 p3 q3 p4 q4 p5 q5 p6 q6 p7 q7 p8 q8 p9 q9 p10 q10 p14 x0 x1 x2 x3 x4 x5 x6 x7 x8 x9 = cols fun n => blkB (k0_pay15 (View.readAt (Elt F) p10.view (Rect.unit (s := S1x1024) ![0, 0] S1x1024.size inb_S1x1024_S1x1024_0_0).toLoadRect (q10.unread x9))) (k0_pay12 (k0_pay11 (k0_pay5 (View.readAt (Elt F) p1.view (Rect.unit (s := S1024x1024) ![0, 0] S1024x1024.size inb_S1024x1024_S1024x1024_0_0).toLoadRect (q1.unread x0)) (View.readAt (Elt F) p2.view (Rect.unit (s := S1x1024) ![0, 0] S1x1024.size inb_S1x1024_S1x1024_0_0).toLoadRect (q2.unread x1))) (View.readAt (Elt F) p3.view (Rect.unit (s := S1024x2048) ![0, 1024] S1024x1024.size inb_S1024x2048_S1024x1024_0_1024).toLoadRect (q3.unread x2)) (View.readAt (Elt F) p4.view (Rect.unit (s := S1x2048) ![0, 1024] S1x1024.size inb_S1x2048_S1x1024_0_1024).toLoadRect (q4.unread x3)) (View.readAt (Elt F) p5.view (Rect.unit (s := S4x1024) ![0, 0] S4x1024.size inb_S4x1024_S4x1024_0_0).toLoadRect (q5.unread x4)) (runA.sl.v61 c p1 q1 p2 q2 p3 q3 p4 q4 p14 x0 x1 x2 x3) (runA.sl.v65 c p1 q1 p2 q2 p3 q3 p4 q4 p14 x0 x1 x2 x3) (runA.sl.v70 c p1 q1 p2 q2 p3 q3 p4 q4 p14 x0 x1 x2 x3)) (View.readAt (Elt F) p6.view (Rect.unit (s := S1x1024) ![0, 0] S1x1024.size inb_S1x1024_S1x1024_0_0).toLoadRect (q6.unread x5))) (k0_pay14 (k0_pay11 (k0_pay5 (View.readAt (Elt F) p1.view (Rect.unit (s := S1024x1024) ![0, 0] S1024x1024.size inb_S1024x1024_S1024x1024_0_0).toLoadRect (q1.unread x0)) (View.readAt (Elt F) p2.view (Rect.unit (s := S1x1024) ![0, 0] S1x1024.size inb_S1x1024_S1x1024_0_0).toLoadRect (q2.unread x1))) (View.readAt (Elt F) p3.view (Rect.unit (s := S1024x2048) ![0, 1024] S1024x1024.size inb_S1024x2048_S1024x1024_0_1024).toLoadRect (q3.unread x2)) (View.readAt (Elt F) p4.view (Rect.unit (s := S1x2048) ![0, 1024] S1x1024.size inb_S1x2048_S1x1024_0_1024).toLoadRect (q4.unread x3)) (View.readAt (Elt F) p5.view (Rect.unit (s := S4x1024) ![0, 0] S4x1024.size inb_S4x1024_S4x1024_0_0).toLoadRect (q5.unread x4)) (runA.sl.v61 c p1 q1 p2 q2 p3 q3 p4 q4 p14 x0 x1 x2 x3) (runA.sl.v65 c p1 q1 p2 q2 p3 q3 p4 q4 p14 x0 x1 x2 x3) (runA.sl.v70 c p1 q1 p2 q2 p3 q3 p4 q4 p14 x0 x1 x2 x3)) (View.readAt (Elt F) p6.view (Rect.unit (s := S1x1024) ![0, 0] S1x1024.size inb_S1x1024_S1x1024_0_0).toLoadRect (q6.unread x5))) ((ldW p7 q7 x6) n) ((ldB p8 q8 x7) n) ((ldB p9 q9 x8) n) (128 * n.val) (slU n) (slL n) := by
  unfold runA.sl.HB_8 cols
  rfl

theorem decaysB : runB.sl.HA_8 c p1 q1 p2 q2 p3 q3 p4 q4 p5 q5 p6 q6 p7 q7 p8 q8 p10 q10 p14 q14 x0 x1 x2 x3 x4 x5 x6 x7 x9 xz = cols fun n => blkA (k0_pay15 (View.readAt (Elt F) p10.view (Rect.unit (s := S1x1024) ![0, 0] S1x1024.size inb_S1x1024_S1x1024_0_0).toLoadRect (q10.unread x9))) (k0_pay14 (k0_pay11 (k0_pay5 (View.readAt (Elt F) p1.view (Rect.unit (s := S1024x1024) ![0, 0] S1024x1024.size inb_S1024x1024_S1024x1024_0_0).toLoadRect (q1.unread x0)) (View.readAt (Elt F) p2.view (Rect.unit (s := S1x1024) ![0, 0] S1x1024.size inb_S1x1024_S1x1024_0_0).toLoadRect (q2.unread x1))) (View.readAt (Elt F) p3.view (Rect.unit (s := S1024x2048) ![0, 1024] S1024x1024.size inb_S1024x2048_S1024x1024_0_1024).toLoadRect (q3.unread x2)) (View.readAt (Elt F) p4.view (Rect.unit (s := S1x2048) ![0, 1024] S1x1024.size inb_S1x2048_S1x1024_0_1024).toLoadRect (q4.unread x3)) (View.readAt (Elt F) p5.view (Rect.unit (s := S4x1024) ![0, 0] S4x1024.size inb_S4x1024_S4x1024_0_0).toLoadRect (q5.unread x4)) (runB.sl.v61 c p1 q1 p2 q2 p3 q3 p4 q4 p14 q14 x0 x1 x2 x3 xz) (runB.sl.v65 c p1 q1 p2 q2 p3 q3 p4 q4 p14 q14 x0 x1 x2 x3 xz) (runB.sl.v70 c p1 q1 p2 q2 p3 q3 p4 q4 p14 q14 x0 x1 x2 x3 xz)) (View.readAt (Elt F) p6.view (Rect.unit (s := S1x1024) ![0, 0] S1x1024.size inb_S1x1024_S1x1024_0_0).toLoadRect (q6.unread x5))) ((ldW p7 q7 x6) n) ((ldB p8 q8 x7) n) (128 * n.val) (slU n) (slL n) := by
  unfold runB.sl.HA_8 cols
  rfl

theorem incomesB : runB.sl.HB_8 c p1 q1 p2 q2 p3 q3 p4 q4 p5 q5 p6 q6 p7 q7 p8 q8 p9 q9 p10 q10 p14 q14 x0 x1 x2 x3 x4 x5 x6 x7 x8 x9 xz = cols fun n => blkB (k0_pay15 (View.readAt (Elt F) p10.view (Rect.unit (s := S1x1024) ![0, 0] S1x1024.size inb_S1x1024_S1x1024_0_0).toLoadRect (q10.unread x9))) (k0_pay12 (k0_pay11 (k0_pay5 (View.readAt (Elt F) p1.view (Rect.unit (s := S1024x1024) ![0, 0] S1024x1024.size inb_S1024x1024_S1024x1024_0_0).toLoadRect (q1.unread x0)) (View.readAt (Elt F) p2.view (Rect.unit (s := S1x1024) ![0, 0] S1x1024.size inb_S1x1024_S1x1024_0_0).toLoadRect (q2.unread x1))) (View.readAt (Elt F) p3.view (Rect.unit (s := S1024x2048) ![0, 1024] S1024x1024.size inb_S1024x2048_S1024x1024_0_1024).toLoadRect (q3.unread x2)) (View.readAt (Elt F) p4.view (Rect.unit (s := S1x2048) ![0, 1024] S1x1024.size inb_S1x2048_S1x1024_0_1024).toLoadRect (q4.unread x3)) (View.readAt (Elt F) p5.view (Rect.unit (s := S4x1024) ![0, 0] S4x1024.size inb_S4x1024_S4x1024_0_0).toLoadRect (q5.unread x4)) (runB.sl.v61 c p1 q1 p2 q2 p3 q3 p4 q4 p14 q14 x0 x1 x2 x3 xz) (runB.sl.v65 c p1 q1 p2 q2 p3 q3 p4 q4 p14 q14 x0 x1 x2 x3 xz) (runB.sl.v70 c p1 q1 p2 q2 p3 q3 p4 q4 p14 q14 x0 x1 x2 x3 xz)) (View.readAt (Elt F) p6.view (Rect.unit (s := S1x1024) ![0, 0] S1x1024.size inb_S1x1024_S1x1024_0_0).toLoadRect (q6.unread x5))) (k0_pay14 (k0_pay11 (k0_pay5 (View.readAt (Elt F) p1.view (Rect.unit (s := S1024x1024) ![0, 0] S1024x1024.size inb_S1024x1024_S1024x1024_0_0).toLoadRect (q1.unread x0)) (View.readAt (Elt F) p2.view (Rect.unit (s := S1x1024) ![0, 0] S1x1024.size inb_S1x1024_S1x1024_0_0).toLoadRect (q2.unread x1))) (View.readAt (Elt F) p3.view (Rect.unit (s := S1024x2048) ![0, 1024] S1024x1024.size inb_S1024x2048_S1024x1024_0_1024).toLoadRect (q3.unread x2)) (View.readAt (Elt F) p4.view (Rect.unit (s := S1x2048) ![0, 1024] S1x1024.size inb_S1x2048_S1x1024_0_1024).toLoadRect (q4.unread x3)) (View.readAt (Elt F) p5.view (Rect.unit (s := S4x1024) ![0, 0] S4x1024.size inb_S4x1024_S4x1024_0_0).toLoadRect (q5.unread x4)) (runB.sl.v61 c p1 q1 p2 q2 p3 q3 p4 q4 p14 q14 x0 x1 x2 x3 xz) (runB.sl.v65 c p1 q1 p2 q2 p3 q3 p4 q4 p14 q14 x0 x1 x2 x3 xz) (runB.sl.v70 c p1 q1 p2 q2 p3 q3 p4 q4 p14 q14 x0 x1 x2 x3 xz)) (View.readAt (Elt F) p6.view (Rect.unit (s := S1x1024) ![0, 0] S1x1024.size inb_S1x1024_S1x1024_0_0).toLoadRect (q6.unread x5))) ((ldW p7 q7 x6) n) ((ldB p8 q8 x7) n) ((ldB p9 q9 x8) n) (128 * n.val) (slU n) (slL n) := by
  unfold runB.sl.HB_8 cols
  rfl

end Eqs

/-- A load of a block of a whole buffer of three axes. -/
theorem load3 {sig : RefSig} {κ : Kind} {sp : Space} {d : Fin 3 → ℕ} {e : EltTy} {m : Memref sig κ sp (⟨3, d⟩ : Shape) e}
    (h : m.IsWhole) (X : (⟨3, d⟩ : Shape).Idx → Elt Ideal e) {n : Fin 3 → ℕ} (o : Fin 3 → ℕ)
    (inb : ∀ a : Fin 3, o a + n a ≤ d a) (x : (⟨3, n⟩ : Shape).Idx) (y : (⟨3, d⟩ : Shape).Idx)
    (ha : (y 0).val = o 0 + (x 0).val) (hb : (y 1).val = o 1 + (x 1).val) (hc : (y 2).val = o 2 + (x 2).val) :
    View.readAt (Elt Ideal) m.view (Rect.unit (s := ⟨3, d⟩) o n inb).toLoadRect (h.unread X) x = X y := by
  refine (congrFun (h.read_unread X) _).trans (congrArg X ?_)
  funext i
  apply Fin.ext
  match i with
  | ⟨0, _⟩ => show o 0 + 1 * (x 0).val = (y 0).val; omega
  | ⟨1, _⟩ => show o 1 + 1 * (x 1).val = (y 1).val; omega
  | ⟨2, _⟩ => show o 2 + 1 * (x 2).val = (y 2).val; omega

/-- A point's blocks are the tile's rows and the layer's parameters. -/
structure Fits (p : Par) (X : Fin 4096 → Fin 1024 → EReal) (q : Fin 4) (x0 : Vec Ideal S1024x1024 .f32) (x1 : Vec Ideal S1x1024 .f32) (x2 : Vec Ideal S1024x2048 .bf16) (x3 : Vec Ideal S1x2048 .f32) (x4 : Vec Ideal S4x1024 .f32) (x5 : Vec Ideal S1x1024 .f32) (x6 : Vec Ideal S8x128x256 .bf16) (x7 : Vec Ideal S1x1024 .f32) (x8 : Vec Ideal S1x1024 .f32) (x9 : Vec Ideal S1x1024 .f32) (x10 : Vec Ideal S1024x1024 .bf16) (x11 : Vec Ideal S1x1024 .f32) : Prop where
  h0 : ∀ r k, x0 (ix2 r k) = X (rowAt q r) k
  h1 : ∀ k, x1 (ix2 0 k) = p.g k
  h2 : ∀ k c, x2 (ix2 k c) = p.w k c
  h3 : ∀ c, x3 (ix2 0 c) = p.b c
  h4 : ∀ i c, x4 (ix2 i c) = p.cw i c
  h5 : ∀ c, x5 (ix2 0 c) = p.cb c
  hr : ∀ n k j, x6 (ix3 n k (lo j)) = p.wr n k j
  hi : ∀ n k j, x6 (ix3 n k (hi j)) = p.wi n k j
  h7 : ∀ c, x7 (ix2 0 c) = p.ba c
  h8 : ∀ c, x8 (ix2 0 c) = p.bi c
  h9 : ∀ c, x9 (ix2 0 c) = p.lam c
  h10 : ∀ k c, x10 (ix2 k c) = p.wo k c
  h11 : ∀ c, x11 (ix2 0 c) = p.bo c

section Cases

variable (c : Dev nD) (i : grid0.Coords) (p1 : Memref sig .tc .vmem S1024x1024 .f32) (q1 : p1.IsWhole) (p2 : Memref sig .tc .vmem S1x1024 .f32) (q2 : p2.IsWhole) (p3 : Memref sig .tc .vmem S1024x2048 .bf16) (q3 : p3.IsWhole) (p4 : Memref sig .tc .vmem S1x2048 .f32) (q4 : p4.IsWhole) (p5 : Memref sig .tc .vmem S4x1024 .f32) (q5 : p5.IsWhole) (p6 : Memref sig .tc .vmem S1x1024 .f32) (q6 : p6.IsWhole) (p7 : Memref sig .tc .vmem S8x128x256 .bf16) (q7 : p7.IsWhole) (p8 : Memref sig .tc .vmem S1x1024 .f32) (q8 : p8.IsWhole) (p9 : Memref sig .tc .vmem S1x1024 .f32) (q9 : p9.IsWhole) (p10 : Memref sig .tc .vmem S1x1024 .f32) (q10 : p10.IsWhole) (p11 : Memref sig .tc .vmem S1024x1024 .bf16) (q11 : p11.IsWhole) (p12 : Memref sig .tc .vmem S1x1024 .f32) (q12 : p12.IsWhole) (p13 : Memref sig .tc .vmem S1024x1024 .f32) (q13 : p13.IsWhole) (p14 : Memref sig .tc .vmem S1032x1024 .f32) (q14 : p14.IsWhole) (p15 : Memref sig .tc .vmem S1024x1024 .f32) (q15 : p15.IsWhole) (p16 : Memref sig .tc .vmem S1024x1024 .f32) (q16 : p16.IsWhole) (p17 : Memref sig .tc .vmem S1024x1024 .f32) (q17 : p17.IsWhole) (p18 : Memref sig .tc .vmem S8x1024 .f32) (q18 : p18.IsWhole)
  {x0 : Vec Ideal S1024x1024 .f32} {x1 : Vec Ideal S1x1024 .f32} {x2 : Vec Ideal S1024x2048 .bf16} {x3 : Vec Ideal S1x2048 .f32} {x4 : Vec Ideal S4x1024 .f32} {x5 : Vec Ideal S1x1024 .f32} {x6 : Vec Ideal S8x128x256 .bf16} {x7 : Vec Ideal S1x1024 .f32} {x8 : Vec Ideal S1x1024 .f32} {x9 : Vec Ideal S1x1024 .f32} {x10 : Vec Ideal S1024x1024 .bf16} {x11 : Vec Ideal S1x1024 .f32}
  (xz : Vec Ideal S1032x1024 .f32) (xh : Vec Ideal S8x1024 .f32)
  {p : Par} {X : Fin 4096 → Fin 1024 → EReal} {q : Fin 4} (Fi : Fits p X q x0 x1 x2 x3 x4 x5 x6 x7 x8 x9 x10 x11)

include Fi in
theorem loads_of : Loads p X q (View.readAt (Elt Ideal) p1.view (Rect.unit (s := S1024x1024) ![0, 0] S1024x1024.size inb_S1024x1024_S1024x1024_0_0).toLoadRect (q1.unread x0)) (View.readAt (Elt Ideal) p2.view (Rect.unit (s := S1x1024) ![0, 0] S1x1024.size inb_S1x1024_S1x1024_0_0).toLoadRect (q2.unread x1)) (View.readAt (Elt Ideal) p3.view (Rect.unit (s := S1024x2048) ![0, 0] S1024x1024.size inb_S1024x2048_S1024x1024_0_0).toLoadRect (q3.unread x2)) (View.readAt (Elt Ideal) p3.view (Rect.unit (s := S1024x2048) ![0, 1024] S1024x1024.size inb_S1024x2048_S1024x1024_0_1024).toLoadRect (q3.unread x2)) (View.readAt (Elt Ideal) p4.view (Rect.unit (s := S1x2048) ![0, 0] S1x1024.size inb_S1x2048_S1x1024_0_0).toLoadRect (q4.unread x3)) (View.readAt (Elt Ideal) p4.view (Rect.unit (s := S1x2048) ![0, 1024] S1x1024.size inb_S1x2048_S1x1024_0_1024).toLoadRect (q4.unread x3)) (View.readAt (Elt Ideal) p5.view (Rect.unit (s := S4x1024) ![0, 0] S4x1024.size inb_S4x1024_S4x1024_0_0).toLoadRect (q5.unread x4)) (View.readAt (Elt Ideal) p6.view (Rect.unit (s := S1x1024) ![0, 0] S1x1024.size inb_S1x1024_S1x1024_0_0).toLoadRect (q6.unread x5)) (ldW p7 q7 x6) (ldB p8 q8 x7) (ldB p9 q9 x8) (View.readAt (Elt Ideal) p10.view (Rect.unit (s := S1x1024) ![0, 0] S1x1024.size inb_S1x1024_S1x1024_0_0).toLoadRect (q10.unread x9)) (View.readAt (Elt Ideal) p11.view (Rect.unit (s := S1024x1024) ![0, 0] S1024x1024.size inb_S1024x1024_S1024x1024_0_0).toLoadRect (q11.unread x10)) (View.readAt (Elt Ideal) p12.view (Rect.unit (s := S1x1024) ![0, 0] S1x1024.size inb_S1x1024_S1x1024_0_0).toLoadRect (q12.unread x11)) where
  h0 r k := (load2 q1 x0 ![0, 0] _ (ix2 r k) (ix2 r k) (Nat.zero_add _).symm (Nat.zero_add _).symm).trans (Fi.h0 r k)
  h1 k := (load2 q2 x1 ![0, 0] _ (ix2 0 k) (ix2 0 k) (Nat.zero_add _).symm (Nat.zero_add _).symm).trans (Fi.h1 k)
  hwlo k c := (load2 q3 x2 ![0, 0] _ (ix2 k c) (ix2 k ⟨c.val, by omega⟩) (Nat.zero_add _).symm (Nat.zero_add _).symm).trans (Fi.h2 k _)
  hwhi k c := (load2 q3 x2 ![0, 1024] _ (ix2 k c) (ix2 k ⟨1024 + c.val, by omega⟩) (Nat.zero_add _).symm rfl).trans (Fi.h2 k _)
  hblo c := (load2 q4 x3 ![0, 0] _ (ix2 0 c) (ix2 0 ⟨c.val, by omega⟩) (Nat.zero_add _).symm (Nat.zero_add _).symm).trans (Fi.h3 _)
  hbhi c := (load2 q4 x3 ![0, 1024] _ (ix2 0 c) (ix2 0 ⟨1024 + c.val, by omega⟩) (Nat.zero_add _).symm rfl).trans (Fi.h3 _)
  h4 i c := (load2 q5 x4 ![0, 0] _ (ix2 i c) (ix2 i c) (Nat.zero_add _).symm (Nat.zero_add _).symm).trans (Fi.h4 i c)
  h5 c := (load2 q6 x5 ![0, 0] _ (ix2 0 c) (ix2 0 c) (Nat.zero_add _).symm (Nat.zero_add _).symm).trans (Fi.h5 c)
  hr n k j := (load3 q7 x6 ![n.val, 0, 0] (inbW n) (ix3 0 k (lo j)) (ix3 n k (lo j)) rfl (Nat.zero_add _).symm (Nat.zero_add _).symm).trans (Fi.hr n k j)
  hi n k j := (load3 q7 x6 ![n.val, 0, 0] (inbW n) (ix3 0 k (hi j)) (ix3 n k (hi j)) rfl (Nat.zero_add _).symm (Nat.zero_add _).symm).trans (Fi.hi n k j)
  hba c := (load2 q8 x7 ![0, 128 * (blkOf c).val] (inbB (blkOf c)) (ix2 0 (inBlk c)) (ix2 0 c) rfl (Nat.div_add_mod _ _).symm).trans (Fi.h7 c)
  hbi c := (load2 q9 x8 ![0, 128 * (blkOf c).val] (inbB (blkOf c)) (ix2 0 (inBlk c)) (ix2 0 c) rfl (Nat.div_add_mod _ _).symm).trans (Fi.h8 c)
  h9 c := (load2 q10 x9 ![0, 0] _ (ix2 0 c) (ix2 0 c) (Nat.zero_add _).symm (Nat.zero_add _).symm).trans (Fi.h9 c)
  h10 k c := (load2 q11 x10 ![0, 0] _ (ix2 k c) (ix2 k c) (Nat.zero_add _).symm (Nat.zero_add _).symm).trans (Fi.h10 k c)
  h11 c := (load2 q12 x11 ![0, 0] _ (ix2 0 c) (ix2 0 c) (Nat.zero_add _).symm (Nat.zero_add _).symm).trans (Fi.h11 c)

theorem tailB (hz : ∀ (d : Fin 1032) (col : Fin 1024), 5 ≤ d.val → d.val < 8 → xz (ix2 d col) = p.z X (1024 * q.val + d.val - 5) col) (d : Fin 1032) (col : Fin 1024) (h5 : 5 ≤ d.val) (h8 : d.val < 8) :
    p14.view.read (Elt Ideal) (p14.view.writes (Elt Ideal) (q14.unread xz) []) (ix2 d col) = p.z X (1024 * q.val + d.val - 5) col :=
  (congrFun (q14.read_unread xz) _).trans (hz d col h5 h8)

include q1 q2 q3 q4 q5 q6 q7 q8 q9 q10 q11 q12 Fi in
theorem v61B (hz : ∀ (d : Fin 1032) (col : Fin 1024), 5 ≤ d.val → d.val < 8 → xz (ix2 d col) = p.z X (1024 * q.val + d.val - 5) col) (r col : Fin 1024) : runB.sl.v61 c p1 q1 p2 q2 p3 q3 p4 q4 p14 q14 x0 x1 x2 x3 xz (ix2 r col) = p.z X (1024 * q.val + r.val) col := by
  unfold runB.sl.v61 runB.sl.HZ_1 runB.sl.r_1
  exact zbuf_at p14 _ _ _ _ (fun t => p.z X t col) (1024 * q.val) col (fun d => tailB p14 q14 xz hz d col)
    (fun r => (pay10_eq _ _ _ r col).trans (z_at (loads_of p1 q1 p2 q2 p3 q3 p4 q4 p5 q5 p6 q6 p7 q7 p8 q8 p9 q9 p10 q10 p11 q11 p12 q12 Fi) r col)) 5 (by decide) _ r

include q1 q2 q3 q4 q5 q6 q7 q8 q9 q10 q11 q12 Fi in
theorem v65B (hz : ∀ (d : Fin 1032) (col : Fin 1024), 5 ≤ d.val → d.val < 8 → xz (ix2 d col) = p.z X (1024 * q.val + d.val - 5) col) (r col : Fin 1024) : runB.sl.v65 c p1 q1 p2 q2 p3 q3 p4 q4 p14 q14 x0 x1 x2 x3 xz (ix2 r col) = p.z X (1024 * q.val + r.val + 1) col := by
  unfold runB.sl.v65 runB.sl.HZ_1 runB.sl.r_1
  exact zbuf_at p14 _ _ _ _ (fun t => p.z X t col) (1024 * q.val) col (fun d => tailB p14 q14 xz hz d col)
    (fun r => (pay10_eq _ _ _ r col).trans (z_at (loads_of p1 q1 p2 q2 p3 q3 p4 q4 p5 q5 p6 q6 p7 q7 p8 q8 p9 q9 p10 q10 p11 q11 p12 q12 Fi) r col)) 6 (by decide) _ r

include q1 q2 q3 q4 q5 q6 q7 q8 q9 q10 q11 q12 Fi in
theorem v70B (hz : ∀ (d : Fin 1032) (col : Fin 1024), 5 ≤ d.val → d.val < 8 → xz (ix2 d col) = p.z X (1024 * q.val + d.val - 5) col) (r col : Fin 1024) : runB.sl.v70 c p1 q1 p2 q2 p3 q3 p4 q4 p14 q14 x0 x1 x2 x3 xz (ix2 r col) = p.z X (1024 * q.val + r.val + 2) col := by
  unfold runB.sl.v70 runB.sl.HZ_1 runB.sl.r_1
  exact zbuf_at p14 _ _ _ _ (fun t => p.z X t col) (1024 * q.val) col (fun d => tailB p14 q14 xz hz d col)
    (fun r => (pay10_eq _ _ _ r col).trans (z_at (loads_of p1 q1 p2 q2 p3 q3 p4 q4 p5 q5 p6 q6 p7 q7 p8 q8 p9 q9 p10 q10 p11 q11 p12 q12 Fi) r col)) 7 (by decide) _ r

include q1 q2 q3 q4 q5 q6 q7 q8 q9 q10 q11 q12 Fi in
theorem decaysB_at (hz : ∀ (d : Fin 1032) (col : Fin 1024), 5 ≤ d.val → d.val < 8 → xz (ix2 d col) = p.z X (1024 * q.val + d.val - 5) col) (f : BufTy.Contents (Elt Ideal) p15.view.ty) (r col : Fin 1024) :
    p15.view.read (Elt Ideal) (p15.view.writes (Elt Ideal) f (runB.sl.HA_8 c p1 q1 p2 q2 p3 q3 p4 q4 p5 q5 p6 q6 p7 q7 p8 q8 p10 q10 p14 q14 x0 x1 x2 x3 x4 x5 x6 x7 x9 xz)) (ix2 r col) = p.A X col (1024 * q.val + r.val) := by
  rw [decaysB]
  exact (cols_read p15 _ r (inBlk col) col _ (blkOf col) (Nat.div_add_mod _ _).symm).trans (a_at (loads_of p1 q1 p2 q2 p3 q3 p4 q4 p5 q5 p6 q6 p7 q7 p8 q8 p9 q9 p10 q10 p11 q11 p12 q12 Fi) (v61B c p1 q1 p2 q2 p3 q3 p4 q4 p5 q5 p6 q6 p7 q7 p8 q8 p9 q9 p10 q10 p11 q11 p12 q12 p14 q14 xz Fi hz) (v65B c p1 q1 p2 q2 p3 q3 p4 q4 p5 q5 p6 q6 p7 q7 p8 q8 p9 q9 p10 q10 p11 q11 p12 q12 p14 q14 xz Fi hz) (v70B c p1 q1 p2 q2 p3 q3 p4 q4 p5 q5 p6 q6 p7 q7 p8 q8 p9 q9 p10 q10 p11 q11 p12 q12 p14 q14 xz Fi hz) r col)

include q1 q2 q3 q4 q5 q6 q7 q8 q9 q10 q11 q12 Fi in
theorem incomesB_at (hz : ∀ (d : Fin 1032) (col : Fin 1024), 5 ≤ d.val → d.val < 8 → xz (ix2 d col) = p.z X (1024 * q.val + d.val - 5) col) (f : BufTy.Contents (Elt Ideal) p16.view.ty) (r col : Fin 1024) :
    p16.view.read (Elt Ideal) (p16.view.writes (Elt Ideal) f (runB.sl.HB_8 c p1 q1 p2 q2 p3 q3 p4 q4 p5 q5 p6 q6 p7 q7 p8 q8 p9 q9 p10 q10 p14 q14 x0 x1 x2 x3 x4 x5 x6 x7 x8 x9 xz)) (ix2 r col) = p.B X col (1024 * q.val + r.val) := by
  rw [incomesB]
  exact (cols_read p16 _ r (inBlk col) col _ (blkOf col) (Nat.div_add_mod _ _).symm).trans (b_at (loads_of p1 q1 p2 q2 p3 q3 p4 q4 p5 q5 p6 q6 p7 q7 p8 q8 p9 q9 p10 q10 p11 q11 p12 q12 Fi) (v61B c p1 q1 p2 q2 p3 q3 p4 q4 p5 q5 p6 q6 p7 q7 p8 q8 p9 q9 p10 q10 p11 q11 p12 q12 p14 q14 xz Fi hz) (v65B c p1 q1 p2 q2 p3 q3 p4 q4 p5 q5 p6 q6 p7 q7 p8 q8 p9 q9 p10 q10 p11 q11 p12 q12 p14 q14 xz Fi hz) (v70B c p1 q1 p2 q2 p3 q3 p4 q4 p5 q5 p6 q6 p7 q7 p8 q8 p9 q9 p10 q10 p11 q11 p12 q12 p14 q14 xz Fi hz) r col)

include Fi in
/-- The output of case B. -/
theorem outB_at (hc0 : ¬resets i) (hz : ∀ (d : Fin 1032) (col : Fin 1024), 5 ≤ d.val → d.val < 8 → xz (ix2 d col) = p.z X (1024 * q.val + d.val - 5) col) (hh : ∀ (k : Fin 8) (col : Fin 1024), xh (ix2 k col) = p.H X (1024 * q.val) col) (r col : Fin 1024) :
    outB (F := Ideal) c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0 xz xh (ix2 r col) = p.out X (rowAt q r) col := by
  unfold outB runB
  dsimp only
  refine (View.read_writes_cons_unit_of_mem VO0_12 _ _ _ _ (ix2 r col) (ix2 r col) rfl (by intro x; match x with | ⟨0, _⟩ => exact (Nat.zero_add _).symm | ⟨1, _⟩ => exact (Nat.zero_add _).symm)).trans ?_
  unfold runB.sl.r_33 runB.sl.r runB.sl.r_4 runB.sl.r_2 runB.sl.r_3
  refine out_at (loads_of p1 q1 p2 q2 p3 q3 p4 q4 p5 q5 p6 q6 p7 q7 p8 q8 p9 q9 p10 q10 p11 q11 p12 q12 Fi) _ (fun r col => ?_) r col
  unfold runB.sl.v522
  exact st_states (p.A X col) (p.B X col) 0 (1024 * q.val) (p.A_spread X col) c i p1 q1 p2 q2 p3 q3 p4 q4 p5 q5 p6 q6 p7 q7 p8 q8 p9 q9 p10 q10 p11 q11 p12 q12 p13 q13 p14 q14 p15 q15 p16 q16 p17 q17 p18 q18 _ _ _ _ _ _ _ _ _ _ col
    (fun r => decaysB_at c p1 q1 p2 q2 p3 q3 p4 q4 p5 q5 p6 q6 p7 q7 p8 q8 p9 q9 p10 q10 p11 q11 p12 q12 p14 q14 p15 xz Fi hz _ r col)
    (fun r => incomesB_at c p1 q1 p2 q2 p3 q3 p4 q4 p5 q5 p6 q6 p7 q7 p8 q8 p9 q9 p10 q10 p11 q11 p12 q12 p14 q14 p16 xz Fi hz _ r col)
    (fun k => (load2 q18 xh ![0, 0] _ (ix2 k col) (ix2 k col) (Nat.zero_add _).symm (Nat.zero_add _).symm).trans (hh k col)) _ r

include Fi in
/-- The convolution's rows that case B leaves for the next tile. -/
theorem convB_at (hc0 : ¬resets i) (hz : ∀ (d : Fin 1032) (col : Fin 1024), 5 ≤ d.val → d.val < 8 → xz (ix2 d col) = p.z X (1024 * q.val + d.val - 5) col) (hh : ∀ (k : Fin 8) (col : Fin 1024), xh (ix2 k col) = p.H X (1024 * q.val) col) (d : Fin 1032) (h8 : d.val < 8) (col : Fin 1024) :
    convB (F := Ideal) c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0 xz xh (ix2 d col) = p.z X (1024 * (q.val + 1) + d.val - 5) col := by
  unfold convB runB
  dsimp only
  unfold runB.sl.HZ_2 runB.sl.r_5 runB.sl.r_1
  refine (View.read_writes_cons_unit_of_mem VS0_0 _ _ _ _ (ix2 d col) (ix2 (⟨d.val, h8⟩ : Fin 8) col) rfl (by intro x; match x with | ⟨0, _⟩ => exact (Nat.zero_add _).symm | ⟨1, _⟩ => exact (Nat.zero_add _).symm)).trans ?_
  refine (pay13_at _ _ col).trans ((z_at (loads_of p1 q1 p2 q2 p3 q3 p4 q4 p5 q5 p6 q6 p7 q7 p8 q8 p9 q9 p10 q10 p11 q11 p12 q12 Fi) _ col).trans (congrArg (fun t => p.z X t col) ?_))
  show 1024 * q.val + (1016 + d.val) + 3 = 1024 * (q.val + 1) + d.val - 5
  omega

include Fi in
/-- The state that case B leaves. -/
theorem stateB_at (hc0 : ¬resets i) (hz : ∀ (d : Fin 1032) (col : Fin 1024), 5 ≤ d.val → d.val < 8 → xz (ix2 d col) = p.z X (1024 * q.val + d.val - 5) col) (hh : ∀ (k : Fin 8) (col : Fin 1024), xh (ix2 k col) = p.H X (1024 * q.val) col) (k : Fin 8) (col : Fin 1024) :
    stateB (F := Ideal) c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0 xz xh (ix2 k col) = p.H X (1024 * (q.val + 1)) col := by
  unfold stateB runB
  dsimp only
  refine (View.read_writes_cons_unit_of_mem VS0_4 _ _ _ _ (ix2 k col) (ix2 k col) rfl (by intro x; match x with | ⟨0, _⟩ => exact (Nat.zero_add _).symm | ⟨1, _⟩ => exact (Nat.zero_add _).symm)).trans ((pay81_at _ k col).trans ?_)
  exact st_state (p.A X col) (p.B X col) 0 (1024 * q.val) (p.A_spread X col) c i p1 q1 p2 q2 p3 q3 p4 q4 p5 q5 p6 q6 p7 q7 p8 q8 p9 q9 p10 q10 p11 q11 p12 q12 p13 q13 p14 q14 p15 q15 p16 q16 p17 q17 p18 q18 _ _ _ _ _ _ _ _ _ col
    (fun r => decaysB_at c p1 q1 p2 q2 p3 q3 p4 q4 p5 q5 p6 q6 p7 q7 p8 q8 p9 q9 p10 q10 p11 q11 p12 q12 p14 q14 p15 xz Fi hz _ r col)
    (fun r => incomesB_at c p1 q1 p2 q2 p3 q3 p4 q4 p5 q5 p6 q6 p7 q7 p8 q8 p9 q9 p10 q10 p11 q11 p12 q12 p14 q14 p16 xz Fi hz _ r col)
    (fun k => (load2 q18 xh ![0, 0] _ (ix2 k col) (ix2 k col) (Nat.zero_add _).symm (Nat.zero_add _).symm).trans (hh k col)) k

theorem tailA (hq : q.val = 0) (f : BufTy.Contents (Elt Ideal) p14.view.ty) (inb : ∀ a : Fin 2, (![0, 0] : Fin 2 → ℕ) a + S8x1024.size a ≤ S1032x1024.size a) (d : Fin 1032) (col : Fin 1024) (h5 : 5 ≤ d.val) (h8 : d.val < 8) :
    p14.view.read (Elt Ideal) (p14.view.writes (Elt Ideal) f [⟨Rect.unit (s := S1032x1024) ![0, 0] S8x1024.size inb, k0_pay2 (F := Ideal)⟩]) (ix2 d col) = p.z X (1024 * q.val + d.val - 5) col := by
  refine (View.read_writes_cons_unit_of_mem p14.view f inb _ _ (ix2 d col) (ix2 (⟨d.val, h8⟩ : Fin 8) col) rfl (by intro x; match x with | ⟨0, _⟩ => exact (Nat.zero_add _).symm | ⟨1, _⟩ => exact (Nat.zero_add _).symm)).trans ((pay2_at _ col).trans ?_)
  rw [Par.z, dif_neg (by omega)]

include q1 q2 q3 q4 q5 q6 q7 q8 q9 q10 q11 q12 Fi in
theorem v61A (hq : q.val = 0) (r col : Fin 1024) : runA.sl.v61 c p1 q1 p2 q2 p3 q3 p4 q4 p14 x0 x1 x2 x3 (ix2 r col) = p.z X (1024 * q.val + r.val) col := by
  unfold runA.sl.v61 runA.sl.HZ_2 runA.sl.r_1
  exact zbuf_at p14 _ _ _ _ (fun t => p.z X t col) (1024 * q.val) col (fun d => tailA p14 hq _ _ d col)
    (fun r => (pay10_eq _ _ _ r col).trans (z_at (loads_of p1 q1 p2 q2 p3 q3 p4 q4 p5 q5 p6 q6 p7 q7 p8 q8 p9 q9 p10 q10 p11 q11 p12 q12 Fi) r col)) 5 (by decide) _ r

include q1 q2 q3 q4 q5 q6 q7 q8 q9 q10 q11 q12 Fi in
theorem v65A (hq : q.val = 0) (r col : Fin 1024) : runA.sl.v65 c p1 q1 p2 q2 p3 q3 p4 q4 p14 x0 x1 x2 x3 (ix2 r col) = p.z X (1024 * q.val + r.val + 1) col := by
  unfold runA.sl.v65 runA.sl.HZ_2 runA.sl.r_1
  exact zbuf_at p14 _ _ _ _ (fun t => p.z X t col) (1024 * q.val) col (fun d => tailA p14 hq _ _ d col)
    (fun r => (pay10_eq _ _ _ r col).trans (z_at (loads_of p1 q1 p2 q2 p3 q3 p4 q4 p5 q5 p6 q6 p7 q7 p8 q8 p9 q9 p10 q10 p11 q11 p12 q12 Fi) r col)) 6 (by decide) _ r

include q1 q2 q3 q4 q5 q6 q7 q8 q9 q10 q11 q12 Fi in
theorem v70A (hq : q.val = 0) (r col : Fin 1024) : runA.sl.v70 c p1 q1 p2 q2 p3 q3 p4 q4 p14 x0 x1 x2 x3 (ix2 r col) = p.z X (1024 * q.val + r.val + 2) col := by
  unfold runA.sl.v70 runA.sl.HZ_2 runA.sl.r_1
  exact zbuf_at p14 _ _ _ _ (fun t => p.z X t col) (1024 * q.val) col (fun d => tailA p14 hq _ _ d col)
    (fun r => (pay10_eq _ _ _ r col).trans (z_at (loads_of p1 q1 p2 q2 p3 q3 p4 q4 p5 q5 p6 q6 p7 q7 p8 q8 p9 q9 p10 q10 p11 q11 p12 q12 Fi) r col)) 7 (by decide) _ r

include q1 q2 q3 q4 q5 q6 q7 q8 q9 q10 q11 q12 Fi in
theorem decaysA_at (hq : q.val = 0) (f : BufTy.Contents (Elt Ideal) p15.view.ty) (r col : Fin 1024) :
    p15.view.read (Elt Ideal) (p15.view.writes (Elt Ideal) f (runA.sl.HA_8 c p1 q1 p2 q2 p3 q3 p4 q4 p5 q5 p6 q6 p7 q7 p8 q8 p10 q10 p14 x0 x1 x2 x3 x4 x5 x6 x7 x9)) (ix2 r col) = p.A X col (1024 * q.val + r.val) := by
  rw [decaysA]
  exact (cols_read p15 _ r (inBlk col) col _ (blkOf col) (Nat.div_add_mod _ _).symm).trans (a_at (loads_of p1 q1 p2 q2 p3 q3 p4 q4 p5 q5 p6 q6 p7 q7 p8 q8 p9 q9 p10 q10 p11 q11 p12 q12 Fi) (v61A c p1 q1 p2 q2 p3 q3 p4 q4 p5 q5 p6 q6 p7 q7 p8 q8 p9 q9 p10 q10 p11 q11 p12 q12 p14 Fi hq) (v65A c p1 q1 p2 q2 p3 q3 p4 q4 p5 q5 p6 q6 p7 q7 p8 q8 p9 q9 p10 q10 p11 q11 p12 q12 p14 Fi hq) (v70A c p1 q1 p2 q2 p3 q3 p4 q4 p5 q5 p6 q6 p7 q7 p8 q8 p9 q9 p10 q10 p11 q11 p12 q12 p14 Fi hq) r col)

include q1 q2 q3 q4 q5 q6 q7 q8 q9 q10 q11 q12 Fi in
theorem incomesA_at (hq : q.val = 0) (f : BufTy.Contents (Elt Ideal) p16.view.ty) (r col : Fin 1024) :
    p16.view.read (Elt Ideal) (p16.view.writes (Elt Ideal) f (runA.sl.HB_8 c p1 q1 p2 q2 p3 q3 p4 q4 p5 q5 p6 q6 p7 q7 p8 q8 p9 q9 p10 q10 p14 x0 x1 x2 x3 x4 x5 x6 x7 x8 x9)) (ix2 r col) = p.B X col (1024 * q.val + r.val) := by
  rw [incomesA]
  exact (cols_read p16 _ r (inBlk col) col _ (blkOf col) (Nat.div_add_mod _ _).symm).trans (b_at (loads_of p1 q1 p2 q2 p3 q3 p4 q4 p5 q5 p6 q6 p7 q7 p8 q8 p9 q9 p10 q10 p11 q11 p12 q12 Fi) (v61A c p1 q1 p2 q2 p3 q3 p4 q4 p5 q5 p6 q6 p7 q7 p8 q8 p9 q9 p10 q10 p11 q11 p12 q12 p14 Fi hq) (v65A c p1 q1 p2 q2 p3 q3 p4 q4 p5 q5 p6 q6 p7 q7 p8 q8 p9 q9 p10 q10 p11 q11 p12 q12 p14 Fi hq) (v70A c p1 q1 p2 q2 p3 q3 p4 q4 p5 q5 p6 q6 p7 q7 p8 q8 p9 q9 p10 q10 p11 q11 p12 q12 p14 Fi hq) r col)

/-- The state a batch's first tile starts from. -/
theorem initA (hq : q.val = 0) (k : Fin 8) (col : Fin 1024) :
    p18.view.readCov (Val := Elt Ideal) [⟨Rect.unit (s := S8x1024) ![0, 0] S8x1024.size inb_S8x1024_S8x1024_0_0, k0_pay3 (F := Ideal)⟩]
      (Rect.unit (s := S8x1024) ![0, 0] S8x1024.size inb_S8x1024_S8x1024_0_0).toLoadRect (ix2 k col) = p.H X (1024 * q.val) col := by
  refine (congrArg (p18.view.read (Elt Ideal) (p18.view.writes (Elt Ideal) p18.view.junk [⟨Rect.unit (s := S8x1024) ![0, 0] S8x1024.size inb_S8x1024_S8x1024_0_0, k0_pay3 (F := Ideal)⟩])) (?_ : _ = ix2 k col)).trans
    ((View.read_writes_cons_unit_of_mem p18.view _ _ _ _ (ix2 k col) (ix2 k col) rfl (by intro x; match x with | ⟨0, _⟩ => exact (Nat.zero_add _).symm | ⟨1, _⟩ => exact (Nat.zero_add _).symm)).trans ((pay3_at k col).trans (by rw [hq]; rfl)))
  funext a
  apply Fin.ext
  match a with
  | ⟨0, _⟩ => show 0 + 1 * k.val = k.val; omega
  | ⟨1, _⟩ => show 0 + 1 * col.val = col.val; omega

include Fi in
/-- The output of case A. -/
theorem outA_at (hc0 : resets i) (hq : q.val = 0) (r col : Fin 1024) :
    outA (F := Ideal) c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0  (ix2 r col) = p.out X (rowAt q r) col := by
  unfold outA runA
  dsimp only
  refine (View.read_writes_cons_unit_of_mem VO0_12 _ _ _ _ (ix2 r col) (ix2 r col) rfl (by intro x; match x with | ⟨0, _⟩ => exact (Nat.zero_add _).symm | ⟨1, _⟩ => exact (Nat.zero_add _).symm)).trans ?_
  unfold runA.sl.r_33 runA.sl.r runA.sl.r_4 runA.sl.r_2 runA.sl.r_3
  refine out_at (loads_of p1 q1 p2 q2 p3 q3 p4 q4 p5 q5 p6 q6 p7 q7 p8 q8 p9 q9 p10 q10 p11 q11 p12 q12 Fi) _ (fun r col => ?_) r col
  unfold runA.sl.v522
  unfold runA.sl.v516 runA.sl.HH_1
  refine st_states (p.A X col) (p.B X col) 0 (1024 * q.val) (p.A_spread X col) c i p1 q1 p2 q2 p3 q3 p4 q4 p5 q5 p6 q6 p7 q7 p8 q8 p9 q9 p10 q10 p11 q11 p12 q12 p13 q13 p14 q14 p15 q15 p16 q16 p17 q17 p18 q18 _ _ _ _ _ _ _ _ _ _ col ?_ ?_ ?_ _ r
  · exact fun r => decaysA_at c p1 q1 p2 q2 p3 q3 p4 q4 p5 q5 p6 q6 p7 q7 p8 q8 p9 q9 p10 q10 p11 q11 p12 q12 p14 p15 Fi hq _ r col
  · exact fun r => incomesA_at c p1 q1 p2 q2 p3 q3 p4 q4 p5 q5 p6 q6 p7 q7 p8 q8 p9 q9 p10 q10 p11 q11 p12 q12 p14 p16 Fi hq _ r col
  · exact fun k => initA p18 hq k col

include Fi in
/-- The convolution's rows that case A leaves for the next tile. -/
theorem convA_at (hc0 : resets i) (hq : q.val = 0) (d : Fin 1032) (h8 : d.val < 8) (col : Fin 1024) :
    convA (F := Ideal) c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0  (ix2 d col) = p.z X (1024 * (q.val + 1) + d.val - 5) col := by
  unfold convA runA
  dsimp only
  unfold runA.sl.HZ_3 runA.sl.r_5 runA.sl.r_1
  refine (View.read_writes_cons_unit_of_mem VS0_0 _ _ _ _ (ix2 d col) (ix2 (⟨d.val, h8⟩ : Fin 8) col) rfl (by intro x; match x with | ⟨0, _⟩ => exact (Nat.zero_add _).symm | ⟨1, _⟩ => exact (Nat.zero_add _).symm)).trans ?_
  refine (pay13_at _ _ col).trans ((z_at (loads_of p1 q1 p2 q2 p3 q3 p4 q4 p5 q5 p6 q6 p7 q7 p8 q8 p9 q9 p10 q10 p11 q11 p12 q12 Fi) _ col).trans (congrArg (fun t => p.z X t col) ?_))
  show 1024 * q.val + (1016 + d.val) + 3 = 1024 * (q.val + 1) + d.val - 5
  omega

include Fi in
/-- The state that case A leaves. -/
theorem stateA_at (hc0 : resets i) (hq : q.val = 0) (k : Fin 8) (col : Fin 1024) :
    stateA (F := Ideal) c i p1 q1 p2 q2 p3 q3 p4 q4 p5 q5 p6 q6 p7 q7 p8 q8 p9 q9 p10 q10 p11 q11 p12 q12 p13 q13 p14 q14 p15 q15 p16 q16 p17 q17 p18 q18 x0 x1 x2 x3 x4 x5 x6 x7 x8 x9 x10 x11 hc0  (ix2 k col) = p.H X (1024 * (q.val + 1)) col := by
  unfold stateA runA
  dsimp only
  refine (View.read_writes_cons_unit_of_mem VS0_4 _ _ _ _ (ix2 k col) (ix2 k col) rfl (by intro x; match x with | ⟨0, _⟩ => exact (Nat.zero_add _).symm | ⟨1, _⟩ => exact (Nat.zero_add _).symm)).trans ((pay81_at _ k col).trans ?_)
  unfold runA.sl.v516 runA.sl.HH_1
  refine st_state (p.A X col) (p.B X col) 0 (1024 * q.val) (p.A_spread X col) c i p1 q1 p2 q2 p3 q3 p4 q4 p5 q5 p6 q6 p7 q7 p8 q8 p9 q9 p10 q10 p11 q11 p12 q12 p13 q13 p14 q14 p15 q15 p16 q16 p17 q17 p18 q18 _ _ _ _ _ _ _ _ _ col ?_ ?_ ?_ k
  · exact fun r => decaysA_at c p1 q1 p2 q2 p3 q3 p4 q4 p5 q5 p6 q6 p7 q7 p8 q8 p9 q9 p10 q10 p11 q11 p12 q12 p14 p15 Fi hq _ r col
  · exact fun r => incomesA_at c p1 q1 p2 q2 p3 q3 p4 q4 p5 q5 p6 q6 p7 q7 p8 q8 p9 q9 p10 q10 p11 q11 p12 q12 p14 p16 Fi hq _ r col
  · exact fun k => initA p18 hq k col

end Cases

end Cert.KernelIdeal.Mixer

end
-- ==== Proof.MixValue.lean ====
/-
The mixing kernel's result: the layer at every batch and position.
-/
module

public import proofs.«01_k».proof.Proof.MixCases
public import Idealize.ShloMosaic.Lib.Pipeline.ValueKit
public import Idealize.ShloMosaic.Lib.StableHlo.ReadAt

@[expose] public section

set_option maxRecDepth 16384

noncomputable section

namespace Cert.KernelIdeal.Mixer

open Cert.KernelIdeal Cert.KernelIdeal.Gen Cert.Lru
open Idealize.ShloMosaic Idealize.ShloMosaic.TcCoe
open Idealize.ShloMosaic.Pipeline (Dat Cfg Window BodyObligation cellOf)

variable (m : (ℓ : Loc nD τ sig) → Buf (Elt Ideal) ℓ) (c : Dev nD)

/-- The layer's parameters, as launched. -/
def par : Par where
  g k := (m ((c : Thread nD τ).loc main_arg1) : FVec Ideal S1024 .f32) (ix1 k)
  w k j := (m ((c : Thread nD τ).loc main_arg2) : FVec Ideal S1024x2048 .f32) (ix2 k j)
  b j := (m ((c : Thread nD τ).loc main_arg3) : FVec Ideal S2048 .f32) (ix1 j)
  cw i k := (m ((c : Thread nD τ).loc main_arg4) : FVec Ideal S4x1024 .f32) (ix2 i k)
  cb k := (m ((c : Thread nD τ).loc main_arg5) : FVec Ideal S1024 .f32) (ix1 k)
  wr n k j := (m ((c : Thread nD τ).loc main_arg6) : FVec Ideal S8x128x128 .f32) (ix3 n k j)
  wi n k j := (m ((c : Thread nD τ).loc main_arg8) : FVec Ideal S8x128x128 .f32) (ix3 n k j)
  ba k := (m ((c : Thread nD τ).loc main_arg7) : FVec Ideal S1024 .f32) (ix1 k)
  bi k := (m ((c : Thread nD τ).loc main_arg9) : FVec Ideal S1024 .f32) (ix1 k)
  lam k := (m ((c : Thread nD τ).loc main_arg10) : FVec Ideal S1024 .f32) (ix1 k)
  wo k j := (m ((c : Thread nD τ).loc main_arg11) : FVec Ideal S1024x1024 .f32) (ix2 k j)
  bo k := (m ((c : Thread nD τ).loc main_arg12) : FVec Ideal S1024 .f32) (ix1 k)

/-- A batch's rows, as launched. -/
def rows (b : Fin 8) (s : Fin 4096) (k : Fin 1024) : EReal := (m ((c : Thread nD τ).loc main_arg0) : FVec Ideal S8x4096x1024 .f32) (ix3 b s k)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0, 0]
    ∧ win0_7.index t = ![0, 0] ∧ win0_8.index t = ![0, 0] ∧ win0_9.index t = ![0, 0] ∧ win0_10.index t = ![0, 0]
    ∧ win0_11.index t = ![0, 0] ∧ win0_12.index t = ![t.val, 0] :=
  (by decide +kernel : ∀ t : Fin grid0.N, _)

theorem iblk0_at (t : Fin cfg0.N) (r k : Fin 1024) (b : Fin 8) (s : Fin 4096) (h : 4096 * b.val + s.val = 1024 * t.val + r.val) :
    (iblk m c 0 t : Vec Ideal S1024x1024 .f32) (ix2 r k) = (m ((c : Thread nD τ).loc main_arg0) : FVec Ideal S8x4096x1024 .f32) (ix3 b s k) := by
  blk_ext! [iblk, V, idx t]

theorem iblk1_at (t : Fin cfg0.N) (k : Fin 1024) : (iblk m c 1 t : Vec Ideal S1x1024 .f32) (ix2 0 k) = (m ((c : Thread nD τ).loc main_arg1) : FVec Ideal S1024 .f32) (ix1 k) := by
  blk_ext! [iblk, V, idx t]

theorem iblk2_at (t : Fin cfg0.N) (k : Fin 1024) (j : Fin 2048) : (iblk m c 2 t : Vec Ideal S1024x2048 .bf16) (ix2 k j) = (m ((c : Thread nD τ).loc main_arg2) : FVec Ideal S1024x2048 .f32) (ix2 k j) := by
  blk_ext! [iblk, V, idx t]

theorem iblk3_at (t : Fin cfg0.N) (j : Fin 2048) : (iblk m c 3 t : Vec Ideal S1x2048 .f32) (ix2 0 j) = (m ((c : Thread nD τ).loc main_arg3) : FVec Ideal S2048 .f32) (ix1 j) := by
  blk_ext! [iblk, V, idx t]

theorem iblk4_at (t : Fin cfg0.N) (i : Fin 4) (k : Fin 1024) : (iblk m c 4 t : Vec Ideal S4x1024 .f32) (ix2 i k) = (m ((c : Thread nD τ).loc main_arg4) : FVec Ideal S4x1024 .f32) (ix2 i k) := by
  blk_ext! [iblk, V, idx t]

theorem iblk5_at (t : Fin cfg0.N) (k : Fin 1024) : (iblk m c 5 t : Vec Ideal S1x1024 .f32) (ix2 0 k) = (m ((c : Thread nD τ).loc main_arg5) : FVec Ideal S1024 .f32) (ix1 k) := by
  blk_ext! [iblk, V, idx t]

/-- The gates' joined weights. -/
def joined (a b : FVec Ideal S8x128x128 .f32) : FVec Ideal S8x128x256 .f32 :=
  concatenate S8x128x256 2 [⟨S8x128x128, a⟩, ⟨S8x128x128, b⟩] concatenates_S8x128x128_S8x128x128_S8x128x256_d2

theorem joined_lo (a b : FVec Ideal S8x128x128 .f32) (n : Fin 8) (k j : Fin 128) : joined a b (ix3 n k (lo j)) = a (ix3 n k j) := by
  pointwise [joined, lo]

theorem joined_hi (a b : FVec Ideal S8x128x128 .f32) (n : Fin 8) (k j : Fin 128) : joined a b (ix3 n k (hi j)) = b (ix3 n k j) := by
  pointwise [joined, hi]

theorem iblk6_eq (t : Fin cfg0.N) (n : Fin 8) (k : Fin 128) (j : Fin 256) : (iblk m c 6 t : Vec Ideal S8x128x256 .bf16) (ix3 n k j)
    = joined (m ((c : Thread nD τ).loc main_arg6)) (m ((c : Thread nD τ).loc main_arg8)) (ix3 n k j) := by
  blk_ext! [iblk, V, idx t]

theorem iblk7_at (t : Fin cfg0.N) (k : Fin 1024) : (iblk m c 7 t : Vec Ideal S1x1024 .f32) (ix2 0 k) = (m ((c : Thread nD τ).loc main_arg7) : FVec Ideal S1024 .f32) (ix1 k) := by
  blk_ext! [iblk, V, idx t]

theorem iblk8_at (t : Fin cfg0.N) (k : Fin 1024) : (iblk m c 8 t : Vec Ideal S1x1024 .f32) (ix2 0 k) = (m ((c : Thread nD τ).loc main_arg9) : FVec Ideal S1024 .f32) (ix1 k) := by
  blk_ext! [iblk, V, idx t]

theorem iblk9_at (t : Fin cfg0.N) (k : Fin 1024) : (iblk m c 9 t : Vec Ideal S1x1024 .f32) (ix2 0 k) = (m ((c : Thread nD τ).loc main_arg10) : FVec Ideal S1024 .f32) (ix1 k) := by
  blk_ext! [iblk, V, idx t]

theorem iblk10_at (t : Fin cfg0.N) (k j : Fin 1024) : (iblk m c 10 t : Vec Ideal S1024x1024 .bf16) (ix2 k j) = (m ((c : Thread nD τ).loc main_arg11) : FVec Ideal S1024x1024 .f32) (ix2 k j) := by
  blk_ext! [iblk, V, idx t]

theorem iblk11_at (t : Fin cfg0.N) (k : Fin 1024) : (iblk m c 11 t : Vec Ideal S1x1024 .f32) (ix2 0 k) = (m ((c : Thread nD τ).loc main_arg12) : FVec Ideal S1024 .f32) (ix1 k) := by
  blk_ext! [iblk, V, idx t]

/-- A point's blocks are its tile's rows and the parameters. -/
theorem fits (n : ℕ) (hn : n < cfg0.N) (b : Fin 8) (q : Fin 4) (hb : n / 4 = b.val) (hq : n % 4 = q.val) : Fits (par m c) (rows m c b) q (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) where
  h0 r k := iblk0_at m c ⟨n, hn⟩ r k b (rowAt q r) (by show 4096 * b.val + (1024 * q.val + r.val) = 1024 * n + r.val; omega)
  h1 k := iblk1_at m c ⟨n, hn⟩ k
  h2 k j := iblk2_at m c ⟨n, hn⟩ k j
  h3 j := iblk3_at m c ⟨n, hn⟩ j
  h4 i k := iblk4_at m c ⟨n, hn⟩ i k
  h5 k := iblk5_at m c ⟨n, hn⟩ k
  hr n' k j := (iblk6_eq m c ⟨n, hn⟩ n' k (lo j)).trans (joined_lo _ _ n' k j)
  hi n' k j := (iblk6_eq m c ⟨n, hn⟩ n' k (hi j)).trans (joined_hi _ _ n' k j)
  h7 k := iblk7_at m c ⟨n, hn⟩ k
  h8 k := iblk8_at m c ⟨n, hn⟩ k
  h9 k := iblk9_at m c ⟨n, hn⟩ k
  h10 k j := iblk10_at m c ⟨n, hn⟩ k j
  h11 k := iblk11_at m c ⟨n, hn⟩ k

/-- What the tile `n` leaves for the next: the convolution's last rows and the state. -/
theorem kept_at (b : Fin 8) (n : ℕ) (hn : n < cfg0.N) (q : Fin 4) (hb : n / 4 = b.val) (hq : n % 4 = q.val) :
    (∀ d : Fin 1032, 5 ≤ d.val → d.val < 8 → ∀ col, (outsAt m c n hn).2.1 (ix2 d col) = (par m c).z (rows m c b) (1024 * (q.val + 1) + d.val - 5) col)
    ∧ ∀ (k : Fin 8) col, (outsAt m c n hn).2.2 (ix2 k col) = (par m c).H (rows m c b) (1024 * (q.val + 1)) col := by
  induction n generalizing q with
  | zero =>
    refine ⟨fun d h5 h8 col => ?_, fun k col => ?_⟩
    · refine (congrArg (fun p => p.2.1 (ix2 d col)) (outsAt_A m c ⟨0, hn⟩ (Nat.zero_mod _))).trans ?_
      dsimp only
      exact convA_at c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) (fits m c 0 hn b q hb hq) ((resets_iff ⟨0, hn⟩).mpr (Nat.zero_mod _)) (by omega) d h8 col
    · refine (congrArg (fun p => p.2.2 (ix2 k col)) (outsAt_A m c ⟨0, hn⟩ (Nat.zero_mod _))).trans ?_
      dsimp only
      exact stateA_at c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) (fits m c 0 hn b q hb hq) ((resets_iff ⟨0, hn⟩).mpr (Nat.zero_mod _)) (by omega) k col
  | succ n ih =>
    by_cases h0 : (n + 1) % 4 = 0
    · refine ⟨fun d h5 h8 col => ?_, fun k col => ?_⟩
      · refine (congrArg (fun p => p.2.1 (ix2 d col)) (outsAt_A m c ⟨n + 1, hn⟩ h0)).trans ?_
        dsimp only
        exact convA_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fits m c (n + 1) hn b q hb hq) ((resets_iff ⟨n + 1, hn⟩).mpr h0) (by omega) d h8 col
      · refine (congrArg (fun p => p.2.2 (ix2 k col)) (outsAt_A m c ⟨n + 1, hn⟩ h0)).trans ?_
        dsimp only
        exact stateA_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (fits m c (n + 1) hn b q hb hq) ((resets_iff ⟨n + 1, hn⟩).mpr h0) (by omega) k col
    · have hn1 : n < cfg0.N := Nat.lt_of_succ_lt hn
      have hz : ∀ (d : Fin 1032) (col : Fin 1024), 5 ≤ d.val → d.val < 8 → (outsAt m c n hn1).2.1 (ix2 d col) = (par m c).z (rows m c b) (1024 * q.val + d.val - 5) col := (fun d col h5 h8 => (((ih hn1 ⟨q.val - 1, by omega⟩ (by omega) (by dsimp only; omega)).1 d h5 h8 col).trans (congrArg (fun t => (par m c).z (rows m c b) t col) (by dsimp only; omega))))
      have hh : ∀ (k : Fin 8) (col : Fin 1024), (outsAt m c n hn1).2.2 (ix2 k col) = (par m c).H (rows m c b) (1024 * q.val) col := (fun k col => (((ih hn1 ⟨q.val - 1, by omega⟩ (by omega) (by dsimp only; omega)).2 k col).trans (congrArg (fun t => (par m c).H (rows m c b) t col) (by dsimp only; omega))))
      refine ⟨fun d h5 h8 col => ?_, fun k col => ?_⟩
      · refine (congrArg (fun p => p.2.1 (ix2 d col)) (outsAt_B m c ⟨n + 1, hn⟩ h0)).trans ?_
        dsimp only
        exact convB_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (outsAt m c n (Nat.lt_of_succ_lt hn)).2.1 (outsAt m c n (Nat.lt_of_succ_lt hn)).2.2 (fits m c (n + 1) hn b q hb hq) (fun h => h0 ((resets_iff ⟨n + 1, hn⟩).mp h)) hz hh d h8 col
      · refine (congrArg (fun p => p.2.2 (ix2 k col)) (outsAt_B m c ⟨n + 1, hn⟩ h0)).trans ?_
        dsimp only
        exact stateB_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) (outsAt m c n (Nat.lt_of_succ_lt hn)).2.1 (outsAt m c n (Nat.lt_of_succ_lt hn)).2.2 (fits m c (n + 1) hn b q hb hq) (fun h => h0 ((resets_iff ⟨n + 1, hn⟩).mp h)) hz hh k col

/-- What the tile `n` writes. -/
theorem tile_at (n : ℕ) (hn : n < cfg0.N) (b : Fin 8) (q : Fin 4) (hb : n / 4 = b.val) (hq : n % 4 = q.val) (r col : Fin 1024) :
    (outsAt m c n hn).1 (ix2 r col) = (par m c).out (rows m c b) (rowAt q r) col := by
  by_cases h0 : n % 4 = 0
  · refine (congrArg (fun p => p.1 (ix2 r col)) (outsAt_A m c ⟨n, hn⟩ h0)).trans ?_
    dsimp only
    exact outA_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) scM0_0 (Memref.isWhole_whole _) scM0_1 (Memref.isWhole_whole _) scM0_2 (Memref.isWhole_whole _) scM0_3 (Memref.isWhole_whole _) scM0_4 (Memref.isWhole_whole _) (fits m c n hn b q hb hq) ((resets_iff ⟨n, hn⟩).mpr h0) (by omega) r col
  · have hn1 : n - 1 < cfg0.N := lt_of_le_of_lt (Nat.sub_le n 1) hn
    have ih := kept_at m c b (n - 1) hn1 ⟨q.val - 1, by omega⟩ (by omega) (by dsimp only; omega)
    refine (congrArg (fun p => p.1 (ix2 r col)) (outsAt_B m c ⟨n, hn⟩ h0)).trans ?_
    dsimp only
    exact outB_at c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) scM0_0 (Memref.isWhole_whole _) scM0_1 (Memref.isWhole_whole _) scM0_2 (Memref.isWhole_whole _) scM0_3 (Memref.isWhole_whole _) scM0_4 (Memref.isWhole_whole _) (outsAt m c (n - 1) hn1).2.1 (outsAt m c (n - 1) hn1).2.2 (fits m c n hn b q hb hq) (fun h => h0 ((resets_iff ⟨n, hn⟩).mp h))
      (fun d col h5 h8 => (ih.1 d h5 h8 col).trans (congrArg (fun t => (par m c).z (rows m c b) t col) (by dsimp only; omega)))
      (fun k col => (ih.2 k col).trans (congrArg (fun t => (par m c).H (rows m c b) t col) (by dsimp only; omega))) r col

/-- The result: the layer's rows, batch after batch. -/
def result : FVec Ideal S32768x1024 .f32 := fun i =>
  (par m c).out (rows m c ⟨(i 0).val / 4096, Nat.div_lt_of_lt_mul (i 0).isLt⟩) ⟨(i 0).val % 4096, Nat.mod_lt _ (by decide)⟩ (i 1)

/-- The result at a tile's row. -/
theorem result_row (n : Fin 32768) (col : Fin 1024) (b : Fin 8) (s : Fin 4096) (h : 4096 * b.val + s.val = n.val) :
    result m c (ix2 n col) = (par m c).out (rows m c b) s col := by
  have hb : (⟨n.val / 4096, Nat.div_lt_of_lt_mul n.isLt⟩ : Fin 8) = b := Fin.ext (by dsimp only; omega)
  have hs : (⟨n.val % 4096, Nat.mod_lt _ (by decide)⟩ : Fin 4096) = s := Fin.ext (by dsimp only; omega)
  show (par m c).out (rows m c ⟨n.val / 4096, _⟩) ⟨n.val % 4096, _⟩ col = _
  rw [hb, hs]

/-- What a tile writes back is its block of the result. -/
theorem flushed_eq (t : Fin cfg0.N) :
    (dats m 0 c).flushed 12 t = ((cfg0.win 12).blk t).view.read (Elt Ideal) (result m c) := by
  show (cfg0.win 12).cut (grid0.coords t) ((dats m 0 c).after 12 t) = _
  rw [after0_12]
  have hN : t.val < 32 := lt_of_lt_of_eq t.isLt N_0
  have e0 : win0_12.index t (0 : Fin 2) = t.val := congrFun (idx t).2.2.2.2.2.2.2.2.2.2.2.2 0
  have e1 : win0_12.index t (1 : Fin 2) = 0 := congrFun (idx t).2.2.2.2.2.2.2.2.2.2.2.2 1
  funext y
  have hy0 : (y 0).val < 1024 := (y 0).isLt
  have hy1 : (y 1).val < 1024 := (y 1).isLt
  have hb0 : (((cfg0.win 12).blk t).view.emb y 0).val = win0_12.index t (0 : Fin 2) * 1024 + 1 * (y 0).val := rfl
  have hb1 : (((cfg0.win 12).blk t).view.emb y 1).val = win0_12.index t (1 : Fin 2) * 1024 + 1 * (y 1).val := rfl
  have hx : (cfg0.win 12).xinj (grid0.coords t) y = ix2 (⟨(y 0).val, hy0⟩ : Fin 1024) (⟨(y 1).val, hy1⟩ : Fin 1024) := by
    funext a; match a with | ⟨0, _⟩ => rfl | ⟨1, _⟩ => rfl
  have he : ((cfg0.win 12).blk t).view.emb y = ix2 (⟨1024 * t.val + (y 0).val, by omega⟩ : Fin 32768) (⟨(y 1).val, hy1⟩ : Fin 1024) := by
    funext a; apply Fin.ext
    match a with
    | ⟨0, _⟩ => exact hb0.trans (by show _ = 1024 * t.val + (y 0).val; omega)
    | ⟨1, _⟩ => exact hb1.trans (by show _ = (y 1).val; omega)
  refine (congrArg (outsAt m c t.val t.isLt).1 hx).trans ?_
  refine (tile_at m c t.val t.isLt ⟨t.val / 4, by omega⟩ ⟨t.val % 4, by omega⟩ rfl rfl _ _).trans ?_
  refine Eq.trans ?_ (congrArg (result m c) he.symm)
  exact (result_row m c _ _ _ _ (by show 4096 * (t.val / 4) + (1024 * (t.val % 4) + (y 0).val) = 1024 * t.val + (y 0).val; omega)).symm

/-- An index of the array is in a point's block iff its coordinates are in the block's ranges. -/
theorem mem_blk (t : Fin cfg0.N) (i : S32768x1024.Idx) :
    i ∈ ((cfg0.win 12).blk t).view.set ↔ ∀ a : Fin 2, win0_12.index t a * S1024x1024.size a ≤ (i a).val ∧ (i a).val < win0_12.index t a * S1024x1024.size a + S1024x1024.size a := by
  show i ∈ ((View.whole main_v12).slice (win0_12.rect t)).set ↔ _
  rw [View.set_slice_whole, Rect.mem_set_unit]
  exact Iff.rfl

/-- The array after the run. -/
theorem final : (dats m 0 c).arrAt 12 cfg0.N = result m c :=
  (dats m 0 c).arrAt_eq_of_cover 12 _ (fun t _ => flushed_eq m c t) (fun i => by
    have h0 : (i 0).val < 32768 := (i 0).isLt
    have h1 : (i 1).val < 1024 := (i 1).isLt
    have ht : (i 0).val / 1024 < cfg0.N := by rw [show cfg0.N = 32 from N_0]; omega
    refine ⟨⟨(i 0).val / 1024, ht⟩, flush0_12 _, ?_⟩
    rw [mem_blk]
    have e := (idx ⟨(i 0).val / 1024, ht⟩).2.2.2.2.2.2.2.2.2.2.2.2
    intro a
    rw [e]
    match a with
    | ⟨0, _⟩ => show (i 0).val / 1024 * 1024 ≤ (i 0).val ∧ (i 0).val < (i 0).val / 1024 * 1024 + 1024; omega
    | ⟨1, _⟩ => show 0 * 1024 ≤ (i 1).val ∧ (i 1).val < 0 * 1024 + 1024; omega)

end Cert.KernelIdeal.Mixer

end
-- ==== Proof.MixHost.lean ====
/-
The reference's host operations of the mixing layer, stage by stage.
-/
module

public import proofs.«01_k».proof.Proof.Lru
public import proofs.«01_k».proof.Proof.Ffn
public import proofs.«01_k».proof.Proof.Gen.ReferenceIdeal
public import Idealize.ShloMosaic.Lib.Pointwise

@[expose] public section

set_option maxRecDepth 16384

noncomputable section

namespace Cert.Lru

open Cert.ReferenceIdeal Cert.ReferenceIdeal.Gen Cert.Ffn
open Idealize.ShloMosaic Idealize.ShloMosaic.TcCoe

/-- A vector over the last axis, repeated. -/
def hostRow (v : FVec Ideal S1024 .f32) : FVec Ideal S8x4096x1024 .f32 :=
  broadcastInDim S8x4096x1024 ![0, 1, 2] bcast_S1x1x1024_S8x4096x1024_0_1_2 (broadcastInDim S1x1x1024 ![2] bcast_S1024_S1x1x1024_2 v)

/-- A constant, repeated. -/
def hostAll (w : BitVec 32) : FVec Ideal S8x4096x1024 .f32 :=
  broadcastInDim S8x4096x1024 ![] bcast_S_S8x4096x1024 (constant (F := Ideal) S_ .f32 w)

def hostPre (x : FVec Ideal S8x4096x1024 .f32) (g : FVec Ideal S1024 .f32) (w : FVec Ideal S1024x2048 .f32) (b : FVec Ideal S2048 .f32) :
    FVec Ideal S8x4096x2048 .f32 :=
  addf (Host.dotGeneral dot_S8x4096x1024_S1024x2048_S8x4096x2048_2_0_01_1_n_n none (hostNorm x g) w)
    (broadcastInDim S8x4096x2048 ![0, 1, 2] bcast_S1x1x2048_S8x4096x2048_0_1_2 (broadcastInDim S1x1x2048 ![2] bcast_S2048_S1x1x2048_2 b))

def hostHalf (v : FVec Ideal S8x4096x2048 .f32) : FVec Ideal S8x4096x1024 .f32 :=
  extractStridedSlice S8x4096x1024 ![0, 0, 0] v slices_S8x4096x2048_S8x4096x1024_0_0_0

def hostHalf1 (v : FVec Ideal S8x4096x2048 .f32) : FVec Ideal S8x4096x1024 .f32 :=
  extractStridedSlice S8x4096x1024 ![0, 0, 1024] v slices_S8x4096x2048_S8x4096x1024_0_0_1024

def hostGelu (v : FVec Ideal S8x4096x1024 .f32) : FVec Ideal S8x4096x1024 .f32 :=
  mulf v (mulf (hostAll 0x3F000000#32) (addf (hostAll 0x3F800000#32)
    (Host.tanh (mulf (hostAll 0x3F4C422A#32) (addf v (mulf (hostAll 0x3D372713#32) (mulf (mulf v v) v)))))))

def hostPad (u : FVec Ideal S8x4096x1024 .f32) : FVec Ideal S8x4099x1024 .f32 :=
  pad S8x4099x1024 ![0, 3, 0] ![0, 0, 0] ![0, 0, 0] u (sitofp (F := Ideal) .f32 (constantI S_ 32 0#32)) pads_S8x4096x1024_S8x4099x1024_000_300_000 h_S_

def hostTaps (P : FVec Ideal S8x4099x1024 .f32) (cw : FVec Ideal S4x1024 .f32) (cb : FVec Ideal S1024 .f32) : FVec Ideal S8x4096x1024 .f32 :=
  addf (addf (addf (addf (addf (hostAll 0x00000000#32)
    (mulf (hostRow (shapeCast S1024 (extractStridedSlice S1x1024 ![0, 0] cw slices_S4x1024_S1x1024_0_0) shapeCasts_S1x1024_S1024)) (extractStridedSlice S8x4096x1024 ![0, 0, 0] P slices_S8x4099x1024_S8x4096x1024_0_0_0)))
    (mulf (hostRow (shapeCast S1024 (extractStridedSlice S1x1024 ![1, 0] cw slices_S4x1024_S1x1024_1_0) shapeCasts_S1x1024_S1024)) (extractStridedSlice S8x4096x1024 ![0, 1, 0] P slices_S8x4099x1024_S8x4096x1024_0_1_0)))
    (mulf (hostRow (shapeCast S1024 (extractStridedSlice S1x1024 ![2, 0] cw slices_S4x1024_S1x1024_2_0) shapeCasts_S1x1024_S1024)) (extractStridedSlice S8x4096x1024 ![0, 2, 0] P slices_S8x4099x1024_S8x4096x1024_0_2_0)))
    (mulf (hostRow (shapeCast S1024 (extractStridedSlice S1x1024 ![3, 0] cw slices_S4x1024_S1x1024_3_0) shapeCasts_S1x1024_S1024)) (extractStridedSlice S8x4096x1024 ![0, 3, 0] P slices_S8x4099x1024_S8x4096x1024_0_3_0)))
    (hostRow cb)

def hostBlocks (u : FVec Ideal S8x4096x1024 .f32) (w : FVec Ideal S8x128x128 .f32) : FVec Ideal S8x4096x1024 .f32 :=
  shapeCast S8x4096x1024 (transpose S8x4096x8x128 [2, 3, 0, 1]
    (Host.dotGeneral dot_S8x128x128_S8x4096x8x128_S8x128x8x4096_1_3_2_01_0_2 none w (shapeCast S8x4096x8x128 u shapeCasts_S8x4096x1024_S8x4096x8x128))
    transposes_S8x128x8x4096_S8x4096x8x128_2_3_0_1) shapeCasts_S8x4096x8x128_S8x4096x1024

def hostGateOf (u : FVec Ideal S8x4096x1024 .f32) (w : FVec Ideal S8x128x128 .f32) (b : FVec Ideal S1024 .f32) : FVec Ideal S8x4096x1024 .f32 :=
  Host.divf (hostAll 0x3F800000#32) (addf (hostAll 0x3F800000#32) (Host.exp (Host.negf (addf (hostBlocks u w) (hostRow b)))))

def hostLsig (l : FVec Ideal S1024 .f32) : FVec Ideal S1024 .f32 :=
  let z : FVec Ideal S1024 .f32 := broadcastInDim S1024 ![] bcast_S_S1024 (constant (F := Ideal) S_ .f32 0x00000000#32)
  let n : FVec Ideal S1024 .f32 := Host.negf l
  Host.negf (select (cmpf .une (subf n z) (subf n z)) (addf n z) (addf (maximumf n z) (Host.log1p (Host.exp (Host.negf (Host.absf (subf n z)))))))

def hostDecay (r8 : FVec Ideal S8x4096x1024 .f32) (l : FVec Ideal S1024 .f32) : FVec Ideal S8x4096x1024 .f32 :=
  mulf r8 (hostRow l)

def hostIncome (d i u : FVec Ideal S8x4096x1024 .f32) : FVec Ideal S8x4096x1024 .f32 :=
  mulf (Host.sqrt (Host.negf (Host.expm1 (mulf (hostAll 0x40000000#32) d)))) (mulf i u)

def hostOut (x h y : FVec Ideal S8x4096x1024 .f32) (w : FVec Ideal S1024x1024 .f32) (b : FVec Ideal S1024 .f32) : FVec Ideal S32768x1024 .f32 :=
  shapeCast S32768x1024 (addf x (addf (Host.dotGeneral dot_S8x4096x1024_S1024x1024_S8x4096x1024_2_0_01_1_n_n none (mulf h y) w) (hostRow b))) shapeCasts_S8x4096x1024_S32768x1024

theorem hostRow_at (v : FVec Ideal S1024 .f32) (b : Fin 8) (s : Fin 4096) (c : Fin 1024) : hostRow v (ix3 b s c) = v (ix1 c) := by
  pointwise [hostRow]

theorem hostAll_at (w : BitVec 32) (b : Fin 8) (s : Fin 4096) (c : Fin 1024) : hostAll w (ix3 b s c) = Ideal.ofBits .f32 w := by
  pointwise [hostAll]

theorem hostPre_at (x : FVec Ideal S8x4096x1024 .f32) (g : FVec Ideal S1024 .f32) (w : FVec Ideal S1024x2048 .f32) (b : FVec Ideal S2048 .f32)
    (n : Fin 8) (s : Fin 4096) (c : Fin 2048) :
    hostPre x g w b (ix3 n s c) = pre (fun k => x (ix3 n s k)) (fun k => g (ix1 k)) (fun k c => w (ix2 k c)) (fun c => b (ix1 c)) c := by
  have e : ∀ k, hostNorm x g (ix3 n s k) = nrm (fun k => x (ix3 n s k)) (fun k => g (ix1 k)) k := hostNorm_at x g n s
  unfold pre
  simp only [← e]
  pointwise [hostPre]

theorem hostHalf_at (v : FVec Ideal S8x4096x2048 .f32) (b : Fin 8) (s : Fin 4096) (c : Fin 1024) :
    hostHalf v (ix3 b s c) = v (ix3 b s ⟨c.val, by omega⟩) := by
  pointwise [hostHalf]

theorem hostHalf1_at (v : FVec Ideal S8x4096x2048 .f32) (b : Fin 8) (s : Fin 4096) (c : Fin 1024) :
    hostHalf1 v (ix3 b s c) = v (ix3 b s ⟨1024 + c.val, by omega⟩) := by
  pointwise [hostHalf1]

theorem hostGelu_at (v : FVec Ideal S8x4096x1024 .f32) (b : Fin 8) (s : Fin 4096) (c : Fin 1024) :
    hostGelu v (ix3 b s c) = gelu (v (ix3 b s c)) := by
  pointwise [hostGelu, hostAll, gelu]

theorem hostDecay_at (r : FVec Ideal S8x4096x1024 .f32) (l : FVec Ideal S1024 .f32) (b : Fin 8) (s : Fin 4096) (c : Fin 1024) :
    hostDecay (mulf (hostAll 0x41000000#32) r) l (ix3 b s c) = logDecay (l (ix1 c)) (r (ix3 b s c)) := by
  rw [logDecay, mul_right_comm]
  pointwise [hostDecay, hostAll, hostRow]

theorem hostIncome_at (d i u : FVec Ideal S8x4096x1024 .f32) (b : Fin 8) (s : Fin 4096) (c : Fin 1024) :
    hostIncome d i u (ix3 b s c) = income (d (ix3 b s c)) (i (ix3 b s c)) (u (ix3 b s c)) := by
  pointwise [hostIncome, hostAll, income, Ideal.expm1]

theorem hostLsig_at (l : FVec Ideal S1024 .f32) (c : Fin 1024) : hostLsig l (ix1 c) = lsig (l (ix1 c)) := by
  pointwise [hostLsig, lsig]
  rw [if_neg (not_not_intro rfl)]

theorem hostBlocks_at (u : FVec Ideal S8x4096x1024 .f32) (w : FVec Ideal S8x128x128 .f32) (b : Fin 8) (s : Fin 4096) (c : Fin 1024) :
    hostBlocks u w (ix3 b s c) = ∑ k, w (ix3 (blkOf c) k (inBlk c)) * u (ix3 b s (blkCol c k)) := by
  pointwise [hostBlocks, blkOf, inBlk, blkCol]
  simp only [Nat.mul_comm]

theorem hostGateOf_at (u : FVec Ideal S8x4096x1024 .f32) (w : FVec Ideal S8x128x128 .f32) (a : FVec Ideal S1024 .f32) (b : Fin 8) (s : Fin 4096) (c : Fin 1024) :
    hostGateOf u w a (ix3 b s c) = gateOf (fun k => u (ix3 b s (blkCol c k))) (fun k => w (ix3 (blkOf c) k (inBlk c))) (a (ix1 c)) := by
  unfold gateOf
  rw [Finset.sum_congr rfl (fun k _ => mul_comm _ _), ← hostBlocks_at]
  pointwise [hostGateOf, hostAll, hostRow, Ideal.logistic]

theorem hostTaps_at (u : FVec Ideal S8x4096x1024 .f32) (cw : FVec Ideal S4x1024 .f32) (cb : FVec Ideal S1024 .f32) (z : ℕ → EReal) (b : Fin 8) (s : Fin 4096) (c : Fin 1024)
    (hz : ∀ t : ℕ, z t = if h : 3 ≤ t ∧ t < 4099 then u (ix3 b ⟨t - 3, by omega⟩ c) else 0) :
    hostTaps (hostPad u) cw cb (ix3 b s c) = taps (fun i => cw (ix2 i c)) (cb (ix1 c)) (z s.val) (z (s.val + 1)) (z (s.val + 2)) (z (s.val + 3)) := by
  have h0 : FloatOps.sitofp (F := Ideal) FTy.f32 (0#32) = 0 := by
    show (((0#32 : BitVec 32).toInt : ℝ) : EReal) = 0
    simp
  have hs := s.isLt
  pointwise [hostTaps, hostPad, hostAll, hostRow, taps]
  rw [h0]
  have t3 : z (s.val + 3) = u (ix3 b s c) := by
    rw [hz, dif_pos ⟨by omega, by omega⟩]
    rfl
  have t' (j : ℕ) (hj : j < 3) : (if h : 3 ≤ j + s.val ∧ j + s.val - 3 < 4096 then u (ix3 b ⟨j + s.val - 3, by omega⟩ c) else 0) = z (s.val + j) := by
    rw [hz]
    by_cases h : 3 ≤ s.val + j
    · rw [dif_pos ⟨by omega, by omega⟩, dif_pos ⟨h, by omega⟩]
      exact congrArg u (congrArg (fun t => ix3 b t c) (Fin.ext (by dsimp only; omega)))
    · rw [dif_neg (fun h' => h (by omega)), dif_neg (fun h' => h h'.1)]
  have t0 := t' 0 (by decide)
  simp only [Nat.zero_add] at t0
  rw [t0, t' 1 (by decide), t' 2 (by decide), t3]
  rfl

theorem hostOut_at (x h y : FVec Ideal S8x4096x1024 .f32) (w : FVec Ideal S1024x1024 .f32) (a : FVec Ideal S1024 .f32) (n : Fin 32768) (b : Fin 8) (s : Fin 4096) (c : Fin 1024)
    (e : 4096 * b.val + s.val = n.val) :
    hostOut x h y w a (ix2 n c) = x (ix3 b s c) + ((∑ k, h (ix3 b s k) * y (ix3 b s k) * w (ix2 k c)) + a (ix1 c)) := by
  have hn : n = ⟨b.val * 4096 + s.val, by omega⟩ := Fin.ext (by dsimp only; omega)
  rw [hn]
  pointwise [hostOut, hostRow]

end Cert.Lru

end
-- ==== Proof.MixRef.lean ====
/-
The reference of the mixing layer, read: its loop over the rows is the recurrence, and its result the layer.
-/
module

public import proofs.«01_k».proof.Proof.MixHost
public import proofs.«01_k».proof.Proof.Gen.ReferenceIdeal.Run
public import Idealize.ShloMosaic.Lib.Pointwise
public import Idealize.ShloMosaic.Lib.Quiescent

@[expose] public section

set_option maxRecDepth 16384

noncomputable section

namespace Cert.Lru

open Cert.ReferenceIdeal Cert.ReferenceIdeal.Gen Cert.ReferenceIdeal.Value Cert.Ffn
open Idealize.ShloMosaic Idealize.ShloMosaic.TcCoe Idealize.ShloMosaic.StableHlo

/-! ## One row read and one row written -/

/-- An index held by the loop. -/
abbrev Word : Type := (⟨S_, .i32⟩ : BufTy).Contents (Elt Ideal)

/-- Where the row at an index starts. -/
def starts (v : Word) : Fin 3 → Int := fun k =>
  (((![constantI S_ 32 0#32, select (cmpi .slt v (constantI S_ 32 0#32)) (addi (id v) (constantI S_ 32 4096#32)) v, constantI S_ 32 0#32] : Fin 3 → Word)) k (Shape.Idx.first h_S_)).toInt

def takeRow (x : FVec Ideal S8x4096x1024 .f32) (v : Word) : FVec Ideal S8x1024 .f32 :=
  shapeCast S8x1024 (Host.dynamicSlice S8x1x1024 x (starts v) sliceFits_S8x4096x1024_S8x1x1024) shapeCasts_S8x1x1024_S8x1024

def putRow (x : FVec Ideal S8x4096x1024 .f32) (u : FVec Ideal S8x1024 .f32) (v : Word) : FVec Ideal S8x4096x1024 .f32 :=
  Host.dynamicUpdateSlice x (broadcastInDim S8x1x1024 ![0, 2] bcast_S8x1024_S8x1x1024_0_2 u) (starts v) updateFits_S8x4096x1024_S8x1x1024

/-- The start of the row `k`, clamped. -/
theorem starts_row : ∀ k : Fin 4096, (min (max (starts (fun _ => BitVec.ofNat 32 k.val) 1) 0) ((4096 - 1 : ℕ) : Int)).toNat = k.val := by
  decide +kernel

theorem takeRow_at (x : FVec Ideal S8x4096x1024 .f32) (k : Fin 4096) (b : Fin 8) (c : Fin 1024) :
    takeRow x (fun _ => BitVec.ofNat 32 k.val) (ix2 b c) = x (ix3 b k c) := by
  have e : takeRow x (fun _ => BitVec.ofNat 32 k.val) (ix2 b c)
      = Host.dynamicSlice S8x1x1024 x (starts (fun _ => BitVec.ofNat 32 k.val)) sliceFits_S8x4096x1024_S8x1x1024 (ix3 b 0 c) := by
    pointwise [takeRow]
  rw [e]
  unfold Host.dynamicSlice extractStridedSlice
  refine congrArg x (funext fun a => Fin.ext ?_)
  match a with
  | ⟨0, _⟩ => exact Nat.zero_add _
  | ⟨1, _⟩ => exact starts_row k
  | ⟨2, _⟩ => exact Nat.zero_add _

theorem putRow_at (x : FVec Ideal S8x4096x1024 .f32) (u : FVec Ideal S8x1024 .f32) (k : Fin 4096) (b : Fin 8) (s : Fin 4096) (c : Fin 1024) :
    putRow x u (fun _ => BitVec.ofNat 32 k.val) (ix3 b s c) = if s = k then u (ix2 b c) else x (ix3 b s c) := by
  have e : ∀ j, broadcastInDim S8x1x1024 ![0, 2] bcast_S8x1024_S8x1x1024_0_2 u (ix3 b j c) = u (ix2 b c) := by
    intro j
    pointwise []
  have hk := starts_row k
  have hb := b.isLt
  have hc := c.isLt
  unfold putRow Host.dynamicUpdateSlice updateSlice
  by_cases h : s = k
  · rw [if_pos h]
    refine (dif_pos ?_).trans ?_
    · intro a
      match a with
      | ⟨0, _⟩ => exact ⟨Nat.zero_le _, by rw [Nat.lt_iff_add_one_le]; exact (Nat.zero_add 8).symm ▸ hb⟩
      | ⟨1, _⟩ => exact ⟨hk.le.trans (le_of_eq (congrArg Fin.val h.symm)), (congrArg Fin.val h).trans_lt (Nat.lt_succ_of_le hk.ge)⟩
      | ⟨2, _⟩ => exact ⟨Nat.zero_le _, (Nat.zero_add 1024).symm ▸ hc⟩
    · refine (congrArg _ (funext fun a => Fin.ext ?_)).trans (e 0)
      match a with
      | ⟨0, _⟩ => exact Nat.sub_zero _
      | ⟨1, _⟩ => exact (congrArg (s.val - ·) hk).trans (by rw [h]; exact Nat.sub_self _)
      | ⟨2, _⟩ => exact Nat.sub_zero _
  · rw [if_neg h]
    refine dif_neg fun hin => h (Fin.ext ?_)
    obtain ⟨h1, h2⟩ := hin ⟨1, by decide⟩
    have h1' : k.val ≤ s.val := hk.ge.trans h1
    have h2' : s.val < k.val + 1 := h2.trans_le (Nat.add_le_add_right hk.le 1)
    omega

/-! ## The loop -/

/-- The buffers as the loop carries them. -/
abbrev Held : Type := Valuation τ sig (Elt Ideal)

/-- What the loop carries after `k` rows, begun from a zero state on the decays and incomes of `V`. -/
structure Scan (V W : Held) (k : ℕ) : Prop where
  decay : W (Proc.devRef .tc main_v106_0) = V (Proc.devRef .tc main_v106_0)
  income : W (Proc.devRef .tc main_v106_1) = V (Proc.devRef .tc main_v106_1)
  row : (W (Proc.devRef .tc main_v106_3) : Word) = fun _ => BitVec.ofNat 32 k

theorem scan_row (V : Held) (h3 : (V (Proc.devRef .tc main_v106_3) : Word) = fun _ => 0#32) : ∀ k, Scan V (STEP^[k] V) k
  | 0 => ⟨rfl, rfl, h3⟩
  | k + 1 => by
    have i := scan_row V h3 k
    rw [Function.iterate_succ_apply']
    refine ⟨(STEP_main_v106_0 _).trans i.decay, (STEP_main_v106_1 _).trans i.income, (STEP_main_v106_3 _).trans ?_⟩
    have e : (step_main_v106_3 (STEP^[k] V) : Word) = addi ((STEP^[k] V) (Proc.devRef .tc main_v106_3) : Word) (constantI S_ 32 1#32) := rfl
    rw [e, i.row]
    funext j
    show BitVec.ofNat 32 k + 1#32 = BitVec.ofNat 32 (k + 1)
    exact (BitVec.ofNat_add k 1).symm

section

variable (V : Held) (A B : FVec Ideal S8x4096x1024 .f32)
  (hA : (V (Proc.devRef .tc main_v106_0) : FVec Ideal S8x4096x1024 .f32) = A) (hB : (V (Proc.devRef .tc main_v106_1) : FVec Ideal S8x4096x1024 .f32) = B)
  (h3 : (V (Proc.devRef .tc main_v106_3) : Word) = fun _ => 0#32)
  (α β : Fin 8 → Fin 1024 → ℕ → EReal)
  (hα : ∀ b c (s : Fin 4096), A (ix3 b s c) = α b c s.val) (hβ : ∀ b c (s : Fin 4096), B (ix3 b s c) = β b c s.val)

include hA hB h3 in
/-- One row: the decayed state and the row's income. -/
theorem scan_next (k : ℕ) : (res_main_while0b_v118 (STEP^[k] V) : FVec Ideal S8x1024 .f32)
    = addf (mulf (takeRow A (fun _ => BitVec.ofNat 32 k)) ((STEP^[k] V) (Proc.devRef .tc main_v106_4) : FVec Ideal S8x1024 .f32)) (takeRow B (fun _ => BitVec.ofNat 32 k)) := by
  have i := scan_row V h3 k
  have e : (res_main_while0b_v118 (STEP^[k] V) : FVec Ideal S8x1024 .f32)
      = addf (mulf (takeRow ((STEP^[k] V) (Proc.devRef .tc main_v106_0)) ((STEP^[k] V) (Proc.devRef .tc main_v106_3))) ((STEP^[k] V) (Proc.devRef .tc main_v106_4) : FVec Ideal S8x1024 .f32))
        (takeRow ((STEP^[k] V) (Proc.devRef .tc main_v106_1)) ((STEP^[k] V) (Proc.devRef .tc main_v106_3))) := rfl
  rw [e, i.decay, i.income, i.row, hA, hB]
  rfl

include hA hB h3 hα hβ in
theorem scan_state (h4 : ∀ b c, (V (Proc.devRef .tc main_v106_4) : FVec Ideal S8x1024 .f32) (ix2 b c) = (0 : EReal)) (b : Fin 8) (c : Fin 1024) :
    ∀ k : ℕ, k ≤ 4096 → ((STEP^[k] V) (Proc.devRef .tc main_v106_4) : FVec Ideal S8x1024 .f32) (ix2 b c) = states (α b c) (β b c) 0 k
  | 0, _ => h4 b c
  | k + 1, hk => by
    have i := scan_state h4 b c k (by omega)
    have a := takeRow_at A ⟨k, hk⟩ b c
    have n := takeRow_at B ⟨k, hk⟩ b c
    rw [hα] at a
    rw [hβ] at n
    rw [Function.iterate_succ_apply']
    refine (congrFun (STEP_main_v106_4 (STEP^[k] V)) (ix2 b c)).trans ?_
    refine (congrFun (scan_next V A B hA hB h3 k) (ix2 b c)).trans ?_
    show takeRow A _ (ix2 b c) * _ + takeRow B _ (ix2 b c) = α b c k * states (α b c) (β b c) 0 k + β b c k
    rw [← i, ← a, ← n]

include hA hB h3 hα hβ in
theorem scan_rows (h4 : ∀ b c, (V (Proc.devRef .tc main_v106_4) : FVec Ideal S8x1024 .f32) (ix2 b c) = (0 : EReal)) (b : Fin 8) (s : Fin 4096) (c : Fin 1024) :
    ∀ k : ℕ, k ≤ 4096 → s.val < k → ((STEP^[k] V) (Proc.devRef .tc main_v106_5) : FVec Ideal S8x4096x1024 .f32) (ix3 b s c) = states (α b c) (β b c) 0 (s.val + 1)
  | 0, _, h => absurd h (Nat.not_lt_zero _)
  | k + 1, hk, h => by
    have z := scan_state V A B hA hB h3 α β hα hβ h4 b c (k + 1) hk
    rw [Function.iterate_succ_apply'] at z ⊢
    have z' := (congrFun (STEP_main_v106_4 (STEP^[k] V)) (ix2 b c)).symm.trans z
    have e : (step_main_v106_5 (STEP^[k] V) : FVec Ideal S8x4096x1024 .f32)
      = putRow ((STEP^[k] V) (Proc.devRef .tc main_v106_5)) (res_main_while0b_v118 (STEP^[k] V)) ((STEP^[k] V) (Proc.devRef .tc main_v106_3)) := rfl
    refine (congrFun (STEP_main_v106_5 (STEP^[k] V)) (ix3 b s c)).trans ((congrFun e _).trans ?_)
    rw [(scan_row V h3 k).row]
    refine (putRow_at _ _ ⟨k, hk⟩ b s c).trans ?_
    by_cases hs : s = ⟨k, hk⟩
    · rw [if_pos hs, hs]
      exact z'
    · rw [if_neg hs]
      exact scan_rows h4 b s c k (by omega) (by
        have : s.val ≠ k := fun e => hs (Fin.ext e)
        omega)

end

end Cert.Lru

end
-- ==== Proof.MixStage.lean ====
/-
The buffers of the mixing layer's reference before and after its loop.
-/
module

public import proofs.«01_k».proof.Proof.MixRef

@[expose] public section

set_option maxRecDepth 16384

noncomputable section

namespace Cert.Lru

open Cert.ReferenceIdeal Cert.ReferenceIdeal.Gen Cert.ReferenceIdeal.Value Cert.Ffn
open Idealize.ShloMosaic Idealize.ShloMosaic.TcCoe Idealize.ShloMosaic.StableHlo

section

variable (V : Held)

theorem stage0_y : after hostOps0 V (Proc.devRef .tc main_v30)
    = hostGelu (hostHalf (hostPre (V (Proc.devRef .tc main_arg0)) (V (Proc.devRef .tc main_arg1)) (V (Proc.devRef .tc main_arg2)) (V (Proc.devRef .tc main_arg3)))) := by
  after_results <;> rfl

theorem stage0_z : after hostOps0 V (Proc.devRef .tc main_v31)
    = hostHalf1 (hostPre (V (Proc.devRef .tc main_arg0)) (V (Proc.devRef .tc main_arg1)) (V (Proc.devRef .tc main_arg2)) (V (Proc.devRef .tc main_arg3))) := by
  after_results <;> rfl

theorem stage0_c : after hostOps0 V (Proc.devRef .tc main_c) = constantI S_ 32 0#32 := by
  after_results <;> rfl

theorem stage1 : after hostOps0_1 V (Proc.devRef .tc main_v32)
    = pad S8x4099x1024 ![0, 3, 0] ![0, 0, 0] ![0, 0, 0] (V (Proc.devRef .tc main_v31) : FVec Ideal S8x4096x1024 .f32) (sitofp (F := Ideal) .f32 (V (Proc.devRef .tc main_c) : IVec S_ 32)) pads_S8x4096x1024_S8x4099x1024_000_300_000 h_S_ := by
  simp only [hostOps0_1, TRef.binary, TRef.nullary, TRef.unary, TRef.ternary, TRef.toBuf, TRef.ofBuf, cast_eq]
  after_results_simp <;> rfl

theorem stage2_u : after hostOps0_2 V (Proc.devRef .tc main_v64)
    = hostTaps (V (Proc.devRef .tc main_v32)) (V (Proc.devRef .tc main_arg4)) (V (Proc.devRef .tc main_arg5)) := by
  after_results <;> rfl

theorem stage2_r : after hostOps0_2 V (Proc.devRef .tc main_v91)
    = mulf (hostAll 0x41000000#32) (hostGateOf (hostTaps (V (Proc.devRef .tc main_v32)) (V (Proc.devRef .tc main_arg4)) (V (Proc.devRef .tc main_arg5))) (V (Proc.devRef .tc main_arg6)) (V (Proc.devRef .tc main_arg7))) := by
  after_results <;> rfl

theorem stage2_i : after hostOps0_2 V (Proc.devRef .tc main_v89)
    = hostGateOf (hostTaps (V (Proc.devRef .tc main_v32)) (V (Proc.devRef .tc main_arg4)) (V (Proc.devRef .tc main_arg5))) (V (Proc.devRef .tc main_arg8)) (V (Proc.devRef .tc main_arg9)) := by
  after_results <;> rfl

theorem stage3 : after hostOps0_3 V (Proc.devRef .tc main_v92) = hostLsig (V (Proc.devRef .tc main_arg10)) := by
  simp only [hostOps0_3, TRef.binary, TRef.nullary, TRef.unary, TRef.ternary, TRef.toBuf, TRef.ofBuf, cast_eq]
  after_results_simp <;> rfl

theorem stage4_a : after hostOps0_4 V (Proc.devRef .tc main_v106_0)
    = Host.exp (hostDecay (V (Proc.devRef .tc main_v91)) (V (Proc.devRef .tc main_v92))) := by
  after_results <;> rfl

theorem stage4_b : after hostOps0_4 V (Proc.devRef .tc main_v106_1)
    = hostIncome (hostDecay (V (Proc.devRef .tc main_v91)) (V (Proc.devRef .tc main_v92))) (V (Proc.devRef .tc main_v89)) (V (Proc.devRef .tc main_v64)) := by
  after_results <;> rfl

theorem stage4_row : after hostOps0_4 V (Proc.devRef .tc main_v106_3) = constantI S_ 32 0#32 := by
  after_results <;> rfl

theorem stage4_h : after hostOps0_4 V (Proc.devRef .tc main_v106_4) = broadcastInDim S8x1024 ![] bcast_S_S8x1024 (constant (F := Ideal) S_ .f32 0x00000000#32) := by
  after_results <;> rfl

theorem stage5 : after hostOps0_5 V (Proc.devRef .tc main_v113)
    = hostOut (V (Proc.devRef .tc main_arg0)) (V (Proc.devRef .tc main_v106_5)) (V (Proc.devRef .tc main_v30)) (V (Proc.devRef .tc main_arg11)) (V (Proc.devRef .tc main_arg12)) := by
  after_results <;> rfl

/-! ## What no operation writes -/

abbrev post_W : List (Ref sig .tc) := [main_v107, main_v108, main_v109, main_v110, main_v111, main_v112, main_v113]

theorem post_writes : (hostOps0_5 : List (HloOp τ sig (Elt Ideal))).Forall fun op => op.writes ⊆ (post_W.map (Proc.devRef (τ := τ) .tc)).toFinset :=
  StableHlo.forall_writes_sub_of_map rfl

abbrev pre_W : List (Ref sig .tc) := hostOps0_W ++ (hostOps0_1_W ++ (hostOps0_2_W ++ (hostOps0_3_W ++ hostOps0_4_W)))

abbrev body_W : List (Ref sig .tc) := condOps_W ++ (while0Ops0_W ++ (while0Ops0_1_W ++ (while0Ops0_2_W ++ (while0Ops0_3_W ++ (while0Ops0_4_W ++ while0Ops0_5_W)))))

theorem kept_post (r : Ref sig .tc) (h : r ∉ post_W) : after hostOps0_5 V (Proc.devRef .tc r) = V (Proc.devRef .tc r) :=
  after_of_writes_sub hostOps0_5 V post_writes h

theorem kept_trip (r : Ref sig .tc) (h : r ∉ body_W) : afterL bodyI (after condOps V) (Proc.devRef .tc r) = V (Proc.devRef .tc r) := by
  simp only [body_W, List.mem_append, not_or] at h
  obtain ⟨hc, h0, h1, h2, h3, h4, h5⟩ := h
  exact (after_of_writes_sub while0Ops0_5 _ while0Ops0_5_writes h5).trans <| (after_of_writes_sub while0Ops0_4 _ while0Ops0_4_writes h4).trans <|
    (after_of_writes_sub while0Ops0_3 _ while0Ops0_3_writes h3).trans <| (after_of_writes_sub while0Ops0_2 _ while0Ops0_2_writes h2).trans <|
    (after_of_writes_sub while0Ops0_1 _ while0Ops0_1_writes h1).trans <| (after_of_writes_sub while0Ops0 _ while0Ops0_writes h0).trans <|
    after_of_writes_sub condOps _ condOps_writes hc

theorem kept_pre (r : Ref sig .tc) (h : r ∉ pre_W) : afterL preI V (Proc.devRef .tc r) = V (Proc.devRef .tc r) := by
  simp only [pre_W, List.mem_append, not_or] at h
  obtain ⟨h0, h1, h2, h3, h4⟩ := h
  exact (after_of_writes_sub hostOps0_4 _ hostOps0_4_writes h4).trans <| (after_of_writes_sub hostOps0_3 _ hostOps0_3_writes h3).trans <|
    (after_of_writes_sub hostOps0_2 _ hostOps0_2_writes h2).trans <| (after_of_writes_sub hostOps0_1 _ hostOps0_1_writes h1).trans <|
    after_of_writes_sub hostOps0 _ hostOps0_writes h0

end

section

variable (m : (ℓ : Loc nD τ sig) → Buf (Elt Ideal) ℓ) (c : Dev nD)

theorem kept_loop (r : Ref sig .tc) (h : r ∉ body_W) : ∀ k, atK m k c (Proc.devRef .tc r) = entryContents preI m c (Proc.devRef .tc r)
  | 0 => rfl
  | k + 1 => (kept_trip _ r h).trans (kept_loop r h k)

/-- The buffers when the loop is done. -/
def done : Held := after condOps (atK m 4096 c)

theorem done_kept (r : Ref sig .tc) (h : r ∉ body_W) : done m c (Proc.devRef .tc r) = entryContents preI m c (Proc.devRef .tc r) :=
  (after_of_writes_sub condOps _ condOps_writes (fun e => h (List.mem_append_left _ e))).trans (kept_loop m c r h 4096)

theorem done_arg (r : Ref sig .tc) (h : r ∉ body_W) (h' : r ∉ pre_W) : done m c (Proc.devRef .tc r) = m ((c : Thread nD τ).loc r) :=
  (done_kept m c r h).trans (kept_pre _ r h')

/-- A buffer nothing writes is as it was launched. -/
theorem final_kept (r : Ref sig .tc) (h : r ∉ body_W) (h' : r ∉ pre_W) (h'' : r ∉ post_W) :
    finalContents condOps preI bodyI postI 4096 m c (Proc.devRef .tc r) = m ((c : Thread nD τ).loc r) :=
  (kept_post _ r h'').trans (done_arg m c r h h')

end

end Cert.Lru

end
-- ==== Proof.MixTotal.lean ====
/-
The reference of the mixing layer is the layer: its buffers before the loop, after it, and its result.
-/
module

public import proofs.«01_k».proof.Proof.MixStage

@[expose] public section

set_option maxRecDepth 16384

noncomputable section

namespace Cert.Lru

open Cert.ReferenceIdeal Cert.ReferenceIdeal.Gen Cert.ReferenceIdeal.Value Cert.Ffn
open Idealize.ShloMosaic Idealize.ShloMosaic.TcCoe Idealize.ShloMosaic.StableHlo

section

variable (m : (ℓ : Loc nD τ sig) → Buf (Elt Ideal) ℓ) (c : Dev nD)

/-- The layer's parameters, as launched. -/
def par : Par where
  g k := (m ((c : Thread nD τ).loc main_arg1) : FVec Ideal S1024 .f32) (ix1 k)
  w k j := (m ((c : Thread nD τ).loc main_arg2) : FVec Ideal S1024x2048 .f32) (ix2 k j)
  b j := (m ((c : Thread nD τ).loc main_arg3) : FVec Ideal S2048 .f32) (ix1 j)
  cw i k := (m ((c : Thread nD τ).loc main_arg4) : FVec Ideal S4x1024 .f32) (ix2 i k)
  cb k := (m ((c : Thread nD τ).loc main_arg5) : FVec Ideal S1024 .f32) (ix1 k)
  wr n k j := (m ((c : Thread nD τ).loc main_arg6) : FVec Ideal S8x128x128 .f32) (ix3 n k j)
  wi n k j := (m ((c : Thread nD τ).loc main_arg8) : FVec Ideal S8x128x128 .f32) (ix3 n k j)
  ba k := (m ((c : Thread nD τ).loc main_arg7) : FVec Ideal S1024 .f32) (ix1 k)
  bi k := (m ((c : Thread nD τ).loc main_arg9) : FVec Ideal S1024 .f32) (ix1 k)
  lam k := (m ((c : Thread nD τ).loc main_arg10) : FVec Ideal S1024 .f32) (ix1 k)
  wo k j := (m ((c : Thread nD τ).loc main_arg11) : FVec Ideal S1024x1024 .f32) (ix2 k j)
  bo k := (m ((c : Thread nD τ).loc main_arg12) : FVec Ideal S1024 .f32) (ix1 k)

/-- A batch's rows, as launched. -/
def rows (b : Fin 8) (s : Fin 4096) (k : Fin 1024) : EReal := (m ((c : Thread nD τ).loc main_arg0) : FVec Ideal S8x4096x1024 .f32) (ix3 b s k)

/-- The input projection. -/
def projected : FVec Ideal S8x4096x2048 .f32 :=
  hostPre (m ((c : Thread nD τ).loc main_arg0)) (m ((c : Thread nD τ).loc main_arg1)) (m ((c : Thread nD τ).loc main_arg2)) (m ((c : Thread nD τ).loc main_arg3))

def convolved : FVec Ideal S8x4096x1024 .f32 :=
  hostTaps (hostPad (hostHalf1 (projected m c))) (m ((c : Thread nD τ).loc main_arg4)) (m ((c : Thread nD τ).loc main_arg5))

def logDecays : FVec Ideal S8x4096x1024 .f32 :=
  hostDecay (mulf (hostAll 0x41000000#32) (hostGateOf (convolved m c) (m ((c : Thread nD τ).loc main_arg6)) (m ((c : Thread nD τ).loc main_arg7)))) (hostLsig (m ((c : Thread nD τ).loc main_arg10)))

def inGate : FVec Ideal S8x4096x1024 .f32 :=
  hostGateOf (convolved m c) (m ((c : Thread nD τ).loc main_arg8)) (m ((c : Thread nD τ).loc main_arg9))

def entry1 : Held := after hostOps0 (launchContents m c)
def entry2 : Held := after hostOps0_1 (entry1 m c)
def entry3 : Held := after hostOps0_2 (entry2 m c)
def entry4 : Held := after hostOps0_3 (entry3 m c)

theorem entry2_keeps (r : Ref sig .tc) (h0 : r ∉ hostOps0_W) (h1 : r ∉ hostOps0_1_W) : entry2 m c (Proc.devRef .tc r) = m ((c : Thread nD τ).loc r) :=
  (after_of_writes_sub hostOps0_1 _ hostOps0_1_writes h1).trans (after_of_writes_sub hostOps0 _ hostOps0_writes h0)

theorem entry2_pad : (entry2 m c (Proc.devRef .tc main_v32) : FVec Ideal S8x4099x1024 .f32) = hostPad (hostHalf1 (projected m c)) := by
  have hz : entry1 m c (Proc.devRef .tc main_v31) = hostHalf1 (projected m c) := stage0_z (launchContents m c)
  have hc : entry1 m c (Proc.devRef .tc main_c) = constantI S_ 32 0#32 := stage0_c (launchContents m c)
  refine (stage1 (entry1 m c)).trans ?_
  rw [hz, hc]
  rfl

theorem entry3_u : entry3 m c (Proc.devRef .tc main_v64) = convolved m c := by
  refine (stage2_u (entry2 m c)).trans ?_
  rw [entry2_pad, entry2_keeps m c main_arg4 (by decide +kernel) (by decide +kernel), entry2_keeps m c main_arg5 (by decide +kernel) (by decide +kernel)]
  rfl

theorem entry3_r : entry3 m c (Proc.devRef .tc main_v91)
    = mulf (hostAll 0x41000000#32) (hostGateOf (convolved m c) (m ((c : Thread nD τ).loc main_arg6)) (m ((c : Thread nD τ).loc main_arg7))) := by
  refine (stage2_r (entry2 m c)).trans ?_
  rw [entry2_pad, entry2_keeps m c main_arg4 (by decide +kernel) (by decide +kernel), entry2_keeps m c main_arg5 (by decide +kernel) (by decide +kernel),
    entry2_keeps m c main_arg6 (by decide +kernel) (by decide +kernel), entry2_keeps m c main_arg7 (by decide +kernel) (by decide +kernel)]
  rfl

theorem entry3_i : entry3 m c (Proc.devRef .tc main_v89) = inGate m c := by
  refine (stage2_i (entry2 m c)).trans ?_
  rw [entry2_pad, entry2_keeps m c main_arg4 (by decide +kernel) (by decide +kernel), entry2_keeps m c main_arg5 (by decide +kernel) (by decide +kernel),
    entry2_keeps m c main_arg8 (by decide +kernel) (by decide +kernel), entry2_keeps m c main_arg9 (by decide +kernel) (by decide +kernel)]
  rfl

theorem entry4_keeps (r : Ref sig .tc) (h : r ∉ hostOps0_3_W) : entry4 m c (Proc.devRef .tc r) = entry3 m c (Proc.devRef .tc r) :=
  after_of_writes_sub hostOps0_3 _ hostOps0_3_writes h

theorem entry4_l : entry4 m c (Proc.devRef .tc main_v92) = hostLsig (m ((c : Thread nD τ).loc main_arg10)) := by
  refine (stage3 (entry3 m c)).trans (congrArg hostLsig ?_)
  exact (after_of_writes_sub hostOps0_2 _ hostOps0_2_writes (by decide +kernel)).trans (entry2_keeps m c main_arg10 (by decide +kernel) (by decide +kernel))

theorem entry_a : (entryContents preI m c (Proc.devRef .tc main_v106_0) : FVec Ideal S8x4096x1024 .f32) = Host.exp (logDecays m c) := by
  refine (stage4_a (entry4 m c)).trans ?_
  rw [entry4_l, entry4_keeps m c main_v91 (by decide +kernel), entry3_r]
  rfl

theorem entry_b : (entryContents preI m c (Proc.devRef .tc main_v106_1) : FVec Ideal S8x4096x1024 .f32) = hostIncome (logDecays m c) (inGate m c) (convolved m c) := by
  refine (stage4_b (entry4 m c)).trans ?_
  rw [entry4_l, entry4_keeps m c main_v91 (by decide +kernel), entry4_keeps m c main_v89 (by decide +kernel), entry4_keeps m c main_v64 (by decide +kernel), entry3_r, entry3_i, entry3_u]
  rfl

theorem entry_y : (entryContents preI m c (Proc.devRef .tc main_v30) : FVec Ideal S8x4096x1024 .f32) = hostGelu (hostHalf (projected m c)) := by
  have e1 : entry1 m c (Proc.devRef .tc main_v30) = hostGelu (hostHalf (projected m c)) := stage0_y (launchContents m c)
  have e2 : entry2 m c (Proc.devRef .tc main_v30) = entry1 m c (Proc.devRef .tc main_v30) := after_of_writes_sub hostOps0_1 _ hostOps0_1_writes (by decide +kernel)
  have e3 : entry3 m c (Proc.devRef .tc main_v30) = entry2 m c (Proc.devRef .tc main_v30) := after_of_writes_sub hostOps0_2 _ hostOps0_2_writes (by decide +kernel)
  have e4 : entry4 m c (Proc.devRef .tc main_v30) = entry3 m c (Proc.devRef .tc main_v30) := entry4_keeps m c main_v30 (by decide +kernel)
  have e5 : after hostOps0_4 (entry4 m c) (Proc.devRef .tc main_v30) = entry4 m c (Proc.devRef .tc main_v30) := after_of_writes_sub hostOps0_4 _ hostOps0_4_writes (by decide +kernel)
  exact e5.trans (e4.trans (e3.trans (e2.trans e1)))

/-! ## At an index -/

theorem convolved_at (b : Fin 8) (s : Fin 4096) (k : Fin 1024) : convolved m c (ix3 b s k) = (par m c).u (rows m c b) s.val k :=
  hostTaps_at _ _ _ (fun t => (par m c).z (rows m c b) t k) b s k fun t => by
    show (if h : 3 ≤ t ∧ t < 4099 then pre1 (rows m c b ⟨t - 3, by omega⟩) (par m c).g (par m c).w (par m c).b k else 0) = _
    by_cases h : 3 ≤ t ∧ t < 4099
    · rw [dif_pos h, dif_pos h]
      exact ((hostHalf1_at _ _ _ _).trans (hostPre_at _ _ _ _ _ _ _)).symm
    · rw [dif_neg h, dif_neg h]

theorem logDecays_at (b : Fin 8) (s : Fin 4096) (k : Fin 1024) : logDecays m c (ix3 b s k) = (par m c).L (rows m c b) s.val k := by
  refine (hostDecay_at _ _ b s k).trans ?_
  rw [hostLsig_at, hostGateOf_at]
  simp only [convolved_at]
  rfl

theorem inGate_at (b : Fin 8) (s : Fin 4096) (k : Fin 1024) : inGate m c (ix3 b s k)
    = gateOf (fun j => (par m c).u (rows m c b) s.val (blkCol k j)) (fun j => (par m c).wi (blkOf k) j (inBlk k)) ((par m c).bi k) := by
  refine (hostGateOf_at _ _ _ b s k).trans ?_
  simp only [convolved_at]
  rfl

theorem entry_a_at (b : Fin 8) (k : Fin 1024) (s : Fin 4096) : (Host.exp (logDecays m c) : FVec Ideal S8x4096x1024 .f32) (ix3 b s k) = (par m c).A (rows m c b) k s.val :=
  congrArg Ideal.exp (logDecays_at m c b s k)

theorem entry_b_at (b : Fin 8) (k : Fin 1024) (s : Fin 4096) : hostIncome (logDecays m c) (inGate m c) (convolved m c) (ix3 b s k) = (par m c).B (rows m c b) k s.val := by
  refine (hostIncome_at _ _ _ b s k).trans ?_
  rw [logDecays_at, inGate_at, convolved_at]
  rfl

theorem entry_row : (entryContents preI m c (Proc.devRef .tc main_v106_3) : Word) = fun _ => 0#32 := stage4_row (entry4 m c)

theorem entry_h (b : Fin 8) (k : Fin 1024) : (entryContents preI m c (Proc.devRef .tc main_v106_4) : FVec Ideal S8x1024 .f32) (ix2 b k) = (0 : EReal) := by
  refine (congrFun (stage4_h (entry4 m c)) (ix2 b k)).trans ?_
  show Ideal.ofBits .f32 0x00000000#32 = 0
  exact Ideal.ofBits_zero _

theorem done_h (b : Fin 8) (s : Fin 4096) (k : Fin 1024) : (done m c (Proc.devRef .tc main_v106_5) : FVec Ideal S8x4096x1024 .f32) (ix3 b s k) = (par m c).H (rows m c b) (s.val + 1) k := by
  have e : done m c (Proc.devRef .tc main_v106_5) = (STEP^[4096] (entryContents preI m c)) (Proc.devRef .tc main_v106_5) :=
    (cond_keeps (atK m 4096 c) main_v106_5 (by decide)).trans (atK_agree m c 4096 main_v106_5 (by decide))
  refine (congrFun e _).trans ?_
  exact scan_rows (entryContents preI m c) _ _ (entry_a m c) (entry_b m c) (entry_row m c) (fun b => (par m c).A (rows m c b)) (fun b => (par m c).B (rows m c b))
    (entry_a_at m c) (entry_b_at m c) (entry_h m c) b s k 4096 le_rfl s.isLt

/-- The reference's result at a row and a column. -/
theorem total (n : Fin 32768) (col : Fin 1024) (b : Fin 8) (s : Fin 4096) (h : 4096 * b.val + s.val = n.val) :
    (finalContents condOps preI bodyI postI 4096 m c (Proc.devRef .tc main_v113) : FVec Ideal S32768x1024 .f32) (ix2 n col) = (par m c).out (rows m c b) s col := by
  have e : (finalContents condOps preI bodyI postI 4096 m c (Proc.devRef .tc main_v113) : FVec Ideal S32768x1024 .f32)
      = hostOut (m ((c : Thread nD τ).loc main_arg0)) (done m c (Proc.devRef .tc main_v106_5)) (hostGelu (hostHalf (projected m c))) (m ((c : Thread nD τ).loc main_arg11)) (m ((c : Thread nD τ).loc main_arg12)) := by
    refine (stage5 (done m c)).trans ?_
    rw [done_arg m c main_arg0 (by decide +kernel) (by decide +kernel), done_arg m c main_arg11 (by decide +kernel) (by decide +kernel),
      done_arg m c main_arg12 (by decide +kernel) (by decide +kernel), done_kept m c main_v30 (by decide +kernel), entry_y]
  have p : ∀ k : Fin 1024, projected m c (ix3 b s ⟨k.val, by omega⟩) = pre0 (rows m c b s) (par m c).g (par m c).w (par m c).b k :=
    fun k => hostPre_at _ _ _ _ b s _
  have y : ∀ k : Fin 1024, hostGelu (hostHalf (projected m c)) (ix3 b s k) = gelu (pre0 (rows m c b s) (par m c).g (par m c).w (par m c).b k) := fun k => by
    rw [hostGelu_at, hostHalf_at, p]
  refine (congrFun e _).trans ((hostOut_at _ _ _ _ _ n b s col h).trans ?_)
  unfold Par.out
  rw [add_assoc]
  refine congrArg (rows m c b s col + ·) (congrArg (· + (par m c).bo col) (Finset.sum_congr rfl fun k _ => ?_))
  rw [done_h, y]
  rfl

end

end Cert.Lru

end
-- ==== Proof.MixClaims.lean ====
/-
The recurrent mixer's equality: what its kernel leaves is what its reference leaves.
-/
module

public import proofs.«01_k».proof.Proof.MixValue
public import proofs.«01_k».proof.Proof.MixTotal
public import proofs.«01_k».proof.Defs

@[expose] public section

set_option maxRecDepth 16384

noncomputable section

namespace Cert.Lru

open Idealize.ShloMosaic Idealize.ShloMosaic.TcCoe Idealize.ShloMosaic.StableHlo Idealize.SL.Sem

section

open Cert.ReferenceIdeal Cert.ReferenceIdeal.Gen Cert.ReferenceIdeal.Value

theorem kept_all (m : (ℓ : Loc nD τ sig) → Buf (Elt Ideal) ℓ) (μ : (ℓ : Loc nD τ sig) → Buf (Elt Ideal) ℓ) (c : Dev nD)
    (h : ∀ b : Ref sig .tc, (Proc.devRef (τ := τ) .tc b).isScoped = false → μ ((c.tc : Thread nD τ).loc b) = finalContents condOps preI bodyI postI 4096 m c (Proc.devRef .tc b)) :
    μ ((c.tc : Thread nD τ).loc main_arg0) = m ((c.tc : Thread nD τ).loc main_arg0)
      ∧ μ ((c.tc : Thread nD τ).loc main_arg1) = m ((c.tc : Thread nD τ).loc main_arg1)
      ∧ μ ((c.tc : Thread nD τ).loc main_arg2) = m ((c.tc : Thread nD τ).loc main_arg2)
      ∧ μ ((c.tc : Thread nD τ).loc main_arg3) = m ((c.tc : Thread nD τ).loc main_arg3)
      ∧ μ ((c.tc : Thread nD τ).loc main_arg4) = m ((c.tc : Thread nD τ).loc main_arg4)
      ∧ μ ((c.tc : Thread nD τ).loc main_arg5) = m ((c.tc : Thread nD τ).loc main_arg5)
      ∧ μ ((c.tc : Thread nD τ).loc main_arg6) = m ((c.tc : Thread nD τ).loc main_arg6)
      ∧ μ ((c.tc : Thread nD τ).loc main_arg7) = m ((c.tc : Thread nD τ).loc main_arg7)
      ∧ μ ((c.tc : Thread nD τ).loc main_arg8) = m ((c.tc : Thread nD τ).loc main_arg8)
      ∧ μ ((c.tc : Thread nD τ).loc main_arg9) = m ((c.tc : Thread nD τ).loc main_arg9)
      ∧ μ ((c.tc : Thread nD τ).loc main_arg10) = m ((c.tc : Thread nD τ).loc main_arg10)
      ∧ μ ((c.tc : Thread nD τ).loc main_arg11) = m ((c.tc : Thread nD τ).loc main_arg11)
      ∧ μ ((c.tc : Thread nD τ).loc main_arg12) = m ((c.tc : Thread nD τ).loc main_arg12) := by
  have k (b : Ref sig .tc) (h0 : (Proc.devRef (τ := τ) .tc b).isScoped = false) (h1 : b ∉ body_W) (h2 : b ∉ pre_W) (h3 : b ∉ post_W) :
      μ ((c.tc : Thread nD τ).loc b) = m ((c.tc : Thread nD τ).loc b) := (h b h0).trans (final_kept m c b h1 h2 h3)
  refine ⟨k _ ?_ ?_ ?_ ?_, k _ ?_ ?_ ?_ ?_, k _ ?_ ?_ ?_ ?_, k _ ?_ ?_ ?_ ?_, k _ ?_ ?_ ?_ ?_, k _ ?_ ?_ ?_ ?_, k _ ?_ ?_ ?_ ?_, k _ ?_ ?_ ?_ ?_, k _ ?_ ?_ ?_ ?_, k _ ?_ ?_ ?_ ?_, k _ ?_ ?_ ?_ ?_, k _ ?_ ?_ ?_ ?_, k _ ?_ ?_ ?_ ?_⟩ <;> first | rfl | decide +kernel

end

theorem quiescent1 : Cert.quiescent_ReferenceIdeal (hReferenceIdeal := Cert.ReferenceIdeal.Gen.facts) := by
  intro m g _
  exact (θ_run Cert.ReferenceIdeal.defs _ _).mono (fun r hr => ⟨fun c => kept_all m r.2.mem c (hr c), sem_eq_zero_of_no_sems (by decide) r.2⟩)
    (Cert.ReferenceIdeal.Value.run_fold m g)

/-- Equal arguments, equal parameters and rows: equal results. -/
theorem equal1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    : StableHlo.finalContents Cert.ReferenceIdeal.Value.condOps Cert.ReferenceIdeal.Value.preI Cert.ReferenceIdeal.Value.bodyI Cert.ReferenceIdeal.Value.postI 4096 m' c (Proc.devRef .tc Cert.ReferenceIdeal.main_v113)
      = Cert.KernelIdeal.Mixer.result m c := by
  have hp : par m' c = Cert.KernelIdeal.Mixer.par m c := by
    unfold par Cert.KernelIdeal.Mixer.par
    rw [h1, h2, h3, h4, h5, h6, h7, h8, h9, h10, h11, h12]
  have hr : rows m' c = Cert.KernelIdeal.Mixer.rows m c := by
    unfold rows Cert.KernelIdeal.Mixer.rows
    rw [h0]
  funext i
  obtain ⟨n, j, rfl⟩ : ∃ (n : Fin 32768) (j : Fin 1024), i = ix2 n j := ⟨i 0, i 1, by funext d; match d with | ⟨0, _⟩ => rfl | ⟨1, _⟩ => rfl⟩
  have hn : 4096 * (n.val / 4096) + n.val % 4096 = n.val := by omega
  refine (total m' c n j ⟨n.val / 4096, by omega⟩ ⟨n.val % 4096, by omega⟩ hn).trans ?_
  rw [hp, hr]
  exact (Cert.KernelIdeal.Mixer.result_row m c n j ⟨n.val / 4096, by omega⟩ ⟨n.val % 4096, by omega⟩ hn).symm

theorem algebraic1 : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Mixer.result m c, ?_, ?_⟩
  · have k := (θ_run Cert.KernelIdeal.defs _ _).mono (fun r (h : Pipeline.FramePost _ _ _ _ r) (c : Dev Cert.KernelIdeal.nD) => ((h c).1 12).trans (Cert.KernelIdeal.Mixer.final m c)) (Cert.KernelIdeal.Mixer.run_main m g)
    exact (θ_run Cert.KernelIdeal.defs _ _).mono (fun r hr c => ⟨hr.1 c, hr.2 c⟩) (θ_run_and k (Cert.KernelIdeal.Mixer.unchanged m g))
  · refine (θ_run Cert.ReferenceIdeal.defs _ _).mono (fun r hr c => ⟨?_, kept_all m' r.2.mem c (hr c)⟩) (Cert.ReferenceIdeal.Value.run_fold m' g')
    obtain ⟨h0, h1, h2, h3, h4, h5, h6, h7, h8, h9, h10, h11, h12⟩ := h c
    exact (hr c Cert.ReferenceIdeal.main_v113 rfl).trans (equal1 m m' c h0 h1 h2 h3 h4 h5 h6 h7 h8 h9 h10 h11 h12)

end Cert.Lru

end
-- ==== Proof.Even.lean ====
/-
The in-projection at a row and a column: the normed row's product with a column, its turn by the
position's angle, and the short convolution.
-/
module

public import proofs.«01_k».proof.Proof.Ffn
public import proofs.«01_k».proof.Proof.Gen.Reference5Ideal.Run

@[expose] public section

set_option maxRecDepth 16384

noncomputable section

namespace Cert.Even

open Cert.Ffn
open Idealize.ShloMosaic Idealize.ShloMosaic.TcCoe

/-- The normed row times a matrix. -/
def prj {n : ℕ} (x g : Fin 1024 → EReal) (w : Fin 1024 → Fin n → EReal) (j : Fin n) : EReal := ∑ k, nrm x g k * w k j

/-- The angle of position `s` at frequency `d`. -/
def ang (s d : ℕ) : EReal :=
  FloatOps.sitofp (F := Ideal) .f32 (BitVec.ofNat 32 s) * Ideal.div (Ideal.ofBits .f32 0x3F800000#32)
    (Ideal.pow (Ideal.ofBits .f32 0x461C4000#32) (Ideal.div (Ideal.ofBits .f32 0x40000000#32 * FloatOps.sitofp (F := Ideal) .f32 (BitVec.ofNat 32 d)) (Ideal.ofBits .f32 0x42800000#32)))

/-- One half of a pair, turned by an angle: the first when `low`, else the second. -/
def spin (a b t : EReal) (low : Prop) [Decidable low] : EReal := a * Ideal.cos t + (if low then -b else b) * Ideal.sin t

/-- Where the lane `l` of a key is among its two heads' columns. -/
def keyCol (l : Fin 128) : Fin 128 := ⟨l.val / 32 % 2 * 64 + l.val / 64 * 32 + l.val % 32, by omega⟩

/-- Where the column `j` of the queries is among the eight heads' columns. -/
def qCol (j : Fin 512) : Fin 512 := ⟨j.val / 32 % 2 * 256 + j.val / 64 * 32 + j.val % 32, by omega⟩

/-- The lane that holds the other half. -/
def other (l : Fin 128) : Fin 128 := ⟨(l.val + 128 - 64) % 128, by omega⟩

def otherQ (j : Fin 512) : Fin 512 := ⟨j.val / 128 * 128 + (j.val % 128 + 128 - 64) % 128, by omega⟩

/-- A key's lane. -/
def key (z : Fin 128 → EReal) (s : ℕ) (l : Fin 128) : EReal :=
  spin (z (keyCol l)) (z (keyCol (other l))) (ang s (l.val % 32)) (l.val < 64)

/-- A query's column, before its scale. -/
def query (z : Fin 512 → EReal) (s : ℕ) (j : Fin 512) : EReal :=
  spin (z (qCol j)) (z (qCol (otherQ j))) (ang s (j.val % 32)) (j.val / 64 % 2 = 0)

/-- A gate: 24 of the 128 lanes hold one. -/
def gates (z : Fin 24 → EReal) (l : Fin 128) : EReal :=
  Ideal.logistic (if h : l.val < 24 then z ⟨l.val % 8 * 3 + l.val / 8, by omega⟩ else 0)

/-- Row `a + o` of eight carried rows followed by the block's own. -/
def rowBack (p : Fin 8 → EReal) (u : Fin 1024 → EReal) (o : ℕ) (a : Fin 1024) : EReal :=
  if h : a.val + o < 8 then p ⟨a.val + o, h⟩ else if h' : a.val + o - 8 < 1024 then u ⟨a.val + o - 8, h'⟩ else 0

/-- Three taps of a product, times a third. -/
def taps (cw : Fin 3 → EReal) (y2 y1 y0 : EReal) : EReal := cw 0 * y2 + cw 1 * y1 + cw 2 * y0

end Cert.Even

namespace Cert.Reference5Ideal.Even

open Cert.Reference5Ideal Cert.Reference5Ideal.Gen Cert.Reference5Ideal.Value Cert.Ffn Cert.Even
open Idealize.ShloMosaic Idealize.ShloMosaic.TcCoe

variable (V : Valuation τ sig (Elt Ideal))

/-- The projected row. -/
def zrow (n : Fin 32768) (j : Fin 2840) : EReal :=
  prj (fun k => (V (Proc.devRef .tc main_arg0) : FVec Ideal S8x4096x1024 .f32) (ix3 ⟨n.val / 4096, by omega⟩ ⟨n.val % 4096, by omega⟩ k))
    (fun k => (V (Proc.devRef .tc main_arg1) : FVec Ideal S1024 .f32) (ix1 k)) (fun k j => (V (Proc.devRef .tc main_arg2) : FVec Ideal S1024x2840 .f32) (ix2 k j)) j

theorem v33_at (n : Fin 32768) (b : Fin 8) (s : Fin 4096) (j : Fin 2840) (h : n.val = 4096 * b.val + s.val) :
    (res_main_v33 V : FVec Ideal S8x4096x2840 .f32) (ix3 b s j) = zrow V n j := by
  have hb : b = ⟨n.val / 4096, by omega⟩ := Fin.ext (by show b.val = n.val / 4096; omega)
  have hs : s = ⟨n.val % 4096, by omega⟩ := Fin.ext (by show s.val = n.val % 4096; omega)
  unfold zrow
  rw [← hb, ← hs]
  pointwise [res_main_v33, prj, nrm]

theorem v34_at (n : Fin 32768) (b : Fin 8) (s : Fin 4096) (j : Fin 768) (h : n.val = 4096 * b.val + s.val) :
    (res_main_v34 V : FVec Ideal S8x4096x768 .f32) (ix3 b s j) = zrow V n ⟨512 + j.val, by omega⟩ := by
  rw [← v33_at V n b s _ h]
  pointwise [res_main_v34]

theorem cos_at (s : Fin 4096) (d : Fin 64) : (res_main_v18 V : FVec Ideal S4096x64 .f32) (ix2 s d) = Ideal.cos (ang s.val (d.val % 32)) := by
  have e : ∀ d' : Fin 32, (res_main_v16 V : FVec Ideal S4096x32 .f32) (ix2 s d') = ang s.val d'.val := by
    intro d'
    pointwise [res_main_v16, ang]
  pointwise [res_main_v18, res_main_v17]
  split
  · rw [e]; exact congrArg (fun x => Ideal.cos (ang s.val x)) (by show d.val = d.val % 32; omega)
  · rw [e]; exact congrArg (fun x => Ideal.cos (ang s.val x)) (by show d.val - 32 = d.val % 32; omega)

theorem sin_at (s : Fin 4096) (d : Fin 64) : (res_main_v19 V : FVec Ideal S4096x64 .f32) (ix2 s d) = Ideal.sin (ang s.val (d.val % 32)) := by
  have e : ∀ d' : Fin 32, (res_main_v16 V : FVec Ideal S4096x32 .f32) (ix2 s d') = ang s.val d'.val := by
    intro d'
    pointwise [res_main_v16, ang]
  pointwise [res_main_v19, res_main_v17]
  split
  · rw [e]; exact congrArg (fun x => Ideal.sin (ang s.val x)) (by show d.val = d.val % 32; omega)
  · rw [e]; exact congrArg (fun x => Ideal.sin (ang s.val x)) (by show d.val - 32 = d.val % 32; omega)

/-! ## The keys -/

/-- A key as the attention takes it. -/
def hostKey (u : FVec Ideal S8x4096x2x64 .f32) : FVec Ideal S32768x128 .bf16 :=
  truncf .bf16 (shapeCast _ (transpose S32768x2x2x32 [0, 2, 1, 3] (shapeCast _ (addf (mulf u (broadcastInDim S8x4096x2x64 ![0, 1, 2, 3] bcast_S1x4096x1x64_S8x4096x2x64_0_1_2_3 (broadcastInDim S1x4096x1x64 ![1, 2, 3] bcast_S4096x1x64_S1x4096x1x64_1_2_3 (broadcastInDim S4096x1x64 ![0, 2] bcast_S4096x64_S4096x1x64_0_2 (res_main_v18 V))))) (mulf (concatenate S8x4096x2x64 3 [⟨S8x4096x2x32, (Host.negf (extractStridedSlice S8x4096x2x32 ![0, 0, 0, 32] u slices_S8x4096x2x64_S8x4096x2x32_0_0_0_32))⟩, ⟨S8x4096x2x32, (extractStridedSlice S8x4096x2x32 ![0, 0, 0, 0] u slices_S8x4096x2x64_S8x4096x2x32_0_0_0_0)⟩] concatenates_S8x4096x2x32_S8x4096x2x32_S8x4096x2x64_d3) (broadcastInDim S8x4096x2x64 ![0, 1, 2, 3] bcast_S1x4096x1x64_S8x4096x2x64_0_1_2_3 (broadcastInDim S1x4096x1x64 ![1, 2, 3] bcast_S4096x1x64_S1x4096x1x64_1_2_3 (broadcastInDim S4096x1x64 ![0, 2] bcast_S4096x64_S4096x1x64_0_2 (res_main_v19 V)))))) shapeCasts_S8x4096x2x64_S32768x2x2x32) transposes_S32768x2x2x32_S32768x2x2x32_0_2_1_3) shapeCasts_S32768x2x2x32_S32768x128) bitsLt_bf16_f32

theorem hostKey_at (u : FVec Ideal S8x4096x2x64 .f32) (n : Fin 32768) (l : Fin 128) (z : Fin 128 → EReal)
    (hu : ∀ (h : Fin 2) (d : Fin 64), u (ix4 ⟨n.val / 4096, by omega⟩ ⟨n.val % 4096, by omega⟩ h d) = z ⟨h.val * 64 + d.val, by omega⟩) :
    hostKey V u (ix2 n l) = key z (n.val % 4096) l := by
  have hl := l.isLt
  pointwise [hostKey]
  simp only [cos_at, sin_at, hu]
  unfold key spin
  refine congrArg₂ (· + ·) (congrArg₂ (· * ·) (congrArg z (Fin.ext ?_)) (congrArg (fun x => Ideal.cos (ang (n.val % 4096) x)) ?_)) (congrArg₂ (· * ·) ?_ (congrArg (fun x => Ideal.sin (ang (n.val % 4096) x)) ?_))
  · unfold keyCol; dsimp only; omega
  · omega
  · by_cases h : l.val < 64
    · have h1 : l.val / 64 * 32 + l.val % 32 < 32 := by omega
      refine (dif_pos h1).trans (Eq.trans ?_ (if_pos h).symm)
      exact congrArg (fun x => -z x) (Fin.ext (by unfold keyCol other; dsimp only; omega))
    · have h1 : ¬ l.val / 64 * 32 + l.val % 32 < 32 := by omega
      refine (dif_neg h1).trans (Eq.trans ?_ (if_neg h).symm)
      exact congrArg z (Fin.ext (by unfold keyCol other; dsimp only; omega))
  · omega

theorem kc_at (n : Fin 32768) (l : Fin 128) : hostKey V (res_main_v58 V) (ix2 n l) = key (fun i => zrow V n ⟨512 + i.val, by omega⟩) (n.val % 4096) l :=
  hostKey_at V _ n l _ fun h d => by
    have e := v34_at V n ⟨n.val / 4096, by omega⟩ ⟨n.val % 4096, by omega⟩ ⟨h.val * 64 + d.val, by omega⟩ (by dsimp only; omega)
    rw [← e]
    pointwise [res_main_v58]

theorem ks_at (n : Fin 32768) (l : Fin 128) : hostKey V (res_main_v72 V) (ix2 n l) = key (fun i => zrow V n ⟨768 + i.val, by omega⟩) (n.val % 4096) l :=
  hostKey_at V _ n l _ fun h d => by
    have e := v34_at V n ⟨n.val / 4096, by omega⟩ ⟨n.val % 4096, by omega⟩ ⟨256 + (h.val * 64 + d.val), by omega⟩ (by dsimp only; omega)
    refine Eq.trans ?_ (e.trans (congrArg (zrow V n) (Fin.ext (by dsimp only; omega))))
    pointwise [res_main_v72]

theorem kw_at (n : Fin 32768) (l : Fin 128) : hostKey V (res_main_v86 V) (ix2 n l) = key (fun i => zrow V n ⟨1024 + i.val, by omega⟩) (n.val % 4096) l :=
  hostKey_at V _ n l _ fun h d => by
    have e := v34_at V n ⟨n.val / 4096, by omega⟩ ⟨n.val % 4096, by omega⟩ ⟨512 + (h.val * 64 + d.val), by omega⟩ (by dsimp only; omega)
    refine Eq.trans ?_ (e.trans (congrArg (zrow V n) (Fin.ext (by dsimp only; omega))))
    pointwise [res_main_v86]

/-! ## The queries -/

def hostQ (u : FVec Ideal S8x4096x8x64 .f32) : FVec Ideal S32768x512 .bf16 :=
  truncf .bf16 (shapeCast _ (transpose S32768x8x2x32 [0, 2, 1, 3] (shapeCast _ (mulf (addf (mulf u (broadcastInDim S8x4096x8x64 ![0, 1, 2, 3] bcast_S1x4096x1x64_S8x4096x8x64_0_1_2_3 (broadcastInDim S1x4096x1x64 ![1, 2, 3] bcast_S4096x1x64_S1x4096x1x64_1_2_3 (broadcastInDim S4096x1x64 ![0, 2] bcast_S4096x64_S4096x1x64_0_2 (res_main_v18 V))))) (mulf (concatenate S8x4096x8x64 3 [⟨S8x4096x8x32, (Host.negf (extractStridedSlice S8x4096x8x32 ![0, 0, 0, 32] u slices_S8x4096x8x64_S8x4096x8x32_0_0_0_32))⟩, ⟨S8x4096x8x32, (extractStridedSlice S8x4096x8x32 ![0, 0, 0, 0] u slices_S8x4096x8x64_S8x4096x8x32_0_0_0_0)⟩] concatenates_S8x4096x8x32_S8x4096x8x32_S8x4096x8x64_d3) (broadcastInDim S8x4096x8x64 ![0, 1, 2, 3] bcast_S1x4096x1x64_S8x4096x8x64_0_1_2_3 (broadcastInDim S1x4096x1x64 ![1, 2, 3] bcast_S4096x1x64_S1x4096x1x64_1_2_3 (broadcastInDim S4096x1x64 ![0, 2] bcast_S4096x64_S4096x1x64_0_2 (res_main_v19 V)))))) (broadcastInDim S8x4096x8x64 ![] bcast_S_S8x4096x8x64 (constant S_ .f32 0x3E38AA3B#32))) shapeCasts_S8x4096x8x64_S32768x2x8x32) transposes_S32768x2x8x32_S32768x8x2x32_0_2_1_3) shapeCasts_S32768x8x2x32_S32768x512) bitsLt_bf16_f32

theorem q_at (n : Fin 32768) (j : Fin 512) : hostQ V (res_main_v36 V) (ix2 n j)
    = query (fun i => zrow V n ⟨i.val, by omega⟩) (n.val % 4096) j * Ideal.ofBits .f32 0x3E38AA3B#32 := by
  have hj := j.isLt
  have hu : ∀ (h : Fin 8) (d : Fin 64), (res_main_v36 V : FVec Ideal S8x4096x8x64 .f32) (ix4 ⟨n.val / 4096, by omega⟩ ⟨n.val % 4096, by omega⟩ h d)
      = (fun i : Fin 512 => zrow V n ⟨i.val, by omega⟩) ⟨h.val * 64 + d.val, by omega⟩ := by
    intro h d
    have e := v33_at V n ⟨n.val / 4096, by omega⟩ ⟨n.val % 4096, by omega⟩ ⟨h.val * 64 + d.val, by omega⟩ (by dsimp only; omega)
    refine Eq.trans ?_ e
    pointwise [res_main_v36]
  generalize (fun i : Fin 512 => zrow V n ⟨i.val, by omega⟩) = z at hu ⊢
  pointwise [hostQ]
  simp only [cos_at, sin_at, hu]
  unfold query spin
  refine congrArg (· * Ideal.ofBits .f32 0x3E38AA3B#32) (congrArg₂ (· + ·) (congrArg₂ (· * ·) (congrArg z (Fin.ext ?_)) (congrArg (fun x => Ideal.cos (ang (n.val % 4096) x)) ?_)) (congrArg₂ (· * ·) ?_ (congrArg (fun x => Ideal.sin (ang (n.val % 4096) x)) ?_)))
  · unfold qCol; dsimp only; omega
  · omega
  · by_cases h : j.val / 64 % 2 = 0
    · have h1 : j.val / 64 % 2 * 32 + j.val % 32 < 32 := by omega
      refine (dif_pos h1).trans (Eq.trans ?_ (if_pos h).symm)
      exact congrArg (fun x => -z x) (Fin.ext (by unfold qCol otherQ; dsimp only; omega))
    · have h1 : ¬ j.val / 64 % 2 * 32 + j.val % 32 < 32 := by omega
      refine (dif_neg h1).trans (Eq.trans ?_ (if_neg h).symm)
      exact congrArg z (Fin.ext (by unfold qCol otherQ; dsimp only; omega))
  · omega

/-! ## The values, the gates and the convolution -/

theorem vc_at (n : Fin 32768) (l : Fin 128) : truncf .bf16 (shapeCast _ (extractStridedSlice S8x4096x128 ![0, 0, 128] (res_main_v34 V) slices_S8x4096x768_S8x4096x128_0_0_128) shapeCasts_S8x4096x128_S32768x128) bitsLt_bf16_f32 (ix2 n l)
    = zrow V n ⟨640 + l.val, by omega⟩ := by
  have e := v34_at V n ⟨n.val / 4096, by omega⟩ ⟨n.val % 4096, by omega⟩ ⟨128 + l.val, by omega⟩ (by dsimp only; omega)
  refine Eq.trans ?_ (e.trans (congrArg (zrow V n) (Fin.ext (by dsimp only; omega))))
  pointwise []

theorem vs_at (b : Fin 8) (t : Fin 16) (l : Fin 128) (r : Fin 256) (n : Fin 32768) (hn : n.val = 4096 * b.val + (256 * t.val + r.val)) :
    truncf .bf16 (transpose S8x16x128x256 [0, 1, 3, 2] (shapeCast _ (extractStridedSlice S8x4096x128 ![0, 0, 384] (res_main_v34 V) slices_S8x4096x768_S8x4096x128_0_0_384) shapeCasts_S8x4096x128_S8x16x256x128) transposes_S8x16x256x128_S8x16x128x256_0_1_3_2) bitsLt_bf16_f32 (ix4 b t l r)
      = zrow V n ⟨896 + l.val, by omega⟩ := by
  have e := v34_at V n b ⟨t.val * 256 + r.val, by omega⟩ ⟨384 + l.val, by omega⟩ (by dsimp only; omega)
  refine Eq.trans ?_ (e.trans (congrArg (zrow V n) (Fin.ext (by dsimp only; omega))))
  pointwise []

theorem vw_at (b : Fin 8) (t : Fin 16) (l : Fin 128) (r : Fin 256) (n : Fin 32768) (hn : n.val = 4096 * b.val + (256 * t.val + r.val)) :
    truncf .bf16 (transpose S8x16x128x256 [0, 1, 3, 2] (shapeCast _ (extractStridedSlice S8x4096x128 ![0, 0, 640] (res_main_v34 V) slices_S8x4096x768_S8x4096x128_0_0_640) shapeCasts_S8x4096x128_S8x16x256x128) transposes_S8x16x256x128_S8x16x128x256_0_1_3_2) bitsLt_bf16_f32 (ix4 b t l r)
      = zrow V n ⟨1152 + l.val, by omega⟩ := by
  have e := v34_at V n b ⟨t.val * 256 + r.val, by omega⟩ ⟨640 + l.val, by omega⟩ (by dsimp only; omega)
  refine Eq.trans ?_ (e.trans (congrArg (zrow V n) (Fin.ext (by dsimp only; omega))))
  pointwise []

theorem gate_at (n : Fin 32768) (l : Fin 128) : Host.divf (broadcastInDim S32768x128 ![] bcast_S_S32768x128 (constant S_ .f32 0x3F800000#32)) (addf (broadcastInDim S32768x128 ![] bcast_S_S32768x128 (constant S_ .f32 0x3F800000#32)) (Host.exp (Host.negf (pad S32768x128 ![0, 0] ![0, 104] ![0, 0] (shapeCast _ (transpose S32768x3x8 [0, 2, 1] (shapeCast _ (extractStridedSlice S8x4096x24 ![0, 0, 1280] (res_main_v33 V) slices_S8x4096x2840_S8x4096x24_0_0_1280) shapeCasts_S8x4096x24_S32768x8x3) transposes_S32768x8x3_S32768x3x8_0_2_1) shapeCasts_S32768x3x8_S32768x24) (sitofp .f32 (constantI S_ 32 0#32)) pads_S32768x24_S32768x128_000_01040 h_S_)))) (ix2 n l)
    = gates (fun i => zrow V n ⟨1280 + i.val, by omega⟩) l := by
  have hl := l.isLt
  pointwise [gates, Ideal.logistic]
  refine congrArg (fun x => Ideal.div 1 (1 + Ideal.exp (-x))) ?_
  split
  · refine (v33_at V n _ _ _ (by dsimp only; omega)).trans ?_
    rfl
  · exact (show (((0#32 : BitVec 32).toInt : ℝ) : EReal) = 0 by simp)

/-- The product the convolution takes. -/
def cx (n : Fin 32768) (j : Fin 512) : EReal := zrow V n ⟨1816 + j.val, by omega⟩ * zrow V n ⟨2328 + j.val, by omega⟩

theorem pad_at (n : Fin 32768) (b : Fin 8) (s : Fin 4098) (j : Fin 512) (h : n.val + 2 = 4096 * b.val + s.val) (h2 : 2 ≤ s.val) :
    (res_main_v116 V : FVec Ideal S8x4098x512 .f32) (ix3 b s j) = cx V n j := by
  have e : ∀ i : Fin 1536, (res_main_v111 V : FVec Ideal S8x4096x1536 .f32) (ix3 b ⟨s.val - 2, by omega⟩ i) = zrow V n ⟨1304 + i.val, by omega⟩ := by
    intro i
    rw [← v33_at V n b ⟨s.val - 2, by omega⟩ _ (by dsimp only; omega)]
    pointwise [res_main_v111]
  pointwise [res_main_v116]
  refine (dif_pos (show 2 ≤ s.val ∧ s.val - 2 < 4096 by omega)).trans ((congrArg₂ (fun x y : EReal => x * y) (e _) (e _)).trans ?_)
  unfold cx
  exact congrArg₂ (fun x y : EReal => x * y) (congrArg (zrow V n) (Fin.ext (by dsimp only; omega))) (congrArg (zrow V n) (Fin.ext (by dsimp only; omega)))

theorem pad_zero (b : Fin 8) (s : Fin 4098) (j : Fin 512) (h2 : s.val < 2) :
    (res_main_v116 V : FVec Ideal S8x4098x512 .f32) (ix3 b s j) = (0 : EReal) := by
  pointwise [res_main_v116]
  refine (dif_neg (show ¬ (2 ≤ s.val ∧ s.val - 2 < 4096) by omega)).trans ?_
  exact (show (((0#32 : BitVec 32).toInt : ℝ) : EReal) = 0 by simp)

theorem ob_at (n : Fin 32768) (j : Fin 512) : (truncf .bf16 (shapeCast _ (mulf (extractStridedSlice S8x4096x512 ![0, 0, 0] (res_main_v111 V) slices_S8x4096x1536_S8x4096x512_0_0_0) (addf (addf (addf (addf (broadcastInDim S8x4096x512 ![] bcast_S_S8x4096x512 (constant S_ .f32 0x00000000#32)) (mulf (broadcastInDim S8x4096x512 ![0, 1, 2] bcast_S1x1x512_S8x4096x512_0_1_2 (broadcastInDim S1x1x512 ![2] bcast_S512_S1x1x512_2 (shapeCast _ (extractStridedSlice S1x512 ![0, 0] (V (Proc.devRef .tc main_arg3)) slices_S3x512_S1x512_0_0) shapeCasts_S1x512_S512))) (extractStridedSlice S8x4096x512 ![0, 0, 0] (res_main_v116 V) slices_S8x4098x512_S8x4096x512_0_0_0))) (mulf (broadcastInDim S8x4096x512 ![0, 1, 2] bcast_S1x1x512_S8x4096x512_0_1_2 (broadcastInDim S1x1x512 ![2] bcast_S512_S1x1x512_2 (shapeCast _ (extractStridedSlice S1x512 ![1, 0] (V (Proc.devRef .tc main_arg3)) slices_S3x512_S1x512_1_0) shapeCasts_S1x512_S512))) (extractStridedSlice S8x4096x512 ![0, 1, 0] (res_main_v116 V) slices_S8x4098x512_S8x4096x512_0_1_0))) (mulf (broadcastInDim S8x4096x512 ![0, 1, 2] bcast_S1x1x512_S8x4096x512_0_1_2 (broadcastInDim S1x1x512 ![2] bcast_S512_S1x1x512_2 (shapeCast _ (extractStridedSlice S1x512 ![2, 0] (V (Proc.devRef .tc main_arg3)) slices_S3x512_S1x512_2_0) shapeCasts_S1x512_S512))) (extractStridedSlice S8x4096x512 ![0, 2, 0] (res_main_v116 V) slices_S8x4098x512_S8x4096x512_0_2_0))) (broadcastInDim S8x4096x512 ![] bcast_S_S8x4096x512 (constant S_ .f32 0x00000000#32)))) shapeCasts_S8x4096x512_S32768x512) bitsLt_bf16_f32 : FVec Ideal S32768x512 .bf16) (ix2 n j)
    = zrow V n ⟨1304 + j.val, by omega⟩ * taps (fun i => (V (Proc.devRef .tc main_arg3) : FVec Ideal S3x512 .f32) (ix2 i j))
        (if h : 2 ≤ n.val % 4096 then cx V ⟨n.val - 2, by omega⟩ j else 0) (if h : 1 ≤ n.val % 4096 then cx V ⟨n.val - 1, by omega⟩ j else 0) (cx V n j) := by
  have e : ∀ i : Fin 1536, (res_main_v111 V : FVec Ideal S8x4096x1536 .f32) (ix3 ⟨n.val / 4096, by omega⟩ ⟨n.val % 4096, by omega⟩ i) = zrow V n ⟨1304 + i.val, by omega⟩ := by
    intro i
    rw [← v33_at V n ⟨n.val / 4096, by omega⟩ ⟨n.val % 4096, by omega⟩ _ (by dsimp only; omega)]
    pointwise [res_main_v111]
  have e0 : (res_main_v116 V : FVec Ideal S8x4098x512 .f32) (ix3 ⟨n.val / 4096, by omega⟩ ⟨n.val % 4096, by omega⟩ j)
      = (if h : 2 ≤ n.val % 4096 then cx V ⟨n.val - 2, by omega⟩ j else 0) := by
    split
    · exact pad_at V _ _ _ _ (by dsimp only; omega) (by assumption)
    · exact pad_zero V _ _ _ (by dsimp only; omega)
  have e1 : (res_main_v116 V : FVec Ideal S8x4098x512 .f32) (ix3 ⟨n.val / 4096, by omega⟩ ⟨1 + n.val % 4096, by omega⟩ j)
      = (if h : 1 ≤ n.val % 4096 then cx V ⟨n.val - 1, by omega⟩ j else 0) := by
    split
    · exact pad_at V _ _ _ _ (by dsimp only; omega) (by dsimp only; omega)
    · exact pad_zero V _ _ _ (by dsimp only; omega)
  have e2 : (res_main_v116 V : FVec Ideal S8x4098x512 .f32) (ix3 ⟨n.val / 4096, by omega⟩ ⟨2 + n.val % 4096, by omega⟩ j) = cx V n j :=
    pad_at V _ _ _ _ (by dsimp only; omega) (by dsimp only; omega)
  rw [← e0, ← e1, ← e2, ← e ⟨j.val, by omega⟩]
  pointwise [taps]

end Cert.Reference5Ideal.Even
-- ==== Proof.EvenHost.lean ====
/-
What the in-projection's kernel is given: the columns of the weights it takes, and the turns' tables.
-/
module

public import proofs.«01_k».proof.Proof.Even
public import proofs.«01_k».proof.Proof.Gen.Kernel5Ideal.Value
public import Idealize.ShloMosaic.Lib.Pipeline.ValueKit
public import Idealize.ShloMosaic.Lib.StableHlo.ReadAt

@[expose] public section

set_option maxRecDepth 16384

noncomputable section

namespace Cert.Kernel5Ideal.Tile

open Cert.Kernel5Ideal Cert.Kernel5Ideal.Gen Cert.Ffn Cert.Even
open Idealize.ShloMosaic Idealize.ShloMosaic.TcCoe Idealize.ShloMosaic.StableHlo

/-! ## The columns -/

/-- Columns of a matrix, taken at given places. -/
theorem gather_cols (x : FVec Ideal S1024x2840 .f32) (idx : IVec S2944x1 32) (k : Fin 1024) (j : Fin 2944) :
    Host.gather gather_S1024x2840_S2944x1_S1024x2944_0_1_n_n_1_1_10241 x idx (ix2 k j)
      = x (ix2 k ⟨min (idx (ix2 j 0)).toInt.toNat 2839, by omega⟩) := by
  unfold Host.gather
  refine congrArg x ?_
  funext a
  refine Fin.ext ?_
  let D := gather_S1024x2840_S2944x1_S1024x2944_0_1_n_n_1_1_10241
  show D.start (ix2 k j) idx a + D.batchCoord (ix2 k j) a + D.offCoord (ix2 k j) a = _
  rw [GatherDims.batchCoord_eq_zero _ _ _ List.not_mem_nil]
  match a with
  | ⟨0, _⟩ =>
    have h1 : D.start (ix2 k j) idx (0 : Fin 2) = 0 := by
      unfold GatherDims.start
      exact dif_neg (by show ¬ (0 : Fin 2) ∈ ([1] : List (Fin 2)); decide)
    exact (congrArg (fun n => n + 0 + D.offCoord (ix2 k j) (0 : Fin 2)) h1).trans (by
      rw [Nat.zero_add]; rfl)
  | ⟨1, _⟩ =>
    have h2 : D.offCoord (ix2 k j) (1 : Fin 2) = 0 :=
      GatherDims.offCoord_eq_zero _ _ _ (fun h => ((GatherDims.mem_sKept _ _).mp h).1 (List.mem_singleton.mpr rfl))
    refine (congrArg (fun n => D.start (ix2 k j) idx (1 : Fin 2) + 0 + n) h2).trans ?_
    unfold GatherDims.start
    rw [dif_pos (show (1 : Fin 2) ∈ D.startIndexMap from List.mem_singleton.mpr rfl)]
    have hsi : D.siIdx (ix2 k j) ⟨List.idxOf (1 : Fin 2) D.startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl

/-! ## The host's operations -/

section Stages

variable (U : Valuation τ sig (Elt Ideal))

/-- The weights' columns, scaled. -/
def hostW (w : FVec Ideal S1024x2840 .f32) (idx : IVec S2944 32) (off : IVec S2944 1) (sc : FVec Ideal S1x2944 .f32) : FVec Ideal S1024x2944 .bf16 :=
  truncf .bf16 (mulf (Host.gather gather_S1024x2840_S2944x1_S1024x2944_0_1_n_n_1_1_10241 w
    (broadcastInDim S2944x1 ![0] bcast_S2944_S2944x1_0 (select off (addi idx (broadcastInDim S2944 ![] bcast_S_S2944 (constantI S_ 32 2840#32))) idx)))
    (broadcastInDim S1024x2944 ![0, 1] bcast_S1x2944_S1024x2944_0_1 sc)) bitsLt_bf16_f32

theorem stage2_w : after hostOps0_2 U (Proc.devRef .tc main_v40)
    = hostW (U (Proc.devRef .tc main_arg2)) (U (Proc.devRef .tc main_c)) (U (Proc.devRef .tc main_c_0)) (U (Proc.devRef .tc main_v0)) := by
  after_results <;> rfl

theorem stage2_cos : after hostOps0_2 U (Proc.devRef .tc main_v27) = (Host.cos (F := Ideal) (s := S4096x128) (φ := .f32) (U (Proc.devRef .tc main_v21)) : FVec Ideal S4096x128 .f32) := by
  after_results <;> rfl

theorem stage2_sin : after hostOps0_2 U (Proc.devRef .tc main_v31) = (mulf (Host.sin (U (Proc.devRef .tc main_v21) : FVec Ideal S4096x128 .f32))
    (broadcastInDim S4096x128 ![0, 1] bcast_S1x128_S4096x128_0_1 (broadcastInDim S1x128 ![1] bcast_S128_S1x128_1 (U (Proc.devRef .tc main_v25) : FVec Ideal S128 .f32))) : FVec Ideal S4096x128 .f32) := by
  after_results <;> rfl

theorem stage1 : after hostOps0_1 U (Proc.devRef .tc main_v25)
    = select (U (Proc.devRef .tc main_v24) : IVec S128 1) (broadcastInDim S128 ![] bcast_S_S128 (U (Proc.devRef .tc main_cst_7) : FVec Ideal S_ .f32))
        (broadcastInDim S128 ![] bcast_S_S128 (U (Proc.devRef .tc main_cst_8) : FVec Ideal S_ .f32)) := by
  simp only [hostOps0_1, TRef.binary, TRef.nullary, TRef.unary, TRef.ternary, TRef.toBuf, TRef.ofBuf, cast_eq]
  after_results_simp <;> rfl

/-- The angles, tiled. -/
def hostAng : FVec Ideal S4096x128 .f32 :=
  shapeCast S4096x128 (broadcastInDim S1x4096x4x32 ![0, 1, 2, 3] bcast_S1x4096x1x32_S1x4096x4x32_0_1_2_3 (shapeCast S1x4096x1x32 (mulf
    (broadcastInDim S4096x32 ![0, 1] bcast_S4096x1_S4096x32_0_1 (broadcastInDim S4096x1 ![0] bcast_S4096_S4096x1_0 (sitofp (F := Ideal) .f32 (iotaInDim S4096 32 0))))
    (broadcastInDim S4096x32 ![0, 1] bcast_S1x32_S4096x32_0_1 (broadcastInDim S1x32 ![1] bcast_S32_S1x32_1
      (Host.divf (broadcastInDim S32 ![] bcast_S_S32 (constant S_ .f32 0x3F800000#32)) (Host.powf (broadcastInDim S32 ![] bcast_S_S32 (constant S_ .f32 0x461C4000#32))
        (Host.divf (addf (broadcastInDim S32 ![] bcast_S_S32 (constant S_ .f32 0x00000000#32)) (mulf (broadcastInDim S32 ![] bcast_S_S32 (constant S_ .f32 0x40000000#32)) (sitofp (F := Ideal) .f32 (iotaInDim S32 32 0))))
          (broadcastInDim S32 ![] bcast_S_S32 (constant S_ .f32 0x42800000#32))))))))
    shapeCasts_S4096x32_S1x4096x1x32)) shapeCasts_S1x4096x4x32_S4096x128

theorem hostAng_at (s : Fin 4096) (l : Fin 128) : hostAng (ix2 s l) = ang s.val (l.val % 32) := by
  pointwise [hostAng, ang]

theorem stage0_ang : after hostOps0 U (Proc.devRef .tc main_v21) = hostAng := by
  after_results <;> rfl

theorem stage0_low : after hostOps0 U (Proc.devRef .tc main_v24) = cmpi .slt (iotaInDim S128 32 0) (broadcastInDim S128 ![] bcast_S_S128 (constantI S_ 32 64#32)) := by
  after_results <;> rfl

theorem stage0_neg : after hostOps0 U (Proc.devRef .tc main_cst_7) = constant (F := Ideal) S_ .f32 0xBF800000#32 := by
  after_results <;> rfl

theorem stage0_pos : after hostOps0 U (Proc.devRef .tc main_cst_8) = constant (F := Ideal) S_ .f32 0x3F800000#32 := by
  after_results <;> rfl

theorem stage0_idx : after hostOps0 U (Proc.devRef .tc main_c) = (fun i => lit0 (S2944.rowMajor i) : IVec S2944 32) := by
  after_results <;> rfl

theorem stage0_off : after hostOps0 U (Proc.devRef .tc main_c_0) = constantI S2944 1 0#1 := by
  after_results <;> rfl

theorem stage0_sc : after hostOps0 U (Proc.devRef .tc main_v0)
    = broadcastInDim S1x2944 ![1] bcast_S2944_S1x2944_1 (fun i => FloatOps.ofBits .f32 (lit1 (S2944.rowMajor i)) : FVec Ideal S2944 .f32) := by
  after_results <;> rfl

theorem stage0_x : after hostOps0 U (Proc.devRef .tc main_v1) = shapeCast S32768x1024 (U (Proc.devRef .tc main_arg0) : FVec Ideal S8x4096x1024 .f32) shapeCasts_S8x4096x1024_S32768x1024 := by
  after_results <;> rfl

theorem stage2_g : after hostOps0_2 U (Proc.devRef .tc main_v32) = shapeCast S1x1024 (U (Proc.devRef .tc main_arg1) : FVec Ideal S1024 .f32) shapeCasts_S1024_S1x1024 := by
  after_results <;> rfl

end Stages

/-! ## What the tiles are given -/

variable (m : (ℓ : Loc nD τ sig) → Buf (Elt Ideal) ℓ) (c : Dev nD)

/-- The arguments as arrays. -/
abbrev argX : FVec Ideal S8x4096x1024 .f32 := m ((c : Thread nD τ).loc main_arg0)
abbrev argG : FVec Ideal S1024 .f32 := m ((c : Thread nD τ).loc main_arg1)
abbrev argW : FVec Ideal S1024x2840 .f32 := m ((c : Thread nD τ).loc main_arg2)
abbrev argCw : FVec Ideal S3x512 .f32 := m ((c : Thread nD τ).loc main_arg3)

theorem V_split (b : Ref sig .tc) : V m c b
    = after hostOps0_2 (after hostOps0_1 (after hostOps0 (fun b => m (c, b)))) (Proc.devRef .tc b) := rfl

theorem V_cos : V m c main_v27 = (Host.cos (F := Ideal) (s := S4096x128) (φ := .f32) hostAng : FVec Ideal S4096x128 .f32) := by
  rw [V_split, stage2_cos, after_of_forall_not_mem (b := Proc.devRef .tc main_v21) hostOps0_1 _ (by decide), stage0_ang]

theorem V_sin : V m c main_v31 = (mulf (Host.sin hostAng)
    (broadcastInDim S4096x128 ![0, 1] bcast_S1x128_S4096x128_0_1 (broadcastInDim S1x128 ![1] bcast_S128_S1x128_1
      (select (cmpi .slt (iotaInDim S128 32 0) (broadcastInDim S128 ![] bcast_S_S128 (constantI S_ 32 64#32)))
        (broadcastInDim S128 ![] bcast_S_S128 (constant S_ .f32 0xBF800000#32))
        (broadcastInDim S128 ![] bcast_S_S128 (constant S_ .f32 0x3F800000#32))))) : FVec Ideal S4096x128 .f32) := by
  rw [V_split, stage2_sin, after_of_forall_not_mem (b := Proc.devRef .tc main_v21) hostOps0_1 _ (by decide), stage0_ang, stage1, stage0_low, stage0_neg, stage0_pos]

theorem V_w : V m c main_v40 = hostW (argW m c) (fun i => lit0 (S2944.rowMajor i)) (constantI S2944 1 0#1)
    (broadcastInDim S1x2944 ![1] bcast_S2944_S1x2944_1 (fun i => FloatOps.ofBits .f32 (lit1 (S2944.rowMajor i)) : FVec Ideal S2944 .f32)) := by
  rw [V_split, stage2_w, after_of_forall_not_mem (b := Proc.devRef .tc main_c) hostOps0_1 _ (by decide), stage0_idx,
    after_of_forall_not_mem (b := Proc.devRef .tc main_c_0) hostOps0_1 _ (by decide), stage0_off,
    after_of_forall_not_mem (b := Proc.devRef .tc main_v0) hostOps0_1 _ (by decide), stage0_sc,
    after_of_forall_not_mem (b := Proc.devRef .tc main_arg2) hostOps0_1 _ (by decide),
    after_of_forall_not_mem (b := Proc.devRef .tc main_arg2) hostOps0 _ (by decide)]

theorem V_x : V m c main_v1 = shapeCast S32768x1024 (argX m c) shapeCasts_S8x4096x1024_S32768x1024 := by
  rw [V_split, after_of_forall_not_mem (b := Proc.devRef .tc main_v1) hostOps0_2 _ (by decide),
    after_of_forall_not_mem (b := Proc.devRef .tc main_v1) hostOps0_1 _ (by decide), stage0_x]

theorem V_g : V m c main_v32 = shapeCast S1x1024 (argG m c) shapeCasts_S1024_S1x1024 := by
  rw [V_split, stage2_g, after_of_forall_not_mem (b := Proc.devRef .tc main_arg1) hostOps0_1 _ (by decide),
    after_of_forall_not_mem (b := Proc.devRef .tc main_arg1) hostOps0 _ (by decide)]

theorem x_at (n : Fin 32768) (k : Fin 1024) (b : Fin 8) (s : Fin 4096) (h : 4096 * b.val + s.val = n.val) :
    (V m c main_v1 : FVec Ideal S32768x1024 .f32) (ix2 n k) = argX m c (ix3 b s k) := by
  rw [V_x]
  refine shapeCast_apply _ _ (ix2 n k) (ix3 b s k) ?_
  rw [Shape.rowMajor_val_two, Shape.rowMajor_val_three]
  show (b.val * 4096 + s.val) * 1024 + k.val = n.val * 1024 + k.val
  omega

theorem g_at (k : Fin 1024) : (V m c main_v32 : FVec Ideal S1x1024 .f32) (ix2 0 k) = argG m c (ix1 k) := by
  rw [V_g]
  pointwise []

theorem cos_at (s : Fin 4096) (l : Fin 128) : (V m c main_v27 : FVec Ideal S4096x128 .f32) (ix2 s l) = Ideal.cos (ang s.val (l.val % 32)) := by
  rw [V_cos]
  exact congrArg Ideal.cos (hostAng_at s l)

theorem sin_at (s : Fin 4096) (l : Fin 128) : (V m c main_v31 : FVec Ideal S4096x128 .f32) (ix2 s l)
    = Ideal.sin (ang s.val (l.val % 32)) * (if l.val < 64 then Ideal.ofBits .f32 0xBF800000#32 else Ideal.ofBits .f32 0x3F800000#32) := by
  rw [V_sin]
  refine congrArg₂ (fun x y : EReal => x * y) (congrArg Ideal.sin (hostAng_at s l)) ?_
  have h : ∀ l : Fin 128, IntOp.cmpi .slt (BitVec.ofNat 32 l.val) 64#32 = if l.val < 64 then 1#1 else 0#1 := by decide +kernel
  have hs : ∀ (q : Prop) [Decidable q] (x y : EReal), Scalar.select (if q then 1#1 else 0#1) x y = if q then x else y := by
    intro q _ x y
    by_cases hq : q
    · rw [if_pos hq, if_pos hq]; rfl
    · rw [if_neg hq, if_neg hq]; rfl
  exact (congrArg (fun z => Scalar.select z (Ideal.ofBits .f32 0xBF800000#32) (Ideal.ofBits .f32 0x3F800000#32)) (h l)).trans (hs _ _ _)

theorem w_at (k : Fin 1024) (j : Fin 2944) : (V m c main_v40 : FVec Ideal S1024x2944 .bf16) (ix2 k j)
    = argW m c (ix2 k ⟨min (lit0 j).toInt.toNat 2839, by omega⟩) * Ideal.ofBits .f32 (lit1 j) := by
  have hj : S2944.rowMajor (ix1 j) = j := Fin.ext (Shape.rowMajor_val_one (ix1 j))
  rw [V_w]
  refine congrArg₂ (fun x y : EReal => x * y) ((gather_cols _ _ k j).trans ?_) ?_
  · show argW m c (ix2 k ⟨min (lit0 (S2944.rowMajor (ix1 j))).toInt.toNat 2839, _⟩) = _
    simp only [hj]
  · show Ideal.ofBits .f32 (lit1 (S2944.rowMajor (ix1 j))) = _
    rw [hj]

theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![0, 0] :=
  (by decide +kernel : ∀ t : Fin grid0.N, _)

theorem iblk0_at (t : Fin cfg0.N) (r : Fin 1024) (k : Fin 1024) (n : Fin 32768) (h : n.val = 1024 * t.val + r.val) :
    (iblk m c 0 t : Vec Ideal S1024x1024 .f32) (ix2 r k) = (V m c main_v1 : FVec Ideal S32768x1024 .f32) (ix2 n k) := by
  blk_ext! [iblk, idx t]

theorem iblk1_at (t : Fin cfg0.N) (k : Fin 1024) : (iblk m c 1 t : Vec Ideal S1x1024 .f32) (ix2 0 k)
    = (V m c main_v32 : FVec Ideal S1x1024 .f32) (ix2 0 k) := by
  blk_ext! [iblk, idx t]

theorem iblk2_at (t : Fin cfg0.N) (k : Fin 1024) (j : Fin 2944) : (iblk m c 2 t : Vec Ideal S1024x2944 .bf16) (ix2 k j)
    = (V m c main_v40 : FVec Ideal S1024x2944 .bf16) (ix2 k j) := by
  blk_ext! [iblk, idx t]

theorem iblk3_at (t : Fin cfg0.N) (r : Fin 1024) (l : Fin 128) (s : Fin 4096) (h : s.val = 1024 * (t.val % 4) + r.val) :
    (iblk m c 3 t : Vec Ideal S1024x128 .f32) (ix2 r l) = (V m c main_v27 : FVec Ideal S4096x128 .f32) (ix2 s l) := by
  blk_ext! [iblk, idx t]

theorem iblk4_at (t : Fin cfg0.N) (r : Fin 1024) (l : Fin 128) (s : Fin 4096) (h : s.val = 1024 * (t.val % 4) + r.val) :
    (iblk m c 4 t : Vec Ideal S1024x128 .f32) (ix2 r l) = (V m c main_v31 : FVec Ideal S4096x128 .f32) (ix2 s l) := by
  blk_ext! [iblk, idx t]

theorem iblk5_at (t : Fin cfg0.N) (i : Fin 3) (j : Fin 512) : (iblk m c 5 t : Vec Ideal S3x512 .f32) (ix2 i j) = argCw m c (ix2 i j) := by
  blk_ext! [iblk, V, idx t]

end Cert.Kernel5Ideal.Tile
-- ==== Proof.EvenTile.lean ====
/-
What one point of the in-projection's kernel leaves: its nine blocks, and the last eight rows of the
product that the next point's convolution takes.
-/
module

public import proofs.«01_k».proof.Proof.Even
public import proofs.«01_k».proof.Proof.Plane
public import proofs.«01_k».proof.Proof.Gen.Kernel5Ideal.Value
public import Idealize.ShloMosaic.Lib.WritesUnit
public import Idealize.ShloMosaic.Lib.HeldBySlice

@[expose] public section

set_option maxRecDepth 16384

noncomputable section

namespace Cert.Kernel5Ideal.Tile

open Cert.Kernel5Ideal Cert.Kernel5Ideal.Gen Cert.Ffn Cert.Even
open Idealize.ShloMosaic Idealize.ShloMosaic.TcCoe

/-- The block's projected row. -/
abbrev rowP (x0 : Vec Ideal S1024x1024 .f32) (x1 : Vec Ideal S1x1024 .f32) (x2 : Vec Ideal S1024x2944 .bf16) (a : Fin 1024) (j : Fin 2944) : EReal :=
  prj (fun k => x0 (ix2 a k)) (fun k => x1 (ix2 0 k)) (fun k j => x2 (ix2 k j)) j

/-- The product the convolution takes. -/
abbrev cxT (x0 : Vec Ideal S1024x1024 .f32) (x1 : Vec Ideal S1x1024 .f32) (x2 : Vec Ideal S1024x2944 .bf16) (a : Fin 1024) (j : Fin 512) : EReal :=
  rowP x0 x1 x2 a ⟨1920 + j.val, by omega⟩ * rowP x0 x1 x2 a ⟨2432 + j.val, by omega⟩

theorem at2 {d e : ℕ} {n : Fin 2 → ℕ} (a : Fin d) (j : Fin e) (o p : ℕ) {y : (⟨2, n⟩ : Shape).Idx} (ha : a.val = o + (y 0).val) (hj : j.val = p + (y 1).val) :
    ∀ x, ((ix2 a j : (⟨2, ![d, e]⟩ : Shape).Idx) x).val = (![o, p] : Fin 2 → ℕ) x + (y x).val := fun x => match x with
  | ⟨0, _⟩ => ha
  | ⟨1, _⟩ => hj

/-! ## The payloads at an index -/

theorem pay3_at (v0 : Vec Ideal S1024x1024 .f32) (v2 : Vec Ideal S1x1024 .f32) (a k : Fin 1024) :
    k0_pay3 v0 v2 (ix2 a k) = nrm (fun k => v0 (ix2 a k)) (fun k => v2 (ix2 0 k)) k := by
  pointwise [k0_pay3, nrm]

theorem pay4_at (v : Vec Ideal S1024x128 .f32) (a : Fin 1024) (l : Fin 128) : k0_pay4 v (ix2 a l) = v (ix2 a l) := by
  pointwise [k0_pay4]

theorem pay5_at (v : Vec Ideal S1024x128 .f32) (a : Fin 1024) (l : Fin 128) : k0_pay5 v (ix2 a l) = v (ix2 a l) := by
  pointwise [k0_pay5]

theorem pay6_at (v0 : Vec Ideal S1024x1024 .f32) (v2 : Vec Ideal S1x1024 .f32) (w : Vec Ideal S1024x512 .bf16) (a : Fin 1024) (j : Fin 512) :
    k0_pay6 v0 v2 w (ix2 a j) = prj (fun k => v0 (ix2 a k)) (fun k => v2 (ix2 0 k)) (fun k j => w (ix2 k j)) j := by
  pointwise [k0_pay6]
  simp only [pay3_at, prj]

theorem pay11_at (h : FVec Ideal S1024x1024 .bf16) (w : Vec Ideal S1024x512 .bf16) (a : Fin 1024) (j : Fin 512) :
    k0_pay11 h w (ix2 a j) = ∑ k, h (ix2 a k) * w (ix2 k j) := by
  pointwise [k0_pay11]

theorem pay16_at (h : FVec Ideal S1024x1024 .bf16) (w : Vec Ideal S1024x384 .bf16) (a : Fin 1024) (j : Fin 384) :
    k0_pay16 h w (ix2 a j) = ∑ k, h (ix2 a k) * w (ix2 k j) := by
  pointwise [k0_pay16]

theorem pay9_at (co si : FVec Ideal S1024x128 .f32) (z : FVec Ideal S1024x512 .f32) (a : Fin 1024) (l : Fin 128) :
    k0_pay9 co si z (ix2 a l) = z (ix2 a ⟨256 + l.val, by omega⟩) * co (ix2 a l) + z (ix2 a ⟨256 + (other l).val, by omega⟩) * si (ix2 a l) := by
  pointwise [k0_pay9, other]

theorem pay10_at (co si : FVec Ideal S1024x128 .f32) (z : FVec Ideal S1024x512 .f32) (a : Fin 1024) (l : Fin 128) :
    k0_pay10 co si z (ix2 a l) = z (ix2 a ⟨384 + l.val, by omega⟩) * co (ix2 a l) + z (ix2 a ⟨384 + (other l).val, by omega⟩) * si (ix2 a l) := by
  pointwise [k0_pay10, other]

theorem pay7_at (v0 : Vec Ideal S1024x1024 .f32) (v2 : Vec Ideal S1x1024 .f32) (co si : Vec Ideal S1024x128 .f32) (w : Vec Ideal S1024x512 .bf16) (a : Fin 1024) (l : Fin 128) :
    k0_pay7 v0 v2 co si w (ix2 a l) = k0_pay6 v0 v2 w (ix2 a ⟨0 + l.val, by omega⟩) * co (ix2 a l) + k0_pay6 v0 v2 w (ix2 a ⟨0 + (other l).val, by omega⟩) * si (ix2 a l) := by
  pointwise [k0_pay7, k0_pay4, k0_pay5, other]

theorem pay8_at (v0 : Vec Ideal S1024x1024 .f32) (v2 : Vec Ideal S1x1024 .f32) (co si : Vec Ideal S1024x128 .f32) (w : Vec Ideal S1024x512 .bf16) (a : Fin 1024) (l : Fin 128) :
    k0_pay8 v0 v2 co si w (ix2 a l) = k0_pay6 v0 v2 w (ix2 a ⟨128 + l.val, by omega⟩) * co (ix2 a l) + k0_pay6 v0 v2 w (ix2 a ⟨128 + (other l).val, by omega⟩) * si (ix2 a l) := by
  pointwise [k0_pay8, k0_pay4, k0_pay5, other]

theorem pay12_at (h : FVec Ideal S1024x1024 .bf16) (co si : FVec Ideal S1024x128 .f32) (w : Vec Ideal S1024x512 .bf16) (a : Fin 1024) (l : Fin 128) :
    k0_pay12 h co si w (ix2 a l) = k0_pay11 h w (ix2 a ⟨0 + l.val, by omega⟩) * co (ix2 a l) + k0_pay11 h w (ix2 a ⟨0 + (other l).val, by omega⟩) * si (ix2 a l) := by
  pointwise [k0_pay12, other]

theorem pay13_at (h : FVec Ideal S1024x1024 .bf16) (co si : FVec Ideal S1024x128 .f32) (w : Vec Ideal S1024x512 .bf16) (a : Fin 1024) (l : Fin 128) :
    k0_pay13 h co si w (ix2 a l) = k0_pay11 h w (ix2 a ⟨128 + l.val, by omega⟩) * co (ix2 a l) + k0_pay11 h w (ix2 a ⟨128 + (other l).val, by omega⟩) * si (ix2 a l) := by
  pointwise [k0_pay13, other]

theorem pay14_at (h : FVec Ideal S1024x1024 .bf16) (co si : FVec Ideal S1024x128 .f32) (w : Vec Ideal S1024x512 .bf16) (a : Fin 1024) (l : Fin 128) :
    k0_pay14 h co si w (ix2 a l) = k0_pay11 h w (ix2 a ⟨256 + l.val, by omega⟩) * co (ix2 a l) + k0_pay11 h w (ix2 a ⟨256 + (other l).val, by omega⟩) * si (ix2 a l) := by
  pointwise [k0_pay14, other]

theorem pay17_at (h : FVec Ideal S1024x1024 .bf16) (w : Vec Ideal S1024x384 .bf16) (l : Fin 128) (r : Fin 256) :
    k0_pay17 h w (ix4 0 0 l r) = k0_pay16 h w (ix2 ⟨0 + r.val, by omega⟩ ⟨0 + l.val, by omega⟩) := by
  pointwise [k0_pay17]

theorem pay18_at (h : FVec Ideal S1024x1024 .bf16) (w : Vec Ideal S1024x384 .bf16) (l : Fin 128) (r : Fin 256) :
    k0_pay18 h w (ix4 0 0 l r) = k0_pay16 h w (ix2 ⟨0 + r.val, by omega⟩ ⟨128 + l.val, by omega⟩) := by
  pointwise [k0_pay18]

theorem pay19_at (h : FVec Ideal S1024x1024 .bf16) (w : Vec Ideal S1024x384 .bf16) (l : Fin 128) (r : Fin 256) :
    k0_pay19 h w (ix4 0 0 l r) = k0_pay16 h w (ix2 ⟨256 + r.val, by omega⟩ ⟨0 + l.val, by omega⟩) := by
  pointwise [k0_pay19]

theorem pay20_at (h : FVec Ideal S1024x1024 .bf16) (w : Vec Ideal S1024x384 .bf16) (l : Fin 128) (r : Fin 256) :
    k0_pay20 h w (ix4 0 0 l r) = k0_pay16 h w (ix2 ⟨256 + r.val, by omega⟩ ⟨128 + l.val, by omega⟩) := by
  pointwise [k0_pay20]

theorem pay23_at (z : FVec Ideal S1024x384 .f32) (l : Fin 128) (r : Fin 256) :
    k0_pay23 z (ix4 0 0 l r) = z (ix2 ⟨512 + r.val, by omega⟩ ⟨128 + l.val, by omega⟩) := by
  pointwise [k0_pay23]

theorem pay24_at (z : FVec Ideal S1024x384 .f32) (l : Fin 128) (r : Fin 256) :
    k0_pay24 z (ix4 0 0 l r) = z (ix2 ⟨768 + r.val, by omega⟩ ⟨0 + l.val, by omega⟩) := by
  pointwise [k0_pay24]

theorem pay25_at (z : FVec Ideal S1024x384 .f32) (l : Fin 128) (r : Fin 256) :
    k0_pay25 z (ix4 0 0 l r) = z (ix2 ⟨768 + r.val, by omega⟩ ⟨128 + l.val, by omega⟩) := by
  pointwise [k0_pay25]

theorem pay15_at (z : FVec Ideal S1024x512 .f32) (a : Fin 1024) (l : Fin 128) : k0_pay15 z (ix2 a l) = z (ix2 a ⟨384 + l.val, by omega⟩) := by
  pointwise [k0_pay15]

theorem pay22_at (h : FVec Ideal S1024x1024 .bf16) (w : Vec Ideal S1024x384 .bf16) (l : Fin 128) (r : Fin 256) :
    k0_pay22 (k0_pay21 h w) (ix4 0 0 l r) = k0_pay16 h w (ix2 ⟨512 + r.val, by omega⟩ ⟨0 + l.val, by omega⟩) := by
  pointwise [k0_pay22, k0_pay21]

theorem pay26_at (z : FVec Ideal S1024x384 .f32) (a : Fin 1024) (l : Fin 128) :
    k0_pay26 z (ix2 a l) = Ideal.logistic (z (ix2 a ⟨256 + l.val, by omega⟩)) := by
  rw [← half_tanh]
  pointwise [k0_pay26]

theorem pay27_at (a : Fin 8) (j : Fin 512) : k0_pay27 (F := Ideal) (ix2 a j) = 0 := by
  pointwise [k0_pay27]

theorem pay28_at (h : FVec Ideal S1024x1024 .bf16) (w v : Vec Ideal S1024x512 .bf16) (a : Fin 1024) (j : Fin 512) :
    k0_pay28 h w v (ix2 a j) = (∑ k, h (ix2 a k) * w (ix2 k j)) * ∑ k, h (ix2 a k) * v (ix2 k j) := by
  pointwise [k0_pay28]

theorem pay29_at (h : FVec Ideal S1024x1024 .bf16) (w v : Vec Ideal S1024x512 .bf16) (a : Fin 1024) (j : Fin 512) :
    k0_pay29 h w v (ix2 a j) = k0_pay28 h w v (ix2 a j) := by
  pointwise [k0_pay29]

theorem pay30_at (h : FVec Ideal S1024x1024 .bf16) (w v : Vec Ideal S1024x512 .bf16) (cw : Vec Ideal S3x512 .f32) (y z : Vec Ideal S1024x512 .f32) (a : Fin 1024) (j : Fin 512) :
    k0_pay30 h w v cw y z (ix2 a j) = cw (ix2 0 j) * y (ix2 a j) + cw (ix2 1 j) * z (ix2 a j) + cw (ix2 2 j) * k0_pay28 h w v (ix2 a j) := by
  pointwise [k0_pay30]

theorem pay31_at (h : FVec Ideal S1024x1024 .bf16) (w v : Vec Ideal S1024x512 .bf16) (a : Fin 8) (j : Fin 512) :
    k0_pay31 h w v (ix2 a j) = k0_pay28 h w v (ix2 ⟨1016 + a.val, by omega⟩ j) := by
  pointwise [k0_pay31]

theorem pay1_at (v : FVec Ideal S8x512 .f32) (a : Fin 8) (j : Fin 512) : k0_pay1 v (ix2 a j) = v (ix2 a j) := by
  pointwise [k0_pay1]

theorem pay2_at (h : FVec Ideal S1024x1024 .bf16) (u : FVec Ideal S1024x512 .f32) (w : Vec Ideal S1024x512 .bf16) (a : Fin 1024) (j : Fin 512) :
    k0_pay2 h u w (ix2 a j) = (∑ k, h (ix2 a k) * w (ix2 k j)) * u (ix2 a j) := by
  pointwise [k0_pay2]

section CaseA

variable (c : Dev nD) (i : grid0.Coords)
  (p1 : Memref sig .tc .vmem S1024x1024 .f32) (q1 : p1.IsWhole)
  (p2 : Memref sig .tc .vmem S1x1024 .f32) (q2 : p2.IsWhole)
  (p3 : Memref sig .tc .vmem S1024x2944 .bf16) (q3 : p3.IsWhole)
  (p4 : Memref sig .tc .vmem S1024x128 .f32) (q4 : p4.IsWhole)
  (p5 : Memref sig .tc .vmem S1024x128 .f32) (q5 : p5.IsWhole)
  (p6 : Memref sig .tc .vmem S3x512 .f32) (q6 : p6.IsWhole)
  (p7 : Memref sig .tc .vmem S1024x512 .bf16) (q7 : p7.IsWhole)
  (p8 : Memref sig .tc .vmem S1024x128 .bf16) (q8 : p8.IsWhole)
  (p9 : Memref sig .tc .vmem S1024x128 .bf16) (q9 : p9.IsWhole)
  (p10 : Memref sig .tc .vmem S1024x128 .bf16) (q10 : p10.IsWhole)
  (p11 : Memref sig .tc .vmem S1024x128 .bf16) (q11 : p11.IsWhole)
  (p12 : Memref sig .tc .vmem S1x4x128x256 .bf16) (q12 : p12.IsWhole)
  (p13 : Memref sig .tc .vmem S1x4x128x256 .bf16) (q13 : p13.IsWhole)
  (p14 : Memref sig .tc .vmem S1024x128 .f32) (q14 : p14.IsWhole)
  (p15 : Memref sig .tc .vmem S1024x512 .bf16) (q15 : p15.IsWhole)
  (p16 : Memref sig .tc .vmem S1032x512 .f32) (q16 : p16.IsWhole)
  (x0 : Vec Ideal S1024x1024 .f32) (x1 : Vec Ideal S1x1024 .f32) (x2 : Vec Ideal S1024x2944 .bf16) (x3 x4 : Vec Ideal S1024x128 .f32)
  (x5 : Vec Ideal S3x512 .f32)
  (hc0 : cond0_0 i)

theorem h_A (a k : Fin 1024) : kernelRun0_A.sl.r (F := Ideal) c p1 q1 p2 q2 x0 x1 (ix2 a k) = nrm (fun k => x0 (ix2 a k)) (fun k => x1 (ix2 0 k)) k := by
  unfold kernelRun0_A.sl.r
  rw [pay3_at]
  exact congrArg₂ (fun x g => nrm x g k) (funext fun k => load2 _ _ _ _ _ _ (Nat.zero_add _).symm (Nat.zero_add _).symm) (funext fun k => load2 _ _ _ _ _ _ (Nat.zero_add _).symm (Nat.zero_add _).symm)

/-- The product the convolution takes. -/
theorem c0_A (inb1 inb2) (a : Fin 1024) (j : Fin 512) :
    k0_pay28 (F := Ideal) (kernelRun0_A.sl.r c p1 q1 p2 q2 x0 x1)
      (View.readAt (Elt Ideal) p3.view (Rect.unit (s := S1024x2944) ![0, 1920] S1024x512.size inb1).toLoadRect (q3.unread x2))
      (View.readAt (Elt Ideal) p3.view (Rect.unit (s := S1024x2944) ![0, 2432] S1024x512.size inb2).toLoadRect (q3.unread x2)) (ix2 a j)
      = cxT x0 x1 x2 a j := by
  rw [pay28_at]
  unfold cxT rowP prj
  refine congrArg₂ (· * ·) (Finset.sum_congr rfl fun k _ => congrArg₂ (· * ·) (h_A c p1 q1 p2 q2 x0 x1 a k) (load2 _ _ _ _ _ _ (Nat.zero_add _).symm rfl))
    (Finset.sum_congr rfl fun k _ => congrArg₂ (· * ·) (h_A c p1 q1 p2 q2 x0 x1 a k) (load2 _ _ _ _ _ _ (Nat.zero_add _).symm rfl))

theorem v164_A (a : Fin 1024) (j : Fin 512) : kernelRun0_A.sl.v164 (F := Ideal) c p1 q1 p2 q2 p3 q3 p16 x0 x1 x2 (ix2 a j)
    = rowBack (fun _ => 0) (fun a => cxT x0 x1 x2 a j) 6 a := by
  have ha := a.isLt
  unfold kernelRun0_A.sl.v164 kernelRun0_A.sl.HS0_2
  show p16.view.read (Elt Ideal) (p16.view.writes (Elt Ideal) p16.view.junk _) ((Rect.unit (s := S1032x512) ![6, 0] S1024x512.size _).toLoadRect.idx (ix2 a j)) = _
  unfold rowBack
  by_cases h : a.val + 6 < 8
  · rw [dif_pos h]
    refine (View.read_writes_cons_unit_of_not_mem p16.view _ _ _ _ _ rfl (0 : Fin 2) (Or.inl (by
      show 6 + 1 * a.val < 8; omega))).trans ?_
    refine (View.read_writes_cons_unit_of_mem p16.view _ _ _ _ _ (ix2 ⟨a.val + 6, h⟩ j) rfl (by
      intro x
      match x with
      | ⟨0, _⟩ => show 6 + 1 * a.val = 0 + (a.val + 6); omega
      | ⟨1, _⟩ => show 0 + 1 * j.val = 0 + j.val; omega)).trans ?_
    exact pay27_at _ _
  · rw [dif_neg h, dif_pos (show a.val + 6 - 8 < 1024 by omega)]
    refine (View.read_writes_cons_unit_of_mem p16.view _ _ _ _ _ (ix2 ⟨a.val + 6 - 8, by omega⟩ j) rfl (by
      intro x
      match x with
      | ⟨0, _⟩ => show 6 + 1 * a.val = 8 + (a.val + 6 - 8); omega
      | ⟨1, _⟩ => show 0 + 1 * j.val = 0 + j.val; omega)).trans ?_
    rw [pay29_at]
    exact c0_A c p1 q1 p2 q2 p3 q3 x0 x1 x2 _ _ _ _

theorem v168_A (a : Fin 1024) (j : Fin 512) : kernelRun0_A.sl.v168 (F := Ideal) c p1 q1 p2 q2 p3 q3 p16 x0 x1 x2 (ix2 a j)
    = rowBack (fun _ => 0) (fun a => cxT x0 x1 x2 a j) 7 a := by
  have ha := a.isLt
  unfold kernelRun0_A.sl.v168 kernelRun0_A.sl.HS0_2
  show p16.view.read (Elt Ideal) (p16.view.writes (Elt Ideal) p16.view.junk _) ((Rect.unit (s := S1032x512) ![7, 0] S1024x512.size _).toLoadRect.idx (ix2 a j)) = _
  unfold rowBack
  by_cases h : a.val + 7 < 8
  · rw [dif_pos h]
    refine (View.read_writes_cons_unit_of_not_mem p16.view _ _ _ _ _ rfl (0 : Fin 2) (Or.inl (by
      show 7 + 1 * a.val < 8; omega))).trans ?_
    refine (View.read_writes_cons_unit_of_mem p16.view _ _ _ _ _ (ix2 ⟨a.val + 7, h⟩ j) rfl (by
      intro x
      match x with
      | ⟨0, _⟩ => show 7 + 1 * a.val = 0 + (a.val + 7); omega
      | ⟨1, _⟩ => show 0 + 1 * j.val = 0 + j.val; omega)).trans ?_
    exact pay27_at _ _
  · rw [dif_neg h, dif_pos (show a.val + 7 - 8 < 1024 by omega)]
    refine (View.read_writes_cons_unit_of_mem p16.view _ _ _ _ _ (ix2 ⟨a.val + 7 - 8, by omega⟩ j) rfl (by
      intro x
      match x with
      | ⟨0, _⟩ => show 7 + 1 * a.val = 8 + (a.val + 7 - 8); omega
      | ⟨1, _⟩ => show 0 + 1 * j.val = 0 + j.val; omega)).trans ?_
    rw [pay29_at]
    exact c0_A c p1 q1 p2 q2 p3 q3 x0 x1 x2 _ _ _ _

theorem ob_A (a : Fin 1024) (j : Fin 512) : out0_A_14 (F := Ideal) c i p1 q1 p2 q2 p3 q3 p4 q4 p5 q5 p6 q6 p7 q7 p8 q8 p9 q9 p10 q10 p11 q11 p12 q12 p13 q13 p14 q14 p15 q15 p16 q16 hc0 x0 x1 x2 x3 x4 x5 (ix2 a j)
    = rowP x0 x1 x2 a ⟨1408 + j.val, by omega⟩ * taps (fun k => x5 (ix2 k j)) (rowBack (fun _ => 0) (fun a => cxT x0 x1 x2 a j) 6 a)
        (rowBack (fun _ => 0) (fun a => cxT x0 x1 x2 a j) 7 a) (cxT x0 x1 x2 a j) := by
  unfold out0_A_14 kernelRun0_A
  dsimp only
  refine (View.read_writes_cons_unit_of_mem VO0_14 _ _ _ _ _ (ix2 a j) rfl (at2 a j 0 0 (Nat.zero_add _).symm (Nat.zero_add _).symm)).trans ?_
  rw [pay2_at]
  unfold rowP prj taps
  refine congrArg₂ (· * ·) (Finset.sum_congr rfl fun k _ => congrArg₂ (· * ·) (h_A c p1 q1 p2 q2 x0 x1 a k) (load2 _ _ _ _ _ _ (Nat.zero_add _).symm rfl)) ?_
  unfold kernelRun0_A.sl.r_9
  rw [pay30_at]
  refine congrArg₂ (· + ·) (congrArg₂ (· + ·) (congrArg₂ (· * ·) (load2 _ _ _ _ _ _ rfl (Nat.zero_add _).symm) (v164_A c p1 q1 p2 q2 p3 q3 p16 x0 x1 x2 a j))
    (congrArg₂ (· * ·) (load2 _ _ _ _ _ _ rfl (Nat.zero_add _).symm) (v168_A c p1 q1 p2 q2 p3 q3 p16 x0 x1 x2 a j)))
    (congrArg₂ (· * ·) (load2 _ _ _ _ _ _ rfl (Nat.zero_add _).symm) (c0_A c p1 q1 p2 q2 p3 q3 x0 x1 x2 _ _ a j))

theorem carry_A (a : Fin 8) (j : Fin 512) : sout0_A_0 (F := Ideal) c i p1 q1 p2 q2 p3 q3 p4 q4 p5 q5 p6 q6 p7 q7 p8 q8 p9 q9 p10 q10 p11 q11 p12 q12 p13 q13 p14 q14 p15 q15 p16 q16 hc0 x0 x1 x2 x3 x4 x5 (ix2 ⟨a.val, by omega⟩ j)
    = cxT x0 x1 x2 ⟨1016 + a.val, by omega⟩ j := by
  unfold sout0_A_0 kernelRun0_A
  dsimp only
  refine (View.read_writes_cons_unit_of_mem VS0_0 _ _ _ _ _ (ix2 a j) rfl (by
    intro x
    match x with
    | ⟨0, _⟩ => show a.val = 0 + a.val; omega
    | ⟨1, _⟩ => show j.val = 0 + j.val; omega)).trans ?_
  unfold kernelRun0_A.sl.r_10
  rw [pay1_at, pay31_at]
  exact c0_A c p1 q1 p2 q2 p3 q3 x0 x1 x2 _ _ _ j

end CaseA

section CaseB

variable (c : Dev nD) (i : grid0.Coords)
  (p1 : Memref sig .tc .vmem S1024x1024 .f32) (q1 : p1.IsWhole)
  (p2 : Memref sig .tc .vmem S1x1024 .f32) (q2 : p2.IsWhole)
  (p3 : Memref sig .tc .vmem S1024x2944 .bf16) (q3 : p3.IsWhole)
  (p4 : Memref sig .tc .vmem S1024x128 .f32) (q4 : p4.IsWhole)
  (p5 : Memref sig .tc .vmem S1024x128 .f32) (q5 : p5.IsWhole)
  (p6 : Memref sig .tc .vmem S3x512 .f32) (q6 : p6.IsWhole)
  (p7 : Memref sig .tc .vmem S1024x512 .bf16) (q7 : p7.IsWhole)
  (p8 : Memref sig .tc .vmem S1024x128 .bf16) (q8 : p8.IsWhole)
  (p9 : Memref sig .tc .vmem S1024x128 .bf16) (q9 : p9.IsWhole)
  (p10 : Memref sig .tc .vmem S1024x128 .bf16) (q10 : p10.IsWhole)
  (p11 : Memref sig .tc .vmem S1024x128 .bf16) (q11 : p11.IsWhole)
  (p12 : Memref sig .tc .vmem S1x4x128x256 .bf16) (q12 : p12.IsWhole)
  (p13 : Memref sig .tc .vmem S1x4x128x256 .bf16) (q13 : p13.IsWhole)
  (p14 : Memref sig .tc .vmem S1024x128 .f32) (q14 : p14.IsWhole)
  (p15 : Memref sig .tc .vmem S1024x512 .bf16) (q15 : p15.IsWhole)
  (p16 : Memref sig .tc .vmem S1032x512 .f32) (q16 : p16.IsWhole)
  (x0 : Vec Ideal S1024x1024 .f32) (x1 : Vec Ideal S1x1024 .f32) (x2 : Vec Ideal S1024x2944 .bf16) (x3 x4 : Vec Ideal S1024x128 .f32)
  (x5 : Vec Ideal S3x512 .f32)
  (hc0 : ¬ cond0_0 i) (xs0 : Vec Ideal S1032x512 .f32)

theorem h_B (a k : Fin 1024) : kernelRun0_B.sl.r (F := Ideal) c p1 q1 p2 q2 x0 x1 (ix2 a k) = nrm (fun k => x0 (ix2 a k)) (fun k => x1 (ix2 0 k)) k := by
  unfold kernelRun0_B.sl.r
  rw [pay3_at]
  exact congrArg₂ (fun x g => nrm x g k) (funext fun k => load2 _ _ _ _ _ _ (Nat.zero_add _).symm (Nat.zero_add _).symm) (funext fun k => load2 _ _ _ _ _ _ (Nat.zero_add _).symm (Nat.zero_add _).symm)

/-- The product the convolution takes. -/
theorem c0_B (inb1 inb2) (a : Fin 1024) (j : Fin 512) :
    k0_pay28 (F := Ideal) (kernelRun0_B.sl.r c p1 q1 p2 q2 x0 x1)
      (View.readAt (Elt Ideal) p3.view (Rect.unit (s := S1024x2944) ![0, 1920] S1024x512.size inb1).toLoadRect (q3.unread x2))
      (View.readAt (Elt Ideal) p3.view (Rect.unit (s := S1024x2944) ![0, 2432] S1024x512.size inb2).toLoadRect (q3.unread x2)) (ix2 a j)
      = cxT x0 x1 x2 a j := by
  rw [pay28_at]
  unfold cxT rowP prj
  refine congrArg₂ (· * ·) (Finset.sum_congr rfl fun k _ => congrArg₂ (· * ·) (h_B c p1 q1 p2 q2 x0 x1 a k) (load2 _ _ _ _ _ _ (Nat.zero_add _).symm rfl))
    (Finset.sum_congr rfl fun k _ => congrArg₂ (· * ·) (h_B c p1 q1 p2 q2 x0 x1 a k) (load2 _ _ _ _ _ _ (Nat.zero_add _).symm rfl))

theorem v164_B (inb) (a : Fin 1024) (j : Fin 512) : View.readAt (Elt Ideal) p16.view (Rect.unit (s := S1032x512) ![6, 0] S1024x512.size inb).toLoadRect (p16.view.writes (Elt Ideal) (q16.unread xs0) (kernelRun0_B.sl.HS0_1 c p1 q1 p2 q2 p3 q3 x0 x1 x2)) (ix2 a j)
    = rowBack (fun r => xs0 (ix2 ⟨r.val, by omega⟩ j)) (fun a => cxT x0 x1 x2 a j) 6 a := by
  have ha := a.isLt
  unfold kernelRun0_B.sl.HS0_1
  show p16.view.read (Elt Ideal) (p16.view.writes (Elt Ideal) (q16.unread xs0) _) ((Rect.unit (s := S1032x512) ![6, 0] S1024x512.size inb).toLoadRect.idx (ix2 a j)) = _
  unfold rowBack
  by_cases h : a.val + 6 < 8
  · rw [dif_pos h]
    refine (View.read_writes_cons_unit_of_not_mem p16.view _ _ _ _ _ rfl (0 : Fin 2) (Or.inl (by
      show 6 + 1 * a.val < 8; omega))).trans ?_
    refine (congrFun (q16.read_unread xs0) _).trans (congrArg xs0 ?_)
    funext x
    apply Fin.ext
    match x with
    | ⟨0, _⟩ => show 6 + 1 * a.val = a.val + 6; omega
    | ⟨1, _⟩ => show 0 + 1 * j.val = j.val; omega
  · rw [dif_neg h, dif_pos (show a.val + 6 - 8 < 1024 by omega)]
    refine (View.read_writes_cons_unit_of_mem p16.view _ _ _ _ _ (ix2 ⟨a.val + 6 - 8, by omega⟩ j) rfl (by
      intro x
      match x with
      | ⟨0, _⟩ => show 6 + 1 * a.val = 8 + (a.val + 6 - 8); omega
      | ⟨1, _⟩ => show 0 + 1 * j.val = 0 + j.val; omega)).trans ?_
    rw [pay29_at]
    exact c0_B c p1 q1 p2 q2 p3 q3 x0 x1 x2 _ _ _ _

theorem v168_B (inb) (a : Fin 1024) (j : Fin 512) : View.readAt (Elt Ideal) p16.view (Rect.unit (s := S1032x512) ![7, 0] S1024x512.size inb).toLoadRect (p16.view.writes (Elt Ideal) (q16.unread xs0) (kernelRun0_B.sl.HS0_1 c p1 q1 p2 q2 p3 q3 x0 x1 x2)) (ix2 a j)
    = rowBack (fun r => xs0 (ix2 ⟨r.val, by omega⟩ j)) (fun a => cxT x0 x1 x2 a j) 7 a := by
  have ha := a.isLt
  unfold kernelRun0_B.sl.HS0_1
  show p16.view.read (Elt Ideal) (p16.view.writes (Elt Ideal) (q16.unread xs0) _) ((Rect.unit (s := S1032x512) ![7, 0] S1024x512.size inb).toLoadRect.idx (ix2 a j)) = _
  unfold rowBack
  by_cases h : a.val + 7 < 8
  · rw [dif_pos h]
    refine (View.read_writes_cons_unit_of_not_mem p16.view _ _ _ _ _ rfl (0 : Fin 2) (Or.inl (by
      show 7 + 1 * a.val < 8; omega))).trans ?_
    refine (congrFun (q16.read_unread xs0) _).trans (congrArg xs0 ?_)
    funext x
    apply Fin.ext
    match x with
    | ⟨0, _⟩ => show 7 + 1 * a.val = a.val + 7; omega
    | ⟨1, _⟩ => show 0 + 1 * j.val = j.val; omega
  · rw [dif_neg h, dif_pos (show a.val + 7 - 8 < 1024 by omega)]
    refine (View.read_writes_cons_unit_of_mem p16.view _ _ _ _ _ (ix2 ⟨a.val + 7 - 8, by omega⟩ j) rfl (by
      intro x
      match x with
      | ⟨0, _⟩ => show 7 + 1 * a.val = 8 + (a.val + 7 - 8); omega
      | ⟨1, _⟩ => show 0 + 1 * j.val = 0 + j.val; omega)).trans ?_
    rw [pay29_at]
    exact c0_B c p1 q1 p2 q2 p3 q3 x0 x1 x2 _ _ _ _

theorem ob_B (a : Fin 1024) (j : Fin 512) : out0_B_14 (F := Ideal) c i p1 q1 p2 q2 p3 q3 p4 q4 p5 q5 p6 q6 p7 q7 p8 q8 p9 q9 p10 q10 p11 q11 p12 q12 p13 q13 p14 q14 p15 q15 p16 q16 hc0 x0 x1 x2 x3 x4 x5 xs0 (ix2 a j)
    = rowP x0 x1 x2 a ⟨1408 + j.val, by omega⟩ * taps (fun k => x5 (ix2 k j)) (rowBack (fun r => xs0 (ix2 ⟨r.val, by omega⟩ j)) (fun a => cxT x0 x1 x2 a j) 6 a)
        (rowBack (fun r => xs0 (ix2 ⟨r.val, by omega⟩ j)) (fun a => cxT x0 x1 x2 a j) 7 a) (cxT x0 x1 x2 a j) := by
  unfold out0_B_14 kernelRun0_B
  dsimp only
  refine (View.read_writes_cons_unit_of_mem VO0_14 _ _ _ _ _ (ix2 a j) rfl (at2 a j 0 0 (Nat.zero_add _).symm (Nat.zero_add _).symm)).trans ?_
  rw [pay2_at]
  unfold rowP prj taps
  refine congrArg₂ (· * ·) (Finset.sum_congr rfl fun k _ => congrArg₂ (· * ·) (h_B c p1 q1 p2 q2 x0 x1 a k) (load2 _ _ _ _ _ _ (Nat.zero_add _).symm rfl)) ?_
  unfold kernelRun0_B.sl.r_9
  rw [pay30_at]
  refine congrArg₂ (· + ·) (congrArg₂ (· + ·) (congrArg₂ (· * ·) (load2 _ _ _ _ _ _ rfl (Nat.zero_add _).symm) (v164_B c p1 q1 p2 q2 p3 q3 p16 q16 x0 x1 x2 xs0 _ a j))
    (congrArg₂ (· * ·) (load2 _ _ _ _ _ _ rfl (Nat.zero_add _).symm) (v168_B c p1 q1 p2 q2 p3 q3 p16 q16 x0 x1 x2 xs0 _ a j)))
    (congrArg₂ (· * ·) (load2 _ _ _ _ _ _ rfl (Nat.zero_add _).symm) (c0_B c p1 q1 p2 q2 p3 q3 x0 x1 x2 _ _ a j))

theorem carry_B (a : Fin 8) (j : Fin 512) : sout0_B_0 (F := Ideal) c i p1 q1 p2 q2 p3 q3 p4 q4 p5 q5 p6 q6 p7 q7 p8 q8 p9 q9 p10 q10 p11 q11 p12 q12 p13 q13 p14 q14 p15 q15 p16 q16 hc0 x0 x1 x2 x3 x4 x5 xs0 (ix2 ⟨a.val, by omega⟩ j)
    = cxT x0 x1 x2 ⟨1016 + a.val, by omega⟩ j := by
  unfold sout0_B_0 kernelRun0_B
  dsimp only
  refine (View.read_writes_cons_unit_of_mem VS0_0 _ _ _ _ _ (ix2 a j) rfl (by
    intro x
    match x with
    | ⟨0, _⟩ => show a.val = 0 + a.val; omega
    | ⟨1, _⟩ => show j.val = 0 + j.val; omega)).trans ?_
  unfold kernelRun0_B.sl.r_10
  rw [pay1_at, pay31_at]
  exact c0_B c p1 q1 p2 q2 p3 q3 x0 x1 x2 _ _ _ j

theorem co_B (a : Fin 1024) (l : Fin 128) : kernelRun0_B.sl.r_1 (F := Ideal) c p4 q4 x3 (ix2 a l) = x3 (ix2 a l) := by
  unfold kernelRun0_B.sl.r_1
  rw [pay4_at]
  exact load2 _ _ _ _ _ _ (Nat.zero_add _).symm (Nat.zero_add _).symm

theorem si_B (a : Fin 1024) (l : Fin 128) : kernelRun0_B.sl.r_2 (F := Ideal) c p5 q5 x4 (ix2 a l) = x4 (ix2 a l) := by
  unfold kernelRun0_B.sl.r_2
  rw [pay5_at]
  exact load2 _ _ _ _ _ _ (Nat.zero_add _).symm (Nat.zero_add _).symm

theorem q_B (inb0 inb1 inb2) (a : Fin 1024) (j : Fin 512) :
    k0_pay6 (F := Ideal) (View.readAt (Elt Ideal) p1.view (Rect.unit (s := S1024x1024) ![0, 0] S1024x1024.size inb0).toLoadRect (q1.unread x0))
      (View.readAt (Elt Ideal) p2.view (Rect.unit (s := S1x1024) ![0, 0] S1x1024.size inb1).toLoadRect (q2.unread x1))
      (View.readAt (Elt Ideal) p3.view (Rect.unit (s := S1024x2944) ![0, 0] S1024x512.size inb2).toLoadRect (q3.unread x2)) (ix2 a j)
    = rowP x0 x1 x2 a ⟨j.val, by omega⟩ := by
  rw [pay6_at]
  unfold rowP prj
  exact Finset.sum_congr rfl fun k _ => congrArg₂ (· * ·) (congrArg₂ (fun x g => nrm x g k) (funext fun k => load2 _ _ _ _ _ _ (Nat.zero_add _).symm (Nat.zero_add _).symm) (funext fun k => load2 _ _ _ _ _ _ (Nat.zero_add _).symm (Nat.zero_add _).symm))
    (load2 _ _ _ _ _ _ (Nat.zero_add _).symm (Nat.zero_add _).symm)

theorem k_B (inb) (a : Fin 1024) (j : Fin 512) :
    k0_pay11 (F := Ideal) (kernelRun0_B.sl.r c p1 q1 p2 q2 x0 x1)
      (View.readAt (Elt Ideal) p3.view (Rect.unit (s := S1024x2944) ![0, 512] S1024x512.size inb).toLoadRect (q3.unread x2)) (ix2 a j)
    = rowP x0 x1 x2 a ⟨512 + j.val, by omega⟩ := by
  rw [pay11_at]
  unfold rowP prj
  exact Finset.sum_congr rfl fun k _ => congrArg₂ (· * ·) (h_B c p1 q1 p2 q2 x0 x1 a k) (load2 _ _ _ _ _ _ (Nat.zero_add _).symm rfl)

theorem v_B (inb) (a : Fin 1024) (j : Fin 384) :
    k0_pay16 (F := Ideal) (kernelRun0_B.sl.r c p1 q1 p2 q2 x0 x1)
      (View.readAt (Elt Ideal) p3.view (Rect.unit (s := S1024x2944) ![0, 1024] S1024x384.size inb).toLoadRect (q3.unread x2)) (ix2 a j)
    = rowP x0 x1 x2 a ⟨1024 + j.val, by omega⟩ := by
  rw [pay16_at]
  unfold rowP prj
  exact Finset.sum_congr rfl fun k _ => congrArg₂ (· * ·) (h_B c p1 q1 p2 q2 x0 x1 a k) (load2 _ _ _ _ _ _ (Nat.zero_add _).symm rfl)

/-- One lane turned. -/
abbrev turn (x0 : Vec Ideal S1024x1024 .f32) (x1 : Vec Ideal S1x1024 .f32) (x2 : Vec Ideal S1024x2944 .bf16) (x3 x4 : Vec Ideal S1024x128 .f32) (o : ℕ) (ho : o + 128 ≤ 2944)
    (a : Fin 1024) (l : Fin 128) : EReal :=
  rowP x0 x1 x2 a ⟨o + l.val, by omega⟩ * x3 (ix2 a l) + rowP x0 x1 x2 a ⟨o + (other l).val, by omega⟩ * x4 (ix2 a l)

theorem out6_B (a : Fin 1024) (g : Fin 4) (l : Fin 128) : out0_B_6 (F := Ideal) c i p1 q1 p2 q2 p3 q3 p4 q4 p5 q5 p6 q6 p7 q7 p8 q8 p9 q9 p10 q10 p11 q11 p12 q12 p13 q13 p14 q14 p15 q15 p16 q16 hc0 x0 x1 x2 x3 x4 x5 xs0 (ix2 a ⟨g.val * 128 + l.val, by omega⟩)
    = turn x0 x1 x2 x3 x4 (g.val * 128) (by omega) a l := by
  have hl := l.isLt
  unfold out0_B_6 kernelRun0_B turn
  dsimp only
  match g with
  | ⟨3, _⟩ =>
    refine (View.read_writes_cons_unit_of_mem VO0_6 _ _ _ _ _ (ix2 a l) rfl (at2 a _ 0 384 (Nat.zero_add _).symm rfl)).trans ?_
    rw [pay10_at, co_B, si_B]
    unfold kernelRun0_B.sl.r_3
    rw [q_B, q_B]
    rfl
  | ⟨2, _⟩ =>
    refine (View.read_writes_cons_unit_of_not_mem VO0_6 _ _ _ _ _ rfl (1 : Fin 2) (Or.inl (show 2 * 128 + l.val < 384 by omega))).trans ?_
    refine (View.read_writes_cons_unit_of_mem VO0_6 _ _ _ _ _ (ix2 a l) rfl (at2 a _ 0 256 (Nat.zero_add _).symm rfl)).trans ?_
    rw [pay9_at, co_B, si_B]
    unfold kernelRun0_B.sl.r_3
    rw [q_B, q_B]
    rfl
  | ⟨1, _⟩ =>
    refine (View.read_writes_cons_unit_of_not_mem VO0_6 _ _ _ _ _ rfl (1 : Fin 2) (Or.inl (show 1 * 128 + l.val < 384 by omega))).trans ?_
    refine (View.read_writes_cons_unit_of_not_mem VO0_6 _ _ _ _ _ rfl (1 : Fin 2) (Or.inl (show 1 * 128 + l.val < 256 by omega))).trans ?_
    refine (View.read_writes_cons_unit_of_mem VO0_6 _ _ _ _ _ (ix2 a l) rfl (at2 a _ 0 128 (Nat.zero_add _).symm rfl)).trans ?_
    unfold kernelRun0_B.sl.r_4
    rw [pay8_at, q_B, q_B]
    exact congrArg₂ (· + ·) (congrArg₂ (· * ·) rfl (load2 _ _ _ _ _ _ (Nat.zero_add _).symm (Nat.zero_add _).symm)) (congrArg₂ (· * ·) rfl (load2 _ _ _ _ _ _ (Nat.zero_add _).symm (Nat.zero_add _).symm))
  | ⟨0, _⟩ =>
    refine (View.read_writes_cons_unit_of_not_mem VO0_6 _ _ _ _ _ rfl (1 : Fin 2) (Or.inl (show 0 * 128 + l.val < 384 by omega))).trans ?_
    refine (View.read_writes_cons_unit_of_not_mem VO0_6 _ _ _ _ _ rfl (1 : Fin 2) (Or.inl (show 0 * 128 + l.val < 256 by omega))).trans ?_
    refine (View.read_writes_cons_unit_of_not_mem VO0_6 _ _ _ _ _ rfl (1 : Fin 2) (Or.inl (show 0 * 128 + l.val < 128 by omega))).trans ?_
    refine (View.read_writes_cons_unit_of_mem VO0_6 _ _ _ _ _ (ix2 a l) rfl (at2 a _ 0 0 (Nat.zero_add _).symm (show 0 * 128 + l.val = 0 + l.val by omega))).trans ?_
    rw [pay7_at, q_B, q_B]
    exact congrArg₂ (· + ·) (congrArg₂ (· * ·) (congrArg (rowP x0 x1 x2 a) (Fin.ext (show 0 + l.val = 0 * 128 + l.val by omega))) (load2 _ _ _ _ _ _ (Nat.zero_add _).symm (Nat.zero_add _).symm)) (congrArg₂ (· * ·) (congrArg (rowP x0 x1 x2 a) (Fin.ext (show 0 + (other l).val = 0 * 128 + (other l).val by omega))) (load2 _ _ _ _ _ _ (Nat.zero_add _).symm (Nat.zero_add _).symm))

theorem out7_B (a : Fin 1024) (l : Fin 128) : out0_B_7 (F := Ideal) c i p1 q1 p2 q2 p3 q3 p4 q4 p5 q5 p6 q6 p7 q7 p8 q8 p9 q9 p10 q10 p11 q11 p12 q12 p13 q13 p14 q14 p15 q15 p16 q16 hc0 x0 x1 x2 x3 x4 x5 xs0 (ix2 a l) = turn x0 x1 x2 x3 x4 512 (by omega) a l := by
  unfold out0_B_7 kernelRun0_B turn
  dsimp only
  refine (View.read_writes_cons_unit_of_mem VO0_7 _ _ _ _ _ (ix2 a l) rfl (at2 a l 0 0 (Nat.zero_add _).symm (Nat.zero_add _).symm)).trans ?_
  rw [pay12_at, co_B, si_B, k_B, k_B]
  exact congrArg₂ (· + ·) (congrArg₂ (· * ·) (congrArg (rowP x0 x1 x2 a) (Fin.ext (by dsimp only; omega))) rfl) (congrArg₂ (· * ·) (congrArg (rowP x0 x1 x2 a) (Fin.ext (by dsimp only; omega))) rfl)

theorem out8_B (a : Fin 1024) (l : Fin 128) : out0_B_8 (F := Ideal) c i p1 q1 p2 q2 p3 q3 p4 q4 p5 q5 p6 q6 p7 q7 p8 q8 p9 q9 p10 q10 p11 q11 p12 q12 p13 q13 p14 q14 p15 q15 p16 q16 hc0 x0 x1 x2 x3 x4 x5 xs0 (ix2 a l) = turn x0 x1 x2 x3 x4 640 (by omega) a l := by
  unfold out0_B_8 kernelRun0_B turn
  dsimp only
  refine (View.read_writes_cons_unit_of_mem VO0_8 _ _ _ _ _ (ix2 a l) rfl (at2 a l 0 0 (Nat.zero_add _).symm (Nat.zero_add _).symm)).trans ?_
  rw [pay13_at, co_B, si_B, k_B, k_B]
  exact congrArg₂ (· + ·) (congrArg₂ (· * ·) (congrArg (rowP x0 x1 x2 a) (Fin.ext (by dsimp only; omega))) rfl) (congrArg₂ (· * ·) (congrArg (rowP x0 x1 x2 a) (Fin.ext (by dsimp only; omega))) rfl)

theorem out9_B (a : Fin 1024) (l : Fin 128) : out0_B_9 (F := Ideal) c i p1 q1 p2 q2 p3 q3 p4 q4 p5 q5 p6 q6 p7 q7 p8 q8 p9 q9 p10 q10 p11 q11 p12 q12 p13 q13 p14 q14 p15 q15 p16 q16 hc0 x0 x1 x2 x3 x4 x5 xs0 (ix2 a l) = turn x0 x1 x2 x3 x4 768 (by omega) a l := by
  unfold out0_B_9 kernelRun0_B turn
  dsimp only
  refine (View.read_writes_cons_unit_of_mem VO0_9 _ _ _ _ _ (ix2 a l) rfl (at2 a l 0 0 (Nat.zero_add _).symm (Nat.zero_add _).symm)).trans ?_
  unfold kernelRun0_B.sl.r_6
  rw [pay14_at, co_B, si_B, k_B, k_B]
  exact congrArg₂ (· + ·) (congrArg₂ (· * ·) (congrArg (rowP x0 x1 x2 a) (Fin.ext (by dsimp only; omega))) rfl) (congrArg₂ (· * ·) (congrArg (rowP x0 x1 x2 a) (Fin.ext (by dsimp only; omega))) rfl)

theorem out10_B (a : Fin 1024) (l : Fin 128) : out0_B_10 (F := Ideal) c i p1 q1 p2 q2 p3 q3 p4 q4 p5 q5 p6 q6 p7 q7 p8 q8 p9 q9 p10 q10 p11 q11 p12 q12 p13 q13 p14 q14 p15 q15 p16 q16 hc0 x0 x1 x2 x3 x4 x5 xs0 (ix2 a l) = rowP x0 x1 x2 a ⟨896 + l.val, by omega⟩ := by
  unfold out0_B_10 kernelRun0_B
  dsimp only
  refine (View.read_writes_cons_unit_of_mem VO0_10 _ _ _ _ _ (ix2 a l) rfl (at2 a l 0 0 (Nat.zero_add _).symm (Nat.zero_add _).symm)).trans ?_
  unfold kernelRun0_B.sl.r_5
  rw [pay15_at, k_B]
  exact congrArg (rowP x0 x1 x2 a) (Fin.ext (by dsimp only; omega))

theorem out13_B (a : Fin 1024) (l : Fin 128) : out0_B_13 (F := Ideal) c i p1 q1 p2 q2 p3 q3 p4 q4 p5 q5 p6 q6 p7 q7 p8 q8 p9 q9 p10 q10 p11 q11 p12 q12 p13 q13 p14 q14 p15 q15 p16 q16 hc0 x0 x1 x2 x3 x4 x5 xs0 (ix2 a l) = Ideal.logistic (rowP x0 x1 x2 a ⟨1280 + l.val, by omega⟩) := by
  unfold out0_B_13 kernelRun0_B
  dsimp only
  refine (View.read_writes_cons_unit_of_mem VO0_13 _ _ _ _ _ (ix2 a l) rfl (at2 a l 0 0 (Nat.zero_add _).symm (Nat.zero_add _).symm)).trans ?_
  unfold kernelRun0_B.sl.r_7
  rw [pay26_at, v_B]
  exact congrArg (fun j => Ideal.logistic (rowP x0 x1 x2 a j)) (Fin.ext (by dsimp only; omega))

theorem at4 (g : Fin 4) (l : Fin 128) (r : Fin 256) (o : ℕ) (h : g.val = o) :
    ∀ x, ((ix4 0 g l r : S1x4x128x256.Idx) x).val = (![0, o, 0, 0] : Fin 4 → ℕ) x + ((ix4 0 0 l r : S1x1x128x256.Idx) x).val := fun x => match x with
  | ⟨0, _⟩ => rfl
  | ⟨1, _⟩ => h
  | ⟨2, _⟩ => (Nat.zero_add _).symm
  | ⟨3, _⟩ => (Nat.zero_add _).symm

theorem out11_B (g : Fin 4) (l : Fin 128) (r : Fin 256) : out0_B_11 (F := Ideal) c i p1 q1 p2 q2 p3 q3 p4 q4 p5 q5 p6 q6 p7 q7 p8 q8 p9 q9 p10 q10 p11 q11 p12 q12 p13 q13 p14 q14 p15 q15 p16 q16 hc0 x0 x1 x2 x3 x4 x5 xs0 (ix4 0 g l r)
    = rowP x0 x1 x2 ⟨g.val * 256 + r.val, by omega⟩ ⟨1024 + l.val, by omega⟩ := by
  have e (t : ℕ) (ht : t = g.val) (hr : t * 256 + r.val < 1024) (hl : 1024 + (0 + l.val) < 2944) : rowP x0 x1 x2 ⟨t * 256 + r.val, hr⟩ ⟨1024 + (0 + l.val), hl⟩
      = rowP x0 x1 x2 ⟨g.val * 256 + r.val, by omega⟩ ⟨1024 + l.val, by omega⟩ := by
    subst ht
    exact congrArg (rowP x0 x1 x2 _) (Fin.ext (by dsimp only; omega))
  unfold out0_B_11 kernelRun0_B
  dsimp only
  match g, e with
  | ⟨3, _⟩, e =>
    refine (View.read_writes_cons_unit_of_mem VO0_11 _ _ _ _ _ (ix4 0 0 l r) rfl (at4 _ l r 3 rfl)).trans ?_
    rw [pay24_at]
    unfold kernelRun0_B.sl.r_7
    rw [v_B]
    exact e 3 rfl (by omega) _
  | ⟨2, _⟩, e =>
    refine (View.read_writes_cons_unit_of_not_mem VO0_11 _ _ _ _ _ rfl (1 : Fin 4) (Or.inl (show 2 < 3 by omega))).trans ?_
    refine (View.read_writes_cons_unit_of_mem VO0_11 _ _ _ _ _ (ix4 0 0 l r) rfl (at4 _ l r 2 rfl)).trans ?_
    unfold kernelRun0_B.sl.r_8
    rw [pay22_at, v_B]
    exact e 2 rfl (by omega) _
  | ⟨1, _⟩, e =>
    refine (View.read_writes_cons_unit_of_not_mem VO0_11 _ _ _ _ _ rfl (1 : Fin 4) (Or.inl (show 1 < 3 by omega))).trans ?_
    refine (View.read_writes_cons_unit_of_not_mem VO0_11 _ _ _ _ _ rfl (1 : Fin 4) (Or.inl (show 1 < 2 by omega))).trans ?_
    refine (View.read_writes_cons_unit_of_mem VO0_11 _ _ _ _ _ (ix4 0 0 l r) rfl (at4 _ l r 1 rfl)).trans ?_
    rw [pay19_at, v_B]
    exact e 1 rfl (by omega) _
  | ⟨0, _⟩, e =>
    refine (View.read_writes_cons_unit_of_not_mem VO0_11 _ _ _ _ _ rfl (1 : Fin 4) (Or.inl (show 0 < 3 by omega))).trans ?_
    refine (View.read_writes_cons_unit_of_not_mem VO0_11 _ _ _ _ _ rfl (1 : Fin 4) (Or.inl (show 0 < 2 by omega))).trans ?_
    refine (View.read_writes_cons_unit_of_not_mem VO0_11 _ _ _ _ _ rfl (1 : Fin 4) (Or.inl (show 0 < 1 by omega))).trans ?_
    refine (View.read_writes_cons_unit_of_mem VO0_11 _ _ _ _ _ (ix4 0 0 l r) rfl (at4 _ l r 0 rfl)).trans ?_
    rw [pay17_at, v_B]
    exact e 0 rfl (by omega) _

theorem out12_B (g : Fin 4) (l : Fin 128) (r : Fin 256) : out0_B_12 (F := Ideal) c i p1 q1 p2 q2 p3 q3 p4 q4 p5 q5 p6 q6 p7 q7 p8 q8 p9 q9 p10 q10 p11 q11 p12 q12 p13 q13 p14 q14 p15 q15 p16 q16 hc0 x0 x1 x2 x3 x4 x5 xs0 (ix4 0 g l r)
    = rowP x0 x1 x2 ⟨g.val * 256 + r.val, by omega⟩ ⟨1152 + l.val, by omega⟩ := by
  have e (t : ℕ) (ht : t = g.val) (hr : t * 256 + r.val < 1024) (hl : 1024 + (128 + l.val) < 2944) : rowP x0 x1 x2 ⟨t * 256 + r.val, hr⟩ ⟨1024 + (128 + l.val), hl⟩
      = rowP x0 x1 x2 ⟨g.val * 256 + r.val, by omega⟩ ⟨1152 + l.val, by omega⟩ := by
    subst ht
    exact congrArg (rowP x0 x1 x2 _) (Fin.ext (by dsimp only; omega))
  unfold out0_B_12 kernelRun0_B
  dsimp only
  match g, e with
  | ⟨3, _⟩, e =>
    refine (View.read_writes_cons_unit_of_mem VO0_12 _ _ _ _ _ (ix4 0 0 l r) rfl (at4 _ l r 3 rfl)).trans ?_
    rw [pay25_at]
    unfold kernelRun0_B.sl.r_7
    rw [v_B]
    exact e 3 rfl (by omega) _
  | ⟨2, _⟩, e =>
    refine (View.read_writes_cons_unit_of_not_mem VO0_12 _ _ _ _ _ rfl (1 : Fin 4) (Or.inl (show 2 < 3 by omega))).trans ?_
    refine (View.read_writes_cons_unit_of_mem VO0_12 _ _ _ _ _ (ix4 0 0 l r) rfl (at4 _ l r 2 rfl)).trans ?_
    rw [pay23_at]
    unfold kernelRun0_B.sl.r_7
    rw [v_B]
    exact e 2 rfl (by omega) _
  | ⟨1, _⟩, e =>
    refine (View.read_writes_cons_unit_of_not_mem VO0_12 _ _ _ _ _ rfl (1 : Fin 4) (Or.inl (show 1 < 3 by omega))).trans ?_
    refine (View.read_writes_cons_unit_of_not_mem VO0_12 _ _ _ _ _ rfl (1 : Fin 4) (Or.inl (show 1 < 2 by omega))).trans ?_
    refine (View.read_writes_cons_unit_of_mem VO0_12 _ _ _ _ _ (ix4 0 0 l r) rfl (at4 _ l r 1 rfl)).trans ?_
    rw [pay20_at, v_B]
    exact e 1 rfl (by omega) _
  | ⟨0, _⟩, e =>
    refine (View.read_writes_cons_unit_of_not_mem VO0_12 _ _ _ _ _ rfl (1 : Fin 4) (Or.inl (show 0 < 3 by omega))).trans ?_
    refine (View.read_writes_cons_unit_of_not_mem VO0_12 _ _ _ _ _ rfl (1 : Fin 4) (Or.inl (show 0 < 2 by omega))).trans ?_
    refine (View.read_writes_cons_unit_of_not_mem VO0_12 _ _ _ _ _ rfl (1 : Fin 4) (Or.inl (show 0 < 1 by omega))).trans ?_
    refine (View.read_writes_cons_unit_of_mem VO0_12 _ _ _ _ _ (ix4 0 0 l r) rfl (at4 _ l r 0 rfl)).trans ?_
    rw [pay18_at, v_B]
    exact e 0 rfl (by omega) _

/-! A point that starts a batch leaves the same blocks, but for the convolution's. -/

theorem same6 (i' : grid0.Coords) (hc' : cond0_0 i') : out0_A_6 (F := Ideal) c i' p1 q1 p2 q2 p3 q3 p4 q4 p5 q5 p6 q6 p7 q7 p8 q8 p9 q9 p10 q10 p11 q11 p12 q12 p13 q13 p14 q14 p15 q15 p16 q16 hc' x0 x1 x2 x3 x4 x5
    = out0_B_6 c i p1 q1 p2 q2 p3 q3 p4 q4 p5 q5 p6 q6 p7 q7 p8 q8 p9 q9 p10 q10 p11 q11 p12 q12 p13 q13 p14 q14 p15 q15 p16 q16 hc0 x0 x1 x2 x3 x4 x5 xs0 := by
  unfold out0_A_6 out0_B_6 kernelRun0_A kernelRun0_B
  dsimp only
  rfl

theorem same7 (i' : grid0.Coords) (hc' : cond0_0 i') : out0_A_7 (F := Ideal) c i' p1 q1 p2 q2 p3 q3 p4 q4 p5 q5 p6 q6 p7 q7 p8 q8 p9 q9 p10 q10 p11 q11 p12 q12 p13 q13 p14 q14 p15 q15 p16 q16 hc' x0 x1 x2 x3 x4 x5
    = out0_B_7 c i p1 q1 p2 q2 p3 q3 p4 q4 p5 q5 p6 q6 p7 q7 p8 q8 p9 q9 p10 q10 p11 q11 p12 q12 p13 q13 p14 q14 p15 q15 p16 q16 hc0 x0 x1 x2 x3 x4 x5 xs0 := by
  unfold out0_A_7 out0_B_7 kernelRun0_A kernelRun0_B
  dsimp only
  rfl

theorem same8 (i' : grid0.Coords) (hc' : cond0_0 i') : out0_A_8 (F := Ideal) c i' p1 q1 p2 q2 p3 q3 p4 q4 p5 q5 p6 q6 p7 q7 p8 q8 p9 q9 p10 q10 p11 q11 p12 q12 p13 q13 p14 q14 p15 q15 p16 q16 hc' x0 x1 x2 x3 x4 x5
    = out0_B_8 c i p1 q1 p2 q2 p3 q3 p4 q4 p5 q5 p6 q6 p7 q7 p8 q8 p9 q9 p10 q10 p11 q11 p12 q12 p13 q13 p14 q14 p15 q15 p16 q16 hc0 x0 x1 x2 x3 x4 x5 xs0 := by
  unfold out0_A_8 out0_B_8 kernelRun0_A kernelRun0_B
  dsimp only
  rfl

theorem same9 (i' : grid0.Coords) (hc' : cond0_0 i') : out0_A_9 (F := Ideal) c i' p1 q1 p2 q2 p3 q3 p4 q4 p5 q5 p6 q6 p7 q7 p8 q8 p9 q9 p10 q10 p11 q11 p12 q12 p13 q13 p14 q14 p15 q15 p16 q16 hc' x0 x1 x2 x3 x4 x5
    = out0_B_9 c i p1 q1 p2 q2 p3 q3 p4 q4 p5 q5 p6 q6 p7 q7 p8 q8 p9 q9 p10 q10 p11 q11 p12 q12 p13 q13 p14 q14 p15 q15 p16 q16 hc0 x0 x1 x2 x3 x4 x5 xs0 := by
  unfold out0_A_9 out0_B_9 kernelRun0_A kernelRun0_B
  dsimp only
  rfl

theorem same10 (i' : grid0.Coords) (hc' : cond0_0 i') : out0_A_10 (F := Ideal) c i' p1 q1 p2 q2 p3 q3 p4 q4 p5 q5 p6 q6 p7 q7 p8 q8 p9 q9 p10 q10 p11 q11 p12 q12 p13 q13 p14 q14 p15 q15 p16 q16 hc' x0 x1 x2 x3 x4 x5
    = out0_B_10 c i p1 q1 p2 q2 p3 q3 p4 q4 p5 q5 p6 q6 p7 q7 p8 q8 p9 q9 p10 q10 p11 q11 p12 q12 p13 q13 p14 q14 p15 q15 p16 q16 hc0 x0 x1 x2 x3 x4 x5 xs0 := by
  unfold out0_A_10 out0_B_10 kernelRun0_A kernelRun0_B
  dsimp only
  rfl

theorem same11 (i' : grid0.Coords) (hc' : cond0_0 i') : out0_A_11 (F := Ideal) c i' p1 q1 p2 q2 p3 q3 p4 q4 p5 q5 p6 q6 p7 q7 p8 q8 p9 q9 p10 q10 p11 q11 p12 q12 p13 q13 p14 q14 p15 q15 p16 q16 hc' x0 x1 x2 x3 x4 x5
    = out0_B_11 c i p1 q1 p2 q2 p3 q3 p4 q4 p5 q5 p6 q6 p7 q7 p8 q8 p9 q9 p10 q10 p11 q11 p12 q12 p13 q13 p14 q14 p15 q15 p16 q16 hc0 x0 x1 x2 x3 x4 x5 xs0 := by
  unfold out0_A_11 out0_B_11 kernelRun0_A kernelRun0_B
  dsimp only
  rfl

theorem same12 (i' : grid0.Coords) (hc' : cond0_0 i') : out0_A_12 (F := Ideal) c i' p1 q1 p2 q2 p3 q3 p4 q4 p5 q5 p6 q6 p7 q7 p8 q8 p9 q9 p10 q10 p11 q11 p12 q12 p13 q13 p14 q14 p15 q15 p16 q16 hc' x0 x1 x2 x3 x4 x5
    = out0_B_12 c i p1 q1 p2 q2 p3 q3 p4 q4 p5 q5 p6 q6 p7 q7 p8 q8 p9 q9 p10 q10 p11 q11 p12 q12 p13 q13 p14 q14 p15 q15 p16 q16 hc0 x0 x1 x2 x3 x4 x5 xs0 := by
  unfold out0_A_12 out0_B_12 kernelRun0_A kernelRun0_B
  dsimp only
  rfl

theorem same13 (i' : grid0.Coords) (hc' : cond0_0 i') : out0_A_13 (F := Ideal) c i' p1 q1 p2 q2 p3 q3 p4 q4 p5 q5 p6 q6 p7 q7 p8 q8 p9 q9 p10 q10 p11 q11 p12 q12 p13 q13 p14 q14 p15 q15 p16 q16 hc' x0 x1 x2 x3 x4 x5
    = out0_B_13 c i p1 q1 p2 q2 p3 q3 p4 q4 p5 q5 p6 q6 p7 q7 p8 q8 p9 q9 p10 q10 p11 q11 p12 q12 p13 q13 p14 q14 p15 q15 p16 q16 hc0 x0 x1 x2 x3 x4 x5 xs0 := by
  unfold out0_A_13 out0_B_13 kernelRun0_A kernelRun0_B
  dsimp only
  rfl

end CaseB

end Cert.Kernel5Ideal.Tile
-- ==== Proof.EvenValue.lean ====
/-
The in-projection's results: every one at every row and lane.
-/
module

public import proofs.«01_k».proof.Proof.EvenHost
public import proofs.«01_k».proof.Proof.EvenTile

@[expose] public section

set_option maxRecDepth 16384

noncomputable section

namespace Cert.Kernel5Ideal.Tile

open Cert.Kernel5Ideal Cert.Kernel5Ideal.Gen Cert.Ffn Cert.Even
open Idealize.ShloMosaic Idealize.ShloMosaic.TcCoe Idealize.ShloMosaic.StableHlo

/-! ## The tables of columns and scales -/

/-- The column taken for `j`. -/
abbrev src (j : Fin 2944) : Fin 2840 := ⟨min (lit0 j).toInt.toNat 2839, by omega⟩

theorem src_q : ∀ j : Fin 512, (src ⟨j.val, by omega⟩).val = (qCol j).val ∧ lit1 ⟨j.val, by omega⟩ = 0x3E38AA3B#32 := by decide +kernel
theorem src_kc : ∀ l : Fin 128, (src ⟨512 + l.val, by omega⟩).val = 512 + (keyCol l).val ∧ lit1 ⟨512 + l.val, by omega⟩ = 0x3F800000#32 := by decide +kernel
theorem src_ks : ∀ l : Fin 128, (src ⟨640 + l.val, by omega⟩).val = 768 + (keyCol l).val ∧ lit1 ⟨640 + l.val, by omega⟩ = 0x3F800000#32 := by decide +kernel
theorem src_kw : ∀ l : Fin 128, (src ⟨768 + l.val, by omega⟩).val = 1024 + (keyCol l).val ∧ lit1 ⟨768 + l.val, by omega⟩ = 0x3F800000#32 := by decide +kernel
theorem src_vc : ∀ l : Fin 128, (src ⟨896 + l.val, by omega⟩).val = 640 + l.val ∧ lit1 ⟨896 + l.val, by omega⟩ = 0x3F800000#32 := by decide +kernel
theorem src_vs : ∀ l : Fin 128, (src ⟨1024 + l.val, by omega⟩).val = 896 + l.val ∧ lit1 ⟨1024 + l.val, by omega⟩ = 0x3F800000#32 := by decide +kernel
theorem src_vw : ∀ l : Fin 128, (src ⟨1152 + l.val, by omega⟩).val = 1152 + l.val ∧ lit1 ⟨1152 + l.val, by omega⟩ = 0x3F800000#32 := by decide +kernel
theorem src_gate : ∀ l : Fin 128, l.val < 24 → (src ⟨1280 + l.val, by omega⟩).val = 1280 + (l.val % 8 * 3 + l.val / 8) ∧ lit1 ⟨1280 + l.val, by omega⟩ = 0x3F800000#32 := by decide +kernel
theorem src_pad : ∀ l : Fin 128, ¬ l.val < 24 → lit1 ⟨1280 + l.val, by omega⟩ = 0#32 := by decide +kernel
theorem src_o : ∀ j : Fin 1536, (src ⟨1408 + j.val, by omega⟩).val = 1304 + j.val ∧ lit1 ⟨1408 + j.val, by omega⟩ = 0x3F800000#32 := by decide +kernel

theorem word_one : Ideal.ofBits .f32 0x3F800000#32 = (1 : EReal) := by pointwise []
theorem word_zero : Ideal.ofBits .f32 0#32 = (0 : EReal) := by pointwise []
theorem word_neg : Ideal.ofBits .f32 0xBF800000#32 = (-1 : EReal) := by
  have h : Ideal.ofBits .f32 0xBF800000#32 = ((-1 : ℝ) : EReal) := by
    simp [Ideal.ofBits, Ideal.ieee, -EReal.coe_mul, -EReal.coe_neg]; norm_num
  rw [h]; simp

theorem scale_real : ∃ r : ℝ, 0 ≤ r ∧ Ideal.ofBits .f32 0x3E38AA3B#32 = (r : EReal) := by
  refine ⟨_, ?_, by simp [Ideal.ofBits, Ideal.ieee, -EReal.coe_mul]; rfl⟩
  positivity

theorem scale_nonneg : (0 : EReal) ≤ Ideal.ofBits .f32 0x3E38AA3B#32 := by
  obtain ⟨r, h, e⟩ := scale_real
  rw [e]; exact_mod_cast h

theorem scale_ne_top : Ideal.ofBits .f32 0x3E38AA3B#32 ≠ (⊤ : EReal) := by
  obtain ⟨r, h, e⟩ := scale_real
  rw [e]; exact EReal.coe_ne_top r

theorem sum_scale {n : ℕ} (f : Fin n → EReal) (c : EReal) (h0 : 0 ≤ c) (h1 : c ≠ ⊤) : ∑ k, f k * c = (∑ k, f k) * c := by
  induction n with
  | zero => simp
  | succ n ih => rw [Fin.sum_univ_succ, Fin.sum_univ_succ, ih, EReal.right_distrib_of_nonneg_of_ne_top h0 h1]

/-- Turning by the tables is turning by the angle. -/
theorem turn_eq (a b t : EReal) (low : Prop) [Decidable low] :
    a * Ideal.cos t + b * (Ideal.sin t * (if low then Ideal.ofBits .f32 0xBF800000#32 else Ideal.ofBits .f32 0x3F800000#32)) = spin a b t low := by
  unfold spin
  by_cases h : low
  · rw [if_pos h, if_pos h, word_neg, mul_comm (Ideal.sin t), ← mul_assoc, mul_neg, mul_one]
  · rw [if_neg h, if_neg h, word_one, mul_one]

/-! ## The rows -/

variable (m : (ℓ : Loc nD τ sig) → Buf (Elt Ideal) ℓ) (c : Dev nD)

/-- The in-projection of row `n`. -/
def Z (n : Fin 32768) (i : Fin 2840) : EReal :=
  prj (fun k => argX m c (ix3 ⟨n.val / 4096, by omega⟩ ⟨n.val % 4096, by omega⟩ k)) (fun k => argG m c (ix1 k)) (fun k j => argW m c (ix2 k j)) i

abbrev R (t : Fin cfg0.N) (r : Fin 1024) (j : Fin 2944) : EReal := rowP (iblk m c 0 t) (iblk m c 1 t) (iblk m c 2 t) r j

theorem R_at (t : Fin cfg0.N) (r : Fin 1024) (n : Fin 32768) (h : n.val = 1024 * t.val + r.val) (j : Fin 2944)
    (h0 : 0 ≤ Ideal.ofBits .f32 (lit1 j)) (h1 : Ideal.ofBits .f32 (lit1 j) ≠ ⊤) : R m c t r j = Z m c n (src j) * Ideal.ofBits .f32 (lit1 j) := by
  unfold Z
  show prj _ _ _ j = _
  unfold prj
  rw [← sum_scale _ _ h0 h1]
  refine Finset.sum_congr rfl fun k _ => ?_
  rw [mul_assoc]
  refine congrArg₂ (fun x y : EReal => x * y) (congrArg₂ (fun x g => nrm x g k) (funext fun k => ?_) (funext fun k => ?_)) ?_
  · exact (iblk0_at m c t r k n h).trans (x_at m c n k _ _ (by dsimp only; omega))
  · exact (iblk1_at m c t k).trans (g_at m c k)
  · exact (iblk2_at m c t k j).trans (w_at m c k j)

theorem R_one (t : Fin cfg0.N) (r : Fin 1024) (n : Fin 32768) (h : n.val = 1024 * t.val + r.val) (j : Fin 2944) (i : Fin 2840)
    (hs : (src j).val = i.val ∧ lit1 j = 0x3F800000#32) : R m c t r j = Z m c n i := by
  have e := R_at m c t r n h j (by rw [hs.2, word_one]; exact zero_le_one) (by rw [hs.2, word_one]; exact EReal.coe_ne_top 1)
  rw [hs.2, word_one, mul_one, Fin.ext hs.1] at e
  exact e

theorem R_q (t : Fin cfg0.N) (r : Fin 1024) (n : Fin 32768) (h : n.val = 1024 * t.val + r.val) (j : Fin 512) :
    R m c t r ⟨j.val, by omega⟩ = Z m c n ⟨(qCol j).val, by omega⟩ * Ideal.ofBits .f32 0x3E38AA3B#32 := by
  have hs := src_q j
  have e := R_at m c t r n h ⟨j.val, by omega⟩ (by rw [hs.2]; exact scale_nonneg) (by rw [hs.2]; exact scale_ne_top)
  rw [hs.2] at e
  rw [e]
  exact congrArg (fun i => Z m c n i * Ideal.ofBits .f32 0x3E38AA3B#32) (Fin.ext hs.1)

theorem R_pad (t : Fin cfg0.N) (r : Fin 1024) (n : Fin 32768) (h : n.val = 1024 * t.val + r.val) (l : Fin 128) (hl : ¬ l.val < 24) :
    R m c t r ⟨1280 + l.val, by omega⟩ = 0 := by
  have hs := src_pad l hl
  have e := R_at m c t r n h ⟨1280 + l.val, by omega⟩ (by rw [hs, word_zero]) (by rw [hs, word_zero]; exact EReal.zero_ne_top)
  rw [hs, word_zero, mul_zero] at e
  exact e

abbrev T (t : Fin cfg0.N) (o : ℕ) (ho : o + 128 ≤ 2944) (r : Fin 1024) (l : Fin 128) : EReal :=
  turn (iblk m c 0 t) (iblk m c 1 t) (iblk m c 2 t) (iblk m c 3 t) (iblk m c 4 t) o ho r l

theorem T_at (t : Fin cfg0.N) (o : ℕ) (ho : o + 128 ≤ 2944) (r : Fin 1024) (l : Fin 128) (n : Fin 32768) (h : n.val = 1024 * t.val + r.val) :
    T m c t o ho r l = spin (R m c t r ⟨o + l.val, by omega⟩) (R m c t r ⟨o + (other l).val, by omega⟩) (ang (n.val % 4096) (l.val % 32)) (l.val < 64) := by
  rw [← turn_eq]
  have ht : t.val < 32 := t.isLt
  have e3 := (iblk3_at m c t r l ⟨n.val % 4096, by omega⟩ (by dsimp only; omega)).trans (cos_at m c _ l)
  have e4 := (iblk4_at m c t r l ⟨n.val % 4096, by omega⟩ (by dsimp only; omega)).trans (sin_at m c _ l)
  exact congrArg₂ (fun x y : EReal => x + y) (congrArg (fun y : EReal => _ * y) e3) (congrArg (fun y : EReal => _ * y) e4)

theorem T_key (t : Fin cfg0.N) (o p : ℕ) (ho : o + 128 ≤ 2944) (hp : p + 128 ≤ 2840) (r : Fin 1024) (l : Fin 128) (n : Fin 32768) (h : n.val = 1024 * t.val + r.val)
    (hs : ∀ l : Fin 128, (src ⟨o + l.val, by omega⟩).val = p + (keyCol l).val ∧ lit1 ⟨o + l.val, by omega⟩ = 0x3F800000#32) :
    T m c t o ho r l = key (fun i => Z m c n ⟨p + i.val, by omega⟩) (n.val % 4096) l := by
  rw [T_at m c t o ho r l n h]
  unfold key
  rw [R_one m c t r n h _ ⟨p + (keyCol l).val, by omega⟩ (hs l), R_one m c t r n h _ ⟨p + (keyCol (other l)).val, by omega⟩ (hs (other l))]

theorem T_query (t : Fin cfg0.N) (g : Fin 4) (r : Fin 1024) (l : Fin 128) (n : Fin 32768) (h : n.val = 1024 * t.val + r.val) :
    T m c t (g.val * 128) (by omega) r l = query (fun i => Z m c n ⟨i.val, by omega⟩) (n.val % 4096) ⟨g.val * 128 + l.val, by omega⟩ * Ideal.ofBits .f32 0x3E38AA3B#32 := by
  rw [T_at m c t _ _ r l n h]
  have e1 := R_q m c t r n h ⟨g.val * 128 + l.val, by omega⟩
  have e2 := R_q m c t r n h ⟨g.val * 128 + (other l).val, by omega⟩
  have eo : otherQ ⟨g.val * 128 + l.val, by omega⟩ = ⟨g.val * 128 + (other l).val, by omega⟩ := Fin.ext (by unfold otherQ other; dsimp only; omega)
  have el : (g.val * 128 + l.val) % 32 = l.val % 32 := by omega
  unfold query
  rw [eo]
  dsimp only at e1 e2 ⊢
  rw [e1, e2, el]
  unfold spin
  rw [EReal.right_distrib_of_nonneg_of_ne_top scale_nonneg scale_ne_top]
  by_cases hl : l.val < 64
  · rw [if_pos hl, if_pos (by omega), mul_right_comm, ← EReal.neg_mul, mul_right_comm (-_)]
  · rw [if_neg hl, if_neg (by omega), mul_right_comm, mul_right_comm (Z m c n ⟨(qCol ⟨g.val * 128 + (other l).val, _⟩).val, _⟩)]

/-! ## The blocks and the results -/

theorem t1 : 1 < cfg0.N := by rw [show cfg0.N = 32 from N_0]; decide

theorem hB : ¬ cond0_0 (grid0.coords ⟨1, t1⟩) := fun h => absurd ((hcond0_0 ⟨1, t1⟩).mp h) (by decide)

theorem block6 (n : ℕ) (hn : n < cfg0.N) (r : Fin 1024) (g : Fin 4) (l : Fin 128) :
    (outsAt0 m c n hn).1 (ix2 r ⟨g.val * 128 + l.val, by omega⟩) = T m c ⟨n, hn⟩ (g.val * 128) (by omega) r l := by
  by_cases h0 : n % 4 = 0
  · rw [show outsAt0 m c n hn = _ from outsAt0_A m c ⟨n, hn⟩ h0]
    dsimp only
    exact (congrFun (same6 (hc0 := hB) (xs0 := fun _ => (0 : EReal)) ..) _).trans (out6_B ..)
  · rw [show outsAt0 m c n hn = _ from outsAt0_B m c ⟨n, hn⟩ h0]
    dsimp only
    exact out6_B ..

theorem result6 (n : Fin 32768) (j : Fin 512) : Cert.Kernel5Ideal.Value.G6 m c (ix2 n j)
    = query (fun i => Z m c n ⟨i.val, by omega⟩) (n.val % 4096) j * Ideal.ofBits .f32 0x3E38AA3B#32 := by
  have ht : n.val / 1024 < cfg0.N := by rw [show cfg0.N = 32 from N_0]; omega
  have hp : Cert.Kernel5Ideal.Value.pt6Of (ix2 n j) = n.val / 1024 := by
    show 1 * (n.val / 1024 - 0) + 1 * (j.val / 512 - 0) = n.val / 1024
    omega
  unfold Cert.Kernel5Ideal.Value.G6
  rw [dif_pos (by rw [hp]; exact ht)]
  simp only [hp]
  rw [← Cert.Kernel5Ideal.Value.outsAt0_sweep m c (n.val / 1024) ht]
  have hl : Cert.Kernel5Ideal.Value.loc6Of (ix2 n j) = ix2 ⟨n.val % 1024, by omega⟩ ⟨j.val / 128 * 128 + j.val % 128, by omega⟩ := by
    funext d
    refine Fin.ext ?_
    match d with
    | ⟨0, _⟩ => rfl
    | ⟨1, _⟩ => show j.val % 512 = j.val / 128 * 128 + j.val % 128; omega
  rw [hl]
  refine (block6 m c _ ht ⟨n.val % 1024, by omega⟩ ⟨j.val / 128, by omega⟩ ⟨j.val % 128, by omega⟩).trans ?_
  refine (T_query m c _ _ _ _ n (by dsimp only; omega)).trans ?_
  exact congrArg (fun j => query (fun i => Z m c n ⟨i.val, by omega⟩) (n.val % 4096) j * Ideal.ofBits .f32 0x3E38AA3B#32) (Fin.ext (by dsimp only; omega))

/-- Where the tile holds the row `n`, lane `l`. -/
theorem place (n : Fin 32768) (l : Fin 128) : Cert.Kernel5Ideal.Value.loc7Of (ix2 n l) = ix2 ⟨n.val % 1024, by omega⟩ l := by
  funext d
  refine Fin.ext ?_
  match d with
  | ⟨0, _⟩ => rfl
  | ⟨1, _⟩ => show l.val % 128 = l.val; omega

/-- A result of 128 lanes is the tile's block at the row's place. -/
theorem lanes {X Y : S32768x128.Idx → EReal} (f : _ → S1024x128.Idx → EReal)
    (hX : ∀ i, X i = if h : Cert.Kernel5Ideal.Value.pt7Of i < cfg0.N then
      f (Pipeline.accAt (fun n h => Cert.Kernel5Ideal.Value.stAt0 m c n h Cert.Kernel5Ideal.Value.junk0) (Cert.Kernel5Ideal.Value.stAt0 m c) 0 (Cert.Kernel5Ideal.Value.pt7Of i) (by omega)) (Cert.Kernel5Ideal.Value.loc7Of i) else Y i)
    (n : Fin 32768) (l : Fin 128) (ht : n.val / 1024 < cfg0.N) : X (ix2 n l) = f (outsAt0 m c (n.val / 1024) ht) (ix2 ⟨n.val % 1024, by omega⟩ l) := by
  have hp : Cert.Kernel5Ideal.Value.pt7Of (ix2 n l) = n.val / 1024 := by
    show 1 * (n.val / 1024 - 0) + 1 * (l.val / 128 - 0) = n.val / 1024
    omega
  rw [hX, dif_pos (by rw [hp]; exact ht)]
  simp only [hp]
  rw [← Cert.Kernel5Ideal.Value.outsAt0_sweep m c (n.val / 1024) ht, place n l]

theorem tile_lt (n : Fin 32768) : n.val / 1024 < cfg0.N := by rw [show cfg0.N = 32 from N_0]; omega

theorem block7 (n : ℕ) (hn : n < cfg0.N) (r : Fin 1024) (l : Fin 128) : (outsAt0 m c n hn).2.1 (ix2 r l) = T m c ⟨n, hn⟩ 512 (by omega) r l := by
  by_cases h0 : n % 4 = 0
  · rw [show outsAt0 m c n hn = _ from outsAt0_A m c ⟨n, hn⟩ h0]
    dsimp only
    exact (congrFun (same7 (hc0 := hB) (xs0 := fun _ => (0 : EReal)) ..) _).trans (out7_B ..)
  · rw [show outsAt0 m c n hn = _ from outsAt0_B m c ⟨n, hn⟩ h0]
    dsimp only
    exact out7_B ..

theorem result7 (n : Fin 32768) (l : Fin 128) : Cert.Kernel5Ideal.Value.G7 m c (ix2 n l) = key (fun i => Z m c n ⟨512 + i.val, by omega⟩) (n.val % 4096) l := by
  refine (lanes m c (fun p => p.2.1) (fun _ => rfl) n l (tile_lt n)).trans ?_
  refine (block7 m c _ (tile_lt n) ⟨n.val % 1024, by omega⟩ l).trans ?_
  exact T_key m c _ 512 512 (by omega) (by omega) _ l n (by dsimp only; omega) src_kc

theorem block8 (n : ℕ) (hn : n < cfg0.N) (r : Fin 1024) (l : Fin 128) : (outsAt0 m c n hn).2.2.1 (ix2 r l) = T m c ⟨n, hn⟩ 640 (by omega) r l := by
  by_cases h0 : n % 4 = 0
  · rw [show outsAt0 m c n hn = _ from outsAt0_A m c ⟨n, hn⟩ h0]
    dsimp only
    exact (congrFun (same8 (hc0 := hB) (xs0 := fun _ => (0 : EReal)) ..) _).trans (out8_B ..)
  · rw [show outsAt0 m c n hn = _ from outsAt0_B m c ⟨n, hn⟩ h0]
    dsimp only
    exact out8_B ..

theorem result8 (n : Fin 32768) (l : Fin 128) : Cert.Kernel5Ideal.Value.G8 m c (ix2 n l) = key (fun i => Z m c n ⟨768 + i.val, by omega⟩) (n.val % 4096) l := by
  refine (lanes m c (fun p => p.2.2.1) (fun _ => rfl) n l (tile_lt n)).trans ?_
  refine (block8 m c _ (tile_lt n) ⟨n.val % 1024, by omega⟩ l).trans ?_
  exact T_key m c _ 640 768 (by omega) (by omega) _ l n (by dsimp only; omega) src_ks

theorem block9 (n : ℕ) (hn : n < cfg0.N) (r : Fin 1024) (l : Fin 128) : (outsAt0 m c n hn).2.2.2.1 (ix2 r l) = T m c ⟨n, hn⟩ 768 (by omega) r l := by
  by_cases h0 : n % 4 = 0
  · rw [show outsAt0 m c n hn = _ from outsAt0_A m c ⟨n, hn⟩ h0]
    dsimp only
    exact (congrFun (same9 (hc0 := hB) (xs0 := fun _ => (0 : EReal)) ..) _).trans (out9_B ..)
  · rw [show outsAt0 m c n hn = _ from outsAt0_B m c ⟨n, hn⟩ h0]
    dsimp only
    exact out9_B ..

theorem result9 (n : Fin 32768) (l : Fin 128) : Cert.Kernel5Ideal.Value.G9 m c (ix2 n l) = key (fun i => Z m c n ⟨1024 + i.val, by omega⟩) (n.val % 4096) l := by
  refine (lanes m c (fun p => p.2.2.2.1) (fun _ => rfl) n l (tile_lt n)).trans ?_
  refine (block9 m c _ (tile_lt n) ⟨n.val % 1024, by omega⟩ l).trans ?_
  exact T_key m c _ 768 1024 (by omega) (by omega) _ l n (by dsimp only; omega) src_kw

theorem block10 (n : ℕ) (hn : n < cfg0.N) (r : Fin 1024) (l : Fin 128) : (outsAt0 m c n hn).2.2.2.2.1 (ix2 r l) = R m c ⟨n, hn⟩ r ⟨896 + l.val, by omega⟩ := by
  by_cases h0 : n % 4 = 0
  · rw [show outsAt0 m c n hn = _ from outsAt0_A m c ⟨n, hn⟩ h0]
    dsimp only
    exact (congrFun (same10 (hc0 := hB) (xs0 := fun _ => (0 : EReal)) ..) _).trans (out10_B ..)
  · rw [show outsAt0 m c n hn = _ from outsAt0_B m c ⟨n, hn⟩ h0]
    dsimp only
    exact out10_B ..

theorem result10 (n : Fin 32768) (l : Fin 128) : Cert.Kernel5Ideal.Value.G10 m c (ix2 n l) = Z m c n ⟨640 + l.val, by omega⟩ := by
  refine (lanes m c (fun p => p.2.2.2.2.1) (fun _ => rfl) n l (tile_lt n)).trans ?_
  refine (block10 m c _ (tile_lt n) ⟨n.val % 1024, by omega⟩ l).trans ?_
  exact R_one m c _ _ n (by dsimp only; omega) _ _ (src_vc l)

theorem block13 (n : ℕ) (hn : n < cfg0.N) (r : Fin 1024) (l : Fin 128) : (outsAt0 m c n hn).2.2.2.2.2.2.2.1 (ix2 r l) = Ideal.logistic (R m c ⟨n, hn⟩ r ⟨1280 + l.val, by omega⟩) := by
  by_cases h0 : n % 4 = 0
  · rw [show outsAt0 m c n hn = _ from outsAt0_A m c ⟨n, hn⟩ h0]
    dsimp only
    exact (congrFun (same13 (hc0 := hB) (xs0 := fun _ => (0 : EReal)) ..) _).trans (out13_B ..)
  · rw [show outsAt0 m c n hn = _ from outsAt0_B m c ⟨n, hn⟩ h0]
    dsimp only
    exact out13_B ..

theorem result13 (n : Fin 32768) (l : Fin 128) : Cert.Kernel5Ideal.Value.G13 m c (ix2 n l) = gates (fun i => Z m c n ⟨1280 + i.val, by omega⟩) l := by
  refine (lanes m c (fun p => p.2.2.2.2.2.2.2.1) (fun _ => rfl) n l (tile_lt n)).trans ?_
  refine (block13 m c _ (tile_lt n) ⟨n.val % 1024, by omega⟩ l).trans ?_
  unfold gates
  refine congrArg Ideal.logistic ?_
  by_cases hl : l.val < 24
  · rw [dif_pos hl]
    exact R_one m c _ _ n (by dsimp only; omega) _ _ (src_gate l hl)
  · rw [dif_neg hl]
    exact R_pad m c _ _ n (by dsimp only; omega) l hl

theorem place4 (b : Fin 8) (t : Fin 16) (l : Fin 128) (r : Fin 256) : Cert.Kernel5Ideal.Value.loc11Of (ix4 b t l r) = ix4 0 ⟨t.val % 4, by omega⟩ l r := by
  funext d
  refine Fin.ext ?_
  match d with
  | ⟨0, _⟩ => show b.val % 1 = 0; omega
  | ⟨1, _⟩ => rfl
  | ⟨2, _⟩ => show l.val % 128 = l.val; omega
  | ⟨3, _⟩ => show r.val % 256 = r.val; omega

theorem block11 (n : ℕ) (hn : n < cfg0.N) (g : Fin 4) (l : Fin 128) (r : Fin 256) : (outsAt0 m c n hn).2.2.2.2.2.1 (ix4 0 g l r) = R m c ⟨n, hn⟩ ⟨g.val * 256 + r.val, by omega⟩ ⟨1024 + l.val, by omega⟩ := by
  by_cases h0 : n % 4 = 0
  · rw [show outsAt0 m c n hn = _ from outsAt0_A m c ⟨n, hn⟩ h0]
    dsimp only
    exact (congrFun (same11 (hc0 := hB) (xs0 := fun _ => (0 : EReal)) ..) _).trans (out11_B ..)
  · rw [show outsAt0 m c n hn = _ from outsAt0_B m c ⟨n, hn⟩ h0]
    dsimp only
    exact out11_B ..

theorem result11 (b : Fin 8) (t : Fin 16) (l : Fin 128) (r : Fin 256) (n : Fin 32768) (hn : n.val = 4096 * b.val + (256 * t.val + r.val)) :
    Cert.Kernel5Ideal.Value.G11 m c (ix4 b t l r) = Z m c n ⟨896 + l.val, by omega⟩ := by
  have ht : n.val / 1024 < cfg0.N := by rw [show cfg0.N = 32 from N_0]; omega
  have hp : Cert.Kernel5Ideal.Value.pt11Of (ix4 b t l r) = n.val / 1024 := by
    show 4 * (b.val / 1 - 0) + 1 * (t.val / 4 - 0) + 1 * (l.val / 128 - 0) + 1 * (r.val / 256 - 0) = n.val / 1024
    omega
  unfold Cert.Kernel5Ideal.Value.G11
  rw [dif_pos (by rw [hp]; exact ht)]
  simp only [hp]
  rw [← Cert.Kernel5Ideal.Value.outsAt0_sweep m c (n.val / 1024) ht, show Cert.Kernel5Ideal.Value.loc11Of (ix4 b t l r) = ix4 0 ⟨t.val % 4, by omega⟩ l r from place4 b t l r]
  refine (block11 m c _ ht ⟨t.val % 4, by omega⟩ l r).trans ?_
  exact R_one m c _ _ n (by dsimp only; omega) _ _ (src_vs l)

theorem block12 (n : ℕ) (hn : n < cfg0.N) (g : Fin 4) (l : Fin 128) (r : Fin 256) : (outsAt0 m c n hn).2.2.2.2.2.2.1 (ix4 0 g l r) = R m c ⟨n, hn⟩ ⟨g.val * 256 + r.val, by omega⟩ ⟨1152 + l.val, by omega⟩ := by
  by_cases h0 : n % 4 = 0
  · rw [show outsAt0 m c n hn = _ from outsAt0_A m c ⟨n, hn⟩ h0]
    dsimp only
    exact (congrFun (same12 (hc0 := hB) (xs0 := fun _ => (0 : EReal)) ..) _).trans (out12_B ..)
  · rw [show outsAt0 m c n hn = _ from outsAt0_B m c ⟨n, hn⟩ h0]
    dsimp only
    exact out12_B ..

theorem result12 (b : Fin 8) (t : Fin 16) (l : Fin 128) (r : Fin 256) (n : Fin 32768) (hn : n.val = 4096 * b.val + (256 * t.val + r.val)) :
    Cert.Kernel5Ideal.Value.G12 m c (ix4 b t l r) = Z m c n ⟨1152 + l.val, by omega⟩ := by
  have ht : n.val / 1024 < cfg0.N := by rw [show cfg0.N = 32 from N_0]; omega
  have hp : Cert.Kernel5Ideal.Value.pt12Of (ix4 b t l r) = n.val / 1024 := by
    show 4 * (b.val / 1 - 0) + 1 * (t.val / 4 - 0) + 1 * (l.val / 128 - 0) + 1 * (r.val / 256 - 0) = n.val / 1024
    omega
  unfold Cert.Kernel5Ideal.Value.G12
  rw [dif_pos (by rw [hp]; exact ht)]
  simp only [hp]
  rw [← Cert.Kernel5Ideal.Value.outsAt0_sweep m c (n.val / 1024) ht, show Cert.Kernel5Ideal.Value.loc12Of (ix4 b t l r) = ix4 0 ⟨t.val % 4, by omega⟩ l r from place4 b t l r]
  refine (block12 m c _ ht ⟨t.val % 4, by omega⟩ l r).trans ?_
  exact R_one m c _ _ n (by dsimp only; omega) _ _ (src_vw l)

/-! ## The convolution -/

/-- The product the convolution takes, at row `n`. -/
def CX (n : Fin 32768) (j : Fin 512) : EReal := Z m c n ⟨1816 + j.val, by omega⟩ * Z m c n ⟨2328 + j.val, by omega⟩

theorem R_o (t : Fin cfg0.N) (r : Fin 1024) (n : Fin 32768) (h : n.val = 1024 * t.val + r.val) (j : Fin 2944) (i : Fin 2840) (hj : j.val = i.val + 104) (hi : 1304 ≤ i.val) :
    R m c t r j = Z m c n i := by
  have hs := src_o ⟨i.val - 1304, by omega⟩
  have e : (⟨1408 + (i.val - 1304), by omega⟩ : Fin 2944) = j := Fin.ext (by dsimp only; omega)
  dsimp only at hs
  rw [e] at hs
  exact R_one m c t r n h j i ⟨hs.1.trans (by omega), hs.2⟩

theorem cxT_at (t : Fin cfg0.N) (r : Fin 1024) (n : Fin 32768) (h : n.val = 1024 * t.val + r.val) (j : Fin 512) :
    cxT (iblk m c 0 t) (iblk m c 1 t) (iblk m c 2 t) r j = CX m c n j :=
  congrArg₂ (fun x y : EReal => x * y) (R_o m c t r n h _ _ (by dsimp only; omega) (by dsimp only; omega)) (R_o m c t r n h _ _ (by dsimp only; omega) (by dsimp only; omega))

/-- The carry after the tile `n`. -/
theorem carry_at (n : ℕ) (hn : n < cfg0.N) (a : Fin 8) (j : Fin 512) (k : Fin 32768) (h : k.val = 1024 * n + (1016 + a.val)) :
    (outsAt0 m c n hn).2.2.2.2.2.2.2.2.2 (ix2 ⟨a.val, by omega⟩ j) = CX m c k j := by
  refine Eq.trans ?_ (cxT_at m c ⟨n, hn⟩ ⟨1016 + a.val, by omega⟩ k h j)
  by_cases h0 : n % 4 = 0
  · rw [show outsAt0 m c n hn = _ from outsAt0_A m c ⟨n, hn⟩ h0]
    dsimp only
    exact carry_A ..
  · rw [show outsAt0 m c n hn = _ from outsAt0_B m c ⟨n, hn⟩ h0]
    dsimp only
    exact carry_B ..

/-- The product some rows back, within the batch. -/
theorem back_at (t : Fin cfg0.N) (a : Fin 1024) (n : Fin 32768) (h : n.val = 1024 * t.val + a.val) (j : Fin 512) (p : Fin 8 → EReal) (o k : ℕ) (hk : o + k = 8) (hk1 : 1 ≤ k)
    (hp0 : t.val % 4 = 0 → ∀ r, p r = 0)
    (hp : ¬ t.val % 4 = 0 → ∀ (r : Fin 8) (n' : Fin 32768), n'.val = 1024 * (t.val - 1) + (1016 + r.val) → p r = CX m c n' j) :
    rowBack p (fun a => cxT (iblk m c 0 t) (iblk m c 1 t) (iblk m c 2 t) a j) o a = if h : k ≤ n.val % 4096 then CX m c ⟨n.val - k, by omega⟩ j else 0 := by
  unfold rowBack
  by_cases h1 : a.val + o < 8
  · refine (dif_pos h1).trans ?_
    by_cases h2 : t.val % 4 = 0
    · exact (hp0 h2 _).trans (by rw [dif_neg (show ¬ k ≤ n.val % 4096 by omega)])
    · exact (hp h2 _ ⟨n.val - k, by omega⟩ (by dsimp only; omega)).trans (by rw [dif_pos (show k ≤ n.val % 4096 by omega)])
  · refine (dif_neg h1).trans ((dif_pos (show a.val + o - 8 < 1024 by omega)).trans ?_)
    exact (cxT_at m c t _ ⟨n.val - k, by omega⟩ (by dsimp only; omega) j).trans (by rw [dif_pos (show k ≤ n.val % 4096 by omega)])

/-- The convolution's result at row `n`. -/
def OB (n : Fin 32768) (j : Fin 512) : EReal :=
  Z m c n ⟨1304 + j.val, by omega⟩ * taps (fun i => argCw m c (ix2 i j))
    (if h : 2 ≤ n.val % 4096 then CX m c ⟨n.val - 2, by omega⟩ j else 0) (if h : 1 ≤ n.val % 4096 then CX m c ⟨n.val - 1, by omega⟩ j else 0) (CX m c n j)

theorem tile_at (t : Fin cfg0.N) (a : Fin 1024) (n : Fin 32768) (h : n.val = 1024 * t.val + a.val) (j : Fin 512) (p : Fin 8 → EReal)
    (hp0 : t.val % 4 = 0 → ∀ r, p r = 0)
    (hp : ¬ t.val % 4 = 0 → ∀ (r : Fin 8) (n' : Fin 32768), n'.val = 1024 * (t.val - 1) + (1016 + r.val) → p r = CX m c n' j) :
    rowP (iblk m c 0 t) (iblk m c 1 t) (iblk m c 2 t) a ⟨1408 + j.val, by omega⟩ * taps (fun k => (iblk m c 5 t : Vec Ideal S3x512 .f32) (ix2 k j))
      (rowBack p (fun a => cxT (iblk m c 0 t) (iblk m c 1 t) (iblk m c 2 t) a j) 6 a)
      (rowBack p (fun a => cxT (iblk m c 0 t) (iblk m c 1 t) (iblk m c 2 t) a j) 7 a) (cxT (iblk m c 0 t) (iblk m c 1 t) (iblk m c 2 t) a j) = OB m c n j := by
  unfold OB
  refine congrArg₂ (fun x y : EReal => x * y) (R_o m c t a n h _ _ (by dsimp only; omega) (by dsimp only; omega)) ?_
  rw [back_at m c t a n h j p 6 2 rfl (by omega) hp0 hp, back_at m c t a n h j p 7 1 rfl (by omega) hp0 hp, cxT_at m c t a n h j]
  exact congrArg (fun w => taps w _ _ _) (funext fun i => iblk5_at m c t i j)

theorem block14 (n : ℕ) (hn : n < cfg0.N) (a : Fin 1024) (j : Fin 512) (k : Fin 32768) (h : k.val = 1024 * n + a.val) :
    (outsAt0 m c n hn).2.2.2.2.2.2.2.2.1 (ix2 a j) = OB m c k j := by
  by_cases h0 : n % 4 = 0
  · rw [show outsAt0 m c n hn = _ from outsAt0_A m c ⟨n, hn⟩ h0]
    dsimp only
    exact (ob_A ..).trans (tile_at m c ⟨n, hn⟩ a k h j (fun _ => 0) (fun _ _ => rfl) (fun h => absurd h0 h))
  · rw [show outsAt0 m c n hn = _ from outsAt0_B m c ⟨n, hn⟩ h0]
    dsimp only
    refine (ob_B ..).trans (tile_at m c ⟨n, hn⟩ a k h j _ (fun h => absurd h h0) ?_)
    intro _ r n' hn'
    exact carry_at m c (n - 1) _ r j n' hn'

theorem result14 (n : Fin 32768) (j : Fin 512) : Cert.Kernel5Ideal.Value.G14 m c (ix2 n j) = OB m c n j := by
  have ht : n.val / 1024 < cfg0.N := by rw [show cfg0.N = 32 from N_0]; omega
  have hp : Cert.Kernel5Ideal.Value.pt14Of (ix2 n j) = n.val / 1024 := by
    show 1 * (n.val / 1024 - 0) + 1 * (j.val / 512 - 0) = n.val / 1024
    omega
  unfold Cert.Kernel5Ideal.Value.G14
  rw [dif_pos (by rw [hp]; exact ht)]
  simp only [hp]
  rw [← Cert.Kernel5Ideal.Value.outsAt0_sweep m c (n.val / 1024) ht]
  have hl : Cert.Kernel5Ideal.Value.loc14Of (ix2 n j) = ix2 ⟨n.val % 1024, by omega⟩ j := by
    funext d
    refine Fin.ext ?_
    match d with
    | ⟨0, _⟩ => rfl
    | ⟨1, _⟩ => show j.val % 512 = j.val; omega
  rw [hl]
  exact block14 m c _ ht ⟨n.val % 1024, by omega⟩ j n (by dsimp only; omega)

end Cert.Kernel5Ideal.Tile
-- ==== Proof.EvenClaims.lean ====
/-
The in-projection's claims: its nine results are its reference's, and its reference changes nothing else.
-/
module

public import proofs.«01_k».proof.Proof.EvenValue
public import proofs.«01_k».proof.Defs

@[expose] public section

set_option maxRecDepth 16384

noncomputable section

namespace Cert.Even

open Idealize.ShloMosaic Idealize.ShloMosaic.TcCoe Idealize.ShloMosaic.StableHlo Idealize.SL.Sem
open Cert.Kernel5Ideal.Tile Cert.Reference5Ideal.Even

theorem ext2 {d e : ℕ} {X Y : (⟨2, ![d, e]⟩ : Shape).Idx → EReal} {f : Fin d → Fin e → EReal} (hY : ∀ n j, Y (ix2 n j) = f n j) (hX : ∀ n j, X (ix2 n j) = f n j) : X = Y := by
  funext i
  obtain ⟨n, j, rfl⟩ : ∃ (n : Fin d) (j : Fin e), i = ix2 n j := ⟨i 0, i 1, by funext x; match x with | ⟨0, _⟩ => rfl | ⟨1, _⟩ => rfl⟩
  exact (hX n j).trans (hY n j).symm

theorem ext4 {X Y : (⟨4, ![8, 16, 128, 256]⟩ : Shape).Idx → EReal} {f : Fin 32768 → Fin 128 → EReal}
    (hY : ∀ (b : Fin 8) (t : Fin 16) (l : Fin 128) (r : Fin 256) (n : Fin 32768), n.val = 4096 * b.val + (256 * t.val + r.val) → Y (ix4 b t l r) = f n l)
    (hX : ∀ (b : Fin 8) (t : Fin 16) (l : Fin 128) (r : Fin 256) (n : Fin 32768), n.val = 4096 * b.val + (256 * t.val + r.val) → X (ix4 b t l r) = f n l) : X = Y := by
  funext i
  obtain ⟨b, t, l, r, rfl⟩ : ∃ (b : Fin 8) (t : Fin 16) (l : Fin 128) (r : Fin 256), i = ix4 b t l r :=
    ⟨i 0, i 1, i 2, i 3, by funext x; match x with | ⟨0, _⟩ => rfl | ⟨1, _⟩ => rfl | ⟨2, _⟩ => rfl | ⟨3, _⟩ => rfl⟩
  exact (hX b t l r ⟨4096 * b.val + (256 * t.val + r.val), by omega⟩ rfl).trans (hY b t l r _ rfl).symm

section Equal

variable (m : (ℓ : Loc Cert.Kernel5Ideal.nD Cert.Kernel5Ideal.τ Cert.Kernel5Ideal.sig) → Buf (Elt Ideal) ℓ)
  (m' : (ℓ : Loc Cert.Reference5Ideal.nD Cert.Reference5Ideal.τ Cert.Reference5Ideal.sig) → Buf (Elt Ideal) ℓ) (c : Dev Cert.Kernel5Ideal.nD)

theorem zrow_eq
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    zrow (launchContents m' c) = Z m c := by
  funext n i
  unfold zrow Z
  refine congr (congr (congrArg₂ prj (funext fun k => ?_) (funext fun k => ?_)) (funext fun k => funext fun j => ?_)) rfl
  · exact congrFun h0 _
  · exact congrFun h1 _
  · exact congrFun h2 _

end Equal

theorem algebraic5 : Cert.algebraic_Kernel5Ideal_Reference5Ideal (hKernel5Ideal := Cert.Kernel5Ideal.Gen.facts) (hReference5Ideal := Cert.Reference5Ideal.Gen.facts) := by
  intro m g m' g' _ h
  refine ⟨fun c => Cert.Kernel5Ideal.Value.G6 m c, fun c => Cert.Kernel5Ideal.Value.G7 m c, fun c => Cert.Kernel5Ideal.Value.G8 m c,
    fun c => Cert.Kernel5Ideal.Value.G9 m c, fun c => Cert.Kernel5Ideal.Value.G10 m c, fun c => Cert.Kernel5Ideal.Value.G11 m c,
    fun c => Cert.Kernel5Ideal.Value.G12 m c, fun c => Cert.Kernel5Ideal.Value.G13 m c, fun c => Cert.Kernel5Ideal.Value.G14 m c, Cert.Kernel5Ideal.Value.run m g, ?_⟩
  refine (θ_run Cert.Reference5Ideal.defs _ _).mono (fun r hr c => ?_) (Cert.Reference5Ideal.Value.run m' g')
  obtain ⟨h0, h1, h2, h3⟩ := h c
  have hz := zrow_eq m m' c h0 h1 h2
  obtain ⟨r0, r1, r2, r3, r4, r5, r6, r7, r8, ra⟩ := hr c
  refine ⟨r0.trans (ext2 (result6 m c) fun n j => ?_), r1.trans (ext2 (result7 m c) fun n j => ?_), r2.trans (ext2 (result8 m c) fun n j => ?_),
    r3.trans (ext2 (result9 m c) fun n j => ?_), r4.trans (ext2 (result10 m c) fun n j => ?_), r5.trans (ext4 (Y := Cert.Kernel5Ideal.Value.G11 m c) (f := fun n l => Z m c n ⟨896 + l.val, by omega⟩) (result11 m c) fun b t l r n hn => ?_),
    r6.trans (ext4 (Y := Cert.Kernel5Ideal.Value.G12 m c) (f := fun n l => Z m c n ⟨1152 + l.val, by omega⟩) (result12 m c) fun b t l r n hn => ?_), r7.trans (ext2 (result13 m c) fun n j => ?_), r8.trans (ext2 (result14 m c) fun n j => ?_), ra⟩
  · rw [← hz]; exact q_at (launchContents m' c) n j
  · rw [← hz]; exact kc_at (launchContents m' c) n j
  · rw [← hz]; exact ks_at (launchContents m' c) n j
  · rw [← hz]; exact kw_at (launchContents m' c) n j
  · rw [← hz]; exact vc_at (launchContents m' c) n j
  · rw [← hz]; exact vs_at (launchContents m' c) b t l r n hn
  · rw [← hz]; exact vw_at (launchContents m' c) b t l r n hn
  · rw [← hz]; exact gate_at (launchContents m' c) n j
  · unfold OB CX
    rw [← hz]
    refine (ob_at (launchContents m' c) n j).trans (congrArg (fun y : EReal => _ * y) (congrArg (fun w => taps w _ _ _) (funext fun i => ?_)))
    exact congrFun h3 _

theorem quiescent5 : Cert.quiescent_Reference5Ideal (hReference5Ideal := Cert.Reference5Ideal.Gen.facts) := by
  intro m g _
  exact (θ_run Cert.Reference5Ideal.defs _ _).mono (fun r hr => ⟨fun c => (hr c).2.2.2.2.2.2.2.2.2, sem_eq_zero_of_no_sems (by decide) r.2⟩) (Cert.Reference5Ideal.Value.run m g)

end Cert.Even

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Frame
public import proofs.«01_k».proof.Proof.Plain.Frame
public import proofs.«01_k».proof.Proof.Gen.ReferenceIdeal.Run
public import proofs.«01_k».proof.Proof.Claims
public import proofs.«01_k».proof.Proof.MixClaims
public import proofs.«01_k».proof.Proof.EvenClaims

@[expose] public section

noncomputable section

namespace Cert.Proof

open Idealize.ShloMosaic Idealize.SL.Sem

/-- The named constant `gelu_cubic` is the one literal that the rule replaces. -/
theorem preserves1 : Cert.preserves_Kernel_KernelIdeal :=
  IdealRules.named_const.statement Cert.KernelIdeal.κ "gelu_cubic" .f32 0x3D122279#32 ((80338380498831 / 2251799813685248 : ℝ) : EReal) rfl

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    fun m g _ => Cert.Kernel.Mixer.frame m g, fun m g _ => Cert.KernelIdeal.Mixer.frame m g, Cert.Lru.quiescent1,
    fun m g _ => Cert.Kernel2.Gen.frame m g, fun m g _ => Cert.Kernel2Ideal.Gen.frame m g, Cert.Ffn.quiescent2,
    fun m g _ => Cert.Kernel3.Gen.frame m g, fun m g _ => Cert.Kernel3Ideal.Gen.frame m g, Cert.Ffn.quiescent3,
    fun m g _ => Cert.Kernel4.Gen.frame m g, fun m g _ => Cert.Kernel4Ideal.Gen.frame m g, Cert.Ffn.quiescent4,
    fun m g _ => Cert.Kernel5.Gen.frame m g, fun m g _ => Cert.Kernel5Ideal.Gen.frame m g, Cert.Even.quiescent5,
    preserves1, Cert.Lru.algebraic1, trivial, Cert.Ffn.algebraic2, trivial, Cert.Ffn.algebraic3, trivial, Cert.Ffn.algebraic4, trivial, Cert.Even.algebraic5⟩

end Cert.Proof

end
